-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v57_1)) (v1 : (c : Dev Cert.Kernel3Ideal.nD) → Buf (Elt Ideal) ((c.tc : Thread Cert.Kernel3Ideal.nD Cert.Kernel3Ideal.τ).loc Cert.Kernel3Ideal.main_v57_2)) (v2 : (c : Dev Cert.Kernel3Ideal.nD) → Buf (Elt Ideal) ((c.tc : Thread Cert.Kernel3Ideal.nD Cert.Kernel3Ideal.τ).loc Cert.Kernel3Ideal.main_v57_3)) (v3 : (c : Dev Cert.Kernel3Ideal.nD) → Buf (Elt Ideal) ((c.tc : Thread Cert.Kernel3Ideal.nD Cert.Kernel3Ideal.τ).loc Cert.Kernel3Ideal.main_v57_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v57_1) = v0 c
          ∧ r.2.mem ((c.tc : Thread Cert.Kernel3Ideal.nD Cert.Kernel3Ideal.τ).loc Cert.Kernel3Ideal.main_v57_2) = v1 c
          ∧ r.2.mem ((c.tc : Thread Cert.Kernel3Ideal.nD Cert.Kernel3Ideal.τ).loc Cert.Kernel3Ideal.main_v57_3) = v2 c
          ∧ r.2.mem ((c.tc : Thread Cert.Kernel3Ideal.nD Cert.Kernel3Ideal.τ).loc Cert.Kernel3Ideal.main_v57_4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v174) = v2 c
          ∧ r.2.mem ((c.tc : Thread Cert.Reference3Ideal.nD Cert.Reference3Ideal.τ).loc Cert.Reference3Ideal.main_v175) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v3) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_v34) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v32) = v2 c
          ∧ r.2.mem ((c.tc : Thread Cert.Reference18Ideal.nD Cert.Reference18Ideal.τ).loc Cert.Reference18Ideal.main_v33) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v3) = v1 c
          ∧ r.2.mem ((c.tc : Thread Cert.Reference19Ideal.nD Cert.Reference19Ideal.τ).loc Cert.Reference19Ideal.main_v35) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v27)) (v1 : (c : Dev Cert.Kernel20Ideal.nD) → Buf (Elt Ideal) ((c.tc : Thread Cert.Kernel20Ideal.nD Cert.Kernel20Ideal.τ).loc Cert.Kernel20Ideal.main_v22)) (v2 : (c : Dev Cert.Kernel20Ideal.nD) → Buf (Elt Ideal) ((c.tc : Thread Cert.Kernel20Ideal.nD Cert.Kernel20Ideal.τ).loc Cert.Kernel20Ideal.main_v24)) (v3 : (c : Dev Cert.Kernel20Ideal.nD) → Buf (Elt Ideal) ((c.tc : Thread Cert.Kernel20Ideal.nD Cert.Kernel20Ideal.τ).loc Cert.Kernel20Ideal.main_v30)) (v4 : (c : Dev Cert.Kernel20Ideal.nD) → Buf (Elt Ideal) ((c.tc : Thread Cert.Kernel20Ideal.nD Cert.Kernel20Ideal.τ).loc Cert.Kernel20Ideal.main_v32)) (v5 : (c : Dev Cert.Kernel20Ideal.nD) → Buf (Elt Ideal) ((c.tc : Thread Cert.Kernel20Ideal.nD Cert.Kernel20Ideal.τ).loc Cert.Kernel20Ideal.main_v37)) (v6 : (c : Dev Cert.Kernel20Ideal.nD) → Buf (Elt Ideal) ((c.tc : Thread Cert.Kernel20Ideal.nD Cert.Kernel20Ideal.τ).loc Cert.Kernel20Ideal.main_v39)) (v7 : (c : Dev Cert.Kernel20Ideal.nD) → Buf (Elt Ideal) ((c.tc : Thread Cert.Kernel20Ideal.nD Cert.Kernel20Ideal.τ).loc Cert.Kernel20Ideal.main_v44)) (v8 : (c : Dev Cert.Kernel20Ideal.nD) → Buf (Elt Ideal) ((c.tc : Thread Cert.Kernel20Ideal.nD Cert.Kernel20Ideal.τ).loc Cert.Kernel20Ideal.main_v46)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v27) = v0 c
          ∧ r.2.mem ((c.tc : Thread Cert.Kernel20Ideal.nD Cert.Kernel20Ideal.τ).loc Cert.Kernel20Ideal.main_v22) = v1 c
          ∧ r.2.mem ((c.tc : Thread Cert.Kernel20Ideal.nD Cert.Kernel20Ideal.τ).loc Cert.Kernel20Ideal.main_v24) = v2 c
          ∧ r.2.mem ((c.tc : Thread Cert.Kernel20Ideal.nD Cert.Kernel20Ideal.τ).loc Cert.Kernel20Ideal.main_v30) = v3 c
          ∧ r.2.mem ((c.tc : Thread Cert.Kernel20Ideal.nD Cert.Kernel20Ideal.τ).loc Cert.Kernel20Ideal.main_v32) = v4 c
          ∧ r.2.mem ((c.tc : Thread Cert.Kernel20Ideal.nD Cert.Kernel20Ideal.τ).loc Cert.Kernel20Ideal.main_v37) = v5 c
          ∧ r.2.mem ((c.tc : Thread Cert.Kernel20Ideal.nD Cert.Kernel20Ideal.τ).loc Cert.Kernel20Ideal.main_v39) = v6 c
          ∧ r.2.mem ((c.tc : Thread Cert.Kernel20Ideal.nD Cert.Kernel20Ideal.τ).loc Cert.Kernel20Ideal.main_v44) = v7 c
          ∧ r.2.mem ((c.tc : Thread Cert.Kernel20Ideal.nD Cert.Kernel20Ideal.τ).loc Cert.Kernel20Ideal.main_v46) = v8 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v3) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v33) = v3 c
          ∧ r.2.mem ((c.tc : Thread Cert.Reference20Ideal.nD Cert.Reference20Ideal.τ).loc Cert.Reference20Ideal.main_v57) = v4 c
          ∧ r.2.mem ((c.tc : Thread Cert.Reference20Ideal.nD Cert.Reference20Ideal.τ).loc Cert.Reference20Ideal.main_v14) = v5 c
          ∧ r.2.mem ((c.tc : Thread Cert.Reference20Ideal.nD Cert.Reference20Ideal.τ).loc Cert.Reference20Ideal.main_v38) = v6 c
          ∧ r.2.mem ((c.tc : Thread Cert.Reference20Ideal.nD Cert.Reference20Ideal.τ).loc Cert.Reference20Ideal.main_v20) = v7 c
          ∧ r.2.mem ((c.tc : Thread Cert.Reference20Ideal.nD Cert.Reference20Ideal.τ).loc Cert.Reference20Ideal.main_v44) = v8 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S4096x6144 : Shape := ⟨2, ![4096, 6144]⟩
abbrev S2x1024x6144 : Shape := ⟨3, ![2, 1024, 6144]⟩
abbrev S4096x1024 : Shape := ⟨2, ![4096, 1024]⟩
abbrev S4x1024 : Shape := ⟨2, ![4, 1024]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S8x256x768 : Shape := ⟨3, ![8, 256, 768]⟩
abbrev S1x1024 : Shape := ⟨2, ![1, 1024]⟩
abbrev S512x6144 : Shape := ⟨2, ![512, 6144]⟩
abbrev S512x1024 : Shape := ⟨2, ![512, 1024]⟩
abbrev S1x1x1024 : Shape := ⟨3, ![1, 1, 1024]⟩
abbrev S512x768 : Shape := ⟨2, ![512, 768]⟩
abbrev S1x256x768 : Shape := ⟨3, ![1, 256, 768]⟩
abbrev S256x768 : Shape := ⟨2, ![256, 768]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S2x1024x6144, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S1x1024x6144, .f32⟩
  | .hbm, ⟨7, _⟩ => ⟨S1024x6144, .f32⟩
  | .hbm, ⟨8, _⟩ => ⟨S1024x6144, .bf16⟩
  | .hbm, ⟨9, _⟩ => ⟨S1024x8x768, .bf16⟩
  | .hbm, ⟨10, _⟩ => ⟨S8x1024x768, .bf16⟩
  | .hbm, ⟨11, _⟩ => ⟨S8x256x768, .bf16⟩
  | .hbm, ⟨12, _⟩ => ⟨S8x256x768, .bf16⟩
  | .hbm, ⟨13, _⟩ => ⟨S8x256x768, .bf16⟩
  | .hbm, ⟨14, _⟩ => ⟨S8x256x768, .bf16⟩
  | .hbm, ⟨15, _⟩ => ⟨S4096x1024, .f32⟩
  | .hbm, ⟨16, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x256x768, .bf16⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x6144 : Shape := ⟨2, ![4096, 6144]⟩
abbrev S2x1024x6144 : Shape := ⟨3, ![2, 1024, 6144]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S1x1024x6144 : Shape := ⟨3, ![1, 1024, 6144]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2x1024x6144, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1x1024x6144, .f32⟩
  | .hbm, ⟨8, _⟩ => ⟨S1024x6144, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x6144, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel2.lean ====
abbrev S4096x4096 : Shape := ⟨2, ![4096, 4096]⟩
abbrev S2x1024x4096 : Shape := ⟨3, ![2, 1024, 4096]⟩
abbrev S4096x1024 : Shape := ⟨2, ![4096, 1024]⟩
abbrev S4x1024 : Shape := ⟨2, ![4, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S1x1x1024 : Shape := ⟨3, ![1, 1, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S1x1024x4096, .f32⟩
  | .hbm, ⟨7, _⟩ => ⟨S1024x4096, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S4096x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x4096 : Shape := ⟨2, ![4096, 4096]⟩
abbrev S2x1024x4096 : Shape := ⟨3, ![2, 1024, 4096]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1x1024x4096, .f32⟩
  | .hbm, ⟨8, _⟩ => ⟨S1024x4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S4096x6144 : Shape := ⟨2, ![4096, 6144]⟩
abbrev S4096x2048 : Shape := ⟨2, ![4096, 2048]⟩
abbrev S2x2048 : Shape := ⟨2, ![2, 2048]⟩
abbrev S2x8x128x128 : Shape := ⟨4, ![2, 8, 128, 128]⟩
abbrev S2x8x128 : Shape := ⟨3, ![2, 8, 128]⟩
abbrev S2x1x2048 : Shape := ⟨3, ![2, 1, 2048]⟩
abbrev S2x8x128x1 : Shape := ⟨4, ![2, 8, 128, 1]⟩
abbrev S_ : Shape := ⟨0, ![]⟩
abbrev S4096 : Shape := ⟨1, ![4096]⟩
abbrev S4096x1 : Shape := ⟨2, ![4096, 1]⟩
abbrev S8x128x128 : Shape := ⟨3, ![8, 128, 128]⟩
abbrev S8x128 : Shape := ⟨2, ![8, 128]⟩
abbrev S1x2048 : Shape := ⟨2, ![1, 2048]⟩
abbrev S256x2048 : Shape := ⟨2, ![256, 2048]⟩
abbrev S256x1 : Shape := ⟨2, ![256, 1]⟩
abbrev S1x1x2048 : Shape := ⟨3, ![1, 1, 2048]⟩
abbrev S1x8x128x128 : Shape := ⟨4, ![1, 8, 128, 128]⟩
abbrev S1x8x128x1 : Shape := ⟨4, ![1, 8, 128, 1]⟩
abbrev S256x6144 : Shape := ⟨2, ![256, 6144]⟩
abbrev S16x2048 : Shape := ⟨2, ![16, 2048]⟩
abbrev S128x128 : Shape := ⟨2, ![128, 128]⟩
abbrev S1x1x128x128 : Shape := ⟨4, ![1, 1, 128, 128]⟩
abbrev S128x256 : Shape := ⟨2, ![128, 256]⟩
abbrev S1x1x128x1 : Shape := ⟨4, ![1, 1, 128, 1]⟩
abbrev S128x1 : Shape := ⟨2, ![128, 1]⟩
abbrev S8x256 : Shape := ⟨2, ![8, 256]⟩
abbrev S1x128x128 : Shape := ⟨3, ![1, 128, 128]⟩
abbrev S1x128 : Shape := ⟨2, ![1, 128]⟩
abbrev S2048 : Shape := ⟨1, ![2048]⟩
abbrev S16x1 : Shape := ⟨2, ![16, 1]⟩
abbrev S16 : Shape := ⟨1, ![16]⟩

abbrev nBuf : Space → Nat
  | .hbm => 84
  | .vmem => 27
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S2x2048, .f32⟩
  | .hbm, ⟨3, _⟩ => ⟨S2x2048, .f32⟩
  | .hbm, ⟨4, _⟩ => ⟨S2x8x128x128, .f32⟩
  | .hbm, ⟨5, _⟩ => ⟨S2x8x128, .f32⟩
  | .hbm, ⟨6, _⟩ => ⟨S2x1x2048, .f32⟩
  | .hbm, ⟨7, _⟩ => ⟨S2x1x2048, .f32⟩
  | .hbm, ⟨8, _⟩ => ⟨S2x8x128x1, .f32⟩
  | .hbm, ⟨9, _⟩ => ⟨S4096x2048, .bf16⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x2048, .f32⟩
  | .hbm, ⟨76, _⟩ => ⟨S4096x2048, .f32⟩
  | .hbm, ⟨77, _⟩ => ⟨S4096x2048, .bf16⟩
  | .hbm, ⟨78, _⟩ => ⟨S4096x2048, .bf16⟩
  | .hbm, ⟨79, _⟩ => ⟨S4096x6144, .bf16⟩
  | .hbm, ⟨80, _⟩ => ⟨S8x128x128, .f32⟩
  | .hbm, ⟨81, _⟩ => ⟨S8x128, .f32⟩
  | .hbm, ⟨82, _⟩ => ⟨S1x2048, .f32⟩
  | .hbm, ⟨83, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x1, .f32⟩
  | .local _ .vmem, ⟨11, _⟩ => ⟨S256x1, .f32⟩
  | .local _ .vmem, ⟨12, _⟩ => ⟨S1x1x2048, .f32⟩
  | .local _ .vmem, ⟨13, _⟩ => ⟨S1x1x2048, .f32⟩
  | .local _ .vmem, ⟨14, _⟩ => ⟨S1x8x128x128, .f32⟩
  | .local _ .vmem, ⟨15, _⟩ => ⟨S1x8x128x1, .f32⟩
  | .local _ .vmem, ⟨16, _⟩ => ⟨S256x6144, .bf16⟩
  | .local _ .vmem, ⟨17, _⟩ => ⟨S256x6144, .bf16⟩
  | .local _ .vmem, ⟨18, _⟩ => ⟨S8x128x128, .f32⟩
  | .local _ .vmem, ⟨19, _⟩ => ⟨S8x128, .f32⟩
  | .local _ .vmem, ⟨20, _⟩ => ⟨S1x2048, .f32⟩
  | .local _ .vmem, ⟨21, _⟩ => ⟨S1x2048, .f32⟩
  | .local _ .vmem, ⟨22, _⟩ => ⟨S256x2048, .bf16⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57_0 : Ref sig .tc := ⟨.hbm, 79, rfl⟩
abbrev main_v57_1 : Ref sig .tc := ⟨.hbm, 80, rfl⟩
abbrev main_v57_2 : Ref sig .tc := ⟨.hbm, 81, rfl⟩
abbrev main_v57_3 : Ref sig .tc := ⟨.hbm, 82, rfl⟩
abbrev main_v57_4 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c16_i32_529 : BitVec 32 := 16#32
  let v683 : BitVec 32 := Scalar.muli arg21 c16_i32_529
  v683
def k0_off1 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c16_i32_529 : BitVec 32 := 16#32
  let v683 : BitVec 32 := Scalar.muli arg21 c16_i32_529
  let v684 : BitVec 32 := v683
  let v685 : Index := Scalar.indexCast v684
  let c0_530 : Index := 0#32
  ![v685.toNat, 0]
@[reducible] def k0_t2_loop : Scf.Loop 32 :=
  let c0_i32_525 : BitVec 32 := 0#32
  let c16_i32_526 : BitVec 32 := 16#32
  let v682 : BitVec 32 := Scalar.addi c0_i32_525 c16_i32_526
  let c1_i32_527 : BitVec 32 := 1#32
  ⟨c0_i32_525, v682, c1_i32_527⟩
def k0_mult2 (k0_t2 : Fin k0_t2_loop.trips) : BitVec 32 :=
  let c0_i32_525 : BitVec 32 := 0#32
  let c1_i32_527 : BitVec 32 := 1#32
  let arg21 : BitVec 32 := Scf.iv c0_i32_525 c1_i32_527 k0_t2
  let c16_i32_529 : BitVec 32 := 16#32
  let v683 : BitVec 32 := Scalar.muli arg21 c16_i32_529
  v683
def k0_off2 (k0_t2 : Fin k0_t2_loop.trips) : Fin 2 → Nat :=
  let c0_i32_525 : BitVec 32 := 0#32
  let c1_i32_527 : BitVec 32 := 1#32
  let arg21 : BitVec 32 := Scf.iv c0_i32_525 c1_i32_527 k0_t2
  let c16_i32_529 : BitVec 32 := 16#32
  let v683 : BitVec 32 := Scalar.muli arg21 c16_i32_529
  let v684 : BitVec 32 := v683
  let v685 : Index := Scalar.indexCast v684
  let c0_530 : Index := 0#32
  ![v685.toNat, 0]
def k0_off3 (k0_t2 : Fin k0_t2_loop.trips) : Fin 2 → Nat :=
  let c0_i32_525 : BitVec 32 := 0#32
  let c1_i32_527 : BitVec 32 := 1#32
  let arg21 : BitVec 32 := Scf.iv c0_i32_525 c1_i32_527 k0_t2
  let c16_i32_529 : BitVec 32 := 16#32
  let v683 : BitVec 32 := Scalar.muli arg21 c16_i32_529
  let v684 : BitVec 32 := v683
  let v708 : Index := Scalar.indexCast v684
  let c0_545 : Index := 0#32
  ![v708.toNat, 0]
def k0_off4 (k0_t2 : Fin k0_t2_loop.trips) : Fin 2 → Nat :=
  let c0_i32_525 : BitVec 32 := 0#32
  let c1_i32_527 : BitVec 32 := 1#32
  let arg21 : BitVec 32 := Scf.iv c0_i32_525 c1_i32_527 k0_t2
  let c16_i32_529 : BitVec 32 := 16#32
  let v683 : BitVec 32 := Scalar.muli arg21 c16_i32_529
  let v684 : BitVec 32 := v683
  let v733 : Index := Scalar.indexCast v684
  let c2048 : Index := 2048#32
  ![v733.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S4096x6144 : Shape := ⟨2, ![4096, 6144]⟩
abbrev S4096x2048 : Shape := ⟨2, ![4096, 2048]⟩
abbrev S2x2048 : Shape := ⟨2, ![2, 2048]⟩
abbrev S2x8x128x128 : Shape := ⟨4, ![2, 8, 128, 128]⟩
abbrev S2x8x128 : Shape := ⟨3, ![2, 8, 128]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 275
  | .vmem => 0
  | .smem => 0
  | _ => 0

abbrev hbmTy0_0 (i : Nat) : BufTy := match i % 128 with
  | 0 => ⟨S4096x6144, .bf16⟩
  | 1 => ⟨S4096x2048, .bf16⟩
  | 2 => ⟨S2x2048, .f32⟩
  | 3 => ⟨S2x2048, .f32⟩
  | 4 => ⟨S2x8x128x128, .f32⟩
  | 5 => ⟨S2x8x128, .f32⟩
  | 6 => ⟨S4096x6144, .f32⟩
  | 7 => ⟨S1x2048, .f32⟩
  | 8 => ⟨S2048, .f32⟩
  | 9 => ⟨S1x2048, .f32⟩
  | 10 => ⟨S2048, .f32⟩
  | 11 => ⟨S1x8x128x128, .f32⟩
  | 12 => ⟨S8x128x128, .f32⟩
  | 13 => ⟨S1x8x128, .f32⟩
  | 14 => ⟨S8x128, .f32⟩
  | 15 => ⟨S4096x2048, .f32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S_, .f32⟩
  | 36 => ⟨S4096x2048, .f32⟩
  | 37 => ⟨S4096x2048, .f32⟩
  | 38 => ⟨S4096x2048, .f32⟩
  | 39 => ⟨S_, .f32⟩
  | 40 => ⟨S4096x2048, .f32⟩
  | 41 => ⟨S4096x2048, .f32⟩
  | 42 => ⟨S_, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S_, .f32⟩
  | 50 => ⟨S4096x2048, .f32⟩
  | 51 => ⟨S4096x2048, .f32⟩
  | 52 => ⟨S_, .f32⟩
  | 53 => ⟨S4096x2048, .f32⟩
  | 54 => ⟨S4096x2048, .f32⟩
  | 55 => ⟨S4096x2048, .f32⟩
  | 56 => ⟨S_, .f32⟩
  | 57 => ⟨S4096x2048, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S_, .f32⟩
  | 64 => ⟨S4096x2048, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S_, .f32⟩
  | 71 => ⟨S4096x2048, .f32⟩
  | 72 => ⟨S4096x2048, .f32⟩
  | 73 => ⟨S4096x2048, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S4096x2048, .f32⟩
  | 81 => ⟨S4096x2048, .f32⟩
  | 82 => ⟨S4096x2048, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x2048, .f32⟩
  | 98 => ⟨S4096x2048, .f32⟩
  | 99 => ⟨S1x2048, .f32⟩
  | 100 => ⟨S4096x2048, .f32⟩
  | 101 => ⟨S4096x2048, .f32⟩
  | 102 => ⟨S1x2048, .f32⟩
  | 103 => ⟨S4096x2048, .f32⟩
  | 104 => ⟨S4096x2048, .f32⟩
  | 105 => ⟨S32x128x8x256, .f32⟩
  | 106 => ⟨S128, .i32⟩
  | 107 => ⟨S1x128, .i32⟩
  | 108 => ⟨S_, .i32⟩
  | 109 => ⟨S_, .i32⟩
  | 110 => ⟨S1x128, .i32⟩
  | 111 => ⟨S1x128, .i32⟩
  | 112 => ⟨S1x128, .i32⟩
  | 113 => ⟨S_, .i32⟩
  | 114 => ⟨S1x128, .i32⟩
  | 115 => ⟨S1x128, .i1⟩
  | 116 => ⟨S1x128, .i32⟩
  | 117 => ⟨S1x128, .i32⟩
  | 118 => ⟨S_, .i32⟩
  | 119 => ⟨S1x128, .i32⟩
  | 120 => ⟨S1x128, .i1⟩
  | 121 => ⟨S1x128, .i1⟩
  | 122 => ⟨S_, .i32⟩
  | 123 => ⟨S1x128, .i32⟩
  | 124 => ⟨S1x128, .i32⟩
  | 125 => ⟨S1x128, .i32⟩
  | 126 => ⟨S128x1, .i32⟩
  | 127 => ⟨S_, .i32⟩
  | _ => ⟨S4096x6144, .bf16⟩

abbrev hbmTy0_1 (i : Nat) : BufTy := match i % 128 with
  | 0 => ⟨S_, .i32⟩
  | 1 => ⟨S128x1, .i32⟩
  | 2 => ⟨S128x1, .i32⟩
  | 3 => ⟨S128x1, .i32⟩
  | 4 => ⟨S_, .i32⟩
  | 5 => ⟨S128x1, .i32⟩
  | 6 => ⟨S128x1, .i1⟩
  | 7 => ⟨S128x1, .i32⟩
  | 8 => ⟨S128x1, .i32⟩
  | 9 => ⟨S_, .i32⟩
  | 10 => ⟨S128x1, .i32⟩
  | 11 => ⟨S128x1, .i1⟩
  | 12 => ⟨S128x1, .i1⟩
  | 13 => ⟨S_, .i32⟩
  | 14 => ⟨S128x1, .i32⟩
  | 15 => ⟨S128x1, .i32⟩
  | 16 => ⟨S128x1, .i32⟩
  | 17 => ⟨S128x128, .i32⟩
  | 18 => ⟨S128x128, .i32⟩
  | 19 => ⟨S128x128, .i1⟩
  | 20 => ⟨S1x128x128, .i1⟩
  | 21 => ⟨S_, .f32⟩
  | 22 => ⟨S8x128x128, .f32⟩
  | 23 => ⟨S8x128x128, .i1⟩
  | 24 => ⟨S8x128x128, .f32⟩
  | 25 => ⟨S_, .f32⟩
  | 26 => ⟨S8x128x128, .f32⟩
  | 27 => ⟨S8x32x256x128, .f32⟩
  | 28 => ⟨S32x128x8x256, .f32⟩
  | 29 => ⟨S128x8, .f32⟩
  | 30 => ⟨S1x128x8x1, .f32⟩
  | 31 => ⟨S32x128x8x256, .f32⟩
  | 32 => ⟨S32x128x8x256, .f32⟩
  | 33 => ⟨S4096x2048, .f32⟩
  | 34 => ⟨S4096x2048, .f32⟩
  | 35 => ⟨S4096x2048, .f32⟩
  | 36 => ⟨S4096x2048, .f32⟩
  | 37 => ⟨S_, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S4096x2048, .f32⟩
  | 50 => ⟨S4096x2048, .f32⟩
  | 51 => ⟨S4096x2048, .f32⟩
  | 52 => ⟨S4096x2048, .f32⟩
  | 53 => ⟨S4096x2048, .f32⟩
  | 54 => ⟨S4096x2048, .f32⟩
  | 55 => ⟨S4096x2048, .f32⟩
  | 56 => ⟨S4096x2048, .f32⟩
  | 57 => ⟨S4096x2048, .f32⟩
  | 58 => ⟨S32x128x8x256, .f32⟩
  | 59 => ⟨S_, .f32⟩
  | 60 => ⟨S128x8, .f32⟩
  | 61 => ⟨S1x128x8x1, .f32⟩
  | 62 => ⟨S_, .f32⟩
  | 63 => ⟨S128x8, .f32⟩
  | 64 => ⟨S8x128, .f32⟩
  | 65 => ⟨S8x32x256x128, .f32⟩
  | 66 => ⟨S8x128x128, .f32⟩
  | 67 => ⟨S8x32x256x128, .f32⟩
  | 68 => ⟨S32x128x8x256, .f32⟩
  | 69 => ⟨S_, .f32⟩
  | 70 => ⟨S8x128x128, .f32⟩
  | 71 => ⟨S8x128x128, .f32⟩
  | 72 => ⟨S4096x2048, .f32⟩
  | 73 => ⟨S_, .f32⟩
  | 74 => ⟨S2048, .f32⟩
  | 75 => ⟨S1x2048, .f32⟩
  | 76 => ⟨S_, .f32⟩
  | 77 => ⟨S2048, .f32⟩
  | 78 => ⟨S4096x2048, .f32⟩
  | 79 => ⟨S_, .f32⟩
  | 80 => ⟨S2048, .f32⟩
  | 81 => ⟨S1x2048, .f32⟩
  | 82 => ⟨S4096x2048, .f32⟩
  | 83 => ⟨S4096x2048, .f32⟩
  | 84 => ⟨S_, .f32⟩
  | 85 => ⟨S2048, .f32⟩
  | 86 => ⟨S4096x2048, .f32⟩
  | 87 => ⟨S_, .f32⟩
  | 88 => ⟨S4096, .f32⟩
  | 89 => ⟨S4096x1, .f32⟩
  | 90 => ⟨S4096x2048, .f32⟩
  | 91 => ⟨S4096x2048, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096, .f32⟩
  | 98 => ⟨S4096x2048, .f32⟩
  | 99 => ⟨S4096x2048, .f32⟩
  | 100 => ⟨S4096x2048, .f32⟩
  | 101 => ⟨S4096x2048, .f32⟩
  | 102 => ⟨S4096x2048, .f32⟩
  | 103 => ⟨S4096x2048, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x2048, .f32⟩
  | 113 => ⟨S4096x2048, .f32⟩
  | 114 => ⟨S4096x2048, .f32⟩
  | 115 => ⟨S4096x2048, .f32⟩
  | 116 => ⟨S_, .f32⟩
  | 117 => ⟨S4096x2048, .f32⟩
  | 118 => ⟨S4096x2048, .f32⟩
  | 119 => ⟨S4096x2048, .f32⟩
  | 120 => ⟨S_, .f32⟩
  | 121 => ⟨S4096x2048, .f32⟩
  | 122 => ⟨S4096x2048, .f32⟩
  | 123 => ⟨S4096x2048, .f32⟩
  | 124 => ⟨S_, .f32⟩
  | 125 => ⟨S4096x2048, .f32⟩
  | 126 => ⟨S4096x2048, .f32⟩
  | 127 => ⟨S4096x2048, .f32⟩
  | _ => ⟨S4096x6144, .bf16⟩

abbrev hbmTy0_2 (i : Nat) : BufTy := match i % 128 with
  | 0 => ⟨S4096x2048, .f32⟩
  | 1 => ⟨S4096x2048, .f32⟩
  | 2 => ⟨S4096x2048, .f32⟩
  | 3 => ⟨S_, .f32⟩
  | 4 => ⟨S4096x2048, .f32⟩
  | 5 => ⟨S4096x2048, .f32⟩
  | 6 => ⟨S4096x2048, .f32⟩
  | 7 => ⟨S_, .f32⟩
  | 8 => ⟨S4096x2048, .f32⟩
  | 9 => ⟨S4096x2048, .f32⟩
  | 10 => ⟨S4096x2048, .f32⟩
  | 11 => ⟨S_, .f32⟩
  | 12 => ⟨S4096x2048, .f32⟩
  | 13 => ⟨S4096x2048, .f32⟩
  | 14 => ⟨S4096x2048, .f32⟩
  | 15 => ⟨S4096x2048, .f32⟩
  | 16 => ⟨S4096x6144, .f32⟩
  | 17 => ⟨S1x2048, .f32⟩
  | 18 => ⟨S1x2048, .f32⟩
  | _ => ⟨S4096x6144, .bf16⟩

abbrev hbmTy (i : Nat) : BufTy := match i / 128 with
  | 0 => hbmTy0_0 i
  | 1 => hbmTy0_1 i
  | 2 => hbmTy0_2 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_c : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_c_0 : Ref sig .tc := ⟨.hbm, 122, rfl⟩
abbrev main_call0_v12 : Ref sig .tc := ⟨.hbm, 123, rfl⟩
abbrev main_call0_v13 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_v8 : Ref sig .tc := ⟨.hbm, 136, rfl⟩
abbrev main_call1_c : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_c_0 : Ref sig .tc := ⟨.hbm, 141, rfl⟩
abbrev main_call1_v12 : Ref sig .tc := ⟨.hbm, 142, rfl⟩
abbrev main_call1_v13 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_cst_20 : Ref sig .tc := ⟨.hbm, 149, rfl⟩
abbrev main_v89 : Ref sig .tc := ⟨.hbm, 150, rfl⟩
abbrev main_v90_1 : Ref sig .tc := ⟨.hbm, 151, rfl⟩
abbrev main_v90_0 : Ref sig .tc := ⟨.hbm, 152, rfl⟩
abbrev main_call2_cst : Ref sig .tc := ⟨.hbm, 153, rfl⟩
abbrev main_v90_2 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_call3_v0 : Ref sig .tc := ⟨.hbm, 163, rfl⟩
abbrev main_call3_v1 : Ref sig .tc := ⟨.hbm, 164, rfl⟩
abbrev main_call3_cst : Ref sig .tc := ⟨.hbm, 165, rfl⟩
abbrev main_call3_v2 : Ref sig .tc := ⟨.hbm, 166, rfl⟩
abbrev main_call3_v3 : Ref sig .tc := ⟨.hbm, 167, rfl⟩
abbrev main_call3_cst_0 : Ref sig .tc := ⟨.hbm, 168, rfl⟩
abbrev main_call3_v4 : Ref sig .tc := ⟨.hbm, 169, rfl⟩
abbrev main_v99_2 : Ref sig .tc := ⟨.hbm, 170, rfl⟩
abbrev main_call3_cst_1 : Ref sig .tc := ⟨.hbm, 171, rfl⟩
abbrev main_call3_v6 : Ref sig .tc := ⟨.hbm, 172, rfl⟩
abbrev main_call3_v7 : Ref sig .tc := ⟨.hbm, 173, rfl⟩
abbrev main_v99_1 : Ref sig .tc := ⟨.hbm, 174, rfl⟩
abbrev main_v99_0 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_cst_21 : Ref sig .tc := ⟨.hbm, 187, rfl⟩
abbrev main_v108 : Ref sig .tc := ⟨.hbm, 188, rfl⟩
abbrev main_v109 : Ref sig .tc := ⟨.hbm, 189, rfl⟩
abbrev main_cst_22 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_call5_cst : Ref sig .tc := ⟨.hbm, 197, rfl⟩
abbrev main_call5_v0 : Ref sig .tc := ⟨.hbm, 198, rfl⟩
abbrev main_v116 : Ref sig .tc := ⟨.hbm, 199, rfl⟩
abbrev main_v117 : Ref sig .tc := ⟨.hbm, 200, rfl⟩
abbrev main_cst_23 : Ref sig .tc := ⟨.hbm, 201, rfl⟩
abbrev main_v118 : Ref sig .tc := ⟨.hbm, 202, rfl⟩
abbrev main_v119 : Ref sig .tc := ⟨.hbm, 203, rfl⟩
abbrev main_cst_24 : Ref sig .tc := ⟨.hbm, 204, rfl⟩
abbrev main_v120 : Ref sig .tc := ⟨.hbm, 205, rfl⟩
abbrev main_v121 : Ref sig .tc := ⟨.hbm, 206, rfl⟩
abbrev main_cst_25 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_cst_26 : Ref sig .tc := ⟨.hbm, 212, rfl⟩
abbrev main_v126 : Ref sig .tc := ⟨.hbm, 213, rfl⟩
abbrev main_v127 : Ref sig .tc := ⟨.hbm, 214, rfl⟩
abbrev main_cst_27 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_cst_28 : Ref sig .tc := ⟨.hbm, 221, rfl⟩
abbrev main_v133 : Ref sig .tc := ⟨.hbm, 222, rfl⟩
abbrev main_v134 : Ref sig .tc := ⟨.hbm, 223, rfl⟩
abbrev main_cst_29 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_cst_30 : Ref sig .tc := ⟨.hbm, 232, rfl⟩
abbrev main_v142 : Ref sig .tc := ⟨.hbm, 233, rfl⟩
abbrev main_v143 : Ref sig .tc := ⟨.hbm, 234, rfl⟩
abbrev main_cst_31 : Ref sig .tc := ⟨.hbm, 235, rfl⟩
abbrev main_v144 : Ref sig .tc := ⟨.hbm, 236, rfl⟩
abbrev main_v145 : Ref sig .tc := ⟨.hbm, 237, rfl⟩
abbrev main_cst_32 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_cst_33 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_cst_34 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_cst_35 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_cst_36 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_cst_37 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_38 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩

abbrev nD : Nat := 1
abbrev τ : Topo := Topo.v7x

variable {F : FTy → Type} [FloatOps F]
-- ==== Kernel4.lean ====
abbrev S4096x6144 : Shape := ⟨2, ![4096, 6144]⟩
abbrev S2x1024x6144 : Shape := ⟨3, ![2, 1024, 6144]⟩
abbrev S4096x1024 : Shape := ⟨2, ![4096, 1024]⟩
abbrev S4x1024 : Shape := ⟨2, ![4, 1024]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S8x256x768 : Shape := ⟨3, ![8, 256, 768]⟩
abbrev S1x1024 : Shape := ⟨2, ![1, 1024]⟩
abbrev S512x6144 : Shape := ⟨2, ![512, 6144]⟩
abbrev S512x1024 : Shape := ⟨2, ![512, 1024]⟩
abbrev S1x1x1024 : Shape := ⟨3, ![1, 1, 1024]⟩
abbrev S512x768 : Shape := ⟨2, ![512, 768]⟩
abbrev S1x256x768 : Shape := ⟨3, ![1, 256, 768]⟩
abbrev S256x768 : Shape := ⟨2, ![256, 768]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S2x1024x6144, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S1x1024x6144, .f32⟩
  | .hbm, ⟨7, _⟩ => ⟨S1024x6144, .f32⟩
  | .hbm, ⟨8, _⟩ => ⟨S1024x6144, .bf16⟩
  | .hbm, ⟨9, _⟩ => ⟨S1024x8x768, .bf16⟩
  | .hbm, ⟨10, _⟩ => ⟨S8x1024x768, .bf16⟩
  | .hbm, ⟨11, _⟩ => ⟨S8x256x768, .bf16⟩
  | .hbm, ⟨12, _⟩ => ⟨S8x256x768, .bf16⟩
  | .hbm, ⟨13, _⟩ => ⟨S8x256x768, .bf16⟩
  | .hbm, ⟨14, _⟩ => ⟨S8x256x768, .bf16⟩
  | .hbm, ⟨15, _⟩ => ⟨S4096x1024, .f32⟩
  | .hbm, ⟨16, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x256x768, .bf16⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x6144 : Shape := ⟨2, ![4096, 6144]⟩
abbrev S2x1024x6144 : Shape := ⟨3, ![2, 1024, 6144]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S1x1024x6144 : Shape := ⟨3, ![1, 1024, 6144]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2x1024x6144, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1x1024x6144, .f32⟩
  | .hbm, ⟨8, _⟩ => ⟨S1024x6144, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x6144, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel5.lean ====
abbrev S4096x4096 : Shape := ⟨2, ![4096, 4096]⟩
abbrev S2x1024x4096 : Shape := ⟨3, ![2, 1024, 4096]⟩
abbrev S4096x1024 : Shape := ⟨2, ![4096, 1024]⟩
abbrev S4x1024 : Shape := ⟨2, ![4, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S1x1x1024 : Shape := ⟨3, ![1, 1, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S1x1024x4096, .f32⟩
  | .hbm, ⟨7, _⟩ => ⟨S1024x4096, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S4096x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x4096 : Shape := ⟨2, ![4096, 4096]⟩
abbrev S2x1024x4096 : Shape := ⟨3, ![2, 1024, 4096]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1x1024x4096, .f32⟩
  | .hbm, ⟨8, _⟩ => ⟨S1024x4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel6.lean ====
abbrev S4096x1024 : Shape := ⟨2, ![4096, 1024]⟩
abbrev S4x1024 : Shape := ⟨2, ![4, 1024]⟩
abbrev S2x1024x6144 : Shape := ⟨3, ![2, 1024, 6144]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S8x256x768 : Shape := ⟨3, ![8, 256, 768]⟩
abbrev S4096x6144 : Shape := ⟨2, ![4096, 6144]⟩
abbrev S512x1024 : Shape := ⟨2, ![512, 1024]⟩
abbrev S1x1x1024 : Shape := ⟨3, ![1, 1, 1024]⟩
abbrev S512x6144 : Shape := ⟨2, ![512, 6144]⟩
abbrev S512 : Shape := ⟨1, ![512]⟩
abbrev S512x1 : Shape := ⟨2, ![512, 1]⟩
abbrev S1x1024 : Shape := ⟨2, ![1, 1024]⟩
abbrev S512x256 : Shape := ⟨2, ![512, 256]⟩
abbrev S1x256x768 : Shape := ⟨3, ![1, 256, 768]⟩
abbrev S256x768 : Shape := ⟨2, ![256, 768]⟩
abbrev S512x768 : Shape := ⟨2, ![512, 768]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x6144, .f32⟩
  | .hbm, ⟨3, _⟩ => ⟨S4x1x1024, .f32⟩
  | .hbm, ⟨4, _⟩ => ⟨S1x1024x6144, .f32⟩
  | .hbm, ⟨5, _⟩ => ⟨S1024x6144, .f32⟩
  | .hbm, ⟨6, _⟩ => ⟨S1024x6144, .bf16⟩
  | .hbm, ⟨7, _⟩ => ⟨S1024x8x768, .bf16⟩
  | .hbm, ⟨8, _⟩ => ⟨S8x1024x768, .bf16⟩
  | .hbm, ⟨9, _⟩ => ⟨S8x256x768, .bf16⟩
  | .hbm, ⟨10, _⟩ => ⟨S8x256x768, .bf16⟩
  | .hbm, ⟨11, _⟩ => ⟨S8x256x768, .bf16⟩
  | .hbm, ⟨12, _⟩ => ⟨S8x256x768, .bf16⟩
  | .hbm, ⟨13, _⟩ => ⟨S4096x6144, .bf16⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S8x256x768, .bf16⟩
  | .local _ .vmem, ⟨7, _⟩ => ⟨S512x6144, .bf16⟩
  | .local _ .vmem, ⟨8, _⟩ => ⟨S512x6144, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S4x1024 : Shape := ⟨2, ![4, 1024]⟩
abbrev S2x1024x6144 : Shape := ⟨3, ![2, 1024, 6144]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x6144 : Shape := ⟨3, ![1, 1024, 6144]⟩
abbrev S1024x6144 : Shape := ⟨2, ![1024, 6144]⟩
abbrev S4096x6144 : Shape := ⟨2, ![4096, 6144]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x6144, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x6144, .f32⟩
  | .hbm, ⟨22, _⟩ => ⟨S1024x6144, .f32⟩
  | .hbm, ⟨23, _⟩ => ⟨S4096x6144, .f32⟩
  | .hbm, ⟨24, _⟩ => ⟨S4096x6144, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S4096x1024 : Shape := ⟨2, ![4096, 1024]⟩
abbrev S4x1024 : Shape := ⟨2, ![4, 1024]⟩
abbrev S2x1024x4096 : Shape := ⟨3, ![2, 1024, 4096]⟩
abbrev S4x1x1024 : Shape := ⟨3, ![4, 1, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S512x1024 : Shape := ⟨2, ![512, 1024]⟩
abbrev S1x1x1024 : Shape := ⟨3, ![1, 1, 1024]⟩
abbrev S512x4096 : Shape := ⟨2, ![512, 4096]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x4096, .f32⟩
  | .hbm, ⟨3, _⟩ => ⟨S4x1x1024, .f32⟩
  | .hbm, ⟨4, _⟩ => ⟨S1x1024x4096, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x4096, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x1024 : Shape := ⟨2, ![4096, 1024]⟩
abbrev S4x1024 : Shape := ⟨2, ![4, 1024]⟩
abbrev S2x1024x4096 : Shape := ⟨3, ![2, 1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x4096, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x4096, .f32⟩
  | .hbm, ⟨22, _⟩ => ⟨S1024x4096, .f32⟩
  | .hbm, ⟨23, _⟩ => ⟨S4096x4096, .f32⟩
  | .hbm, ⟨24, _⟩ => ⟨S4096x4096, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel8.lean ====
abbrev S4096x1024 : Shape := ⟨2, ![4096, 1024]⟩
abbrev S4x1024 : Shape := ⟨2, ![4, 1024]⟩
abbrev S2x1024x6144 : Shape := ⟨3, ![2, 1024, 6144]⟩
abbrev S4x1x1024 : Shape := ⟨3, ![4, 1, 1024]⟩
abbrev S1x1024x6144 : Shape := ⟨3, ![1, 1024, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S8x256x768 : Shape := ⟨3, ![8, 256, 768]⟩
abbrev S4096x6144 : Shape := ⟨2, ![4096, 6144]⟩
abbrev S512x1024 : Shape := ⟨2, ![512, 1024]⟩
abbrev S1x1x1024 : Shape := ⟨3, ![1, 1, 1024]⟩
abbrev S512x6144 : Shape := ⟨2, ![512, 6144]⟩
abbrev S512 : Shape := ⟨1, ![512]⟩
abbrev S512x1 : Shape := ⟨2, ![512, 1]⟩
abbrev S1x1024 : Shape := ⟨2, ![1, 1024]⟩
abbrev S512x256 : Shape := ⟨2, ![512, 256]⟩
abbrev S1x256x768 : Shape := ⟨3, ![1, 256, 768]⟩
abbrev S256x768 : Shape := ⟨2, ![256, 768]⟩
abbrev S512x768 : Shape := ⟨2, ![512, 768]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x6144, .f32⟩
  | .hbm, ⟨3, _⟩ => ⟨S4x1x1024, .f32⟩
  | .hbm, ⟨4, _⟩ => ⟨S1x1024x6144, .f32⟩
  | .hbm, ⟨5, _⟩ => ⟨S1024x6144, .f32⟩
  | .hbm, ⟨6, _⟩ => ⟨S1024x6144, .bf16⟩
  | .hbm, ⟨7, _⟩ => ⟨S1024x8x768, .bf16⟩
  | .hbm, ⟨8, _⟩ => ⟨S8x1024x768, .bf16⟩
  | .hbm, ⟨9, _⟩ => ⟨S8x256x768, .bf16⟩
  | .hbm, ⟨10, _⟩ => ⟨S8x256x768, .bf16⟩
  | .hbm, ⟨11, _⟩ => ⟨S8x256x768, .bf16⟩
  | .hbm, ⟨12, _⟩ => ⟨S8x256x768, .bf16⟩
  | .hbm, ⟨13, _⟩ => ⟨S4096x6144, .bf16⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S8x256x768, .bf16⟩
  | .local _ .vmem, ⟨7, _⟩ => ⟨S512x6144, .bf16⟩
  | .local _ .vmem, ⟨8, _⟩ => ⟨S512x6144, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S4x1024 : Shape := ⟨2, ![4, 1024]⟩
abbrev S2x1024x6144 : Shape := ⟨3, ![2, 1024, 6144]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x6144 : Shape := ⟨3, ![1, 1024, 6144]⟩
abbrev S1024x6144 : Shape := ⟨2, ![1024, 6144]⟩
abbrev S4096x6144 : Shape := ⟨2, ![4096, 6144]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x6144, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x6144, .f32⟩
  | .hbm, ⟨22, _⟩ => ⟨S1024x6144, .f32⟩
  | .hbm, ⟨23, _⟩ => ⟨S4096x6144, .f32⟩
  | .hbm, ⟨24, _⟩ => ⟨S4096x6144, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel9.lean ====
abbrev S4096x1024 : Shape := ⟨2, ![4096, 1024]⟩
abbrev S4x1024 : Shape := ⟨2, ![4, 1024]⟩
abbrev S2x1024x4096 : Shape := ⟨3, ![2, 1024, 4096]⟩
abbrev S4x1x1024 : Shape := ⟨3, ![4, 1, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S512x1024 : Shape := ⟨2, ![512, 1024]⟩
abbrev S1x1x1024 : Shape := ⟨3, ![1, 1, 1024]⟩
abbrev S512x4096 : Shape := ⟨2, ![512, 4096]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x4096, .f32⟩
  | .hbm, ⟨3, _⟩ => ⟨S4x1x1024, .f32⟩
  | .hbm, ⟨4, _⟩ => ⟨S1x1024x4096, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x4096, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S4x1024 : Shape := ⟨2, ![4, 1024]⟩
abbrev S2x1024x4096 : Shape := ⟨3, ![2, 1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S2x1024x4096, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x4096, .f32⟩
  | .hbm, ⟨22, _⟩ => ⟨S1024x4096, .f32⟩
  | .hbm, ⟨23, _⟩ => ⟨S4096x4096, .f32⟩
  | .hbm, ⟨24, _⟩ => ⟨S4096x4096, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel10.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S4x1x1024 : Shape := ⟨3, ![4, 1, 1024]⟩
abbrev S1x2048x1024 : Shape := ⟨3, ![1, 2048, 1024]⟩
abbrev S2048x1024 : Shape := ⟨2, ![2048, 1024]⟩
abbrev S8x256x1024 : Shape := ⟨3, ![8, 256, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S8x256x1024, .bf16⟩
  | .hbm, ⟨9, _⟩ => ⟨S4096x1024, .f32⟩
  | .hbm, ⟨10, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4096x2048, .f32⟩
  | .hbm, ⟨5, _⟩ => ⟨S1x2048x1024, .f32⟩
  | .hbm, ⟨6, _⟩ => ⟨S2048x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S4x1x1024 : Shape := ⟨3, ![4, 1, 1024]⟩
abbrev S1x2048x1024 : Shape := ⟨3, ![1, 2048, 1024]⟩
abbrev S2048x1024 : Shape := ⟨2, ![2048, 1024]⟩
abbrev S8x256x1024 : Shape := ⟨3, ![8, 256, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S8x256x1024, .bf16⟩
  | .hbm, ⟨9, _⟩ => ⟨S4096x1024, .f32⟩
  | .hbm, ⟨10, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4096x2048, .f32⟩
  | .hbm, ⟨5, _⟩ => ⟨S1x2048x1024, .f32⟩
  | .hbm, ⟨6, _⟩ => ⟨S2048x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel12.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S4x1x1024 : Shape := ⟨3, ![4, 1, 1024]⟩
abbrev S1x2048x1024 : Shape := ⟨3, ![1, 2048, 1024]⟩
abbrev S2048x1024 : Shape := ⟨2, ![2048, 1024]⟩
abbrev S8x256x1024 : Shape := ⟨3, ![8, 256, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S8x256x1024, .bf16⟩
  | .hbm, ⟨9, _⟩ => ⟨S4096x1024, .f32⟩
  | .hbm, ⟨10, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4096x2048, .f32⟩
  | .hbm, ⟨5, _⟩ => ⟨S1x2048x1024, .f32⟩
  | .hbm, ⟨6, _⟩ => ⟨S2048x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel13.lean ====
abbrev S4x1024x768 : Shape := ⟨3, ![4, 1024, 768]⟩
abbrev S2x1024x768 : Shape := ⟨3, ![2, 1024, 768]⟩
abbrev S4x256x768 : Shape := ⟨3, ![4, 256, 768]⟩
abbrev S1x256x768 : Shape := ⟨3, ![1, 256, 768]⟩
abbrev S256x768 : Shape := ⟨2, ![256, 768]⟩

abbrev nBuf : Space → Nat
  | .hbm => 9
  | .vmem => 19
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .bf16⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S4x256x768, .bf16⟩
  | .local _ .vmem, ⟨1, _⟩ => ⟨S4x256x768, .bf16⟩
  | .local _ .vmem, ⟨2, _⟩ => ⟨S4x256x768, .bf16⟩
  | .local _ .vmem, ⟨3, _⟩ => ⟨S4x256x768, .bf16⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S256x768, .f32⟩
  | _, _ => ⟨S4x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c3_i32 : BitVec 32 := 3#32
  let v1 : BitVec 32 := Scalar.select v0 c0_i32_0 c3_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let c3_i32 : BitVec 32 := 3#32
  let v1 : BitVec 32 := Scalar.select v0 c0_i32 c3_i32
  let c1_i32_0 : BitVec 32 := 1#32
  let v2 : BitVec 1 := Scalar.cmpi .eq arg0 c1_i32_0
  let v3 : BitVec 32 := Scalar.select v2 arg1 v1
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S4x1024x768 : Shape := ⟨3, ![4, 1024, 768]⟩
abbrev S2x1024x768 : Shape := ⟨3, ![2, 1024, 768]⟩
abbrev S_ : Shape := ⟨0, ![]⟩
abbrev S1024x768 : Shape := ⟨2, ![1024, 768]⟩
abbrev S1x1024x768 : Shape := ⟨3, ![1, 1024, 768]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S4x1024x768, .bf16⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S4x1024x768, .f32⟩
  | .hbm, ⟨6, _⟩ => ⟨S_, .f32⟩
  | .hbm, ⟨7, _⟩ => ⟨S1024x768, .f32⟩
  | .hbm, ⟨8, _⟩ => ⟨S4x1024x768, .f32⟩
  | .hbm, ⟨9, _⟩ => ⟨S_, .f32⟩
  | .hbm, ⟨10, _⟩ => ⟨S1024x768, .f32⟩
  | .hbm, ⟨11, _⟩ => ⟨S1x1024x768, .f32⟩
  | .hbm, ⟨12, _⟩ => ⟨S1x1024x768, .f32⟩
  | .hbm, ⟨13, _⟩ => ⟨S2x1024x768, .f32⟩
  | .hbm, ⟨14, _⟩ => ⟨S_, .f32⟩
  | .hbm, ⟨15, _⟩ => ⟨S2x1024x768, .f32⟩
  | .hbm, ⟨16, _⟩ => ⟨S2x1024x768, .f32⟩
  | .hbm, ⟨17, _⟩ => ⟨S_, .f32⟩
  | .hbm, ⟨18, _⟩ => ⟨S2x1024x768, .f32⟩
  | .hbm, ⟨19, _⟩ => ⟨S2x1024x768, .f32⟩
  | .hbm, ⟨20, _⟩ => ⟨S2x1024x768, .f32⟩
  | .hbm, ⟨21, _⟩ => ⟨S_, .f32⟩
  | .hbm, ⟨22, _⟩ => ⟨S2x1024x768, .f32⟩
  | .hbm, ⟨23, _⟩ => ⟨S2x1024x768, .f32⟩
  | .hbm, ⟨24, _⟩ => ⟨S2x1024x768, .f32⟩
  | .hbm, ⟨25, _⟩ => ⟨S_, .f32⟩
  | .hbm, ⟨26, _⟩ => ⟨S2x1024x768, .f32⟩
  | .hbm, ⟨27, _⟩ => ⟨S2x1024x768, .f32⟩
  | .hbm, ⟨28, _⟩ => ⟨S2x1024x768, .f32⟩
  | .hbm, ⟨29, _⟩ => ⟨S_, .f32⟩
  | .hbm, ⟨30, _⟩ => ⟨S2x1024x768, .f32⟩
  | .hbm, ⟨31, _⟩ => ⟨S2x1024x768, .f32⟩
  | .hbm, ⟨32, _⟩ => ⟨S_, .f32⟩
  | .hbm, ⟨33, _⟩ => ⟨S2x1024x768, .f32⟩
  | .hbm, ⟨34, _⟩ => ⟨S2x1024x768, .f32⟩
  | .hbm, ⟨35, _⟩ => ⟨S2x1024x768, .f32⟩
  | .hbm, ⟨36, _⟩ => ⟨S_, .f32⟩
  | .hbm, ⟨37, _⟩ => ⟨S2x1024x768, .f32⟩
  | .hbm, ⟨38, _⟩ => ⟨S2x1024x768, .f32⟩
  | .hbm, ⟨39, _⟩ => ⟨S2x1024x768, .f32⟩
  | .hbm, ⟨40, _⟩ => ⟨S_, .f32⟩
  | .hbm, ⟨41, _⟩ => ⟨S2x1024x768, .f32⟩
  | .hbm, ⟨42, _⟩ => ⟨S2x1024x768, .f32⟩
  | .hbm, ⟨43, _⟩ => ⟨S2x1024x768, .f32⟩
  | .hbm, ⟨44, _⟩ => ⟨S_, .f32⟩
  | .hbm, ⟨45, _⟩ => ⟨S2x1024x768, .f32⟩
  | .hbm, ⟨46, _⟩ => ⟨S2x1024x768, .f32⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S4x256x1024 : Shape := ⟨3, ![4, 256, 1024]⟩
abbrev S2x256x1024 : Shape := ⟨3, ![2, 256, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c1_i32 : BitVec 32 := 1#32
  let v1 : BitVec 32 := Scalar.select v0 c0_i32_0 c1_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c1_i32_1 : BitVec 32 := 1#32
  let v2 : BitVec 1 := Scalar.cmpi .eq arg0 c1_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4x256x1024 : Shape := ⟨3, ![4, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S4x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S4x1024x512 : Shape := ⟨3, ![4, 1024, 512]⟩
abbrev S2x1024x512 : Shape := ⟨3, ![2, 1024, 512]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 9
  | .vmem => 19
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c3_i32 : BitVec 32 := 3#32
  let v1 : BitVec 32 := Scalar.select v0 c0_i32_0 c3_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let c3_i32 : BitVec 32 := 3#32
  let v1 : BitVec 32 := Scalar.select v0 c0_i32 c3_i32
  let c1_i32_0 : BitVec 32 := 1#32
  let v2 : BitVec 1 := Scalar.cmpi .eq arg0 c1_i32_0
  let v3 : BitVec 32 := Scalar.select v2 arg1 v1
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S4x1024x512 : Shape := ⟨3, ![4, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S4x1024x512, .f32⟩
  | .hbm, ⟨6, _⟩ => ⟨S_, .f32⟩
  | .hbm, ⟨7, _⟩ => ⟨S1024x512, .f32⟩
  | .hbm, ⟨8, _⟩ => ⟨S4x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S4x4x64x512 : Shape := ⟨4, ![4, 4, 64, 512]⟩
abbrev S2x4x64x512 : Shape := ⟨4, ![2, 4, 64, 512]⟩
abbrev S2x256x512 : Shape := ⟨3, ![2, 256, 512]⟩
abbrev S4x256x512 : Shape := ⟨3, ![4, 256, 512]⟩
abbrev S4x128x512 : Shape := ⟨3, ![4, 128, 512]⟩
abbrev S1x128x512 : Shape := ⟨3, ![1, 128, 512]⟩
abbrev S128x512 : Shape := ⟨2, ![128, 512]⟩

abbrev nBuf : Space → Nat
  | .hbm => 14
  | .vmem => 19
  | .smem => 0
  | _ => 0

abbrev bufTy : (tb : Table) → Fin (tcTables nBuf tb) → BufTy
  | .hbm, ⟨0, _⟩ => ⟨S4x4x64x512, .bf16⟩
  | .hbm, ⟨1, _⟩ => ⟨S4x4x64x512, .bf16⟩
  | .hbm, ⟨2, _⟩ => ⟨S2x4x64x512, .f32⟩
  | .hbm, ⟨3, _⟩ => ⟨S2x4x64x512, .f32⟩
  | .hbm, ⟨4, _⟩ => ⟨S2x4x64x512, .f32⟩
  | .hbm, ⟨5, _⟩ => ⟨S2x256x512, .f32⟩
  | .hbm, ⟨6, _⟩ => ⟨S4x256x512, .bf16⟩
  | .hbm, ⟨7, _⟩ => ⟨S4x256x512, .bf16⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S2x256x512, .f32⟩
  | .hbm, ⟨12, _⟩ => ⟨S2x256x512, .f32⟩
  | .hbm, ⟨13, _⟩ => ⟨S2x256x512, .f32⟩
  | .local _ .vmem, ⟨0, _⟩ => ⟨S4x128x512, .bf16⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S128x512, .f32⟩
  | _, _ => ⟨S4x4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c1_i32 : BitVec 32 := 1#32
  let v1 : BitVec 32 := Scalar.select v0 c0_i32_0 c1_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c1_i32_1 : BitVec 32 := 1#32
  let v2 : BitVec 1 := Scalar.cmpi .eq arg0 c1_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S4x4x64x512 : Shape := ⟨4, ![4, 4, 64, 512]⟩
abbrev S2x4x64x512 : Shape := ⟨4, ![2, 4, 64, 512]⟩
abbrev S_ : Shape := ⟨0, ![]⟩
abbrev S4x64x512 : Shape := ⟨3, ![4, 64, 512]⟩
abbrev S1x4x64x512 : Shape := ⟨4, ![1, 4, 64, 512]⟩
abbrev S2x256x512 : Shape := ⟨3, ![2, 256, 512]⟩

abbrev nBuf : Space → Nat
  | .hbm => 51
  | .vmem => 0
  | .smem => 0
  | _ => 0

abbrev bufTy : (tb : Table) → Fin (tcTables nBuf tb) → BufTy
  | .hbm, ⟨0, _⟩ => ⟨S4x4x64x512, .bf16⟩
  | .hbm, ⟨1, _⟩ => ⟨S4x4x64x512, .bf16⟩
  | .hbm, ⟨2, _⟩ => ⟨S2x4x64x512, .f32⟩
  | .hbm, ⟨3, _⟩ => ⟨S2x4x64x512, .f32⟩
  | .hbm, ⟨4, _⟩ => ⟨S2x4x64x512, .f32⟩
  | .hbm, ⟨5, _⟩ => ⟨S4x4x64x512, .f32⟩
  | .hbm, ⟨6, _⟩ => ⟨S_, .f32⟩
  | .hbm, ⟨7, _⟩ => ⟨S4x64x512, .f32⟩
  | .hbm, ⟨8, _⟩ => ⟨S4x4x64x512, .f32⟩
  | .hbm, ⟨9, _⟩ => ⟨S_, .f32⟩
  | .hbm, ⟨10, _⟩ => ⟨S4x64x512, .f32⟩
  | .hbm, ⟨11, _⟩ => ⟨S1x4x64x512, .f32⟩
  | .hbm, ⟨12, _⟩ => ⟨S1x4x64x512, .f32⟩
  | .hbm, ⟨13, _⟩ => ⟨S2x4x64x512, .f32⟩
  | .hbm, ⟨14, _⟩ => ⟨S_, .f32⟩
  | .hbm, ⟨15, _⟩ => ⟨S2x4x64x512, .f32⟩
  | .hbm, ⟨16, _⟩ => ⟨S2x4x64x512, .f32⟩
  | .hbm, ⟨17, _⟩ => ⟨S_, .f32⟩
  | .hbm, ⟨18, _⟩ => ⟨S2x4x64x512, .f32⟩
  | .hbm, ⟨19, _⟩ => ⟨S2x4x64x512, .f32⟩
  | .hbm, ⟨20, _⟩ => ⟨S2x4x64x512, .f32⟩
  | .hbm, ⟨21, _⟩ => ⟨S_, .f32⟩
  | .hbm, ⟨22, _⟩ => ⟨S2x4x64x512, .f32⟩
  | .hbm, ⟨23, _⟩ => ⟨S2x4x64x512, .f32⟩
  | .hbm, ⟨24, _⟩ => ⟨S2x4x64x512, .f32⟩
  | .hbm, ⟨25, _⟩ => ⟨S_, .f32⟩
  | .hbm, ⟨26, _⟩ => ⟨S2x4x64x512, .f32⟩
  | .hbm, ⟨27, _⟩ => ⟨S2x4x64x512, .f32⟩
  | .hbm, ⟨28, _⟩ => ⟨S2x4x64x512, .f32⟩
  | .hbm, ⟨29, _⟩ => ⟨S_, .f32⟩
  | .hbm, ⟨30, _⟩ => ⟨S2x4x64x512, .f32⟩
  | .hbm, ⟨31, _⟩ => ⟨S2x4x64x512, .f32⟩
  | .hbm, ⟨32, _⟩ => ⟨S_, .f32⟩
  | .hbm, ⟨33, _⟩ => ⟨S2x4x64x512, .f32⟩
  | .hbm, ⟨34, _⟩ => ⟨S2x4x64x512, .f32⟩
  | .hbm, ⟨35, _⟩ => ⟨S2x4x64x512, .f32⟩
  | .hbm, ⟨36, _⟩ => ⟨S_, .f32⟩
  | .hbm, ⟨37, _⟩ => ⟨S2x4x64x512, .f32⟩
  | .hbm, ⟨38, _⟩ => ⟨S2x4x64x512, .f32⟩
  | .hbm, ⟨39, _⟩ => ⟨S2x4x64x512, .f32⟩
  | .hbm, ⟨40, _⟩ => ⟨S_, .f32⟩
  | .hbm, ⟨41, _⟩ => ⟨S2x4x64x512, .f32⟩
  | .hbm, ⟨42, _⟩ => ⟨S2x4x64x512, .f32⟩
  | .hbm, ⟨43, _⟩ => ⟨S2x4x64x512, .f32⟩
  | .hbm, ⟨44, _⟩ => ⟨S_, .f32⟩
  | .hbm, ⟨45, _⟩ => ⟨S2x4x64x512, .f32⟩
  | .hbm, ⟨46, _⟩ => ⟨S2x4x64x512, .f32⟩
  | .hbm, ⟨47, _⟩ => ⟨S2x256x512, .f32⟩
  | .hbm, ⟨48, _⟩ => ⟨S2x256x512, .f32⟩
  | .hbm, ⟨49, _⟩ => ⟨S2x256x512, .f32⟩
  | .hbm, ⟨50, _⟩ => ⟨S2x256x512, .f32⟩
  | _, _ => ⟨S4x4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel17.lean ====
abbrev S4x256x1024 : Shape := ⟨3, ![4, 256, 1024]⟩
abbrev S2x256x1024 : Shape := ⟨3, ![2, 256, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 9
  | .vmem => 19
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c1_i32 : BitVec 32 := 1#32
  let v1 : BitVec 32 := Scalar.select v0 c0_i32_0 c1_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c1_i32_1 : BitVec 32 := 1#32
  let v2 : BitVec 1 := Scalar.cmpi .eq arg0 c1_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S4x256x1024 : Shape := ⟨3, ![4, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S4x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x1x256 : Shape := ⟨3, ![8, 1, 256]⟩
abbrev S2x256 : Shape := ⟨2, ![2, 256]⟩
abbrev S8x2x256 : Shape := ⟨3, ![8, 2, 256]⟩
abbrev S1x2x256 : Shape := ⟨3, ![1, 2, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x1x256, .f32⟩
  | .hbm, ⟨1, _⟩ => ⟨S8x1x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S8x2x256, .f32⟩
  | .hbm, ⟨6, _⟩ => ⟨S1x2x256, .f32⟩
  | .hbm, ⟨7, _⟩ => ⟨S1x2x256, .f32⟩
  | .hbm, ⟨8, _⟩ => ⟨S1x2x256, .f32⟩
  | .hbm, ⟨9, _⟩ => ⟨S1x2x256, .f32⟩
  | .hbm, ⟨10, _⟩ => ⟨S1x2x256, .f32⟩
  | .hbm, ⟨11, _⟩ => ⟨S1x2x256, .f32⟩
  | .hbm, ⟨12, _⟩ => ⟨S1x2x256, .f32⟩
  | .local _ .vmem, ⟨0, _⟩ => ⟨S8x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | .local _ .vmem, ⟨8, _⟩ => ⟨S2x256, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c0_i32_1 : BitVec 32 := 0#32
  let v1 : BitVec 32 := Scalar.select v0 c0_i32_0 c0_i32_1
  let c0_i32_2 : BitVec 32 := 0#32
  let v2 : BitVec 1 := Scalar.cmpi .eq arg0 c0_i32_2
  let v3 : BitVec 32 := Scalar.select v2 arg1 v1
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference18Ideal.lean ====
abbrev S8x1x256 : Shape := ⟨3, ![8, 1, 256]⟩
abbrev S2x256 : Shape := ⟨2, ![2, 256]⟩
abbrev S_ : Shape := ⟨0, ![]⟩
abbrev S1x256 : Shape := ⟨2, ![1, 256]⟩
abbrev S1x1x256 : Shape := ⟨3, ![1, 1, 256]⟩
abbrev S2x1x256 : Shape := ⟨3, ![2, 1, 256]⟩
abbrev S1x2x256 : Shape := ⟨3, ![1, 2, 256]⟩

abbrev nBuf : Space → Nat
  | .hbm => 50
  | .vmem => 0
  | .smem => 0
  | _ => 0

abbrev bufTy : (tb : Table) → Fin (tcTables nBuf tb) → BufTy
  | .hbm, ⟨0, _⟩ => ⟨S8x1x256, .f32⟩
  | .hbm, ⟨1, _⟩ => ⟨S8x1x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S_, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x1x256, .f32⟩
  | .hbm, ⟨10, _⟩ => ⟨S1x1x256, .f32⟩
  | .hbm, ⟨11, _⟩ => ⟨S2x1x256, .f32⟩
  | .hbm, ⟨12, _⟩ => ⟨S2x256, .f32⟩
  | .hbm, ⟨13, _⟩ => ⟨S_, .f32⟩
  | .hbm, ⟨14, _⟩ => ⟨S2x256, .f32⟩
  | .hbm, ⟨15, _⟩ => ⟨S2x256, .f32⟩
  | .hbm, ⟨16, _⟩ => ⟨S_, .f32⟩
  | .hbm, ⟨17, _⟩ => ⟨S2x256, .f32⟩
  | .hbm, ⟨18, _⟩ => ⟨S2x256, .f32⟩
  | .hbm, ⟨19, _⟩ => ⟨S2x256, .f32⟩
  | .hbm, ⟨20, _⟩ => ⟨S_, .f32⟩
  | .hbm, ⟨21, _⟩ => ⟨S2x256, .f32⟩
  | .hbm, ⟨22, _⟩ => ⟨S2x256, .f32⟩
  | .hbm, ⟨23, _⟩ => ⟨S2x256, .f32⟩
  | .hbm, ⟨24, _⟩ => ⟨S_, .f32⟩
  | .hbm, ⟨25, _⟩ => ⟨S2x256, .f32⟩
  | .hbm, ⟨26, _⟩ => ⟨S2x256, .f32⟩
  | .hbm, ⟨27, _⟩ => ⟨S2x256, .f32⟩
  | .hbm, ⟨28, _⟩ => ⟨S_, .f32⟩
  | .hbm, ⟨29, _⟩ => ⟨S2x256, .f32⟩
  | .hbm, ⟨30, _⟩ => ⟨S2x256, .f32⟩
  | .hbm, ⟨31, _⟩ => ⟨S_, .f32⟩
  | .hbm, ⟨32, _⟩ => ⟨S2x256, .f32⟩
  | .hbm, ⟨33, _⟩ => ⟨S2x256, .f32⟩
  | .hbm, ⟨34, _⟩ => ⟨S2x256, .f32⟩
  | .hbm, ⟨35, _⟩ => ⟨S_, .f32⟩
  | .hbm, ⟨36, _⟩ => ⟨S2x256, .f32⟩
  | .hbm, ⟨37, _⟩ => ⟨S2x256, .f32⟩
  | .hbm, ⟨38, _⟩ => ⟨S2x256, .f32⟩
  | .hbm, ⟨39, _⟩ => ⟨S_, .f32⟩
  | .hbm, ⟨40, _⟩ => ⟨S2x256, .f32⟩
  | .hbm, ⟨41, _⟩ => ⟨S2x256, .f32⟩
  | .hbm, ⟨42, _⟩ => ⟨S2x256, .f32⟩
  | .hbm, ⟨43, _⟩ => ⟨S_, .f32⟩
  | .hbm, ⟨44, _⟩ => ⟨S2x256, .f32⟩
  | .hbm, ⟨45, _⟩ => ⟨S2x256, .f32⟩
  | .hbm, ⟨46, _⟩ => ⟨S1x2x256, .f32⟩
  | .hbm, ⟨47, _⟩ => ⟨S1x2x256, .f32⟩
  | .hbm, ⟨48, _⟩ => ⟨S1x2x256, .f32⟩
  | .hbm, ⟨49, _⟩ => ⟨S1x2x256, .f32⟩
  | _, _ => ⟨S8x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel19.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S4x1x1024 : Shape := ⟨3, ![4, 1, 1024]⟩
abbrev S1x2048x1024 : Shape := ⟨3, ![1, 2048, 1024]⟩
abbrev S2048x1024 : Shape := ⟨2, ![2048, 1024]⟩
abbrev S8x256x1024 : Shape := ⟨3, ![8, 256, 1024]⟩
abbrev S1x128 : Shape := ⟨2, ![1, 128]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S1x2048x1024, .f32⟩
  | .hbm, ⟨7, _⟩ => ⟨S2048x1024, .f32⟩
  | .hbm, ⟨8, _⟩ => ⟨S2048x1024, .bf16⟩
  | .hbm, ⟨9, _⟩ => ⟨S8x256x1024, .bf16⟩
  | .hbm, ⟨10, _⟩ => ⟨S4096x1024, .f32⟩
  | .hbm, ⟨11, _⟩ => ⟨S4096x1024, .f32⟩
  | .hbm, ⟨12, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_25 : BitVec 32 := 0#32
  let v40 : BitVec 1 := Scalar.cmpi .ne v39 c0_i32_25
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S4096x2048 : Shape := ⟨2, ![4096, 2048]⟩
abbrev S2x2048x1024 : Shape := ⟨3, ![2, 2048, 1024]⟩
abbrev S4096x1024 : Shape := ⟨2, ![4096, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x1024, .f32⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4096x2048, .f32⟩
  | .hbm, ⟨6, _⟩ => ⟨S1x2048x1024, .f32⟩
  | .hbm, ⟨7, _⟩ => ⟨S2048x1024, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel20.lean ====
abbrev S8x256x128 : Shape := ⟨3, ![8, 256, 128]⟩
abbrev S4x1024 : Shape := ⟨2, ![4, 1024]⟩
abbrev S_ : Shape := ⟨0, ![]⟩
abbrev S1x1 : Shape := ⟨2, ![1, 1]⟩
abbrev S4096 : Shape := ⟨1, ![4096]⟩
abbrev S1 : Shape := ⟨1, ![1]⟩
abbrev S8193 : Shape := ⟨1, ![8193]⟩
abbrev S32768 : Shape := ⟨1, ![32768]⟩
abbrev S1x256x128 : Shape := ⟨3, ![1, 256, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 66
  | .vmem => 17
  | .smem => 0
  | _ => 0

abbrev bufTy : (tb : Table) → Fin (tcTables nBuf tb) → BufTy
  | .hbm, ⟨0, _⟩ => ⟨S8x256x128, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S1x1, .f32⟩
  | .hbm, ⟨9, _⟩ => ⟨S4096, .f32⟩
  | .hbm, ⟨10, _⟩ => ⟨S4096, .f32⟩
  | .hbm, ⟨11, _⟩ => ⟨S1, .f32⟩
  | .hbm, ⟨12, _⟩ => ⟨S8193, .f32⟩
  | .hbm, ⟨13, _⟩ => ⟨S_, .i32⟩
  | .hbm, ⟨14, _⟩ => ⟨S_, .f32⟩
  | .hbm, ⟨15, _⟩ => ⟨S32768, .f32⟩
  | .hbm, ⟨16, _⟩ => ⟨S1x256x128, .f32⟩
  | .hbm, ⟨17, _⟩ => ⟨S4096, .f32⟩
  | .hbm, ⟨18, _⟩ => ⟨S4096, .f32⟩
  | .hbm, ⟨19, _⟩ => ⟨S1, .f32⟩
  | .hbm, ⟨20, _⟩ => ⟨S8193, .f32⟩
  | .hbm, ⟨21, _⟩ => ⟨S_, .i32⟩
  | .hbm, ⟨22, _⟩ => ⟨S_, .f32⟩
  | .hbm, ⟨23, _⟩ => ⟨S32768, .f32⟩
  | .hbm, ⟨24, _⟩ => ⟨S1x256x128, .f32⟩
  | .hbm, ⟨25, _⟩ => ⟨S4096, .f32⟩
  | .hbm, ⟨26, _⟩ => ⟨S4096, .f32⟩
  | .hbm, ⟨27, _⟩ => ⟨S1, .f32⟩
  | .hbm, ⟨28, _⟩ => ⟨S8193, .f32⟩
  | .hbm, ⟨29, _⟩ => ⟨S_, .i32⟩
  | .hbm, ⟨30, _⟩ => ⟨S_, .f32⟩
  | .hbm, ⟨31, _⟩ => ⟨S32768, .f32⟩
  | .hbm, ⟨32, _⟩ => ⟨S1x256x128, .f32⟩
  | .hbm, ⟨33, _⟩ => ⟨S1x256x128, .f32⟩
  | .hbm, ⟨34, _⟩ => ⟨S1x256x128, .f32⟩
  | .hbm, ⟨35, _⟩ => ⟨S1x256x128, .f32⟩
  | .hbm, ⟨36, _⟩ => ⟨S1x256x128, .f32⟩
  | .hbm, ⟨37, _⟩ => ⟨S32768, .f32⟩
  | .hbm, ⟨38, _⟩ => ⟨S4096, .f32⟩
  | .hbm, ⟨39, _⟩ => ⟨S4x1024, .f32⟩
  | .hbm, ⟨40, _⟩ => ⟨S4096, .f32⟩
  | .hbm, ⟨41, _⟩ => ⟨S4x1024, .f32⟩
  | .hbm, ⟨42, _⟩ => ⟨S1, .f32⟩
  | .hbm, ⟨43, _⟩ => ⟨S1x1, .f32⟩
  | .hbm, ⟨44, _⟩ => ⟨S_, .f32⟩
  | .hbm, ⟨45, _⟩ => ⟨S32768, .f32⟩
  | .hbm, ⟨46, _⟩ => ⟨S4096, .f32⟩
  | .hbm, ⟨47, _⟩ => ⟨S4x1024, .f32⟩
  | .hbm, ⟨48, _⟩ => ⟨S4096, .f32⟩
  | .hbm, ⟨49, _⟩ => ⟨S4x1024, .f32⟩
  | .hbm, ⟨50, _⟩ => ⟨S1, .f32⟩
  | .hbm, ⟨51, _⟩ => ⟨S1x1, .f32⟩
  | .hbm, ⟨52, _⟩ => ⟨S32768, .f32⟩
  | .hbm, ⟨53, _⟩ => ⟨S4096, .f32⟩
  | .hbm, ⟨54, _⟩ => ⟨S4x1024, .f32⟩
  | .hbm, ⟨55, _⟩ => ⟨S4096, .f32⟩
  | .hbm, ⟨56, _⟩ => ⟨S4x1024, .f32⟩
  | .hbm, ⟨57, _⟩ => ⟨S1, .f32⟩
  | .hbm, ⟨58, _⟩ => ⟨S1x1, .f32⟩
  | .hbm, ⟨59, _⟩ => ⟨S32768, .f32⟩
  | .hbm, ⟨60, _⟩ => ⟨S4096, .f32⟩
  | .hbm, ⟨61, _⟩ => ⟨S4x1024, .f32⟩
  | .hbm, ⟨62, _⟩ => ⟨S4096, .f32⟩
  | .hbm, ⟨63, _⟩ => ⟨S4x1024, .f32⟩
  | .hbm, ⟨64, _⟩ => ⟨S1, .f32⟩
  | .hbm, ⟨65, _⟩ => ⟨S1x1, .f32⟩
  | .local _ .vmem, ⟨0, _⟩ => ⟨S8x128x128, .f32⟩
  | .local _ .vmem, ⟨1, _⟩ => ⟨S8x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let c1_i32 : BitVec 32 := 1#32
  let v1 : BitVec 32 := Scalar.select v0 c0_i32_0 c1_i32
  let c0_i32_1 : BitVec 32 := 0#32
  let v2 : BitVec 1 := Scalar.cmpi .eq arg0 c0_i32_1
  let v3 : BitVec 32 := Scalar.select v2 arg1 v1
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S8x256x128 : Shape := ⟨3, ![8, 256, 128]⟩
abbrev S4x1024 : Shape := ⟨2, ![4, 1024]⟩
abbrev S8x32768 : Shape := ⟨2, ![8, 32768]⟩
abbrev S8x4096 : Shape := ⟨2, ![8, 4096]⟩
abbrev S_ : Shape := ⟨0, ![]⟩
abbrev S4096 : Shape := ⟨1, ![4096]⟩
abbrev S8x1 : Shape := ⟨2, ![8, 1]⟩
abbrev S8 : Shape := ⟨1, ![8]⟩

abbrev nBuf : Space → Nat
  | .hbm => 86
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S8x32768, .f32⟩
  | .hbm, ⟨8, _⟩ => ⟨S8x4096, .f32⟩
  | .hbm, ⟨9, _⟩ => ⟨S_, .f32⟩
  | .hbm, ⟨10, _⟩ => ⟨S4096, .f32⟩
  | .hbm, ⟨11, _⟩ => ⟨S4x1024, .f32⟩
  | .hbm, ⟨12, _⟩ => ⟨S8x4096, .f32⟩
  | .hbm, ⟨13, _⟩ => ⟨S_, .f32⟩
  | .hbm, ⟨14, _⟩ => ⟨S4096, .f32⟩
  | .hbm, ⟨15, _⟩ => ⟨S4x1024, .f32⟩
  | .hbm, ⟨16, _⟩ => ⟨S8x1, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S_, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S_, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S_, .f32⟩
  | .hbm, ⟨36, _⟩ => ⟨S4x1024, .f32⟩
  | .hbm, ⟨37, _⟩ => ⟨S4x1024, .f32⟩
  | .hbm, ⟨38, _⟩ => ⟨S_, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S4x1024, .f32⟩
  | .hbm, ⟨46, _⟩ => ⟨S_, .f32⟩
  | .hbm, ⟨47, _⟩ => ⟨S4x1024, .f32⟩
  | .hbm, ⟨48, _⟩ => ⟨S4x1024, .f32⟩
  | .hbm, ⟨49, _⟩ => ⟨S4x1024, .f32⟩
  | .hbm, ⟨50, _⟩ => ⟨S_, .f32⟩
  | .hbm, ⟨51, _⟩ => ⟨S4x1024, .f32⟩
  | .hbm, ⟨52, _⟩ => ⟨S4x1024, .f32⟩
  | .hbm, ⟨53, _⟩ => ⟨S_, .f32⟩
  | .hbm, ⟨54, _⟩ => ⟨S4x1024, .f32⟩
  | .hbm, ⟨55, _⟩ => ⟨S4x1024, .f32⟩
  | .hbm, ⟨56, _⟩ => ⟨S_, .f32⟩
  | .hbm, ⟨57, _⟩ => ⟨S4x1024, .f32⟩
  | .hbm, ⟨58, _⟩ => ⟨S4x1024, .f32⟩
  | .hbm, ⟨59, _⟩ => ⟨S4x1024, .f32⟩
  | .hbm, ⟨60, _⟩ => ⟨S_, .f32⟩
  | .hbm, ⟨61, _⟩ => ⟨S4x1024, .f32⟩
  | .hbm, ⟨62, _⟩ => ⟨S4x1024, .f32⟩
  | .hbm, ⟨63, _⟩ => ⟨S4x1024, .f32⟩
  | .hbm, ⟨64, _⟩ => ⟨S_, .f32⟩
  | .hbm, ⟨65, _⟩ => ⟨S4x1024, .f32⟩
  | .hbm, ⟨66, _⟩ => ⟨S4x1024, .f32⟩
  | .hbm, ⟨67, _⟩ => ⟨S4x1024, .f32⟩
  | .hbm, ⟨68, _⟩ => ⟨S_, .f32⟩
  | .hbm, ⟨69, _⟩ => ⟨S4x1024, .f32⟩
  | .hbm, ⟨70, _⟩ => ⟨S4x1024, .f32⟩
  | .hbm, ⟨71, _⟩ => ⟨S_, .f32⟩
  | .hbm, ⟨72, _⟩ => ⟨S4x1024, .f32⟩
  | .hbm, ⟨73, _⟩ => ⟨S4x1024, .f32⟩
  | .hbm, ⟨74, _⟩ => ⟨S4x1024, .f32⟩
  | .hbm, ⟨75, _⟩ => ⟨S_, .f32⟩
  | .hbm, ⟨76, _⟩ => ⟨S4x1024, .f32⟩
  | .hbm, ⟨77, _⟩ => ⟨S4x1024, .f32⟩
  | .hbm, ⟨78, _⟩ => ⟨S4x1024, .f32⟩
  | .hbm, ⟨79, _⟩ => ⟨S_, .f32⟩
  | .hbm, ⟨80, _⟩ => ⟨S4x1024, .f32⟩
  | .hbm, ⟨81, _⟩ => ⟨S4x1024, .f32⟩
  | .hbm, ⟨82, _⟩ => ⟨S4x1024, .f32⟩
  | .hbm, ⟨83, _⟩ => ⟨S_, .f32⟩
  | .hbm, ⟨84, _⟩ => ⟨S4x1024, .f32⟩
  | .hbm, ⟨85, _⟩ => ⟨S4x1024, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_17 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_18 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_19 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Proof.MixLoops.lean ====
/-
  The two row loops of `a_mix_bwd`. The first walks the 256 rows sixteen at a time and fills four scratch arrays with what
  the heads read: the normalised branch `v`, the two factors of `d u` and `d z`, and the gate's cotangent. The second
  walks the rows again and folds the cotangent of `v` into the running gradients of the layer norm's scale and shift.
  Each loop is stated by what its arrays hold row by row.
-/
module

public import proofs.«01_k».proof.Proof.Gen.Kernel3Ideal.Frame
public import proofs.«01_k».proof.Proof.Gen.Kernel3Ideal.Loops
public import Idealize.ShloMosaic.Lib.WritesUnit
public import Idealize.ShloMosaic.Lib.Pointwise
public import Idealize.ShloMosaic.Lib.Pipeline.ValueKit

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rows in blocks of sixteen -/

/-- Sixteen rows of `x`, from row `16 k`. -/
def rows {e : EltTy} (x : Vec F S256x2048 e) (k : ℕ) : Vec F S16x2048 e :=
  fun y => x (ix2 ⟨(16 * k + (y 0).val) % 256, Nat.mod_lt _ (by decide)⟩ (y 1))

/-- Blocks of sixteen rows set one under the other. -/
def stack {e : EltTy} (w : ℕ → Vec F S16x2048 e) : Vec F S256x2048 e :=
  fun y => w ((y 0).val / 16) (ix2 ⟨(y 0).val % 16, Nat.mod_lt _ (by decide)⟩ (y 1))

theorem stack_at {e : EltTy} (w : ℕ → Vec F S16x2048 e) (k : ℕ) (y : S256x2048.Idx) (x : S16x2048.Idx)
    (h0 : (y 0).val = 16 * k + (x 0).val) (h1 : (y 1).val = (x 1).val) : stack w y = w k x := by
  have hx : (x 0).val < 16 := (x 0).isLt
  have hk : (y 0).val / 16 = k := by omega
  unfold stack
  rw [hk]
  refine congrArg (w k) (funext fun a => ?_)
  match a with
  | 0 => exact Fin.ext (by show (y 0).val % 16 = (x 0).val; omega)
  | 1 => exact Fin.ext h1

/-- A load of sixteen rows from row `16 k` of a buffer that holds `x`. -/
theorem readAt_rows {e : EltTy} {M : Memref sig .tc .vmem S256x2048 e} (h : M.IsWhole) (x : Vec F S256x2048 e) {off : Fin 2 → ℕ} {k : ℕ}
    (hoff : off = ![16 * k, 0]) (hk : k < 16) (inb : ∀ a, off a + S16x2048.size a ≤ S256x2048.size a) :
    M.view.readAt (Elt F) (Rect.unit (s := S256x2048) off S16x2048.size inb).toLoadRect (h.unread x) = rows x k := by
  subst hoff
  funext y
  rw [View.readAt_apply, h.read_unread]
  refine congrArg x (funext fun a => ?_)
  have hy : (y 0).val < 16 := (y 0).isLt
  match a with
  | 0 => exact Fin.ext (by
      show 16 * k + 1 * (y 0).val = (16 * k + (y 0).val) % 256
      rw [Nat.mod_eq_of_lt (by omega)]; omega)
  | 1 => exact Fin.ext (by show 0 + 1 * (y 1).val = (y 1).val; omega)

/-- The same load of a buffer at any contents. -/
theorem readAt_rows_raw {e : EltTy} {M : Memref sig .tc .vmem S256x2048 e} (f : BufTy.Contents (Elt F) M.view.ty) {off : Fin 2 → ℕ} {k : ℕ}
    (hoff : off = ![16 * k, 0]) (hk : k < 16) (inb : ∀ a, off a + S16x2048.size a ≤ S256x2048.size a) :
    M.view.readAt (Elt F) (Rect.unit (s := S256x2048) off S16x2048.size inb).toLoadRect f = rows (M.view.read (Elt F) f) k := by
  subst hoff
  funext y
  rw [View.readAt_apply]
  refine congrArg (M.view.read (Elt F) f) (funext fun a => ?_)
  have hy : (y 0).val < 16 := (y 0).isLt
  match a with
  | 0 => exact Fin.ext (by
      show 16 * k + 1 * (y 0).val = (16 * k + (y 0).val) % 256
      rw [Nat.mod_eq_of_lt (by omega)]; omega)
  | 1 => exact Fin.ext (by show 0 + 1 * (y 1).val = (y 1).val; omega)

/-- A store of block `k` of `stack w` below the blocks already there. -/
theorem rows_step {e : EltTy} {M : Memref sig .tc .vmem S256x2048 e} (f : BufTy.Contents (Elt F) M.view.ty) (w : ℕ → Vec F S16x2048 e)
    {off : Fin 2 → ℕ} {k : ℕ} (hoff : off = ![16 * k, 0]) (inb : ∀ a, off a + S16x2048.size a ≤ S256x2048.size a)
    (p : Vec F S16x2048 e) (hp : p = w k)
    (hf : ∀ y : S256x2048.Idx, (y 0).val < 16 * k → M.view.read (Elt F) f y = stack w y) :
    ∀ y : S256x2048.Idx, (y 0).val < 16 * (k + 1) →
      M.view.read (Elt F) (M.view.writes (Elt F) f [⟨Rect.unit (s := S256x2048) off S16x2048.size inb, p⟩]) y = stack w y := by
  intro y hy
  subst hp
  by_cases h : (y 0).val < 16 * k
  · rw [View.read_writes_cons_unit_of_not_mem (v := M.view) f inb (w k) [] y hoff (0 : Fin 2) (.inl h)]
    exact hf y h
  · have hx : (y 0).val - 16 * k < 16 := by omega
    rw [View.read_writes_cons_unit_of_mem (v := M.view) f inb (w k) [] y (ix2 ⟨(y 0).val - 16 * k, hx⟩ (y 1)) hoff (fun a => by
      match a with
      | 0 => show (y 0).val = 16 * k + ((y 0).val - 16 * k); omega
      | 1 => show (y 1).val = 0 + (y 1).val; omega)]
    exact (stack_at w k y _ (by show (y 0).val = 16 * k + ((y 0).val - 16 * k); omega) rfl).symm

/-- A load of a whole buffer that holds `x`. -/
theorem readAt_all {e : EltTy} {S : Shape} {M : Memref sig .tc .vmem S e} (h : M.IsWhole) (x : S.Idx → Elt F e) {off : Fin S.rank → ℕ}
    (hoff : off = fun _ => 0) (inb : ∀ a, off a + S.size a ≤ S.size a) :
    M.view.readAt (Elt F) (Rect.unit (s := S) off S.size inb).toLoadRect (h.unread x) = x := by
  funext y
  rw [View.readAt_apply, h.read_unread]
  exact congrFun (View.ld_unit_zero hoff inb x) y

/-! ## What the loops leave -/

/-- The normalised branch, rounded: `xh * g + b`. -/
def vS (x4 : Vec F S256x2048 .bf16) (x7 x8 : Vec F S1x1x2048 .f32) : Vec F S256x2048 .bf16 :=
  stack fun k => k0_pay2 (rows x4 k) x7 x8
/-- The factor of `d u`: `dy * silu z * gelu' u`. -/
def aS (x1 x2 x3 : Vec F S256x2048 .bf16) : Vec F S256x2048 .f32 :=
  stack fun k => k0_pay13 (k0_pay4 (rows x1 k)) (k0_pay5 (rows x1 k)) (k0_pay7 (rows x1 k)) (k0_pay8 (rows x1 k)) (rows x2 k) (rows x3 k)
/-- The factor of `d z`: `dy * gelu u * silu' z`. -/
def bzS (x1 x2 x3 : Vec F S256x2048 .bf16) : Vec F S256x2048 .f32 :=
  stack fun k => k0_pay14 (k0_pay6 (rows x1 k)) (rows x2 k) (rows x3 k)
/-- The cotangent of the mixed branch: `dy * gelu u * silu z`, rounded. -/
def cS (x1 x2 x3 : Vec F S256x2048 .bf16) : Vec F S256x2048 .bf16 :=
  stack fun k => k0_pay27 (k0_pay11 (rows x2 k)) (k0_pay15 (k0_pay6 (rows x1 k)) (rows x3 k))

/-- The gradient of the scale after `k` blocks of rows, from `g`. -/
def lgAcc (dv : Vec F S256x2048 .f32) (x4 : Vec F S256x2048 .bf16) (g : Vec F S1x2048 .f32) : ℕ → Vec F S1x2048 .f32
  | 0 => g
  | k + 1 => k0_pay17 (rows dv k) (rows x4 k) (lgAcc dv x4 g k)
/-- The gradient of the shift after `k` blocks of rows, from `g`. -/
def lbAcc (dv : Vec F S256x2048 .f32) (g : Vec F S1x2048 .f32) : ℕ → Vec F S1x2048 .f32
  | 0 => g
  | k + 1 => k0_pay18 (rows dv k) (lbAcc dv g k)

theorem zero3 : (![0, 0, 0] : Fin 3 → ℕ) = fun _ => 0 := by decide
theorem zero2 : (![0, 0] : Fin 2 → ℕ) = fun _ => 0 := by decide

/-- A buffer stored whole holds what was stored. -/
theorem read_store_all {e : EltTy} {S : Shape} {M : Memref sig .tc .vmem S e} (f : BufTy.Contents (Elt F) M.view.ty) {off : Fin S.rank → ℕ}
    (hoff : off = fun _ => 0) (inb : ∀ a, off a + S.size a ≤ S.size a) (w : S.Idx → Elt F e) :
    M.view.read (Elt F) (M.view.writes (Elt F) f [⟨Rect.unit (s := S) off S.size inb, w⟩]) = w := by
  funext y
  subst hoff
  rw [View.read_writes_cons_unit_of_mem (v := M.view) f inb w [] y y rfl (fun a => (Nat.zero_add _).symm)]

/-- A buffer stored whole is the buffer at what was stored. -/
theorem store_all {e : EltTy} {S : Shape} {M : Memref sig .tc .vmem S e} (h : M.IsWhole) (f : BufTy.Contents (Elt F) M.view.ty) {off : Fin S.rank → ℕ}
    (hoff : off = fun _ => 0) (inb : ∀ a, off a + S.size a ≤ S.size a) (w : S.Idx → Elt F e) :
    M.view.writes (Elt F) f [⟨Rect.unit (s := S) off S.size inb, w⟩] = h.unread w :=
  h.eq_unread (read_store_all f hoff inb w)

/-- A load of a whole buffer. -/
theorem readAt_all_raw {e : EltTy} {S : Shape} {M : Memref sig .tc .vmem S e} (f : BufTy.Contents (Elt F) M.view.ty) {off : Fin S.rank → ℕ}
    (hoff : off = fun _ => 0) (inb : ∀ a, off a + S.size a ≤ S.size a) :
    M.view.readAt (Elt F) (Rect.unit (s := S) off S.size inb).toLoadRect f = M.view.read (Elt F) f := by
  funext y
  rw [View.readAt_apply]
  exact congrFun (View.ld_unit_zero hoff inb (M.view.read (Elt F) f)) y

theorem trips1 : k0_t1_loop.trips = 16 := by decide +kernel
theorem trips2 : k0_t2_loop.trips = 16 := by decide +kernel

/-! ## The loops -/

section Loops

variable (𝒱 : Variants) (c : Dev nD) (bd : Option 𝒱.V) (E : Set ℕ) (i : grid0.Coords)
  (arg1 : Memref sig .tc .vmem S256x2048 .bf16) (harg1 : arg1.IsWhole)
  (arg2 : Memref sig .tc .vmem S256x2048 .bf16) (harg2 : arg2.IsWhole)
  (arg3 : Memref sig .tc .vmem S256x2048 .bf16) (harg3 : arg3.IsWhole)
  (arg4 : Memref sig .tc .vmem S256x2048 .bf16) (harg4 : arg4.IsWhole)
  (arg5 : Memref sig .tc .vmem S256x2048 .bf16) (harg5 : arg5.IsWhole)
  (arg6 : Memref sig .tc .vmem S256x1 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S1x8x128x128 .f32) (harg9 : arg9.IsWhole)
  (arg10 : Memref sig .tc .vmem S1x8x128x1 .f32) (harg10 : arg10.IsWhole)
  (arg11 : Memref sig .tc .vmem S256x6144 .bf16) (harg11 : arg11.IsWhole)
  (arg12 : Memref sig .tc .vmem S8x128x128 .f32) (harg12 : arg12.IsWhole)
  (arg13 : Memref sig .tc .vmem S8x128 .f32) (harg13 : arg13.IsWhole)
  (arg14 : Memref sig .tc .vmem S1x2048 .f32) (harg14 : arg14.IsWhole)
  (arg15 : Memref sig .tc .vmem S1x2048 .f32) (harg15 : arg15.IsWhole)
  (arg16 : Memref sig .tc .vmem S256x2048 .bf16) (harg16 : arg16.IsWhole)
  (arg17 : Memref sig .tc .vmem S256x2048 .f32) (harg17 : arg17.IsWhole)
  (arg18 : Memref sig .tc .vmem S256x2048 .f32) (harg18 : arg18.IsWhole)
  (arg19 : Memref sig .tc .vmem S256x2048 .bf16) (harg19 : arg19.IsWhole)
  (arg20 : Memref sig .tc .vmem S256x2048 .f32) (harg20 : arg20.IsWhole)

/-- Before trip `k` of the first loop: the operands as they are, the first `16 k` rows of the four scratch arrays filled. -/
abbrev inv1 (x1 : Vec F S256x2048 .bf16) (x2 : Vec F S256x2048 .bf16) (x3 : Vec F S256x2048 .bf16) (x4 : Vec F S256x2048 .bf16) (x7 : Vec F S1x1x2048 .f32) (x8 : Vec F S1x1x2048 .f32) (k : ℕ) (_u : Unit) : sProp 𝕄 :=
  iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (∃ f, (arg16.view.loc (c : Thread nD τ) ↦[arg16.view.set]{fullShare} f) ∗ ⌜∀ y : S256x2048.Idx, (y 0).val < 16 * k → arg16.view.read (Elt F) f y = vS x4 x7 x8 y⌝) ∗ (∃ f, (arg17.view.loc (c : Thread nD τ) ↦[arg17.view.set]{fullShare} f) ∗ ⌜∀ y : S256x2048.Idx, (y 0).val < 16 * k → arg17.view.read (Elt F) f y = aS x1 x2 x3 y⌝) ∗ (∃ f, (arg18.view.loc (c : Thread nD τ) ↦[arg18.view.set]{fullShare} f) ∗ ⌜∀ y : S256x2048.Idx, (y 0).val < 16 * k → arg18.view.read (Elt F) f y = bzS x1 x2 x3 y⌝) ∗ (∃ f, (arg19.view.loc (c : Thread nD τ) ↦[arg19.view.set]{fullShare} f) ∗ ⌜∀ y : S256x2048.Idx, (y 0).val < 16 * k → arg19.view.read (Elt F) f y = cS x1 x2 x3 y⌝))

set_option warn.classDefReducibility false in
set_option maxHeartbeats 4000000 in
/-- The first loop by its invariant. -/
@[sl_loop] def loop1 (x1 : Vec F S256x2048 .bf16) (x2 : Vec F S256x2048 .bf16) (x3 : Vec F S256x2048 .bf16) (x4 : Vec F S256x2048 .bf16) (x7 : Vec F S1x1x2048 .f32) (x8 : Vec F S1x1x2048 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 where
  inv := inv1 c arg1 harg1 arg2 harg2 arg3 harg3 arg4 harg4 arg7 harg7 arg8 harg8 arg16 arg17 arg18 arg19 x1 x2 x3 x4 x7 x8
  step k acc := by
    have hk : k.val < 16 := Nat.lt_of_lt_of_le k.isLt k0_t1_abs.2.1
    unfold k0_t1_body
    iintro ⟨HR1, HR2, HR3, HR4, HR7, HR8, ⟨%f16, HW16, %h16⟩, ⟨%f17, HW17, %h17⟩, ⟨%f18, HW18, %h18⟩, ⟨%f19, HW19, %h19⟩⟩
    sl_exec
    sl_step
    sl_unfold_run_names
    isplitl [HR1]; · iexact HR1
    isplitl [HR2]; · iexact HR2
    isplitl [HR3]; · iexact HR3
    isplitl [HR4]; · iexact HR4
    isplitl [HR7]; · iexact HR7
    isplitl [HR8]; · iexact HR8
    isplitl [HW16]
    · iexists _; isplitl [HW16]; · iexact HW16
      ipureintro
      refine rows_step f16 _ (k0_off1_eq k) _ _ ?_ h16
      rw [readAt_rows harg4 x4 (k0_off1_eq k) hk, readAt_all harg7 x7 zero3, readAt_all harg8 x8 zero3]
    isplitl [HW17]
    · iexists _; isplitl [HW17]; · iexact HW17
      ipureintro
      refine rows_step f17 _ (k0_off1_eq k) _ _ ?_ h17
      rw [readAt_rows harg1 x1 (k0_off1_eq k) hk, readAt_rows harg2 x2 (k0_off1_eq k) hk, readAt_rows harg3 x3 (k0_off1_eq k) hk]
    isplitl [HW18]
    · iexists _; isplitl [HW18]; · iexact HW18
      ipureintro
      refine rows_step f18 _ (k0_off1_eq k) _ _ ?_ h18
      rw [readAt_rows harg1 x1 (k0_off1_eq k) hk, readAt_rows harg2 x2 (k0_off1_eq k) hk, readAt_rows harg3 x3 (k0_off1_eq k) hk]
    iexists _; isplitl [HW19]; · iexact HW19
    ipureintro
    refine rows_step f19 _ (k0_off1_eq k) _ _ ?_ h19
    rw [readAt_rows harg1 x1 (k0_off1_eq k) hk, readAt_rows harg2 x2 (k0_off1_eq k) hk, readAt_rows harg3 x3 (k0_off1_eq k) hk]

theorem loop1_inv (x1 : Vec F S256x2048 .bf16) (x2 : Vec F S256x2048 .bf16) (x3 : Vec F S256x2048 .bf16) (x4 : Vec F S256x2048 .bf16) (x7 : Vec F S1x1x2048 .f32) (x8 : Vec F S1x1x2048 .f32) : (loop1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x7 x8).inv = inv1 c arg1 harg1 arg2 harg2 arg3 harg3 arg4 harg4 arg7 harg7 arg8 harg8 arg16 arg17 arg18 arg19 x1 x2 x3 x4 x7 x8 := rfl
/-- After the first loop the four scratch arrays hold their contents whole. -/
instance exit1 (x1 : Vec F S256x2048 .bf16) (x2 : Vec F S256x2048 .bf16) (x3 : Vec F S256x2048 .bf16) (x4 : Vec F S256x2048 .bf16) (x7 : Vec F S1x1x2048 .f32) (x8 : Vec F S1x1x2048 .f32) :
    LoopExit (loop1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x7 x8) where
  post _ := iprop((arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg7.view.loc (c : Thread nD τ) ↦[arg7.view.set]{fullShare} (harg7.unread x7)) ∗ (arg8.view.loc (c : Thread nD τ) ↦[arg8.view.set]{fullShare} (harg8.unread x8)) ∗ (arg16.view.loc (c : Thread nD τ) ↦[arg16.view.set]{fullShare} (harg16.unread (vS x4 x7 x8))) ∗ (arg17.view.loc (c : Thread nD τ) ↦[arg17.view.set]{fullShare} (harg17.unread (aS x1 x2 x3))) ∗ (arg18.view.loc (c : Thread nD τ) ↦[arg18.view.set]{fullShare} (harg18.unread (bzS x1 x2 x3))) ∗ (arg19.view.loc (c : Thread nD τ) ↦[arg19.view.set]{fullShare} (harg19.unread (cS x1 x2 x3))))
  exit acc := by
    rw [loop1_inv]
    iintro ⟨HR1, HR2, HR3, HR4, HR7, HR8, ⟨%f16, HW16, %h16⟩, ⟨%f17, HW17, %h17⟩, ⟨%f18, HW18, %h18⟩, ⟨%f19, HW19, %h19⟩⟩
    have hall : ∀ y : S256x2048.Idx, (y 0).val < 16 * Scf.trips k0_t1_loop.lb k0_t1_loop.ub k0_t1_loop.st := fun y => by
      have h : Scf.trips k0_t1_loop.lb k0_t1_loop.ub k0_t1_loop.st = 16 := trips1
      rw [h]; exact (y 0).isLt
    obtain rfl := harg16.eq_unread (funext fun y => h16 y (hall y))
    obtain rfl := harg17.eq_unread (funext fun y => h17 y (hall y))
    obtain rfl := harg18.eq_unread (funext fun y => h18 y (hall y))
    obtain rfl := harg19.eq_unread (funext fun y => h19 y (hall y))
    isplitl [HR1]; · iexact HR1
    isplitl [HR2]; · iexact HR2
    isplitl [HR3]; · iexact HR3
    isplitl [HR4]; · iexact HR4
    isplitl [HR7]; · iexact HR7
    isplitl [HR8]; · iexact HR8
    isplitl [HW16]; · iexact HW16
    isplitl [HW17]; · iexact HW17
    isplitl [HW18]; · iexact HW18
    iexact HW19

/-- Before trip `k` of the second loop: the operands as they are, the two running gradients after `k` blocks of rows. -/
abbrev inv2 (x4 : Vec F S256x2048 .bf16) (x5 : Vec F S256x2048 .bf16) (x6 : Vec F S256x1 .f32) (x7 : Vec F S1x1x2048 .f32) (X20 : BufTy.Contents (Elt F) arg20.view.ty) (G14 : BufTy.Contents (Elt F) arg14.view.ty) (G15 : BufTy.Contents (Elt F) arg15.view.ty) (k : ℕ) (_u : Unit) : sProp 𝕄 :=
  iprop((arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg20.view.loc (c : Thread nD τ) ↦[arg20.view.set]{fullShare} X20) ∗ (∃ f, (arg11.view.loc (c : Thread nD τ) ↦[arg11.view.set]{fullShare} f)) ∗ (∃ f, (arg14.view.loc (c : Thread nD τ) ↦[arg14.view.set]{fullShare} f) ∗ ⌜arg14.view.read (Elt F) f = lgAcc (arg20.view.read (Elt F) X20) x4 (arg14.view.read (Elt F) G14) k⌝) ∗ (∃ f, (arg15.view.loc (c : Thread nD τ) ↦[arg15.view.set]{fullShare} f) ∗ ⌜arg15.view.read (Elt F) f = lbAcc (arg20.view.read (Elt F) X20) (arg15.view.read (Elt F) G15) k⌝))

set_option warn.classDefReducibility false in
set_option maxHeartbeats 4000000 in
/-- The second loop by its invariant. -/
@[sl_loop] def loop2 (x4 : Vec F S256x2048 .bf16) (x5 : Vec F S256x2048 .bf16) (x6 : Vec F S256x1 .f32) (x7 : Vec F S1x1x2048 .f32) (X20 : BufTy.Contents (Elt F) arg20.view.ty) (G14 : BufTy.Contents (Elt F) arg14.view.ty) (G15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 where
  inv := inv2 c arg4 harg4 arg5 harg5 arg6 harg6 arg7 harg7 arg11 arg14 arg15 arg20 x4 x5 x6 x7 X20 G14 G15
  step k acc := by
    have hk : k.val < 16 := Nat.lt_of_lt_of_le k.isLt k0_t2_abs.2.1
    unfold k0_t2_body
    iintro ⟨HR4, HR5, HR6, HR7, HR20, ⟨%f11, HW11⟩, ⟨%f14, HW14, %h14⟩, ⟨%f15, HW15, %h15⟩⟩
    sl_exec
    sl_step
    sl_unfold_run_names
    isplitl [HR4]; · iexact HR4
    isplitl [HR5]; · iexact HR5
    isplitl [HR6]; · iexact HR6
    isplitl [HR7]; · iexact HR7
    isplitl [HR20]; · iexact HR20
    isplitl [HW11]; · iexists _; iexact HW11
    isplitl [HW14]
    · iexists _; isplitl [HW14]; · iexact HW14
      ipureintro
      rw [read_store_all f14 zero2, readAt_rows_raw X20 (k0_off2_eq k) hk, readAt_rows harg4 x4 (k0_off2_eq k) hk, readAt_all_raw f14 zero2, h14]
      rfl
    iexists _; isplitl [HW15]; · iexact HW15
    ipureintro
    rw [read_store_all f15 zero2, readAt_rows_raw X20 (k0_off2_eq k) hk, readAt_all_raw f15 zero2, h15]
    rfl

theorem loop2_inv (x4 : Vec F S256x2048 .bf16) (x5 : Vec F S256x2048 .bf16) (x6 : Vec F S256x1 .f32) (x7 : Vec F S1x1x2048 .f32) (X20 : BufTy.Contents (Elt F) arg20.view.ty) (G14 : BufTy.Contents (Elt F) arg14.view.ty) (G15 : BufTy.Contents (Elt F) arg15.view.ty) : (loop2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x4 x5 x6 x7 X20 G14 G15).inv = inv2 c arg4 harg4 arg5 harg5 arg6 harg6 arg7 harg7 arg11 arg14 arg15 arg20 x4 x5 x6 x7 X20 G14 G15 := rfl
/-- After the second loop the two running gradients hold their sums over all the rows. -/
instance exit2 (x4 : Vec F S256x2048 .bf16) (x5 : Vec F S256x2048 .bf16) (x6 : Vec F S256x1 .f32) (x7 : Vec F S1x1x2048 .f32) (X20 : BufTy.Contents (Elt F) arg20.view.ty) (G14 : BufTy.Contents (Elt F) arg14.view.ty) (G15 : BufTy.Contents (Elt F) arg15.view.ty) :
    LoopExit (loop2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x4 x5 x6 x7 X20 G14 G15) where
  post _ := iprop((arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg20.view.loc (c : Thread nD τ) ↦[arg20.view.set]{fullShare} X20) ∗ (∃ f, (arg11.view.loc (c : Thread nD τ) ↦[arg11.view.set]{fullShare} f)) ∗ (arg14.view.loc (c : Thread nD τ) ↦[arg14.view.set]{fullShare} (harg14.unread (lgAcc (arg20.view.read (Elt F) X20) x4 (arg14.view.read (Elt F) G14) 16))) ∗ (arg15.view.loc (c : Thread nD τ) ↦[arg15.view.set]{fullShare} (harg15.unread (lbAcc (arg20.view.read (Elt F) X20) (arg15.view.read (Elt F) G15) 16))))
  exit acc := by
    rw [loop2_inv]
    iintro ⟨HR4, HR5, HR6, HR7, HR20, HW11, ⟨%f14, HW14, %h14⟩, ⟨%f15, HW15, %h15⟩⟩
    have h : Scf.trips k0_t2_loop.lb k0_t2_loop.ub k0_t2_loop.st = 16 := trips2
    rw [h] at h14 h15
    obtain rfl := harg14.eq_unread h14
    obtain rfl := harg15.eq_unread h15
    isplitl [HR4]; · iexact HR4
    isplitl [HR5]; · iexact HR5
    isplitl [HR6]; · iexact HR6
    isplitl [HR7]; · iexact HR7
    isplitl [HR20]; · iexact HR20
    isplitl [HW11]; · iexact HW11
    isplitl [HW14]; · iexact HW14
    iexact HW15

end Loops

end Cert.Kernel3Ideal.Mix

end
-- ==== Proof.MixPay.lean ====
/-
  What one grid point of `a_mix_bwd` adds to the gradients of the mixing weights and of the bias, head by head, and the
  cotangent of the normalised branch it leaves for the second loop. The eight heads are written out one after the other in
  the body; each is the same function of its blocks.
-/
module

public import proofs.«01_k».proof.Proof.MixLoops

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One head -/

/-- The strictly block-upper mask of the weight gradient. -/
def maskU : IVec S128x128 1 := (k0_pay31 (iota .tc S128x128 32 [0] iota_S128x128_d0_w32) k0_pay28 64#32 k0_pay29 k0_pay30 (Scalar.cmpi .sgt 64#32 0#32))
/-- The same mask seen from the other side. -/
def maskL : IVec S128x128 1 := (k0_pay36 (iota .tc S128x128 32 [1] iota_S128x128_d1_w32) k0_pay32 64#32 k0_pay33 k0_pay34 k0_pay35)

/-- The cotangent of the normalised branch in one block of 128 rows. -/
def hdV (w : Vec F S1x1x128x128 .f32) (c : Vec F S128x256 .bf16) : FVec F S128x256 .f32 :=
  (k0_pay45 (k0_pay39 (iota .tc S128x128 32 [1] iota_S128x128_d1_w32) k0_pay32 64#32 k0_pay33 k0_pay34 k0_pay35 w) c)
/-- One head's weight gradient after the two blocks of 128 rows, from `o`. -/
def hdW (v0 c0 v1 c1 : Vec F S128x256 .bf16) (o : Vec F S1x128x128 .f32) : FVec F S1x128x128 .f32 :=
  (k0_pay52 maskU (k0_pay46 k0_pay40 v0 c0) v1 c1 o)
/-- One head's bias gradient after the two blocks of 128 rows, from `o`. -/
def hdB (c0 c1 : Vec F S128x256 .bf16) (o : Vec F S1x128 .f32) : FVec F S1x128 .f32 :=
  (k0_pay53 (k0_pay47 k0_pay41 c0) c1 o)

theorem hdV_0_0 (w : Vec F S1x1x128x128 .f32) (c : Vec F S128x256 .bf16) : (k0_pay45 (k0_pay39 (iota .tc S128x128 32 [1] iota_S128x128_d1_w32) k0_pay32 64#32 k0_pay33 k0_pay34 k0_pay35 w) c) = hdV w c := rfl
theorem hdV_1_0 (w : Vec F S1x1x128x128 .f32) (c : Vec F S128x256 .bf16) : (k0_pay51 (k0_pay39 (iota .tc S128x128 32 [1] iota_S128x128_d1_w32) k0_pay32 64#32 k0_pay33 k0_pay34 k0_pay35 w) c) = hdV w c := rfl
theorem hdV_0_1 (w : Vec F S1x1x128x128 .f32) (c : Vec F S128x256 .bf16) : (k0_pay61 maskL (k0_pay56 w) (Scalar.ofBits .f32 0x00000000#32) c) = hdV w c := rfl
theorem hdV_1_1 (w : Vec F S1x1x128x128 .f32) (c : Vec F S128x256 .bf16) : (k0_pay67 (k0_pay57 maskL (k0_pay56 w) (Scalar.ofBits .f32 0x00000000#32)) c) = hdV w c := rfl
theorem hdV_0_2 (w : Vec F S1x1x128x128 .f32) (c : Vec F S128x256 .bf16) : (k0_pay80 (k0_pay74 maskL w) c) = hdV w c := rfl
theorem hdV_1_2 (w : Vec F S1x1x128x128 .f32) (c : Vec F S128x256 .bf16) : (k0_pay87 (k0_pay86 (k0_pay74 maskL w) c)) = hdV w c := rfl
theorem hdV_0_3 (w : Vec F S1x1x128x128 .f32) (c : Vec F S128x256 .bf16) : (k0_pay98 (k0_pay92 maskL w) c) = hdV w c := rfl
theorem hdV_1_3 (w : Vec F S1x1x128x128 .f32) (c : Vec F S128x256 .bf16) : (k0_pay105 (k0_pay92 maskL w) c) = hdV w c := rfl
theorem hdV_0_4 (w : Vec F S1x1x128x128 .f32) (c : Vec F S128x256 .bf16) : (k0_pay117 (k0_pay116 maskL w c)) = hdV w c := rfl
theorem hdV_1_4 (w : Vec F S1x1x128x128 .f32) (c : Vec F S128x256 .bf16) : (k0_pay122 (k0_pay110 maskL w) c) = hdV w c := rfl
theorem hdV_0_5 (w : Vec F S1x1x128x128 .f32) (c : Vec F S128x256 .bf16) : (k0_pay136 (k0_pay129 maskL w) c) = hdV w c := rfl
theorem hdV_1_5 (w : Vec F S1x1x128x128 .f32) (c : Vec F S128x256 .bf16) : (k0_pay142 (k0_pay129 maskL w) c) = hdV w c := rfl
theorem hdV_0_6 (w : Vec F S1x1x128x128 .f32) (c : Vec F S128x256 .bf16) : (k0_pay152 maskL (k0_pay145 w) c) = hdV w c := rfl
theorem hdV_1_6 (w : Vec F S1x1x128x128 .f32) (c : Vec F S128x256 .bf16) : (k0_pay158 (k0_pay147 maskL (k0_pay145 w)) c) = hdV w c := rfl
theorem hdV_0_7 (w : Vec F S1x1x128x128 .f32) (c : Vec F S128x256 .bf16) : (k0_pay172 (k0_pay166 maskL w) c) = hdV w c := rfl
theorem hdV_1_7 (w : Vec F S1x1x128x128 .f32) (c : Vec F S128x256 .bf16) : (k0_pay178 (k0_pay166 maskL w) c) = hdV w c := rfl
theorem hdW_0 (v0 c0 v1 c1 : Vec F S128x256 .bf16) (o : Vec F S1x128x128 .f32) : (k0_pay52 maskU (k0_pay46 k0_pay40 v0 c0) v1 c1 o) = hdW v0 c0 v1 c1 o := rfl
theorem hdW_1 (v0 c0 v1 c1 : Vec F S128x256 .bf16) (o : Vec F S1x128x128 .f32) : (k0_pay70 (k0_pay69 maskU (k0_pay62 v0 c0) v1 c1 o)) = hdW v0 c0 v1 c1 o := rfl
theorem hdW_2 (v0 c0 v1 c1 : Vec F S128x256 .bf16) (o : Vec F S1x128x128 .f32) : (k0_pay88 maskU (k0_pay81 k0_pay75 v0 c0) v1 c1 o) = hdW v0 c0 v1 c1 o := rfl
theorem hdW_3 (v0 c0 v1 c1 : Vec F S128x256 .bf16) (o : Vec F S1x128x128 .f32) : (k0_pay106 maskU (k0_pay99 k0_pay93 v0 c0) v1 c1 o) = hdW v0 c0 v1 c1 o := rfl
theorem hdW_4 (v0 c0 v1 c1 : Vec F S128x256 .bf16) (o : Vec F S1x128x128 .f32) : (k0_pay125 maskU (k0_pay123 k0_pay111 v0 c0 v1 c1) o) = hdW v0 c0 v1 c1 o := rfl
theorem hdW_5 (v0 c0 v1 c1 : Vec F S128x256 .bf16) (o : Vec F S1x128x128 .f32) : (k0_pay143 maskU (k0_pay137 k0_pay130 v0 c0) v1 c1 o) = hdW v0 c0 v1 c1 o := rfl
theorem hdW_6 (v0 c0 v1 c1 : Vec F S128x256 .bf16) (o : Vec F S1x128x128 .f32) : (k0_pay162 (k0_pay160 o) (k0_pay161 maskU (k0_pay153 v0 c0) v1 c1)) = hdW v0 c0 v1 c1 o := rfl
theorem hdW_7 (v0 c0 v1 c1 : Vec F S128x256 .bf16) (o : Vec F S1x128x128 .f32) : (k0_pay179 maskU (k0_pay173 k0_pay167 v0 c0) v1 c1 o) = hdW v0 c0 v1 c1 o := rfl
theorem hdB_0 (c0 c1 : Vec F S128x256 .bf16) (o : Vec F S1x128 .f32) : (k0_pay53 (k0_pay47 k0_pay41 c0) c1 o) = hdB c0 c1 o := rfl
theorem hdB_1 (c0 c1 : Vec F S128x256 .bf16) (o : Vec F S1x128 .f32) : (k0_pay71 (k0_pay68 (k0_pay63 c0) c1) o) = hdB c0 c1 o := rfl
theorem hdB_2 (c0 c1 : Vec F S128x256 .bf16) (o : Vec F S1x128 .f32) : (k0_pay89 (k0_pay82 k0_pay76 c0) c1 o) = hdB c0 c1 o := rfl
theorem hdB_3 (c0 c1 : Vec F S128x256 .bf16) (o : Vec F S1x128 .f32) : (k0_pay107 (k0_pay100 k0_pay94 c0) c1 o) = hdB c0 c1 o := rfl
theorem hdB_4 (c0 c1 : Vec F S128x256 .bf16) (o : Vec F S1x128 .f32) : (k0_pay126 (k0_pay118 k0_pay112 c0) c1 k0_pay124 (constant S8x128 .f32 0x00000000#32) o) = hdB c0 c1 o := rfl
theorem hdB_5 (c0 c1 : Vec F S128x256 .bf16) (o : Vec F S1x128 .f32) : (k0_pay144 (k0_pay138 k0_pay131 c0) c1 o) = hdB c0 c1 o := rfl
theorem hdB_6 (c0 c1 : Vec F S128x256 .bf16) (o : Vec F S1x128 .f32) : (k0_pay163 (k0_pay159 k0_pay148 c0 k0_pay154 (constant S8x128 .f32 0x00000000#32) c1) o) = hdB c0 c1 o := rfl
theorem hdB_7 (c0 c1 : Vec F S128x256 .bf16) (o : Vec F S1x128 .f32) : (k0_pay180 (k0_pay174 k0_pay168 c0) c1 o) = hdB c0 c1 o := rfl

/-! ## The first point -/

/-- The body's own test for the first grid point. -/
abbrev onFirst (i : grid0.Coords) : Prop :=
  (Scalar.cmpi .ne (Scalar.extui (Scalar.cmpi .eq (BitVec.ofNat 32 (i 0).val) 0#32)) 0#32) = 1#1

theorem onFirst_iff : ∀ t : Fin cfg0.N, onFirst (grid0.coords t) ↔ t.val = 0 :=
  (by decide +kernel : ∀ t : Fin grid0.N, onFirst (grid0.coords t) ↔ t.val = 0)

/-! ## Blocks -/

/-- Rows `128 b ‥` and columns `256 g ‥` of `x`. -/
def cut {e : EltTy} (x : Vec F S256x2048 e) (b g : ℕ) : Vec F S128x256 e :=
  fun y => x (ix2 ⟨(128 * b + (y 0).val) % 256, Nat.mod_lt _ (by decide)⟩ ⟨(256 * g + (y 1).val) % 2048, Nat.mod_lt _ (by decide)⟩)
/-- Head `g`'s mixing weights. -/
def cutW (x : Vec F S1x8x128x128 .f32) (g : ℕ) : Vec F S1x1x128x128 .f32 :=
  fun y => x (ix4 (y 0) ⟨g % 8, Nat.mod_lt _ (by decide)⟩ (y 2) (y 3))
/-- Head `g` of a running weight gradient. -/
def cutG (x : Vec F S8x128x128 .f32) (g : ℕ) : Vec F S1x128x128 .f32 :=
  fun y => x (ix3 ⟨g % 8, Nat.mod_lt _ (by decide)⟩ (y 1) (y 2))
/-- Head `g` of a running bias gradient. -/
def cutB (x : Vec F S8x128 .f32) (g : ℕ) : Vec F S1x128 .f32 :=
  fun y => x (ix2 ⟨g % 8, Nat.mod_lt _ (by decide)⟩ (y 1))

/-- The cotangent of the normalised branch, all 256 rows. -/
def dvS (x9 : Vec F S1x8x128x128 .f32) (c : Vec F S256x2048 .bf16) : Vec F S256x2048 .f32 :=
  fun y => hdV (cutW x9 ((y 1).val / 256)) (cut c ((y 0).val / 128) ((y 1).val / 256))
    (ix2 ⟨(y 0).val % 128, Nat.mod_lt _ (by decide)⟩ ⟨(y 1).val % 256, Nat.mod_lt _ (by decide)⟩)
/-- The running weight gradient after a grid point. -/
def wAcc (v c : Vec F S256x2048 .bf16) (o : Vec F S8x128x128 .f32) : Vec F S8x128x128 .f32 :=
  fun y => hdW (cut v 0 (y 0).val) (cut c 0 (y 0).val) (cut v 1 (y 0).val) (cut c 1 (y 0).val) (cutG o (y 0).val) (ix3 0 (y 1) (y 2))
/-- The running bias gradient after a grid point. -/
def bAcc (c : Vec F S256x2048 .bf16) (o : Vec F S8x128 .f32) : Vec F S8x128 .f32 :=
  fun y => hdB (cut c 0 (y 0).val) (cut c 1 (y 0).val) (cutB o (y 0).val) (ix2 0 (y 1))

/-! ## Loads of blocks -/

theorem readAt_cut {e : EltTy} {M : Memref sig .tc .vmem S256x2048 e} (h : M.IsWhole) (x : Vec F S256x2048 e) (b g : ℕ) {off : Fin 2 → ℕ}
    (hoff : off = ![128 * b, 256 * g]) (hb : b < 2) (hg : g < 8) (inb : ∀ a, off a + S128x256.size a ≤ S256x2048.size a) :
    M.view.readAt (Elt F) (Rect.unit (s := S256x2048) off S128x256.size inb).toLoadRect (h.unread x) = cut x b g := by
  subst hoff
  funext y
  rw [View.readAt_apply, h.read_unread]
  refine congrArg x (funext fun a => ?_)
  have h0 : (y 0).val < 128 := (y 0).isLt
  have h1 : (y 1).val < 256 := (y 1).isLt
  match a with
  | 0 => exact Fin.ext (by
      show 128 * b + 1 * (y 0).val = (128 * b + (y 0).val) % 256
      rw [Nat.mod_eq_of_lt (by omega)]; omega)
  | 1 => exact Fin.ext (by
      show 256 * g + 1 * (y 1).val = (256 * g + (y 1).val) % 2048
      rw [Nat.mod_eq_of_lt (by omega)]; omega)

theorem readAt_cutW {M : Memref sig .tc .vmem S1x8x128x128 .f32} (h : M.IsWhole) (x : Vec F S1x8x128x128 .f32) (g : ℕ) {off : Fin 4 → ℕ}
    (hoff : off = ![0, g, 0, 0]) (hg : g < 8) (inb : ∀ a, off a + S1x1x128x128.size a ≤ S1x8x128x128.size a) :
    M.view.readAt (Elt F) (Rect.unit (s := S1x8x128x128) off S1x1x128x128.size inb).toLoadRect (h.unread x) = cutW x g := by
  subst hoff
  funext y
  rw [View.readAt_apply, h.read_unread]
  refine congrArg x (funext fun a => ?_)
  have h1 : (y 1).val < 1 := (y 1).isLt
  match a with
  | 0 => exact Fin.ext (by show 0 + 1 * (y 0).val = (y 0).val; omega)
  | 1 => exact Fin.ext (by
      show g + 1 * (y 1).val = g % 8
      rw [Nat.mod_eq_of_lt hg]; omega)
  | 2 => exact Fin.ext (by show 0 + 1 * (y 2).val = (y 2).val; omega)
  | 3 => exact Fin.ext (by show 0 + 1 * (y 3).val = (y 3).val; omega)

end Cert.Kernel3Ideal.Mix

end
-- ==== Proof.MixPieces.lean ====
/-
  What a list of stores over the heads' blocks leaves in the cotangent of the normalised branch, in the running weight
  gradient and in the running bias gradient.
-/
module

public import proofs.«01_k».proof.Proof.MixPay

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem blockV (x9 : Vec F S1x8x128x128 .f32) (c : Vec F S256x2048 .bf16) (b g : ℕ) (hb : b < 2) (hg : g < 8) {off : Fin 2 → ℕ}
    (hoff : off = ![128 * b, 256 * g]) (inb : ∀ a, off a + S128x256.size a ≤ S256x2048.size a) (p : FVec F S128x256 .f32)
    (hp : p = hdV (cutW x9 g) (cut c b g)) (x : (Rect.unit (s := S256x2048) off S128x256.size inb).shape.Idx) :
    p x = dvS x9 c ((Rect.unit (s := S256x2048) off S128x256.size inb).emb x) := by
  subst hoff hp
  have h0 : (x 0).val < 128 := (x 0).isLt
  have h1 : (x 1).val < 256 := (x 1).isLt
  generalize hy : (Rect.unit (s := S256x2048) ![128 * b, 256 * g] S128x256.size inb).emb x = y
  have e0 : (y 0).val = 128 * b + (x 0).val := by rw [← hy]; show 128 * b + 1 * (x 0).val = _; omega
  have e1 : (y 1).val = 256 * g + (x 1).val := by rw [← hy]; show 256 * g + 1 * (x 1).val = _; omega
  unfold dvS
  rw [show (y 0).val / 128 = b by omega, show (y 1).val / 256 = g by omega]
  refine congrArg (hdV (cutW x9 g) (cut c b g)) (funext fun a => ?_)
  match a with
  | 0 => exact Fin.ext (by show (x 0).val = (y 0).val % 128; omega)
  | 1 => exact Fin.ext (by show (x 1).val = (y 1).val % 256; omega)

theorem blockW (v c : Vec F S256x2048 .bf16) (o : Vec F S8x128x128 .f32) (g : ℕ) (hg : g < 8) {off : Fin 3 → ℕ}
    (hoff : off = ![g, 0, 0]) (inb : ∀ a, off a + S1x128x128.size a ≤ S8x128x128.size a) (p : FVec F S1x128x128 .f32)
    (hp : p = hdW (cut v 0 g) (cut c 0 g) (cut v 1 g) (cut c 1 g) (cutG o g)) (x : (Rect.unit (s := S8x128x128) off S1x128x128.size inb).shape.Idx) :
    p x = wAcc v c o ((Rect.unit (s := S8x128x128) off S1x128x128.size inb).emb x) := by
  subst hoff hp
  have h0 : (x 0).val < 1 := (x 0).isLt
  generalize hy : (Rect.unit (s := S8x128x128) ![g, 0, 0] S1x128x128.size inb).emb x = y
  have e0 : (y 0).val = g := by rw [← hy]; show g + 1 * (x 0).val = _; omega
  have e1 : (y 1).val = (x 1).val := by rw [← hy]; show 0 + 1 * (x 1).val = _; omega
  have e2 : (y 2).val = (x 2).val := by rw [← hy]; show 0 + 1 * (x 2).val = _; omega
  unfold wAcc
  rw [e0]
  refine congrArg (hdW (cut v 0 g) (cut c 0 g) (cut v 1 g) (cut c 1 g) (cutG o g)) (funext fun a => ?_)
  match a with
  | 0 => exact Fin.ext (by show (x 0).val = 0; omega)
  | 1 => exact Fin.ext e1.symm
  | 2 => exact Fin.ext e2.symm

theorem blockB (c : Vec F S256x2048 .bf16) (o : Vec F S8x128 .f32) (g : ℕ) (hg : g < 8) {off : Fin 2 → ℕ}
    (hoff : off = ![g, 0]) (inb : ∀ a, off a + S1x128.size a ≤ S8x128.size a) (p : FVec F S1x128 .f32)
    (hp : p = hdB (cut c 0 g) (cut c 1 g) (cutB o g)) (x : (Rect.unit (s := S8x128) off S1x128.size inb).shape.Idx) :
    p x = bAcc c o ((Rect.unit (s := S8x128) off S1x128.size inb).emb x) := by
  subst hoff hp
  have h0 : (x 0).val < 1 := (x 0).isLt
  generalize hy : (Rect.unit (s := S8x128) ![g, 0] S1x128.size inb).emb x = y
  have e0 : (y 0).val = g := by rw [← hy]; show g + 1 * (x 0).val = _; omega
  have e1 : (y 1).val = (x 1).val := by rw [← hy]; show 0 + 1 * (x 1).val = _; omega
  unfold bAcc
  rw [e0]
  refine congrArg (hdB (cut c 0 g) (cut c 1 g) (cutB o g)) (funext fun a => ?_)
  match a with
  | 0 => exact Fin.ext (by show (x 0).val = 0; omega)
  | 1 => exact Fin.ext e1.symm

/-- A load of head `g` of a running weight gradient. -/
theorem readAt_cutG {M : Memref sig .tc .vmem S8x128x128 .f32} (f : BufTy.Contents (Elt F) M.view.ty) (g : ℕ) {off : Fin 3 → ℕ}
    (hoff : off = ![g, 0, 0]) (hg : g < 8) (inb : ∀ a, off a + S1x128x128.size a ≤ S8x128x128.size a) :
    M.view.readAt (Elt F) (Rect.unit (s := S8x128x128) off S1x128x128.size inb).toLoadRect f = cutG (M.view.read (Elt F) f) g := by
  subst hoff
  funext y
  rw [View.readAt_apply]
  refine congrArg (M.view.read (Elt F) f) (funext fun a => ?_)
  have h0 : (y 0).val < 1 := (y 0).isLt
  match a with
  | 0 => exact Fin.ext (by
      show g + 1 * (y 0).val = g % 8
      rw [Nat.mod_eq_of_lt hg]; omega)
  | 1 => exact Fin.ext (by show 0 + 1 * (y 1).val = (y 1).val; omega)
  | 2 => exact Fin.ext (by show 0 + 1 * (y 2).val = (y 2).val; omega)

/-- A load of head `g` of a running bias gradient. -/
theorem readAt_cutB {M : Memref sig .tc .vmem S8x128 .f32} (f : BufTy.Contents (Elt F) M.view.ty) (g : ℕ) {off : Fin 2 → ℕ}
    (hoff : off = ![g, 0]) (hg : g < 8) (inb : ∀ a, off a + S1x128.size a ≤ S8x128.size a) :
    M.view.readAt (Elt F) (Rect.unit (s := S8x128) off S1x128.size inb).toLoadRect f = cutB (M.view.read (Elt F) f) g := by
  subst hoff
  funext y
  rw [View.readAt_apply]
  refine congrArg (M.view.read (Elt F) f) (funext fun a => ?_)
  have h0 : (y 0).val < 1 := (y 0).isLt
  match a with
  | 0 => exact Fin.ext (by
      show g + 1 * (y 0).val = g % 8
      rw [Nat.mod_eq_of_lt hg]; omega)
  | 1 => exact Fin.ext (by show 0 + 1 * (y 1).val = (y 1).val; omega)

/-- The sixteen blocks of the cotangent of the normalised branch. -/
theorem read_blocksV {M : Memref sig .tc .vmem S256x2048 .f32} (f : BufTy.Contents (Elt F) M.view.ty) (x9 : Vec F S1x8x128x128 .f32)
    (c : Vec F S256x2048 .bf16) (p17 p07 p16 p06 p15 p05 p14 p04 p13 p03 p12 p02 p11 p01 p10 p00 : FVec F S128x256 .f32)
    (h17 : p17 = hdV (cutW x9 7) (cut c 1 7))
    (h07 : p07 = hdV (cutW x9 7) (cut c 0 7))
    (h16 : p16 = hdV (cutW x9 6) (cut c 1 6))
    (h06 : p06 = hdV (cutW x9 6) (cut c 0 6))
    (h15 : p15 = hdV (cutW x9 5) (cut c 1 5))
    (h05 : p05 = hdV (cutW x9 5) (cut c 0 5))
    (h14 : p14 = hdV (cutW x9 4) (cut c 1 4))
    (h04 : p04 = hdV (cutW x9 4) (cut c 0 4))
    (h13 : p13 = hdV (cutW x9 3) (cut c 1 3))
    (h03 : p03 = hdV (cutW x9 3) (cut c 0 3))
    (h12 : p12 = hdV (cutW x9 2) (cut c 1 2))
    (h02 : p02 = hdV (cutW x9 2) (cut c 0 2))
    (h11 : p11 = hdV (cutW x9 1) (cut c 1 1))
    (h01 : p01 = hdV (cutW x9 1) (cut c 0 1))
    (h10 : p10 = hdV (cutW x9 0) (cut c 1 0))
    (h00 : p00 = hdV (cutW x9 0) (cut c 0 0)) :
    M.view.read (Elt F) (M.view.writes (Elt F) f [⟨Rect.unit (s := S256x2048) ![128, 1792] S128x256.size inb_S256x2048_S128x256_128_1792, p17⟩, ⟨Rect.unit (s := S256x2048) ![0, 1792] S128x256.size inb_S256x2048_S128x256_0_1792, p07⟩, ⟨Rect.unit (s := S256x2048) ![128, 1536] S128x256.size inb_S256x2048_S128x256_128_1536, p16⟩, ⟨Rect.unit (s := S256x2048) ![0, 1536] S128x256.size inb_S256x2048_S128x256_0_1536, p06⟩, ⟨Rect.unit (s := S256x2048) ![128, 1280] S128x256.size inb_S256x2048_S128x256_128_1280, p15⟩, ⟨Rect.unit (s := S256x2048) ![0, 1280] S128x256.size inb_S256x2048_S128x256_0_1280, p05⟩, ⟨Rect.unit (s := S256x2048) ![128, 1024] S128x256.size inb_S256x2048_S128x256_128_1024, p14⟩, ⟨Rect.unit (s := S256x2048) ![0, 1024] S128x256.size inb_S256x2048_S128x256_0_1024, p04⟩, ⟨Rect.unit (s := S256x2048) ![128, 768] S128x256.size inb_S256x2048_S128x256_128_768, p13⟩, ⟨Rect.unit (s := S256x2048) ![0, 768] S128x256.size inb_S256x2048_S128x256_0_768, p03⟩, ⟨Rect.unit (s := S256x2048) ![128, 512] S128x256.size inb_S256x2048_S128x256_128_512, p12⟩, ⟨Rect.unit (s := S256x2048) ![0, 512] S128x256.size inb_S256x2048_S128x256_0_512, p02⟩, ⟨Rect.unit (s := S256x2048) ![128, 256] S128x256.size inb_S256x2048_S128x256_128_256, p11⟩, ⟨Rect.unit (s := S256x2048) ![0, 256] S128x256.size inb_S256x2048_S128x256_0_256, p01⟩, ⟨Rect.unit (s := S256x2048) ![128, 0] S128x256.size inb_S256x2048_S128x256_128_0, p10⟩, ⟨Rect.unit (s := S256x2048) ![0, 0] S128x256.size inb_S256x2048_S128x256_0_0, p00⟩]) = dvS x9 c :=
  funext fun y => View.read_writes_apply_of_pieces M.view f (dvS x9 c) _
    (List.forall_mem_cons.2 ⟨blockV x9 c 1 7 (by decide) (by decide) rfl inb_S256x2048_S128x256_128_1792 p17 h17,
      List.forall_mem_cons.2 ⟨blockV x9 c 0 7 (by decide) (by decide) rfl inb_S256x2048_S128x256_0_1792 p07 h07,
      List.forall_mem_cons.2 ⟨blockV x9 c 1 6 (by decide) (by decide) rfl inb_S256x2048_S128x256_128_1536 p16 h16,
      List.forall_mem_cons.2 ⟨blockV x9 c 0 6 (by decide) (by decide) rfl inb_S256x2048_S128x256_0_1536 p06 h06,
      List.forall_mem_cons.2 ⟨blockV x9 c 1 5 (by decide) (by decide) rfl inb_S256x2048_S128x256_128_1280 p15 h15,
      List.forall_mem_cons.2 ⟨blockV x9 c 0 5 (by decide) (by decide) rfl inb_S256x2048_S128x256_0_1280 p05 h05,
      List.forall_mem_cons.2 ⟨blockV x9 c 1 4 (by decide) (by decide) rfl inb_S256x2048_S128x256_128_1024 p14 h14,
      List.forall_mem_cons.2 ⟨blockV x9 c 0 4 (by decide) (by decide) rfl inb_S256x2048_S128x256_0_1024 p04 h04,
      List.forall_mem_cons.2 ⟨blockV x9 c 1 3 (by decide) (by decide) rfl inb_S256x2048_S128x256_128_768 p13 h13,
      List.forall_mem_cons.2 ⟨blockV x9 c 0 3 (by decide) (by decide) rfl inb_S256x2048_S128x256_0_768 p03 h03,
      List.forall_mem_cons.2 ⟨blockV x9 c 1 2 (by decide) (by decide) rfl inb_S256x2048_S128x256_128_512 p12 h12,
      List.forall_mem_cons.2 ⟨blockV x9 c 0 2 (by decide) (by decide) rfl inb_S256x2048_S128x256_0_512 p02 h02,
      List.forall_mem_cons.2 ⟨blockV x9 c 1 1 (by decide) (by decide) rfl inb_S256x2048_S128x256_128_256 p11 h11,
      List.forall_mem_cons.2 ⟨blockV x9 c 0 1 (by decide) (by decide) rfl inb_S256x2048_S128x256_0_256 p01 h01,
      List.forall_mem_cons.2 ⟨blockV x9 c 1 0 (by decide) (by decide) rfl inb_S256x2048_S128x256_128_0 p10 h10,
      List.forall_mem_cons.2 ⟨blockV x9 c 0 0 (by decide) (by decide) rfl inb_S256x2048_S128x256_0_0 p00 h00,
      fun _ h => absurd h List.not_mem_nil⟩⟩⟩⟩⟩⟩⟩⟩⟩⟩⟩⟩⟩⟩⟩⟩) y
    (View.cover_of_tiledBy _ ![128, 256] (by sl_kernel_rfl) y)

/-- The eight heads of a running weight gradient, whatever was stored before. -/
theorem read_headsW {M : Memref sig .tc .vmem S8x128x128 .f32} (f : BufTy.Contents (Elt F) M.view.ty) (v c : Vec F S256x2048 .bf16) (o : Vec F S8x128x128 .f32)
    (p7 p6 p5 p4 p3 p2 p1 p0 : FVec F S1x128x128 .f32) (T : List (View.Piece (Elt F) S8x128x128 .f32))
    (h7 : p7 = hdW (cut v 0 7) (cut c 0 7) (cut v 1 7) (cut c 1 7) (cutG o 7))
    (h6 : p6 = hdW (cut v 0 6) (cut c 0 6) (cut v 1 6) (cut c 1 6) (cutG o 6))
    (h5 : p5 = hdW (cut v 0 5) (cut c 0 5) (cut v 1 5) (cut c 1 5) (cutG o 5))
    (h4 : p4 = hdW (cut v 0 4) (cut c 0 4) (cut v 1 4) (cut c 1 4) (cutG o 4))
    (h3 : p3 = hdW (cut v 0 3) (cut c 0 3) (cut v 1 3) (cut c 1 3) (cutG o 3))
    (h2 : p2 = hdW (cut v 0 2) (cut c 0 2) (cut v 1 2) (cut c 1 2) (cutG o 2))
    (h1 : p1 = hdW (cut v 0 1) (cut c 0 1) (cut v 1 1) (cut c 1 1) (cutG o 1))
    (h0 : p0 = hdW (cut v 0 0) (cut c 0 0) (cut v 1 0) (cut c 1 0) (cutG o 0)) :
    M.view.read (Elt F) (M.view.writes (Elt F) f (⟨Rect.unit (s := S8x128x128) ![7, 0, 0] S1x128x128.size inb_S8x128x128_S1x128x128_7_0_0, p7⟩ :: ⟨Rect.unit (s := S8x128x128) ![6, 0, 0] S1x128x128.size inb_S8x128x128_S1x128x128_6_0_0, p6⟩ :: ⟨Rect.unit (s := S8x128x128) ![5, 0, 0] S1x128x128.size inb_S8x128x128_S1x128x128_5_0_0, p5⟩ :: ⟨Rect.unit (s := S8x128x128) ![4, 0, 0] S1x128x128.size inb_S8x128x128_S1x128x128_4_0_0, p4⟩ :: ⟨Rect.unit (s := S8x128x128) ![3, 0, 0] S1x128x128.size inb_S8x128x128_S1x128x128_3_0_0, p3⟩ :: ⟨Rect.unit (s := S8x128x128) ![2, 0, 0] S1x128x128.size inb_S8x128x128_S1x128x128_2_0_0, p2⟩ :: ⟨Rect.unit (s := S8x128x128) ![1, 0, 0] S1x128x128.size inb_S8x128x128_S1x128x128_1_0_0, p1⟩ :: ⟨Rect.unit (s := S8x128x128) ![0, 0, 0] S1x128x128.size inb_S8x128x128_S1x128x128_0_0_0, p0⟩ :: T)) = wAcc v c o := by
  rw [show (⟨Rect.unit (s := S8x128x128) ![7, 0, 0] S1x128x128.size inb_S8x128x128_S1x128x128_7_0_0, p7⟩ :: ⟨Rect.unit (s := S8x128x128) ![6, 0, 0] S1x128x128.size inb_S8x128x128_S1x128x128_6_0_0, p6⟩ :: ⟨Rect.unit (s := S8x128x128) ![5, 0, 0] S1x128x128.size inb_S8x128x128_S1x128x128_5_0_0, p5⟩ :: ⟨Rect.unit (s := S8x128x128) ![4, 0, 0] S1x128x128.size inb_S8x128x128_S1x128x128_4_0_0, p4⟩ :: ⟨Rect.unit (s := S8x128x128) ![3, 0, 0] S1x128x128.size inb_S8x128x128_S1x128x128_3_0_0, p3⟩ :: ⟨Rect.unit (s := S8x128x128) ![2, 0, 0] S1x128x128.size inb_S8x128x128_S1x128x128_2_0_0, p2⟩ :: ⟨Rect.unit (s := S8x128x128) ![1, 0, 0] S1x128x128.size inb_S8x128x128_S1x128x128_1_0_0, p1⟩ :: ⟨Rect.unit (s := S8x128x128) ![0, 0, 0] S1x128x128.size inb_S8x128x128_S1x128x128_0_0_0, p0⟩ :: T : List (View.Piece (Elt F) S8x128x128 .f32)) = [⟨Rect.unit (s := S8x128x128) ![7, 0, 0] S1x128x128.size inb_S8x128x128_S1x128x128_7_0_0, p7⟩, ⟨Rect.unit (s := S8x128x128) ![6, 0, 0] S1x128x128.size inb_S8x128x128_S1x128x128_6_0_0, p6⟩, ⟨Rect.unit (s := S8x128x128) ![5, 0, 0] S1x128x128.size inb_S8x128x128_S1x128x128_5_0_0, p5⟩, ⟨Rect.unit (s := S8x128x128) ![4, 0, 0] S1x128x128.size inb_S8x128x128_S1x128x128_4_0_0, p4⟩, ⟨Rect.unit (s := S8x128x128) ![3, 0, 0] S1x128x128.size inb_S8x128x128_S1x128x128_3_0_0, p3⟩, ⟨Rect.unit (s := S8x128x128) ![2, 0, 0] S1x128x128.size inb_S8x128x128_S1x128x128_2_0_0, p2⟩, ⟨Rect.unit (s := S8x128x128) ![1, 0, 0] S1x128x128.size inb_S8x128x128_S1x128x128_1_0_0, p1⟩, ⟨Rect.unit (s := S8x128x128) ![0, 0, 0] S1x128x128.size inb_S8x128x128_S1x128x128_0_0_0, p0⟩] ++ T from rfl, View.writes_append]
  exact funext fun y => View.read_writes_apply_of_pieces M.view _ (wAcc v c o) _
    (List.forall_mem_cons.2 ⟨blockW v c o 7 (by decide) rfl inb_S8x128x128_S1x128x128_7_0_0 p7 h7,
      List.forall_mem_cons.2 ⟨blockW v c o 6 (by decide) rfl inb_S8x128x128_S1x128x128_6_0_0 p6 h6,
      List.forall_mem_cons.2 ⟨blockW v c o 5 (by decide) rfl inb_S8x128x128_S1x128x128_5_0_0 p5 h5,
      List.forall_mem_cons.2 ⟨blockW v c o 4 (by decide) rfl inb_S8x128x128_S1x128x128_4_0_0 p4 h4,
      List.forall_mem_cons.2 ⟨blockW v c o 3 (by decide) rfl inb_S8x128x128_S1x128x128_3_0_0 p3 h3,
      List.forall_mem_cons.2 ⟨blockW v c o 2 (by decide) rfl inb_S8x128x128_S1x128x128_2_0_0 p2 h2,
      List.forall_mem_cons.2 ⟨blockW v c o 1 (by decide) rfl inb_S8x128x128_S1x128x128_1_0_0 p1 h1,
      List.forall_mem_cons.2 ⟨blockW v c o 0 (by decide) rfl inb_S8x128x128_S1x128x128_0_0_0 p0 h0,
      fun _ h => absurd h List.not_mem_nil⟩⟩⟩⟩⟩⟩⟩⟩) y
    (View.cover_of_tiledBy _ ![1, 128, 128] (by sl_kernel_rfl) y)

/-- The eight heads of a running bias gradient, whatever was stored before. -/
theorem read_headsB {M : Memref sig .tc .vmem S8x128 .f32} (f : BufTy.Contents (Elt F) M.view.ty) (c : Vec F S256x2048 .bf16) (o : Vec F S8x128 .f32)
    (p7 p6 p5 p4 p3 p2 p1 p0 : FVec F S1x128 .f32) (T : List (View.Piece (Elt F) S8x128 .f32))
    (h7 : p7 = hdB (cut c 0 7) (cut c 1 7) (cutB o 7))
    (h6 : p6 = hdB (cut c 0 6) (cut c 1 6) (cutB o 6))
    (h5 : p5 = hdB (cut c 0 5) (cut c 1 5) (cutB o 5))
    (h4 : p4 = hdB (cut c 0 4) (cut c 1 4) (cutB o 4))
    (h3 : p3 = hdB (cut c 0 3) (cut c 1 3) (cutB o 3))
    (h2 : p2 = hdB (cut c 0 2) (cut c 1 2) (cutB o 2))
    (h1 : p1 = hdB (cut c 0 1) (cut c 1 1) (cutB o 1))
    (h0 : p0 = hdB (cut c 0 0) (cut c 1 0) (cutB o 0)) :
    M.view.read (Elt F) (M.view.writes (Elt F) f (⟨Rect.unit (s := S8x128) ![7, 0] S1x128.size inb_S8x128_S1x128_7_0, p7⟩ :: ⟨Rect.unit (s := S8x128) ![6, 0] S1x128.size inb_S8x128_S1x128_6_0, p6⟩ :: ⟨Rect.unit (s := S8x128) ![5, 0] S1x128.size inb_S8x128_S1x128_5_0, p5⟩ :: ⟨Rect.unit (s := S8x128) ![4, 0] S1x128.size inb_S8x128_S1x128_4_0, p4⟩ :: ⟨Rect.unit (s := S8x128) ![3, 0] S1x128.size inb_S8x128_S1x128_3_0, p3⟩ :: ⟨Rect.unit (s := S8x128) ![2, 0] S1x128.size inb_S8x128_S1x128_2_0, p2⟩ :: ⟨Rect.unit (s := S8x128) ![1, 0] S1x128.size inb_S8x128_S1x128_1_0, p1⟩ :: ⟨Rect.unit (s := S8x128) ![0, 0] S1x128.size inb_S8x128_S1x128_0_0, p0⟩ :: T)) = bAcc c o := by
  rw [show (⟨Rect.unit (s := S8x128) ![7, 0] S1x128.size inb_S8x128_S1x128_7_0, p7⟩ :: ⟨Rect.unit (s := S8x128) ![6, 0] S1x128.size inb_S8x128_S1x128_6_0, p6⟩ :: ⟨Rect.unit (s := S8x128) ![5, 0] S1x128.size inb_S8x128_S1x128_5_0, p5⟩ :: ⟨Rect.unit (s := S8x128) ![4, 0] S1x128.size inb_S8x128_S1x128_4_0, p4⟩ :: ⟨Rect.unit (s := S8x128) ![3, 0] S1x128.size inb_S8x128_S1x128_3_0, p3⟩ :: ⟨Rect.unit (s := S8x128) ![2, 0] S1x128.size inb_S8x128_S1x128_2_0, p2⟩ :: ⟨Rect.unit (s := S8x128) ![1, 0] S1x128.size inb_S8x128_S1x128_1_0, p1⟩ :: ⟨Rect.unit (s := S8x128) ![0, 0] S1x128.size inb_S8x128_S1x128_0_0, p0⟩ :: T : List (View.Piece (Elt F) S8x128 .f32)) = [⟨Rect.unit (s := S8x128) ![7, 0] S1x128.size inb_S8x128_S1x128_7_0, p7⟩, ⟨Rect.unit (s := S8x128) ![6, 0] S1x128.size inb_S8x128_S1x128_6_0, p6⟩, ⟨Rect.unit (s := S8x128) ![5, 0] S1x128.size inb_S8x128_S1x128_5_0, p5⟩, ⟨Rect.unit (s := S8x128) ![4, 0] S1x128.size inb_S8x128_S1x128_4_0, p4⟩, ⟨Rect.unit (s := S8x128) ![3, 0] S1x128.size inb_S8x128_S1x128_3_0, p3⟩, ⟨Rect.unit (s := S8x128) ![2, 0] S1x128.size inb_S8x128_S1x128_2_0, p2⟩, ⟨Rect.unit (s := S8x128) ![1, 0] S1x128.size inb_S8x128_S1x128_1_0, p1⟩, ⟨Rect.unit (s := S8x128) ![0, 0] S1x128.size inb_S8x128_S1x128_0_0, p0⟩] ++ T from rfl, View.writes_append]
  exact funext fun y => View.read_writes_apply_of_pieces M.view _ (bAcc c o) _
    (List.forall_mem_cons.2 ⟨blockB c o 7 (by decide) rfl inb_S8x128_S1x128_7_0 p7 h7,
      List.forall_mem_cons.2 ⟨blockB c o 6 (by decide) rfl inb_S8x128_S1x128_6_0 p6 h6,
      List.forall_mem_cons.2 ⟨blockB c o 5 (by decide) rfl inb_S8x128_S1x128_5_0 p5 h5,
      List.forall_mem_cons.2 ⟨blockB c o 4 (by decide) rfl inb_S8x128_S1x128_4_0 p4 h4,
      List.forall_mem_cons.2 ⟨blockB c o 3 (by decide) rfl inb_S8x128_S1x128_3_0 p3 h3,
      List.forall_mem_cons.2 ⟨blockB c o 2 (by decide) rfl inb_S8x128_S1x128_2_0 p2 h2,
      List.forall_mem_cons.2 ⟨blockB c o 1 (by decide) rfl inb_S8x128_S1x128_1_0 p1 h1,
      List.forall_mem_cons.2 ⟨blockB c o 0 (by decide) rfl inb_S8x128_S1x128_0_0 p0 h0,
      fun _ h => absurd h List.not_mem_nil⟩⟩⟩⟩⟩⟩⟩⟩) y
    (View.cover_of_tiledBy _ ![1, 128] (by sl_kernel_rfl) y)

end Cert.Kernel3Ideal.Mix

end
-- ==== Proof.MixRunA.lean ====
/-
  The body of `a_mix_bwd' on whole staging buffers, at the first grid point: the running gradients are reset to zero and then added to.
-/
module

public import proofs.«01_k».proof.Proof.MixPieces

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body there, with what it leaves in the four running gradients. -/
theorem runA (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole)
    (hc0 : onFirst i) (x1 : Vec F S256x2048 .bf16) (x2 : Vec F S256x2048 .bf16) (x3 : Vec F S256x2048 .bf16) (x4 : Vec F S256x2048 .bf16) (x5 : Vec F S256x2048 .bf16) (x6 : Vec F S256x1 .f32) (x7 : Vec F S1x1x2048 .f32) (x8 : Vec F S1x1x2048 .f32) (x9 : Vec F S1x8x128x128 .f32) (x10 : Vec F S1x8x128x1 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare (wAcc (vS x4 x7 x8) (cS x1 x2 x3) k0_pay23) ∗ owns (c : Thread nD τ) arg13 fullShare (bAcc (cS x1 x2 x3) k0_pay24) ∗ owns (c : Thread nD τ) arg14 fullShare (lgAcc (dvS x9 (cS x1 x2 x3)) x4 k0_pay25 16) ∗ owns (c : Thread nD τ) arg15 fullShare (lbAcc (dvS x9 (cS x1 x2 x3)) k0_pay26 16) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_a_mix_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_a_mix_bwd_0_eq_skeleton]; unfold cc0_a_mix_bwd_0_skel
  simp only [k0_part25_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  set_option sl_exec.stopBefore "k0_part6_skel" in sl_exec (disch := first | sl_exact hc0)
  sl_unfold_run_names
  rw [store_all harg12 _ zero3, store_all harg13 _ zero2, store_all harg14 _ zero2, store_all harg15 _ zero2]
  icases HL0 with HM0
  icases HL1 with HM1
  icases HL2 with HM2
  icases HL5 with HM5
  icases HL6 with HM6
  icases HL7 with HM7
  icases HL8 with HM8
  icases HL9 with HM9
  sl_exec
  sl_step
  iapply Hk
  isplitl [HM0]
  · iexists _; isplitr; · ipureintro; exact harg1.read_unread _
    iexact HM0
  isplitl [HM1]
  · iexists _; isplitr; · ipureintro; exact harg2.read_unread _
    iexact HM1
  isplitl [HM2]
  · iexists _; isplitr; · ipureintro; exact harg3.read_unread _
    iexact HM2
  isplitl [HL0]
  · iexists _; isplitr; · ipureintro; exact harg4.read_unread _
    iexact HL0
  isplitl [HL1]
  · iexists _; isplitr; · ipureintro; exact harg5.read_unread _
    iexact HL1
  isplitl [HL2]
  · iexists _; isplitr; · ipureintro; exact harg6.read_unread _
    iexact HL2
  isplitl [HL3]
  · iexists _; isplitr; · ipureintro; exact harg7.read_unread _
    iexact HL3
  isplitl [HM5]
  · iexists _; isplitr; · ipureintro; exact harg8.read_unread _
    iexact HM5
  isplitl [H9]
  · iexists _; isplitr; · ipureintro; exact harg9.read_unread _
    iexact H9
  isplitl [H10]
  · iexists _; isplitr; · ipureintro; exact harg10.read_unread _
    iexact H10
  isplitl [HL5]
  · iexists _, _; isplitr; swap; · iexact HL5
    ipureintro; rfl
  isplitl [H12]
  · iexists _; isplitr; swap; · iexact H12
    ipureintro
    sl_unfold_run_names
    refine read_headsW _ (vS x4 x7 x8) (cS x1 x2 x3) (k0_pay23 (F := F)) _ _ _ _ _ _ _ _ _ ?_ ?_ ?_ ?_ ?_ ?_ ?_ ?_
    · exact (hdW_7 _ _ _ _ _).trans (by rw [readAt_cut harg16 (vS x4 x7 x8) 0 7 rfl (by decide) (by decide), readAt_cut harg19 (cS x1 x2 x3) 0 7 rfl (by decide) (by decide), readAt_cut harg16 (vS x4 x7 x8) 1 7 rfl (by decide) (by decide), readAt_cut harg19 (cS x1 x2 x3) 1 7 rfl (by decide) (by decide), readAt_cutG _ 7 rfl (by decide), harg12.read_unread])
    · exact (hdW_6 _ _ _ _ _).trans (by rw [readAt_cut harg16 (vS x4 x7 x8) 0 6 rfl (by decide) (by decide), readAt_cut harg19 (cS x1 x2 x3) 0 6 rfl (by decide) (by decide), readAt_cut harg16 (vS x4 x7 x8) 1 6 rfl (by decide) (by decide), readAt_cut harg19 (cS x1 x2 x3) 1 6 rfl (by decide) (by decide), readAt_cutG _ 6 rfl (by decide), harg12.read_unread])
    · exact (hdW_5 _ _ _ _ _).trans (by rw [readAt_cut harg16 (vS x4 x7 x8) 0 5 rfl (by decide) (by decide), readAt_cut harg19 (cS x1 x2 x3) 0 5 rfl (by decide) (by decide), readAt_cut harg16 (vS x4 x7 x8) 1 5 rfl (by decide) (by decide), readAt_cut harg19 (cS x1 x2 x3) 1 5 rfl (by decide) (by decide), readAt_cutG _ 5 rfl (by decide), harg12.read_unread])
    · exact (hdW_4 _ _ _ _ _).trans (by rw [readAt_cut harg16 (vS x4 x7 x8) 0 4 rfl (by decide) (by decide), readAt_cut harg19 (cS x1 x2 x3) 0 4 rfl (by decide) (by decide), readAt_cut harg16 (vS x4 x7 x8) 1 4 rfl (by decide) (by decide), readAt_cut harg19 (cS x1 x2 x3) 1 4 rfl (by decide) (by decide), readAt_cutG _ 4 rfl (by decide), harg12.read_unread])
    · exact (hdW_3 _ _ _ _ _).trans (by rw [readAt_cut harg16 (vS x4 x7 x8) 0 3 rfl (by decide) (by decide), readAt_cut harg19 (cS x1 x2 x3) 0 3 rfl (by decide) (by decide), readAt_cut harg16 (vS x4 x7 x8) 1 3 rfl (by decide) (by decide), readAt_cut harg19 (cS x1 x2 x3) 1 3 rfl (by decide) (by decide), readAt_cutG _ 3 rfl (by decide), harg12.read_unread])
    · exact (hdW_2 _ _ _ _ _).trans (by rw [readAt_cut harg16 (vS x4 x7 x8) 0 2 rfl (by decide) (by decide), readAt_cut harg19 (cS x1 x2 x3) 0 2 rfl (by decide) (by decide), readAt_cut harg16 (vS x4 x7 x8) 1 2 rfl (by decide) (by decide), readAt_cut harg19 (cS x1 x2 x3) 1 2 rfl (by decide) (by decide), readAt_cutG _ 2 rfl (by decide), harg12.read_unread])
    · exact (hdW_1 _ _ _ _ _).trans (by rw [readAt_cut harg16 (vS x4 x7 x8) 0 1 rfl (by decide) (by decide), readAt_cut harg19 (cS x1 x2 x3) 0 1 rfl (by decide) (by decide), readAt_cut harg16 (vS x4 x7 x8) 1 1 rfl (by decide) (by decide), readAt_cut harg19 (cS x1 x2 x3) 1 1 rfl (by decide) (by decide), readAt_cutG _ 1 rfl (by decide), harg12.read_unread])
    · exact (hdW_0 _ _ _ _ _).trans (by rw [readAt_cut harg16 (vS x4 x7 x8) 0 0 rfl (by decide) (by decide), readAt_cut harg19 (cS x1 x2 x3) 0 0 rfl (by decide) (by decide), readAt_cut harg16 (vS x4 x7 x8) 1 0 rfl (by decide) (by decide), readAt_cut harg19 (cS x1 x2 x3) 1 0 rfl (by decide) (by decide), readAt_cutG _ 0 rfl (by decide), harg12.read_unread])
  isplitl [H13]
  · iexists _; isplitr; swap; · iexact H13
    ipureintro
    sl_unfold_run_names
    refine read_headsB _ (cS x1 x2 x3) (k0_pay24 (F := F)) _ _ _ _ _ _ _ _ _ ?_ ?_ ?_ ?_ ?_ ?_ ?_ ?_
    · exact (hdB_7 _ _ _).trans (by rw [readAt_cut harg19 (cS x1 x2 x3) 0 7 rfl (by decide) (by decide), readAt_cut harg19 (cS x1 x2 x3) 1 7 rfl (by decide) (by decide), readAt_cutB _ 7 rfl (by decide), harg13.read_unread])
    · exact (hdB_6 _ _ _).trans (by rw [readAt_cut harg19 (cS x1 x2 x3) 0 6 rfl (by decide) (by decide), readAt_cut harg19 (cS x1 x2 x3) 1 6 rfl (by decide) (by decide), readAt_cutB _ 6 rfl (by decide), harg13.read_unread])
    · exact (hdB_5 _ _ _).trans (by rw [readAt_cut harg19 (cS x1 x2 x3) 0 5 rfl (by decide) (by decide), readAt_cut harg19 (cS x1 x2 x3) 1 5 rfl (by decide) (by decide), readAt_cutB _ 5 rfl (by decide), harg13.read_unread])
    · exact (hdB_4 _ _ _).trans (by rw [readAt_cut harg19 (cS x1 x2 x3) 0 4 rfl (by decide) (by decide), readAt_cut harg19 (cS x1 x2 x3) 1 4 rfl (by decide) (by decide), readAt_cutB _ 4 rfl (by decide), harg13.read_unread])
    · exact (hdB_3 _ _ _).trans (by rw [readAt_cut harg19 (cS x1 x2 x3) 0 3 rfl (by decide) (by decide), readAt_cut harg19 (cS x1 x2 x3) 1 3 rfl (by decide) (by decide), readAt_cutB _ 3 rfl (by decide), harg13.read_unread])
    · exact (hdB_2 _ _ _).trans (by rw [readAt_cut harg19 (cS x1 x2 x3) 0 2 rfl (by decide) (by decide), readAt_cut harg19 (cS x1 x2 x3) 1 2 rfl (by decide) (by decide), readAt_cutB _ 2 rfl (by decide), harg13.read_unread])
    · exact (hdB_1 _ _ _).trans (by rw [readAt_cut harg19 (cS x1 x2 x3) 0 1 rfl (by decide) (by decide), readAt_cut harg19 (cS x1 x2 x3) 1 1 rfl (by decide) (by decide), readAt_cutB _ 1 rfl (by decide), harg13.read_unread])
    · exact (hdB_0 _ _ _).trans (by rw [readAt_cut harg19 (cS x1 x2 x3) 0 0 rfl (by decide) (by decide), readAt_cut harg19 (cS x1 x2 x3) 1 0 rfl (by decide) (by decide), readAt_cutB _ 0 rfl (by decide), harg13.read_unread])
  isplitl [HL6]
  · iexists _; isplitr; swap; · iexact HL6
    ipureintro
    sl_unfold_run_names
    rw [harg14.read_unread, harg14.read_unread]
    refine congrArg (fun d => lgAcc d x4 (k0_pay25 (F := F)) 16) ?_
    refine read_blocksV _ x9 (cS x1 x2 x3) _ _ _ _ _ _ _ _ _ _ _ _ _ _ _ _ ?_ ?_ ?_ ?_ ?_ ?_ ?_ ?_ ?_ ?_ ?_ ?_ ?_ ?_ ?_ ?_
    · exact (hdV_1_7 _ _).trans (by rw [readAt_cutW harg9 x9 7 rfl (by decide), readAt_cut harg19 (cS x1 x2 x3) 1 7 rfl (by decide) (by decide)])
    · exact (hdV_0_7 _ _).trans (by rw [readAt_cutW harg9 x9 7 rfl (by decide), readAt_cut harg19 (cS x1 x2 x3) 0 7 rfl (by decide) (by decide)])
    · exact (hdV_1_6 _ _).trans (by rw [readAt_cutW harg9 x9 6 rfl (by decide), readAt_cut harg19 (cS x1 x2 x3) 1 6 rfl (by decide) (by decide)])
    · exact (hdV_0_6 _ _).trans (by rw [readAt_cutW harg9 x9 6 rfl (by decide), readAt_cut harg19 (cS x1 x2 x3) 0 6 rfl (by decide) (by decide)])
    · exact (hdV_1_5 _ _).trans (by rw [readAt_cutW harg9 x9 5 rfl (by decide), readAt_cut harg19 (cS x1 x2 x3) 1 5 rfl (by decide) (by decide)])
    · exact (hdV_0_5 _ _).trans (by rw [readAt_cutW harg9 x9 5 rfl (by decide), readAt_cut harg19 (cS x1 x2 x3) 0 5 rfl (by decide) (by decide)])
    · exact (hdV_1_4 _ _).trans (by rw [readAt_cutW harg9 x9 4 rfl (by decide), readAt_cut harg19 (cS x1 x2 x3) 1 4 rfl (by decide) (by decide)])
    · exact (hdV_0_4 _ _).trans (by rw [readAt_cutW harg9 x9 4 rfl (by decide), readAt_cut harg19 (cS x1 x2 x3) 0 4 rfl (by decide) (by decide)])
    · exact (hdV_1_3 _ _).trans (by rw [readAt_cutW harg9 x9 3 rfl (by decide), readAt_cut harg19 (cS x1 x2 x3) 1 3 rfl (by decide) (by decide)])
    · exact (hdV_0_3 _ _).trans (by rw [readAt_cutW harg9 x9 3 rfl (by decide), readAt_cut harg19 (cS x1 x2 x3) 0 3 rfl (by decide) (by decide)])
    · exact (hdV_1_2 _ _).trans (by rw [readAt_cutW harg9 x9 2 rfl (by decide), readAt_cut harg19 (cS x1 x2 x3) 1 2 rfl (by decide) (by decide)])
    · exact (hdV_0_2 _ _).trans (by rw [readAt_cutW harg9 x9 2 rfl (by decide), readAt_cut harg19 (cS x1 x2 x3) 0 2 rfl (by decide) (by decide)])
    · exact (hdV_1_1 _ _).trans (by rw [readAt_cutW harg9 x9 1 rfl (by decide), readAt_cut harg19 (cS x1 x2 x3) 1 1 rfl (by decide) (by decide)])
    · exact (hdV_0_1 _ _).trans (by rw [readAt_cutW harg9 x9 1 rfl (by decide), readAt_cut harg19 (cS x1 x2 x3) 0 1 rfl (by decide) (by decide)])
    · exact (hdV_1_0 _ _).trans (by rw [readAt_cutW harg9 x9 0 rfl (by decide), readAt_cut harg19 (cS x1 x2 x3) 1 0 rfl (by decide) (by decide)])
    · exact (hdV_0_0 _ _).trans (by rw [readAt_cutW harg9 x9 0 rfl (by decide), readAt_cut harg19 (cS x1 x2 x3) 0 0 rfl (by decide) (by decide)])
  isplitl [HL7]
  · iexists _; isplitr; swap; · iexact HL7
    ipureintro
    sl_unfold_run_names
    rw [harg15.read_unread, harg15.read_unread]
    refine congrArg (fun d => lbAcc d (k0_pay26 (F := F)) 16) ?_
    refine read_blocksV _ x9 (cS x1 x2 x3) _ _ _ _ _ _ _ _ _ _ _ _ _ _ _ _ ?_ ?_ ?_ ?_ ?_ ?_ ?_ ?_ ?_ ?_ ?_ ?_ ?_ ?_ ?_ ?_
    · exact (hdV_1_7 _ _).trans (by rw [readAt_cutW harg9 x9 7 rfl (by decide), readAt_cut harg19 (cS x1 x2 x3) 1 7 rfl (by decide) (by decide)])
    · exact (hdV_0_7 _ _).trans (by rw [readAt_cutW harg9 x9 7 rfl (by decide), readAt_cut harg19 (cS x1 x2 x3) 0 7 rfl (by decide) (by decide)])
    · exact (hdV_1_6 _ _).trans (by rw [readAt_cutW harg9 x9 6 rfl (by decide), readAt_cut harg19 (cS x1 x2 x3) 1 6 rfl (by decide) (by decide)])
    · exact (hdV_0_6 _ _).trans (by rw [readAt_cutW harg9 x9 6 rfl (by decide), readAt_cut harg19 (cS x1 x2 x3) 0 6 rfl (by decide) (by decide)])
    · exact (hdV_1_5 _ _).trans (by rw [readAt_cutW harg9 x9 5 rfl (by decide), readAt_cut harg19 (cS x1 x2 x3) 1 5 rfl (by decide) (by decide)])
    · exact (hdV_0_5 _ _).trans (by rw [readAt_cutW harg9 x9 5 rfl (by decide), readAt_cut harg19 (cS x1 x2 x3) 0 5 rfl (by decide) (by decide)])
    · exact (hdV_1_4 _ _).trans (by rw [readAt_cutW harg9 x9 4 rfl (by decide), readAt_cut harg19 (cS x1 x2 x3) 1 4 rfl (by decide) (by decide)])
    · exact (hdV_0_4 _ _).trans (by rw [readAt_cutW harg9 x9 4 rfl (by decide), readAt_cut harg19 (cS x1 x2 x3) 0 4 rfl (by decide) (by decide)])
    · exact (hdV_1_3 _ _).trans (by rw [readAt_cutW harg9 x9 3 rfl (by decide), readAt_cut harg19 (cS x1 x2 x3) 1 3 rfl (by decide) (by decide)])
    · exact (hdV_0_3 _ _).trans (by rw [readAt_cutW harg9 x9 3 rfl (by decide), readAt_cut harg19 (cS x1 x2 x3) 0 3 rfl (by decide) (by decide)])
    · exact (hdV_1_2 _ _).trans (by rw [readAt_cutW harg9 x9 2 rfl (by decide), readAt_cut harg19 (cS x1 x2 x3) 1 2 rfl (by decide) (by decide)])
    · exact (hdV_0_2 _ _).trans (by rw [readAt_cutW harg9 x9 2 rfl (by decide), readAt_cut harg19 (cS x1 x2 x3) 0 2 rfl (by decide) (by decide)])
    · exact (hdV_1_1 _ _).trans (by rw [readAt_cutW harg9 x9 1 rfl (by decide), readAt_cut harg19 (cS x1 x2 x3) 1 1 rfl (by decide) (by decide)])
    · exact (hdV_0_1 _ _).trans (by rw [readAt_cutW harg9 x9 1 rfl (by decide), readAt_cut harg19 (cS x1 x2 x3) 0 1 rfl (by decide) (by decide)])
    · exact (hdV_1_0 _ _).trans (by rw [readAt_cutW harg9 x9 0 rfl (by decide), readAt_cut harg19 (cS x1 x2 x3) 1 0 rfl (by decide) (by decide)])
    · exact (hdV_0_0 _ _).trans (by rw [readAt_cutW harg9 x9 0 rfl (by decide), readAt_cut harg19 (cS x1 x2 x3) 0 0 rfl (by decide) (by decide)])
  isplitl [HM6]
  · iexists _, _; isplitr; swap; · iexact HM6
    ipureintro; rfl
  isplitl [HM7]
  · iexists _, _; isplitr; swap; · iexact HM7
    ipureintro; rfl
  isplitl [HM8]
  · iexists _, _; isplitr; swap; · iexact HM8
    ipureintro; rfl
  isplitl [HM9]
  · iexists _, _; isplitr; swap; · iexact HM9
    ipureintro; rfl
  iexists _, _; isplitr; swap; · iexact HL4
  ipureintro; rfl

end Cert.Kernel3Ideal.Mix

end
-- ==== Proof.MixRunB.lean ====
/-
  The body of `a_mix_bwd' on whole staging buffers, past the first grid point: it adds to the running gradients it finds.
-/
module

public import proofs.«01_k».proof.Proof.MixPieces

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body there, with what it leaves in the four running gradients. -/
theorem runB (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole)
    (hc0 : ¬onFirst i) (x1 : Vec F S256x2048 .bf16) (x2 : Vec F S256x2048 .bf16) (x3 : Vec F S256x2048 .bf16) (x4 : Vec F S256x2048 .bf16) (x5 : Vec F S256x2048 .bf16) (x6 : Vec F S256x1 .f32) (x7 : Vec F S1x1x2048 .f32) (x8 : Vec F S1x1x2048 .f32) (x9 : Vec F S1x8x128x128 .f32) (x10 : Vec F S1x8x128x1 .f32) (o12 : Vec F S8x128x128 .f32) (o13 : Vec F S8x128 .f32) (o14 : Vec F S1x2048 .f32) (o15 : Vec F S1x2048 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare o12 ∗ owns (c : Thread nD τ) arg13 fullShare o13 ∗ owns (c : Thread nD τ) arg14 fullShare o14 ∗ owns (c : Thread nD τ) arg15 fullShare o15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare (wAcc (vS x4 x7 x8) (cS x1 x2 x3) o12) ∗ owns (c : Thread nD τ) arg13 fullShare (bAcc (cS x1 x2 x3) o13) ∗ owns (c : Thread nD τ) arg14 fullShare (lgAcc (dvS x9 (cS x1 x2 x3)) x4 o14 16) ∗ owns (c : Thread nD τ) arg15 fullShare (lbAcc (dvS x9 (cS x1 x2 x3)) o15 16) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_a_mix_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_a_mix_bwd_0_eq_skeleton]; unfold cc0_a_mix_bwd_0_skel
  simp only [k0_part25_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
  sl_exec (disch := first | sl_exact hc0)
  sl_step
  iapply Hk
  isplitl [HL0]
  · iexists _; isplitr; · ipureintro; exact harg1.read_unread _
    iexact HL0
  isplitl [HL1]
  · iexists _; isplitr; · ipureintro; exact harg2.read_unread _
    iexact HL1
  isplitl [HL2]
  · iexists _; isplitr; · ipureintro; exact harg3.read_unread _
    iexact HL2
  isplitl [HL10]
  · iexists _; isplitr; · ipureintro; exact harg4.read_unread _
    iexact HL10
  isplitl [HL11]
  · iexists _; isplitr; · ipureintro; exact harg5.read_unread _
    iexact HL11
  isplitl [HL12]
  · iexists _; isplitr; · ipureintro; exact harg6.read_unread _
    iexact HL12
  isplitl [HL13]
  · iexists _; isplitr; · ipureintro; exact harg7.read_unread _
    iexact HL13
  isplitl [HL5]
  · iexists _; isplitr; · ipureintro; exact harg8.read_unread _
    iexact HL5
  isplitl [H9]
  · iexists _; isplitr; · ipureintro; exact harg9.read_unread _
    iexact H9
  isplitl [H10]
  · iexists _; isplitr; · ipureintro; exact harg10.read_unread _
    iexact H10
  isplitl [HL15]
  · iexists _, _; isplitr; swap; · iexact HL15
    ipureintro; rfl
  isplitl [H12]
  · iexists _; isplitr; swap; · iexact H12
    ipureintro
    sl_unfold_run_names
    refine read_headsW _ (vS x4 x7 x8) (cS x1 x2 x3) o12 _ _ _ _ _ _ _ _ _ ?_ ?_ ?_ ?_ ?_ ?_ ?_ ?_
    · exact (hdW_7 _ _ _ _ _).trans (by rw [readAt_cut harg16 (vS x4 x7 x8) 0 7 rfl (by decide) (by decide), readAt_cut harg19 (cS x1 x2 x3) 0 7 rfl (by decide) (by decide), readAt_cut harg16 (vS x4 x7 x8) 1 7 rfl (by decide) (by decide), readAt_cut harg19 (cS x1 x2 x3) 1 7 rfl (by decide) (by decide), readAt_cutG _ 7 rfl (by decide), harg12.read_unread])
    · exact (hdW_6 _ _ _ _ _).trans (by rw [readAt_cut harg16 (vS x4 x7 x8) 0 6 rfl (by decide) (by decide), readAt_cut harg19 (cS x1 x2 x3) 0 6 rfl (by decide) (by decide), readAt_cut harg16 (vS x4 x7 x8) 1 6 rfl (by decide) (by decide), readAt_cut harg19 (cS x1 x2 x3) 1 6 rfl (by decide) (by decide), readAt_cutG _ 6 rfl (by decide), harg12.read_unread])
    · exact (hdW_5 _ _ _ _ _).trans (by rw [readAt_cut harg16 (vS x4 x7 x8) 0 5 rfl (by decide) (by decide), readAt_cut harg19 (cS x1 x2 x3) 0 5 rfl (by decide) (by decide), readAt_cut harg16 (vS x4 x7 x8) 1 5 rfl (by decide) (by decide), readAt_cut harg19 (cS x1 x2 x3) 1 5 rfl (by decide) (by decide), readAt_cutG _ 5 rfl (by decide), harg12.read_unread])
    · exact (hdW_4 _ _ _ _ _).trans (by rw [readAt_cut harg16 (vS x4 x7 x8) 0 4 rfl (by decide) (by decide), readAt_cut harg19 (cS x1 x2 x3) 0 4 rfl (by decide) (by decide), readAt_cut harg16 (vS x4 x7 x8) 1 4 rfl (by decide) (by decide), readAt_cut harg19 (cS x1 x2 x3) 1 4 rfl (by decide) (by decide), readAt_cutG _ 4 rfl (by decide), harg12.read_unread])
    · exact (hdW_3 _ _ _ _ _).trans (by rw [readAt_cut harg16 (vS x4 x7 x8) 0 3 rfl (by decide) (by decide), readAt_cut harg19 (cS x1 x2 x3) 0 3 rfl (by decide) (by decide), readAt_cut harg16 (vS x4 x7 x8) 1 3 rfl (by decide) (by decide), readAt_cut harg19 (cS x1 x2 x3) 1 3 rfl (by decide) (by decide), readAt_cutG _ 3 rfl (by decide), harg12.read_unread])
    · exact (hdW_2 _ _ _ _ _).trans (by rw [readAt_cut harg16 (vS x4 x7 x8) 0 2 rfl (by decide) (by decide), readAt_cut harg19 (cS x1 x2 x3) 0 2 rfl (by decide) (by decide), readAt_cut harg16 (vS x4 x7 x8) 1 2 rfl (by decide) (by decide), readAt_cut harg19 (cS x1 x2 x3) 1 2 rfl (by decide) (by decide), readAt_cutG _ 2 rfl (by decide), harg12.read_unread])
    · exact (hdW_1 _ _ _ _ _).trans (by rw [readAt_cut harg16 (vS x4 x7 x8) 0 1 rfl (by decide) (by decide), readAt_cut harg19 (cS x1 x2 x3) 0 1 rfl (by decide) (by decide), readAt_cut harg16 (vS x4 x7 x8) 1 1 rfl (by decide) (by decide), readAt_cut harg19 (cS x1 x2 x3) 1 1 rfl (by decide) (by decide), readAt_cutG _ 1 rfl (by decide), harg12.read_unread])
    · exact (hdW_0 _ _ _ _ _).trans (by rw [readAt_cut harg16 (vS x4 x7 x8) 0 0 rfl (by decide) (by decide), readAt_cut harg19 (cS x1 x2 x3) 0 0 rfl (by decide) (by decide), readAt_cut harg16 (vS x4 x7 x8) 1 0 rfl (by decide) (by decide), readAt_cut harg19 (cS x1 x2 x3) 1 0 rfl (by decide) (by decide), readAt_cutG _ 0 rfl (by decide), harg12.read_unread])
  isplitl [H13]
  · iexists _; isplitr; swap; · iexact H13
    ipureintro
    sl_unfold_run_names
    refine read_headsB _ (cS x1 x2 x3) o13 _ _ _ _ _ _ _ _ _ ?_ ?_ ?_ ?_ ?_ ?_ ?_ ?_
    · exact (hdB_7 _ _ _).trans (by rw [readAt_cut harg19 (cS x1 x2 x3) 0 7 rfl (by decide) (by decide), readAt_cut harg19 (cS x1 x2 x3) 1 7 rfl (by decide) (by decide), readAt_cutB _ 7 rfl (by decide), harg13.read_unread])
    · exact (hdB_6 _ _ _).trans (by rw [readAt_cut harg19 (cS x1 x2 x3) 0 6 rfl (by decide) (by decide), readAt_cut harg19 (cS x1 x2 x3) 1 6 rfl (by decide) (by decide), readAt_cutB _ 6 rfl (by decide), harg13.read_unread])
    · exact (hdB_5 _ _ _).trans (by rw [readAt_cut harg19 (cS x1 x2 x3) 0 5 rfl (by decide) (by decide), readAt_cut harg19 (cS x1 x2 x3) 1 5 rfl (by decide) (by decide), readAt_cutB _ 5 rfl (by decide), harg13.read_unread])
    · exact (hdB_4 _ _ _).trans (by rw [readAt_cut harg19 (cS x1 x2 x3) 0 4 rfl (by decide) (by decide), readAt_cut harg19 (cS x1 x2 x3) 1 4 rfl (by decide) (by decide), readAt_cutB _ 4 rfl (by decide), harg13.read_unread])
    · exact (hdB_3 _ _ _).trans (by rw [readAt_cut harg19 (cS x1 x2 x3) 0 3 rfl (by decide) (by decide), readAt_cut harg19 (cS x1 x2 x3) 1 3 rfl (by decide) (by decide), readAt_cutB _ 3 rfl (by decide), harg13.read_unread])
    · exact (hdB_2 _ _ _).trans (by rw [readAt_cut harg19 (cS x1 x2 x3) 0 2 rfl (by decide) (by decide), readAt_cut harg19 (cS x1 x2 x3) 1 2 rfl (by decide) (by decide), readAt_cutB _ 2 rfl (by decide), harg13.read_unread])
    · exact (hdB_1 _ _ _).trans (by rw [readAt_cut harg19 (cS x1 x2 x3) 0 1 rfl (by decide) (by decide), readAt_cut harg19 (cS x1 x2 x3) 1 1 rfl (by decide) (by decide), readAt_cutB _ 1 rfl (by decide), harg13.read_unread])
    · exact (hdB_0 _ _ _).trans (by rw [readAt_cut harg19 (cS x1 x2 x3) 0 0 rfl (by decide) (by decide), readAt_cut harg19 (cS x1 x2 x3) 1 0 rfl (by decide) (by decide), readAt_cutB _ 0 rfl (by decide), harg13.read_unread])
  isplitl [HL16]
  · iexists _; isplitr; swap; · iexact HL16
    ipureintro
    rw [harg14.read_unread, harg14.read_unread]
    refine congrArg (fun d => lgAcc d x4 o14 16) ?_
    sl_unfold_run_names
    refine read_blocksV _ x9 (cS x1 x2 x3) _ _ _ _ _ _ _ _ _ _ _ _ _ _ _ _ ?_ ?_ ?_ ?_ ?_ ?_ ?_ ?_ ?_ ?_ ?_ ?_ ?_ ?_ ?_ ?_
    · exact (hdV_1_7 _ _).trans (by rw [readAt_cutW harg9 x9 7 rfl (by decide), readAt_cut harg19 (cS x1 x2 x3) 1 7 rfl (by decide) (by decide)])
    · exact (hdV_0_7 _ _).trans (by rw [readAt_cutW harg9 x9 7 rfl (by decide), readAt_cut harg19 (cS x1 x2 x3) 0 7 rfl (by decide) (by decide)])
    · exact (hdV_1_6 _ _).trans (by rw [readAt_cutW harg9 x9 6 rfl (by decide), readAt_cut harg19 (cS x1 x2 x3) 1 6 rfl (by decide) (by decide)])
    · exact (hdV_0_6 _ _).trans (by rw [readAt_cutW harg9 x9 6 rfl (by decide), readAt_cut harg19 (cS x1 x2 x3) 0 6 rfl (by decide) (by decide)])
    · exact (hdV_1_5 _ _).trans (by rw [readAt_cutW harg9 x9 5 rfl (by decide), readAt_cut harg19 (cS x1 x2 x3) 1 5 rfl (by decide) (by decide)])
    · exact (hdV_0_5 _ _).trans (by rw [readAt_cutW harg9 x9 5 rfl (by decide), readAt_cut harg19 (cS x1 x2 x3) 0 5 rfl (by decide) (by decide)])
    · exact (hdV_1_4 _ _).trans (by rw [readAt_cutW harg9 x9 4 rfl (by decide), readAt_cut harg19 (cS x1 x2 x3) 1 4 rfl (by decide) (by decide)])
    · exact (hdV_0_4 _ _).trans (by rw [readAt_cutW harg9 x9 4 rfl (by decide), readAt_cut harg19 (cS x1 x2 x3) 0 4 rfl (by decide) (by decide)])
    · exact (hdV_1_3 _ _).trans (by rw [readAt_cutW harg9 x9 3 rfl (by decide), readAt_cut harg19 (cS x1 x2 x3) 1 3 rfl (by decide) (by decide)])
    · exact (hdV_0_3 _ _).trans (by rw [readAt_cutW harg9 x9 3 rfl (by decide), readAt_cut harg19 (cS x1 x2 x3) 0 3 rfl (by decide) (by decide)])
    · exact (hdV_1_2 _ _).trans (by rw [readAt_cutW harg9 x9 2 rfl (by decide), readAt_cut harg19 (cS x1 x2 x3) 1 2 rfl (by decide) (by decide)])
    · exact (hdV_0_2 _ _).trans (by rw [readAt_cutW harg9 x9 2 rfl (by decide), readAt_cut harg19 (cS x1 x2 x3) 0 2 rfl (by decide) (by decide)])
    · exact (hdV_1_1 _ _).trans (by rw [readAt_cutW harg9 x9 1 rfl (by decide), readAt_cut harg19 (cS x1 x2 x3) 1 1 rfl (by decide) (by decide)])
    · exact (hdV_0_1 _ _).trans (by rw [readAt_cutW harg9 x9 1 rfl (by decide), readAt_cut harg19 (cS x1 x2 x3) 0 1 rfl (by decide) (by decide)])
    · exact (hdV_1_0 _ _).trans (by rw [readAt_cutW harg9 x9 0 rfl (by decide), readAt_cut harg19 (cS x1 x2 x3) 1 0 rfl (by decide) (by decide)])
    · exact (hdV_0_0 _ _).trans (by rw [readAt_cutW harg9 x9 0 rfl (by decide), readAt_cut harg19 (cS x1 x2 x3) 0 0 rfl (by decide) (by decide)])
  isplitl [HL17]
  · iexists _; isplitr; swap; · iexact HL17
    ipureintro
    rw [harg15.read_unread, harg15.read_unread]
    refine congrArg (fun d => lbAcc d o15 16) ?_
    sl_unfold_run_names
    refine read_blocksV _ x9 (cS x1 x2 x3) _ _ _ _ _ _ _ _ _ _ _ _ _ _ _ _ ?_ ?_ ?_ ?_ ?_ ?_ ?_ ?_ ?_ ?_ ?_ ?_ ?_ ?_ ?_ ?_
    · exact (hdV_1_7 _ _).trans (by rw [readAt_cutW harg9 x9 7 rfl (by decide), readAt_cut harg19 (cS x1 x2 x3) 1 7 rfl (by decide) (by decide)])
    · exact (hdV_0_7 _ _).trans (by rw [readAt_cutW harg9 x9 7 rfl (by decide), readAt_cut harg19 (cS x1 x2 x3) 0 7 rfl (by decide) (by decide)])
    · exact (hdV_1_6 _ _).trans (by rw [readAt_cutW harg9 x9 6 rfl (by decide), readAt_cut harg19 (cS x1 x2 x3) 1 6 rfl (by decide) (by decide)])
    · exact (hdV_0_6 _ _).trans (by rw [readAt_cutW harg9 x9 6 rfl (by decide), readAt_cut harg19 (cS x1 x2 x3) 0 6 rfl (by decide) (by decide)])
    · exact (hdV_1_5 _ _).trans (by rw [readAt_cutW harg9 x9 5 rfl (by decide), readAt_cut harg19 (cS x1 x2 x3) 1 5 rfl (by decide) (by decide)])
    · exact (hdV_0_5 _ _).trans (by rw [readAt_cutW harg9 x9 5 rfl (by decide), readAt_cut harg19 (cS x1 x2 x3) 0 5 rfl (by decide) (by decide)])
    · exact (hdV_1_4 _ _).trans (by rw [readAt_cutW harg9 x9 4 rfl (by decide), readAt_cut harg19 (cS x1 x2 x3) 1 4 rfl (by decide) (by decide)])
    · exact (hdV_0_4 _ _).trans (by rw [readAt_cutW harg9 x9 4 rfl (by decide), readAt_cut harg19 (cS x1 x2 x3) 0 4 rfl (by decide) (by decide)])
    · exact (hdV_1_3 _ _).trans (by rw [readAt_cutW harg9 x9 3 rfl (by decide), readAt_cut harg19 (cS x1 x2 x3) 1 3 rfl (by decide) (by decide)])
    · exact (hdV_0_3 _ _).trans (by rw [readAt_cutW harg9 x9 3 rfl (by decide), readAt_cut harg19 (cS x1 x2 x3) 0 3 rfl (by decide) (by decide)])
    · exact (hdV_1_2 _ _).trans (by rw [readAt_cutW harg9 x9 2 rfl (by decide), readAt_cut harg19 (cS x1 x2 x3) 1 2 rfl (by decide) (by decide)])
    · exact (hdV_0_2 _ _).trans (by rw [readAt_cutW harg9 x9 2 rfl (by decide), readAt_cut harg19 (cS x1 x2 x3) 0 2 rfl (by decide) (by decide)])
    · exact (hdV_1_1 _ _).trans (by rw [readAt_cutW harg9 x9 1 rfl (by decide), readAt_cut harg19 (cS x1 x2 x3) 1 1 rfl (by decide) (by decide)])
    · exact (hdV_0_1 _ _).trans (by rw [readAt_cutW harg9 x9 1 rfl (by decide), readAt_cut harg19 (cS x1 x2 x3) 0 1 rfl (by decide) (by decide)])
    · exact (hdV_1_0 _ _).trans (by rw [readAt_cutW harg9 x9 0 rfl (by decide), readAt_cut harg19 (cS x1 x2 x3) 1 0 rfl (by decide) (by decide)])
    · exact (hdV_0_0 _ _).trans (by rw [readAt_cutW harg9 x9 0 rfl (by decide), readAt_cut harg19 (cS x1 x2 x3) 0 0 rfl (by decide) (by decide)])
  isplitl [HL6]
  · iexists _, _; isplitr; swap; · iexact HL6
    ipureintro; rfl
  isplitl [HL7]
  · iexists _, _; isplitr; swap; · iexact HL7
    ipureintro; rfl
  isplitl [HL8]
  · iexists _, _; isplitr; swap; · iexact HL8
    ipureintro; rfl
  isplitl [HL9]
  · iexists _, _; isplitr; swap; · iexact HL9
    ipureintro; rfl
  iexists _, _; isplitr; swap; · iexact HL14
  ipureintro; rfl

end Cert.Kernel3Ideal.Mix

end
-- ==== Proof.MixFrame.lean ====
/-
  The launch of `a_mix_bwd': the running gradients point by point, the pipeline's data, the body at every point, the run,
  and the frame. The gradient of the projections (window 10) is left unnamed here; the four running gradients are named.
-/
module

public import proofs.«01_k».proof.Proof.MixRunA
public import proofs.«01_k».proof.Proof.MixRunB
public import Idealize.ShloMosaic.Lib.Claim

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running gradients -/

/-- The normalised values of the rows of point `t`, -/
def vAt (c : Dev nD) (t : Fin cfg0.N) : Vec F S256x2048 .bf16 := vS (iblk m c 3 t) (iblk m c 6 t) (iblk m c 7 t)
/-- and the cotangent of the gate there. -/
def cAt (c : Dev nD) (t : Fin cfg0.N) : Vec F S256x2048 .bf16 := cS (iblk m c 0 t) (iblk m c 1 t) (iblk m c 2 t)

/-- The gradient of the mixing matrices through point `n`, -/
def accW (c : Dev nD) : (n : ℕ) → n < cfg0.N → Vec F S8x128x128 .f32
  | 0, h => wAcc (vAt m c ⟨0, h⟩) (cAt m c ⟨0, h⟩) k0_pay23
  | n + 1, h => wAcc (vAt m c ⟨n + 1, h⟩) (cAt m c ⟨n + 1, h⟩) (accW c n (Nat.lt_of_succ_lt h))
/-- of the mixing biases, -/
def accB (c : Dev nD) : (n : ℕ) → n < cfg0.N → Vec F S8x128 .f32
  | 0, h => bAcc (cAt m c ⟨0, h⟩) k0_pay24
  | n + 1, h => bAcc (cAt m c ⟨n + 1, h⟩) (accB c n (Nat.lt_of_succ_lt h))
/-- of the normalisation's scale, -/
def accG (c : Dev nD) : (n : ℕ) → n < cfg0.N → Vec F S1x2048 .f32
  | 0, h => lgAcc (dvS (iblk m c 8 ⟨0, h⟩) (cAt m c ⟨0, h⟩)) (iblk m c 3 ⟨0, h⟩) k0_pay25 16
  | n + 1, h => lgAcc (dvS (iblk m c 8 ⟨n + 1, h⟩) (cAt m c ⟨n + 1, h⟩)) (iblk m c 3 ⟨n + 1, h⟩) (accG c n (Nat.lt_of_succ_lt h)) 16
/-- and of its shift. -/
def accS (c : Dev nD) : (n : ℕ) → n < cfg0.N → Vec F S1x2048 .f32
  | 0, h => lbAcc (dvS (iblk m c 8 ⟨0, h⟩) (cAt m c ⟨0, h⟩)) k0_pay26 16
  | n + 1, h => lbAcc (dvS (iblk m c 8 ⟨n + 1, h⟩) (cAt m c ⟨n + 1, h⟩)) (accS c n (Nat.lt_of_succ_lt h)) 16

theorem accW_first (c : Dev nD) (t : Fin cfg0.N) (h : t.val = 0) : accW m c t.val t.isLt = wAcc (vAt m c t) (cAt m c t) k0_pay23 := by
  obtain ⟨n, hn⟩ := t; obtain rfl : n = 0 := h; rfl
theorem accW_next (c : Dev nD) (t : Fin cfg0.N) (h : ¬t.val = 0) :
    accW m c t.val t.isLt = wAcc (vAt m c t) (cAt m c t) (accW m c (t.val - 1) (Nat.lt_of_le_of_lt (Nat.sub_le _ _) t.isLt)) := by
  obtain ⟨n, hn⟩ := t
  cases n with
  | zero => exact absurd rfl h
  | succ n => rfl
theorem accB_first (c : Dev nD) (t : Fin cfg0.N) (h : t.val = 0) : accB m c t.val t.isLt = bAcc (cAt m c t) k0_pay24 := by
  obtain ⟨n, hn⟩ := t; obtain rfl : n = 0 := h; rfl
theorem accB_next (c : Dev nD) (t : Fin cfg0.N) (h : ¬t.val = 0) :
    accB m c t.val t.isLt = bAcc (cAt m c t) (accB m c (t.val - 1) (Nat.lt_of_le_of_lt (Nat.sub_le _ _) t.isLt)) := by
  obtain ⟨n, hn⟩ := t
  cases n with
  | zero => exact absurd rfl h
  | succ n => rfl
theorem accG_first (c : Dev nD) (t : Fin cfg0.N) (h : t.val = 0) : accG m c t.val t.isLt = lgAcc (dvS (iblk m c 8 t) (cAt m c t)) (iblk m c 3 t) k0_pay25 16 := by
  obtain ⟨n, hn⟩ := t; obtain rfl : n = 0 := h; rfl
theorem accG_next (c : Dev nD) (t : Fin cfg0.N) (h : ¬t.val = 0) :
    accG m c t.val t.isLt = lgAcc (dvS (iblk m c 8 t) (cAt m c t)) (iblk m c 3 t) (accG m c (t.val - 1) (Nat.lt_of_le_of_lt (Nat.sub_le _ _) t.isLt)) 16 := by
  obtain ⟨n, hn⟩ := t
  cases n with
  | zero => exact absurd rfl h
  | succ n => rfl
theorem accS_first (c : Dev nD) (t : Fin cfg0.N) (h : t.val = 0) : accS m c t.val t.isLt = lbAcc (dvS (iblk m c 8 t) (cAt m c t)) k0_pay26 16 := by
  obtain ⟨n, hn⟩ := t; obtain rfl : n = 0 := h; rfl
theorem accS_next (c : Dev nD) (t : Fin cfg0.N) (h : ¬t.val = 0) :
    accS m c t.val t.isLt = lbAcc (dvS (iblk m c 8 t) (cAt m c t)) (accS m c (t.val - 1) (Nat.lt_of_le_of_lt (Nat.sub_le _ _) t.isLt)) 16 := by
  obtain ⟨n, hn⟩ := t
  cases n with
  | zero => exact absurd rfl h
  | succ n => rfl

/-! ## The pipeline's data -/

/-- The window left unnamed: the gradient of the projections. -/
def unnamed10 : Fin 15 → Bool := fun w => w.val == 10

/-- The arrays as the region finds them, each input block left in place, the running gradients as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed 10 t
    | ⟨11, _⟩ => accW m c t.val t.isLt
    | ⟨12, _⟩ => accB m c t.val t.isLt
    | ⟨13, _⟩ => accG m c t.val t.isLt
    | ⟨14, _⟩ => accS m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_11 (c : Dev nD) (t : Fin cfg0.N) : (dats m 0 c).after 11 t = accW m c t.val t.isLt := by dsimp only [dats]
theorem after_12 (c : Dev nD) (t : Fin cfg0.N) : (dats m 0 c).after 12 t = accB m c t.val t.isLt := by dsimp only [dats]
theorem after_13 (c : Dev nD) (t : Fin cfg0.N) : (dats m 0 c).after 13 t = accG m c t.val t.isLt := by dsimp only [dats]
theorem after_14 (c : Dev nD) (t : Fin cfg0.N) : (dats m 0 c).after 14 t = accS m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_11 (c : Dev nD) (t : Fin cfg0.N) (h0 : ¬t.val = 0) (d) :
    (dats m 0 c).before 11 t d = accW m c (t.val - 1) (Nat.lt_of_le_of_lt (Nat.sub_le _ _) t.isLt) := by
  have hN : t.val < 16 := lt_of_lt_of_eq t.isLt (show cfg0.N = 16 from N_0)
  rw [Dat.before_out_kept _ 11 rfl t h0 (Bool.eq_false_iff.mpr fun h => by have := (flush0_11 _).mp h; dsimp only at this; omega)
    (fun _ => rfl) (fun _ _ => rfl)]
  dsimp only [dats]
theorem before_12 (c : Dev nD) (t : Fin cfg0.N) (h0 : ¬t.val = 0) (d) :
    (dats m 0 c).before 12 t d = accB m c (t.val - 1) (Nat.lt_of_le_of_lt (Nat.sub_le _ _) t.isLt) := by
  have hN : t.val < 16 := lt_of_lt_of_eq t.isLt (show cfg0.N = 16 from N_0)
  rw [Dat.before_out_kept _ 12 rfl t h0 (Bool.eq_false_iff.mpr fun h => by have := (flush0_12 _).mp h; dsimp only at this; omega)
    (fun _ => rfl) (fun _ _ => rfl)]
  dsimp only [dats]
theorem before_13 (c : Dev nD) (t : Fin cfg0.N) (h0 : ¬t.val = 0) (d) :
    (dats m 0 c).before 13 t d = accG m c (t.val - 1) (Nat.lt_of_le_of_lt (Nat.sub_le _ _) t.isLt) := by
  have hN : t.val < 16 := lt_of_lt_of_eq t.isLt (show cfg0.N = 16 from N_0)
  rw [Dat.before_out_kept _ 13 rfl t h0 (Bool.eq_false_iff.mpr fun h => by have := (flush0_13 _).mp h; dsimp only at this; omega)
    (fun _ => rfl) (fun _ _ => rfl)]
  dsimp only [dats]
theorem before_14 (c : Dev nD) (t : Fin cfg0.N) (h0 : ¬t.val = 0) (d) :
    (dats m 0 c).before 14 t d = accS m c (t.val - 1) (Nat.lt_of_le_of_lt (Nat.sub_le _ _) t.isLt) := by
  have hN : t.val < 16 := lt_of_lt_of_eq t.isLt (show cfg0.N = 16 from N_0)
  rw [Dat.before_out_kept _ 14 rfl t h0 (Bool.eq_false_iff.mpr fun h => by have := (flush0_14 _).mp h; dsimp only at this; omega)
    (fun _ => rfl) (fun _ _ => rfl)]
  dsimp only [dats]

/-! ## The body at a point -/

/-- Scratch buffer 0, whole. -/
abbrev scr0 : Memref sig .tc .vmem S256x2048 .bf16 := Memref.whole cc0_scratch0
/-- Scratch buffer 1, whole. -/
abbrev scr1 : Memref sig .tc .vmem S256x2048 .f32 := Memref.whole cc0_scratch1
/-- Scratch buffer 2, whole. -/
abbrev scr2 : Memref sig .tc .vmem S256x2048 .f32 := Memref.whole cc0_scratch2
/-- Scratch buffer 3, whole. -/
abbrev scr3 : Memref sig .tc .vmem S256x2048 .bf16 := Memref.whole cc0_scratch3
/-- Scratch buffer 4, whole. -/
abbrev scr4 : Memref sig .tc .vmem S256x2048 .f32 := Memref.whole cc0_scratch4

theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare d)
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ d, owns (c : Thread nD τ) (win0_10.stage (cfg0.slots t 10)) fullShare d)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 4000000 in
/-- The body at any point: the first resets the running gradients, the others add to what the point before left. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_11, after_12, after_13, after_14]
  rw [show (dats m 0 c).Φ t.castSucc = Pipeline.ΦA spec0 c from rfl, scratch_eq]
  by_cases h0 : t.val = 0
  · rw [accW_first m c t h0, accB_first m c t h0, accG_first m c t h0, accS_first m c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords t) _ _ _ _ _ _ _ _ _ _ _ _ _ _ _ _ _ _ _ _ _ _ _ _ _ _ _ _ _ _ _ _ _ _ _ _ _ _ _ _ ((onFirst_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [accW_next m c t h0, accB_next m c t h0, accG_next m c t h0, accS_next m c t h0]
    simp only [before_11 m c t h0, before_12 m c t h0, before_13 m c t h0, before_14 m c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runB c (grid0.coords t) _ _ _ _ _ _ _ _ _ _ _ _ _ _ _ _ _ _ _ _ _ _ _ _ _ _ _ _ _ _ _ _ _ _ _ _ _ _ _ _ (fun h => h0 ((onFirst_iff t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem body_row (t : Fin cfg0.N) :
    defs₀ (F := F) .tc cfg0.body (cfg0.bodyArgs t (cfg0.slots t)) = bodyAt0 t := by
  unfold defs₀; rw [Defs.onTc_tc]

/-- The body at every point, as the launch asks for it. -/
theorem body_all (c : Dev nD) : BodyObligationLoose (dats (F := F) m 0 c) (defs₀ (F := F)) Variants.none () Set.univ unnamed10 := fun t => by
  rw [bigSep_W0, bigSep_W0, body_row]
  exact triple_restated (body_at m c t) rfl .rfl fun _ => .rfl

/-! ## The run and the frame -/

/-- What the run ends with. -/
abbrev Final (r : PUnit × MemSt nD τ sig (Elt F)) : Prop :=
  RDat.FramePost (cfgs 0) (fun c => (dats m 0 c).toRForget unnamed10) (V m) r

set_option backward.isDefEq.respectTransparency.types false in
/-- The program runs to completion with every counter at zero, its arrays as the data above say. -/
theorem runs : θ_run defs (onTc (τ := τ) (main (F := F))) (s₀ m ρ) (fun r => Final m r ∧ r.2.sem = fun _ => 0) :=
  Pipeline.θ_run_frame_forget_shared (Q' := _) cfgs (dats m) (0 : Fin 1) launch₀0 defs₀ Variants.none unnamed10 m ρ main
    (hbody := fun c => body_all m c) (hq := fun _ _ _ => rfl)
    (howed := fun _ _ => rfl) (V := V m) (hmain := hmain m Variants.none) (hA := A_eq m) (hΦ := fun _ _ => rfl)

/-- A named window's array at the end. -/
theorem Final.arr {r : PUnit × MemSt nD τ sig (Elt F)} (h : Final m r) (c : Dev nD) (w : Fin cfg0.W) (hw : unnamed10 w = false) :
    r.2.mem ((cfg0.spec w).arr.view.loc (c.tc : Thread nD τ)) = (dats m 0 c).arrAt w cfg0.N :=
  ((dats m 0 c).toRForget_arrAt_iff hw _ _).mp ((h c).1 w)

set_option maxHeartbeats 2000000 in
/-- The arguments end unchanged. -/
theorem Final.args {r : PUnit × MemSt nD τ sig (Elt F)} (h : Final m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 1 rfl).trans ((A_eq m c 1).trans (V_main_arg0 m c)),
    (RDat.FramePost.arr_in h c 2 rfl).trans ((A_eq m c 2).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in h c 8 rfl).trans ((A_eq m c 8).trans (V_main_arg4 m c)),
    ((h c).2 main_arg5 (Pipeline.mem_restRefs_of main_arg5 (by decide) (by decide))).trans (V_main_arg5 m c)⟩

/-- The frame. -/
theorem frame3 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => Final.args m h.1 c, h.2⟩) (runs m ρ)

end Cert.Kernel3Ideal.Mix

end
-- ==== Proof.Consts.lean ====
/-
  The float constants the programs spell, as the extended reals their words denote.
-/
module

public import Idealize.ShloMosaic.PureOps.Ideal

@[expose] public section

noncomputable section

namespace Cert.Consts
open Idealize.ShloMosaic

/-- The row length, `1024.0`. -/
abbrev len : EReal := Ideal.ofBits .f32 0x44800000#32
/-- The epsilon under the root, the f32 nearest to `1e-6`. -/
abbrev eps : EReal := Ideal.ofBits .f32 0x358637BD#32
/-- `-0.5`. -/
abbrev negHalf : EReal := Ideal.ofBits .f32 0xBF000000#32

theorem len_eq : len = ((1024 : ℝ) : EReal) := by
  simp [len, Ideal.ofBits, Ideal.ieee, -EReal.coe_mul]; norm_num
theorem negHalf_eq : negHalf = ((-(1 / 2) : ℝ) : EReal) := by
  simp [negHalf, Ideal.ofBits, Ideal.ieee, -EReal.coe_mul, -EReal.coe_neg]; norm_num
theorem eps_eq : eps = (((8796093 : ℝ) * (2 : ℝ) ^ (-43 : ℤ) : ℝ) : EReal) := by
  simp [eps, Ideal.ofBits, Ideal.ieee, -EReal.coe_mul]
/-- The epsilon is a positive real. -/
theorem eps_pos : ∃ e : ℝ, 0 < e ∧ eps = (e : EReal) := ⟨_, by positivity, eps_eq⟩

/-- `0.5`. -/
abbrev half : EReal := Ideal.ofBits .f32 0x3F000000#32
theorem half_eq : half = ((1 / 2 : ℝ) : EReal) := by
  simp [half, Ideal.ofBits, Ideal.ieee, -EReal.coe_mul]; norm_num

end Cert.Consts

end
-- ==== Proof.RmsBackward.lean ====
/-
  The gradient of RMSNorm at one row, over the extended reals.

  For a row `x` of 1024 entries let `v` be its mean square plus the epsilon and `r = 1/√v`. With `a` the cotangent
  of `x·r`, the kernel returns `y + r·(a − x·r·mean(a·x·r))`; differentiating `x·r` by the chain rule returns
  `(y + a·r) + x·s + s·x` with `s = (Σ x·a)·(−½·(r/v))/1024`. `kernel_eq_vjp` says the two are equal for ALL
  extended reals `x`, `a`, `y`:
  - a row with an infinite entry has `v = ⊤`, so `r = 0` and both sides are `y`;
  - a finite row has a positive finite `r`, and multiplication by a finite factor passes through the sums.
-/
module

public import proofs.«01_k».proof.Proof.Consts
public import Idealize.ShloMosaic.Lib.Pointwise

@[expose] public section

set_option maxRecDepth 16384

noncomputable section

namespace Cert.RmsBackward
open Idealize.ShloMosaic Cert.Consts

/-! ## The three scalars of a row -/

/-- Mean square plus epsilon. -/
def ms (x : Fin 1024 → EReal) : EReal := Ideal.div (∑ k, x k * x k) len + eps
/-- The reciprocal root of `ms`. -/
def rstd (x : Fin 1024 → EReal) : EReal := Ideal.rsqrt (ms x)

/-- What the kernel returns at entry `q` of the row. -/
def kernelForm (x a : Fin 1024 → EReal) (y : EReal) (q : Fin 1024) : EReal :=
  y + rstd x * (a q - x q * rstd x * Ideal.div (∑ k, a k * (x k * rstd x)) len)

/-- The row's share of the derivative through `v`. -/
def through (x a : Fin 1024 → EReal) : EReal :=
  Ideal.div ((∑ k, x k * a k) * (negHalf * Ideal.div (rstd x) (ms x))) len

/-- What the chain rule returns at entry `q` of the row. -/
def vjpForm (x a : Fin 1024 → EReal) (y : EReal) (q : Fin 1024) : EReal :=
  y + a q * rstd x + x q * through x a + through x a * x q

/-! ## Division and products by a finite factor -/

theorem div_len (u : EReal) : Ideal.div u len = u * ((1 / 1024 : ℝ) : EReal) := by
  rw [len_eq, Ideal.div_coe (by norm_num)]

theorem coe_mul_sum {ι : Type} (s : Finset ι) (f : ι → EReal) {p : ℝ} (hp : 0 ≤ p) :
    ((p : ℝ) : EReal) * ∑ k ∈ s, f k = ∑ k ∈ s, (p : EReal) * f k := by
  classical
  induction s using Finset.induction_on with
  | empty => simp
  | insert b s hb ih =>
    rw [Finset.sum_insert hb, Finset.sum_insert hb, ← ih,
      EReal.left_distrib_of_nonneg_of_ne_top (by exact_mod_cast hp) (EReal.coe_ne_top p)]

theorem mul_self_nonneg (u : EReal) : 0 ≤ u * u := by
  rcases le_total 0 u with h | h
  · exact mul_nonneg h h
  · have : 0 ≤ -u := EReal.neg_nonneg.mpr h
    simpa using mul_nonneg this this

/-! ## A row with an infinite entry -/

theorem ms_top (x : Fin 1024 → EReal) (k : Fin 1024) (hk : x k = ⊤ ∨ x k = ⊥) : ms x = ⊤ := by
  have hsq : x k * x k = ⊤ := by rcases hk with h | h <;> simp [h]
  have hsum : (∑ j, x j * x j) = ⊤ := by
    refine top_le_iff.mp (hsq ▸ ?_)
    exact Finset.single_le_sum (f := fun j => x j * x j) (fun j _ => mul_self_nonneg (x j)) (Finset.mem_univ k)
  obtain ⟨e, he, hE⟩ := eps_pos
  rw [ms, hsum, div_len, EReal.top_mul_coe_of_pos (by norm_num), hE]
  exact EReal.top_add_coe e

theorem rstd_top (x : Fin 1024 → EReal) (k : Fin 1024) (hk : x k = ⊤ ∨ x k = ⊥) : rstd x = 0 := by
  rw [rstd, ms_top x k hk, Ideal.rsqrt_top]

theorem kernel_eq_vjp_infinite (x a : Fin 1024 → EReal) (y : EReal) (q k : Fin 1024) (hk : x k = ⊤ ∨ x k = ⊥) :
    kernelForm x a y q = vjpForm x a y q := by
  have hr := rstd_top x k hk
  have ht : through x a = 0 := by
    rw [through, hr, ms_top x k hk, div_len, Ideal.div]
    simp
  simp [kernelForm, vjpForm, hr, ht]

/-! ## A finite row -/

theorem kernel_eq_vjp_finite (w : Fin 1024 → ℝ) (a : Fin 1024 → EReal) (y : EReal) (q : Fin 1024) :
    kernelForm (fun k => (w k : EReal)) a y q = vjpForm (fun k => (w k : EReal)) a y q := by
  obtain ⟨e, he, hE⟩ := eps_pos
  have hv : ms (fun k => (w k : EReal)) = (((∑ k, w k * w k) * (1 / 1024) + e : ℝ) : EReal) := by
    rw [ms, div_len, hE]
    push_cast
    rfl
  have hpos : 0 < (∑ k, w k * w k) * (1 / 1024) + e := by
    have : 0 ≤ ∑ k, w k * w k := Finset.sum_nonneg fun k _ => _root_.mul_self_nonneg (w k)
    positivity
  generalize (∑ k, w k * w k) * (1 / 1024) + e = v at hv hpos
  have hr : rstd (fun k => (w k : EReal)) = (((Real.sqrt v)⁻¹ : ℝ) : EReal) := by
    rw [rstd, hv, Ideal.rsqrt_coe, if_neg (not_lt.mpr hpos.le), if_neg hpos.ne']
  have hrp : 0 < (Real.sqrt v)⁻¹ := inv_pos.mpr (Real.sqrt_pos.mpr hpos)
  have hrv : (Real.sqrt v)⁻¹ * (1 / v) = (Real.sqrt v)⁻¹ * (Real.sqrt v)⁻¹ * (Real.sqrt v)⁻¹ := by
    rw [mul_assoc, ← mul_inv, Real.mul_self_sqrt hpos.le, one_div]
  generalize (Real.sqrt v)⁻¹ = r at hr hrp hrv
  -- the sum over the row, once
  have hsum : (∑ k, a k * ((w k : EReal) * (r : EReal))) = (r : EReal) * ∑ k, (w k : EReal) * a k := by
    rw [coe_mul_sum _ _ hrp.le]
    exact Finset.sum_congr rfl fun k _ => by rw [mul_comm (a k), mul_comm (w k : EReal), mul_assoc]
  have hth : through (fun k => (w k : EReal)) a = (((-(1 / 2)) * (r * r * r) * (1 / 1024) : ℝ) : EReal) * ∑ k, (w k : EReal) * a k := by
    rw [through, hr, hv, negHalf_eq, Ideal.div_coe hpos.ne', div_len, ← EReal.coe_mul, hrv, ← EReal.coe_mul, mul_assoc,
      ← EReal.coe_mul, mul_comm]
  rw [kernelForm, vjpForm, hth, hr, hsum, div_len]
  generalize (∑ k, (w k : EReal) * a k) = M
  have h1 : (w q : EReal) * (r : EReal) * ((r : EReal) * M * ((1 / 1024 : ℝ) : EReal))
      = ((w q * r * r * (1 / 1024) : ℝ) : EReal) * M := by
    push_cast
    ac_rfl
  have h2 : ∀ u : EReal, (w q : EReal) * u = u * (w q : EReal) := fun u => mul_comm _ _
  have h3 : (((-(1 / 2)) * (r * r * r) * (1 / 1024) : ℝ) : EReal) * M * (w q : EReal)
      = ((-(w q * r * r * r * (1 / 1024)) * (1 / 2) : ℝ) : EReal) * M := by
    rw [mul_comm, ← mul_assoc, ← EReal.coe_mul]
    congr 2
    ring
  have h4 : ∀ c : ℝ, ((c * (1 / 2) : ℝ) : EReal) * M + ((c * (1 / 2) : ℝ) : EReal) * M = (c : EReal) * M := by
    intro c
    have h : (((1 / 2 : ℝ) : EReal) + ((1 / 2 : ℝ) : EReal)) * ((c : EReal) * M) = (c : EReal) * M := by
      rw [← EReal.coe_add]; norm_num
    rw [EReal.right_distrib_of_nonneg (by exact_mod_cast (by norm_num : (0 : ℝ) ≤ 1 / 2))
      (by exact_mod_cast (by norm_num : (0 : ℝ) ≤ 1 / 2)), ← mul_assoc, ← EReal.coe_mul, mul_comm (1 / 2 : ℝ) c] at h
    exact h
  rw [h1, h2, h3, sub_eq_add_neg, EReal.left_distrib_of_nonneg_of_ne_top (by exact_mod_cast hrp.le) (EReal.coe_ne_top r),
    ← EReal.neg_mul, ← EReal.coe_neg, ← mul_assoc, ← EReal.coe_mul, add_assoc (y + _), h4, ← add_assoc, mul_comm (r : EReal) (a q)]
  congr 3
  ring

/-- The kernel's form and the chain rule's form of the gradient are the same extended real, whatever the row. -/
theorem kernel_eq_vjp (x a : Fin 1024 → EReal) (y : EReal) (q : Fin 1024) : kernelForm x a y q = vjpForm x a y q := by
  by_cases h : ∃ k, x k = ⊤ ∨ x k = ⊥
  · obtain ⟨k, hk⟩ := h
    exact kernel_eq_vjp_infinite x a y q k hk
  · have h' : ∀ k, x k ≠ ⊤ ∧ x k ≠ ⊥ := fun k => not_or.mp fun hk => h ⟨k, hk⟩
    have hx : x = fun k => (((x k).toReal : ℝ) : EReal) :=
      funext fun k => (EReal.coe_toReal (h' k).1 (h' k).2).symm
    rw [hx]
    exact kernel_eq_vjp_finite _ a y q

end Cert.RmsBackward

end
-- ==== Proof.InBwd2Ref.lean ====
/-
  What the reference of `a_in_bwd_2` returns, entry by entry: the chain rule through `rms_norm` of the gradient
  `dh = dproj · wᵀ` of the normed row.
-/
module

public import proofs.«01_k».proof.Proof.Gen.Reference4Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference4Ideal.InBwd2
open Cert.Reference4Ideal Cert.Reference4Ideal.Gen Cert.Reference4Ideal.Read
variable (X0 : FVec Ideal S4096x6144 .bf16) (X1 : FVec Ideal S2x1024x6144 .f32) (X2 : FVec Ideal S4096x1024 .f32)
  (X3 : FVec Ideal S4x1024 .f32) (X4 : FVec Ideal S4096x1024 .f32)

/-- The gradient of the normed rows: token `t` of `dproj` against row `d` of the layer's weight, the 6144 columns in
    eight slabs of 768. -/
def dh (t : Fin 4096) (d : Fin 1024) : EReal := ∑ s : Fin 8, ∑ k : Fin 768,
  X0 (ix2 t ⟨s * 768 + k, by omega⟩) * X1 (ix3 1 d ⟨s * 768 + k, by omega⟩)

theorem v22_at (t : Fin 4096) (d : Fin 1024) : val_main_v22 (F := Ideal) X0 X1 (ix2 t d) = dh X0 X1 t d := by
  pointwise [val_main_v22, val_main_v21, val_main_v3, val_main_v2]
  exact Fin.sum_univ_tiles 8 768 rfl _

/-- The first result, the gradient of the layer's input. -/
theorem dx_at (j : S4096x1024.Idx) : val_main_v43 (F := Ideal) X0 X1 X2 X3 X4 j
    = vjpForm (fun k => X2 (ix2 (j 0) k)) (fun k => dh X0 X1 (j 0) k * X3 (ix2 2 k)) (X4 j) (j 1) := by
  idx_vars j
  pointwise [val_main_v43, val_main_v42, val_main_v41, val_main_v40, val_main_v39, val_main_v38, val_main_v37,
    val_main_v36, val_main_v35, val_main_v34, val_main_v33, val_main_v32, val_main_v31, val_main_v30, val_main_v29,
    val_main_v27, val_main_v26, val_main_v14, val_main_v13, val_main_v12, val_main_v11, val_main_v10, val_main_v9,
    val_main_v8, val_main_v7, val_main_v6, val_main_v5, val_main_v4, val_main_v1, val_main_v0, val_main_v17,
    val_main_cst, val_main_cst_0, val_main_cst_1, val_main_cst_2, val_main_cst_5, val_main_cst_6, val_main_cst_7,
    v22_at]
  simp only [Finset.univ_unique, Finset.sum_singleton]
  rfl

/-- … in the arrangement the kernel computes it in. -/
theorem dx_at_kernelForm (j : S4096x1024.Idx) : val_main_v43 (F := Ideal) X0 X1 X2 X3 X4 j
    = kernelForm (fun k => X2 (ix2 (j 0) k)) (fun k => dh X0 X1 (j 0) k * X3 (ix2 2 k)) (X4 j) (j 1) :=
  (dx_at X0 X1 X2 X3 X4 j).trans (kernel_eq_vjp _ _ _ _).symm

/-- The second result, the gradient of the norm's gain. -/
theorem dg_at (j : S1x1024.Idx) : val_main_v44 (F := Ideal) X0 X1 X2 j
    = ∑ t : Fin 4096, X2 (ix2 t (j 1)) * rstd (fun k => X2 (ix2 t k)) * dh X0 X1 t (j 1) := by
  idx_vars j
  pointwise [val_main_v44, val_main_v28, val_main_v25, val_main_v24, val_main_v23, val_main_v16, val_main_v15,
    val_main_v11, val_main_v10, val_main_v9, val_main_v8, val_main_v7, val_main_v6, val_main_v5, val_main_v4,
    val_main_cst, val_main_cst_0, val_main_cst_1, val_main_cst_3, val_main_cst_4, v22_at]
  simp only [Finset.univ_unique, Finset.sum_singleton]
  rfl

end Cert.Reference4Ideal.InBwd2

end
-- ==== Proof.InBwd2Value.lean ====
/-
  What `a_in_bwd_2` leaves in its two results. The weight comes in four windows of 256 rows each (the four parts the
  gathers carry), every one in eight column slabs; a point computes `dh` for 512 tokens a window at a time, sets the
  four pieces side by side, and goes on as `b_in_bwd_3` does.
-/
module

public import proofs.«01_k».proof.Proof.Gen.Kernel4Ideal.Frame
public import proofs.«01_k».proof.Proof.InBwd2Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel4Ideal.InBwd2
open Cert.Kernel4Ideal Cert.Kernel4Ideal.Gen
open Cert.Reference4Ideal.InBwd2 (dh dx_at_kernelForm dg_at)
open Cert.Reference4Ideal.Read (val_main_v43 val_main_v44)
variable (m : (ℓ : Loc nD τ sig) → Buf (Elt Ideal) ℓ)

/-- Every window's block index at point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0]
    ∧ win0_6.index t = ![2, 0, 0] ∧ win0_7.index t = ![t.val, 0] ∧ win0_8.index t = ![t.val, 0] ∧ win0_9.index t = ![0, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem dproj_blk (c : Dev nD) (t : Fin cfg0.N) (i : Fin 512) (k : Fin 6144) :
    @Eq EReal (iblk m c 0 t (ix2 i k))
      (m ((c : Thread nD τ).loc main_arg0) (ix2 ⟨t.val * 512 + i.val, row_lt t i⟩ k)) := by
  blk_ext [iblk, V, idx t]

/-- Window 1: the weight's rows 0 to 255, slab by slab. -/
theorem w0_blk (c : Dev nD) (t : Fin cfg0.N) (s : Fin 8) (d : Fin 256) (k : Fin 768) :
    @Eq EReal (iblk m c 1 t (ix3 s d k))
      (m ((c : Thread nD τ).loc main_arg1) (ix3 1 ⟨d.val, by omega⟩ ⟨s.val * 768 + k.val, by omega⟩)) := by
  blk_point [iblk, V, idx t]

/-- Window 2: the weight's rows 256 to 511, slab by slab. -/
theorem w1_blk (c : Dev nD) (t : Fin cfg0.N) (s : Fin 8) (d : Fin 256) (k : Fin 768) :
    @Eq EReal (iblk m c 2 t (ix3 s d k))
      (m ((c : Thread nD τ).loc main_arg1) (ix3 1 ⟨256 + d.val, by omega⟩ ⟨s.val * 768 + k.val, by omega⟩)) := by
  blk_point [iblk, V, idx t]

/-- Window 3: the weight's rows 512 to 767, slab by slab. -/
theorem w2_blk (c : Dev nD) (t : Fin cfg0.N) (s : Fin 8) (d : Fin 256) (k : Fin 768) :
    @Eq EReal (iblk m c 3 t (ix3 s d k))
      (m ((c : Thread nD τ).loc main_arg1) (ix3 1 ⟨512 + d.val, by omega⟩ ⟨s.val * 768 + k.val, by omega⟩)) := by
  blk_point [iblk, V, idx t]

/-- Window 4: the weight's rows 768 to 1023, slab by slab. -/
theorem w3_blk (c : Dev nD) (t : Fin cfg0.N) (s : Fin 8) (d : Fin 256) (k : Fin 768) :
    @Eq EReal (iblk m c 4 t (ix3 s d k))
      (m ((c : Thread nD τ).loc main_arg1) (ix3 1 ⟨768 + d.val, by omega⟩ ⟨s.val * 768 + k.val, by omega⟩)) := by
  blk_point [iblk, V, idx t]

theorem x_blk (c : Dev nD) (t : Fin cfg0.N) (i : Fin 512) (k : Fin 1024) :
    @Eq EReal (iblk m c 5 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 6 t (ix3 0 0 k)) (m ((c : Thread nD τ).loc main_arg3) (ix2 2 k)) := by
  blk_point [iblk, V, idx t]

theorem dxn_blk (c : Dev nD) (t : Fin cfg0.N) (i : Fin 512) (k : Fin 1024) :
    @Eq EReal (iblk m c 7 t (ix2 i k))
      (m ((c : Thread nD τ).loc main_arg4) (ix2 ⟨t.val * 512 + i.val, row_lt t i⟩ k)) := by
  blk_ext [iblk, V, idx t]

/-- Where entry `(i, k)` of the block the first result's point `t` writes sits in the array. -/
theorem dx_emb (t : Fin cfg0.N) (i : Fin 512) (k : Fin 1024) :
    @Eq S4096x1024.Idx (((cfg0.win 8).blk t).view.emb (ix2 i k)) (ix2 ⟨t.val * 512 + i.val, row_lt t i⟩ k) := by
  blk_ext [idx t]

/-! ## One point -/

/-- Four pieces of 256 columns set side by side: their entries are `f`'s, piece after piece. -/
theorem dh_of_pieces (f : Fin 512 → Fin 1024 → EReal) (v41 v80 v119 v133 : FVec Ideal S512x256 .f32)
    (a3 a4 a5 a6 a7 : FVec Ideal S512x768 .bf16) (w3 w4 w5 w6 w7 : FVec Ideal S1x256x768 .bf16) (i : Fin 512) (q : Fin 1024)
    (h0 : ∀ d : Fin 256, v41 (ix2 i d) = f i ⟨d.val, by omega⟩)
    (h1 : ∀ d : Fin 256, v80 (ix2 i d) = f i ⟨256 + d.val, by omega⟩)
    (h2 : ∀ d : Fin 256, v119 (ix2 i d) = f i ⟨512 + d.val, by omega⟩)
    (h3 : ∀ d : Fin 256, v133 (ix2 i d) + (∑ k, a3 (ix2 i k) * w3 (ix3 0 d k)) + (∑ k, a4 (ix2 i k) * w4 (ix3 0 d k))
      + (∑ k, a5 (ix2 i k) * w5 (ix3 0 d k)) + (∑ k, a6 (ix2 i k) * w6 (ix3 0 d k)) + (∑ k, a7 (ix2 i k) * w7 (ix3 0 d k))
        = f i ⟨768 + d.val, by omega⟩) :
    k0_pay16 v41 v80 v119 v133 a3 w3 a4 w4 a5 w5 a6 w6 a7 w7 (ix2 i q) = f i q := by
  pointwise [k0_pay16]
  simp only [h0, h1, h2, h3]
  have e : ∀ (n : ℕ) (h : n < 1024), n = q.val → f i ⟨n, h⟩ = f i q := fun n h hn => congrArg (f i) (Fin.ext hn)
  have hq := q.isLt
  by_cases c0 : q.val < 256
  · rw [dif_pos c0]
  · rw [dif_neg c0]
    by_cases c1 : q.val - 256 < 256
    · rw [dif_pos c1]; exact e _ _ (by omega)
    · rw [dif_neg c1]
      by_cases c2 : q.val - 256 - 256 < 256
      · rw [dif_pos c2]; exact e _ _ (by omega)
      · rw [dif_neg c2]; exact e _ _ (by omega)

/-- What a point stores in the first result, from its `dh`: the kernel's form of the gradient of RMSNorm. -/
theorem dx_block (D x y : FVec Ideal S512x1024 .f32) (g : FVec Ideal S1x1x1024 .f32) (i : Fin 512) (q : Fin 1024) :
    k0_pay4 D x (k0_pay17 x) y g (ix2 i q)
      = kernelForm (fun k => x (ix2 i k)) (fun k => D (ix2 i k) * g (ix3 0 0 k)) (y (ix2 i q)) q := by
  pointwise [k0_pay4, k0_pay17, k0_pay1, k0_pay2]
  rfl

theorem zero_at (j : S1x1024.Idx) : k0_pay5 (F := Ideal) j = 0 := by pointwise [k0_pay5]

/-- What one point adds to the gain's gradient: the column sums of `dh · x · r` over its 512 rows. -/
theorem add_at (D x : FVec Ideal S512x1024 .f32) (acc : FVec Ideal S1x1024 .f32) (j : S1x1024.Idx) :
    k0_pay3 D x (k0_pay17 x) acc j
      = acc j + ∑ i : Fin 512, D (ix2 i (j 1)) * (x (ix2 i (j 1)) * rstd (fun k => x (ix2 i k))) := by
  idx_vars j
  pointwise [k0_pay3, k0_pay17, k0_pay1, k0_pay2]
  rfl

theorem kernelForm_congr {x x' a a' : Fin 1024 → EReal} {y y' : EReal} {q : Fin 1024} (hx : ∀ k, x k = x' k)
    (ha : ∀ k, a k = a' k) (hy : y = y') : kernelForm x a y q = kernelForm x' a' y' q := by
  rw [funext hx, funext ha, hy]

/-! ## The first result -/

set_option maxHeartbeats 2000000 in
theorem final8 (c : Dev nD) : (dats m 0 c).arrAt 8 (cfgs 0).N
    = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  obtain ⟨i, q, rfl⟩ : ∃ (i : Fin 512) (q : Fin 1024), y = ix2 i q := ⟨y 0, y 1, eq_ix2 y⟩
  rw [dx_emb]
  blk_simp
  rw [dx_at_kernelForm, after0_8]
  by_cases h : t.val % 8 = 0
  · rw [outsAt0_A m c t h]; frame_out
    rw [dx_block]
    refine kernelForm_congr (fun k => x_blk m c t i k) (fun k => ?_) (dxn_blk m c t i q)
    refine congrArg₂ (· * ·) (dh_of_pieces (fun i d => dh (m ((c : Thread nD τ).loc main_arg0))
        (m ((c : Thread nD τ).loc main_arg1)) ⟨t.val * 512 + i.val, row_lt t i⟩ d) _ _ _ _ _ _ _ _ _ _ _ _ _ _ _ _
        (fun d => ?_) (fun d => ?_) (fun d => ?_) (fun d => ?_)) (g_blk m c t k)
    · pointwise [k0_pay8, k0_pay6, k0_pay7]; simp only [dh, Fin.sum_univ_eight, dproj_blk, w0_blk]; rfl
    · pointwise [k0_pay12, k0_pay10, k0_pay9, k0_pay11]; simp only [dh, Fin.sum_univ_eight, dproj_blk, w1_blk]; rfl
    · pointwise [k0_pay14, k0_pay13]; simp only [dh, Fin.sum_univ_eight, dproj_blk, w2_blk]; rfl
    · pointwise [k0_pay15]; simp only [dh, Fin.sum_univ_eight, dproj_blk, w3_blk]; rfl
  · rw [outsAt0_B m c t h]; frame_out
    rw [dx_block]
    refine kernelForm_congr (fun k => x_blk m c t i k) (fun k => ?_) (dxn_blk m c t i q)
    refine congrArg₂ (· * ·) (dh_of_pieces (fun i d => dh (m ((c : Thread nD τ).loc main_arg0))
        (m ((c : Thread nD τ).loc main_arg1)) ⟨t.val * 512 + i.val, row_lt t i⟩ d) _ _ _ _ _ _ _ _ _ _ _ _ _ _ _ _
        (fun d => ?_) (fun d => ?_) (fun d => ?_) (fun d => ?_)) (g_blk m c t k)
    · pointwise [k0_pay8, k0_pay6, k0_pay7]; simp only [dh, Fin.sum_univ_eight, dproj_blk, w0_blk]; rfl
    · pointwise [k0_pay12, k0_pay10, k0_pay9, k0_pay11]; simp only [dh, Fin.sum_univ_eight, dproj_blk, w1_blk]; rfl
    · pointwise [k0_pay14, k0_pay13]; simp only [dh, Fin.sum_univ_eight, dproj_blk, w2_blk]; rfl
    · pointwise [k0_pay15]; simp only [dh, Fin.sum_univ_eight, dproj_blk, w3_blk]; rfl

/-! ## The second result -/

set_option maxHeartbeats 2000000 in
theorem final9 (c : Dev nD) : (dats m 0 c).arrAt 9 (cfgs 0).N
    = val_main_v44 (F := Ideal) (m ((c : Thread nD τ).loc main_arg0)) (m ((c : Thread nD τ).loc main_arg1))
        (m ((c : Thread nD τ).loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) _
    (fun t h j => by rw [outsAt0_A m c t h]; frame_out; rw [add_at, zero_at])
    (fun t h j => by rw [outsAt0_B m c t h]; frame_out; rw [add_at])
    (le_of_eq N_0) t0_7 rfl j, zero_add]
  rw [dg_at]
  refine Fin.sum_mul_add_congr fun p i hl => ?_
  refine (EReal.mul_comm _ _).trans ?_
  obtain ⟨q, rfl⟩ : ∃ q : Fin 1024, j = ix2 0 q := ⟨j 1, by rw [eq_ix2 j]; exact congrArg (ix2 · _) (Subsingleton.elim _ _)⟩
  refine congrArg₂ (· * ·) (congrArg₂ (· * ·) (x_blk m c _ i _) (congrArg rstd (funext fun k => x_blk m c _ i k))) ?_
  refine (dh_of_pieces (fun i d => dh (m ((c : Thread nD τ).loc main_arg0))
        (m ((c : Thread nD τ).loc main_arg1)) ⟨p.val * 512 + i.val, row_lt ⟨p.val, lt_of_lt_of_le p.isLt (le_of_eq N_0.symm)⟩ i⟩ d) _ _ _ _ _ _ _ _ _ _ _ _ _ _ _ _
        (fun d => ?_) (fun d => ?_) (fun d => ?_) (fun d => ?_))
  · pointwise [k0_pay8, k0_pay6, k0_pay7]; simp only [dh, Fin.sum_univ_eight, dproj_blk, w0_blk]; rfl
  · pointwise [k0_pay12, k0_pay10, k0_pay9, k0_pay11]; simp only [dh, Fin.sum_univ_eight, dproj_blk, w1_blk]; rfl
  · pointwise [k0_pay14, k0_pay13]; simp only [dh, Fin.sum_univ_eight, dproj_blk, w2_blk]; rfl
  · pointwise [k0_pay15]; simp only [dh, Fin.sum_univ_eight, dproj_blk, w3_blk]; rfl

end Cert.Kernel4Ideal.InBwd2

end
-- ==== Proof.InBwd3Ref.lean ====
/-
  What the reference of `b_in_bwd_3` returns, entry by entry: the chain rule through `rms_norm` of the gradient
  `dh = dproj · wᵀ` of the normed row.
-/
module

public import proofs.«01_k».proof.Proof.Gen.Reference5Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference5Ideal.InBwd3
open Cert.Reference5Ideal Cert.Reference5Ideal.Gen Cert.Reference5Ideal.Read
variable (X0 : FVec Ideal S4096x4096 .bf16) (X1 : FVec Ideal S2x1024x4096 .f32) (X2 : FVec Ideal S4096x1024 .f32)
  (X3 : FVec Ideal S4x1024 .f32) (X4 : FVec Ideal S4096x1024 .f32)

/-- The gradient of the normed rows: token `t` of `dproj` against row `d` of the layer's weight, the 4096 columns in
    eight slabs of 512. -/
def dh (t : Fin 4096) (d : Fin 1024) : EReal := ∑ s : Fin 8, ∑ k : Fin 512,
  X0 (ix2 t ⟨s * 512 + k, by omega⟩) * X1 (ix3 1 d ⟨s * 512 + k, by omega⟩)

theorem v22_at (t : Fin 4096) (d : Fin 1024) : val_main_v22 (F := Ideal) X0 X1 (ix2 t d) = dh X0 X1 t d := by
  pointwise [val_main_v22, val_main_v21, val_main_v3, val_main_v2]
  exact Fin.sum_univ_tiles 8 512 rfl _

/-- The first result, the gradient of the layer's input. -/
theorem dx_at (j : S4096x1024.Idx) : val_main_v43 (F := Ideal) X0 X1 X2 X3 X4 j
    = vjpForm (fun k => X2 (ix2 (j 0) k)) (fun k => dh X0 X1 (j 0) k * X3 (ix2 3 k)) (X4 j) (j 1) := by
  idx_vars j
  pointwise [val_main_v43, val_main_v42, val_main_v41, val_main_v40, val_main_v39, val_main_v38, val_main_v37,
    val_main_v36, val_main_v35, val_main_v34, val_main_v33, val_main_v32, val_main_v31, val_main_v30, val_main_v29,
    val_main_v27, val_main_v26, val_main_v14, val_main_v13, val_main_v12, val_main_v11, val_main_v10, val_main_v9,
    val_main_v8, val_main_v7, val_main_v6, val_main_v5, val_main_v4, val_main_v1, val_main_v0, val_main_v17,
    val_main_cst, val_main_cst_0, val_main_cst_1, val_main_cst_2, val_main_cst_5, val_main_cst_6, val_main_cst_7,
    v22_at]
  simp only [Finset.univ_unique, Finset.sum_singleton]
  rfl

/-- … in the arrangement the kernel computes it in. -/
theorem dx_at_kernelForm (j : S4096x1024.Idx) : val_main_v43 (F := Ideal) X0 X1 X2 X3 X4 j
    = kernelForm (fun k => X2 (ix2 (j 0) k)) (fun k => dh X0 X1 (j 0) k * X3 (ix2 3 k)) (X4 j) (j 1) :=
  (dx_at X0 X1 X2 X3 X4 j).trans (kernel_eq_vjp _ _ _ _).symm

/-- The second result, the gradient of the norm's gain. -/
theorem dg_at (j : S1x1024.Idx) : val_main_v44 (F := Ideal) X0 X1 X2 j
    = ∑ t : Fin 4096, X2 (ix2 t (j 1)) * rstd (fun k => X2 (ix2 t k)) * dh X0 X1 t (j 1) := by
  idx_vars j
  pointwise [val_main_v44, val_main_v28, val_main_v25, val_main_v24, val_main_v23, val_main_v16, val_main_v15,
    val_main_v11, val_main_v10, val_main_v9, val_main_v8, val_main_v7, val_main_v6, val_main_v5, val_main_v4,
    val_main_cst, val_main_cst_0, val_main_cst_1, val_main_cst_3, val_main_cst_4, v22_at]
  simp only [Finset.univ_unique, Finset.sum_singleton]
  rfl

end Cert.Reference5Ideal.InBwd3

end
-- ==== Proof.InBwd3Value.lean ====
/-
  What `b_in_bwd_3` leaves in its two results: point `t` writes the 512 rows from `512·t` of the input's gradient, and
  adds its column sums to the gain's gradient, which the last point writes back.
-/
module

public import proofs.«01_k».proof.Proof.Gen.Kernel5Ideal.Frame
public import proofs.«01_k».proof.Proof.InBwd3Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel5Ideal.InBwd3
open Cert.Kernel5Ideal Cert.Kernel5Ideal.Gen
open Cert.Reference5Ideal.InBwd3 (dh dx_at_kernelForm dg_at)
open Cert.Reference5Ideal.Read (val_main_v43 val_main_v44)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![3, 0, 0] ∧ win0_4.index t = ![t.val, 0] ∧ win0_5.index t = ![t.val, 0] ∧ win0_6.index t = ![0, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem dproj_blk (c : Dev nD) (t : Fin cfg0.N) (i : Fin 512) (k : Fin 4096) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (d : Fin 1024) (k : Fin 512) :
    @Eq EReal (iblk m c 1 t (ix3 s d k))
      (m ((c : Thread nD τ).loc main_arg1) (ix3 1 d ⟨s.val * 512 + k.val, by omega⟩)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 3 k)) := by
  blk_point [iblk, V, idx t]

theorem dxn_blk (c : Dev nD) (t : Fin cfg0.N) (i : Fin 512) (k : Fin 1024) :
    @Eq EReal (iblk m c 4 t (ix2 i k))
      (m ((c : Thread nD τ).loc main_arg4) (ix2 ⟨t.val * 512 + i.val, row_lt t i⟩ k)) := by
  blk_ext [iblk, V, idx t]

/-- Where entry `(i, k)` of the block the first result's point `t` writes sits in the array. -/
theorem dx_emb (t : Fin cfg0.N) (i : Fin 512) (k : Fin 1024) :
    @Eq S4096x1024.Idx (((cfg0.win 5).blk t).view.emb (ix2 i k)) (ix2 ⟨t.val * 512 + i.val, row_lt t i⟩ k) := by
  blk_ext [idx t]

/-! ## The first result -/

theorem final5 (c : Dev nD) : (dats m 0 c).arrAt 5 (cfgs 0).N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [dx_emb]
  blk_simp
  rw [dx_at_kernelForm]
  simp only [kernelForm, rstd, ms, dh, Fin.sum_univ_eight]
  rw [after0_5]
  by_cases h : t.val % 8 = 0
  · rw [outsAt0_A m c t h]; frame_out
    pointwise [k0_pay1, k0_pay5, k0_pay6, k0_pay7, k0_pay3, k0_pay4]
    simp only [dproj_blk, w_blk, x_blk, g_blk, dxn_blk]
    rfl
  · rw [outsAt0_B m c t h]; frame_out
    pointwise [k0_pay1, k0_pay5, k0_pay6, k0_pay7, k0_pay3, k0_pay4]
    simp only [dproj_blk, w_blk, x_blk, g_blk, dxn_blk]
    rfl

/-! ## The second result -/

theorem zero_at (j : S1x1024.Idx) : k0_pay2 (F := Ideal) j = 0 := by pointwise [k0_pay2]

/-- What one point adds to the gain's gradient: the column sums of `dh · x · r` over its 512 rows. -/
theorem add_at (v3 v7 v12 v17 v22 v27 v32 v37 : FVec Ideal S512x512 .bf16)
    (w0 w1 w2 w3 w4 w5 w6 w7 : FVec Ideal S1x1024x512 .bf16) (x : FVec Ideal S512x1024 .f32) (acc : FVec Ideal S1x1024 .f32)
    (j : S1x1024.Idx) :
    k0_pay8 (k0_pay3 v3 w0 v7 w1 v12 w2 v17 w3) (k0_pay4 v22 w4) v27 w5 v32 w6 v37 w7 x acc j
      = acc j + ∑ i : Fin 512,
          (k0_pay5 (k0_pay3 v3 w0 v7 w1 v12 w2 v17 w3) (k0_pay4 v22 w4) v27 w5 v32 w6 v37 w7) (ix2 i (j 1)) * (x (ix2 i (j 1)) * rstd (fun k => x (ix2 i k))) := by
  idx_vars j
  pointwise [k0_pay8, k0_pay7, k0_pay6]
  rfl

theorem final6 (c : Dev nD) : (dats m 0 c).arrAt 6 (cfgs 0).N
    = val_main_v44 (F := Ideal) (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [add_at, zero_at])
    (fun t h j => by rw [outsAt0_B m c t h]; frame_out; rw [add_at])
    (le_of_eq N_0) t0_7 rfl j, zero_add]
  rw [dg_at]
  refine Fin.sum_mul_add_congr fun p i hl => ?_
  refine (EReal.mul_comm _ _).trans ?_
  obtain ⟨q, rfl⟩ : ∃ q : Fin 1024, j = ix2 0 q := ⟨j 1, by rw [eq_ix2 j]; exact congrArg (ix2 · _) (Subsingleton.elim _ _)⟩
  pointwise [k0_pay5, k0_pay3, k0_pay4]
  simp only [rstd, ms, dh, Fin.sum_univ_eight, dproj_blk, w_blk, x_blk]
  rfl

end Cert.Kernel5Ideal.InBwd3

end
-- ==== Proof.InFwd0Ref.lean ====
/-
  What the reference of `a_in_fwd_0` returns, entry by entry: the RMSNorm of a token's row, and its products with the
  columns of the layer's input projection.
-/
module

public import proofs.«01_k».proof.Proof.Gen.Reference6Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference6Ideal.InFwd0
open Cert.Reference6Ideal Cert.Reference6Ideal.Gen Cert.Reference6Ideal.Read
variable (X0 : FVec Ideal S4096x1024 .f32) (X1 : FVec Ideal S4x1024 .f32) (X2 : FVec Ideal S2x1024x6144 .f32)

/-- The normed row of token `t` at channel `k`. -/
def normed (t : Fin 4096) (k : Fin 1024) : EReal := X0 (ix2 t k) * rstd (fun k => X0 (ix2 t k)) * X1 (ix2 0 k)

theorem v14_at (t : Fin 4096) (k : Fin 1024) : val_main_v14 (F := Ideal) X0 X1 (ix2 t k) = normed X0 X1 t k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The second result, the normed rows. -/
theorem h_at (t : Fin 4096) (k : Fin 1024) : val_main_v19 (F := Ideal) X0 X1 (ix2 t k) = normed X0 X1 t k := by
  pointwise [val_main_v19]
  exact v14_at X0 X1 t k

/-- The first result, the projection. -/
theorem proj_at (t : Fin 4096) (q : Fin 6144) : val_main_v18 (F := Ideal) X0 X1 X2 (ix2 t q)
    = ∑ k : Fin 1024, normed X0 X1 t k * X2 (ix3 0 k q) := by
  pointwise [val_main_v18, val_main_v17, val_main_v16, val_main_v15]
  simp only [v14_at]

end Cert.Reference6Ideal.InFwd0

end
-- ==== Proof.InFwd0Value.lean ====
/-
  What `a_in_fwd_0` leaves in its two results: point `t` norms the 512 rows from `512·t`, stores them, and stores
  their products with the weight's eight column slabs side by side. The weight arrives as four parts of 256 rows, so that
  each product is the sum of four.
-/
module

public import proofs.«01_k».proof.Proof.Gen.Kernel6Ideal.Frame
public import proofs.«01_k».proof.Proof.InFwd0Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel6Ideal.InFwd0
open Cert.Kernel6Ideal Cert.Kernel6Ideal.Gen
open Cert.Reference6Ideal.InFwd0 (normed h_at proj_at)
open Cert.Reference6Ideal.Read (val_main_v18 val_main_v19)
variable (m : (ℓ : Loc nD τ sig) → Buf (Elt Ideal) ℓ)

/-- Every window's block index at point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![t.val, 0] ∧ win0_7.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem x_blk (c : Dev nD) (t : Fin cfg0.N) (i : Fin 512) (k : Fin 1024) :
    @Eq EReal (iblk m c 0 t (ix2 i k))
      (m ((c : Thread nD τ).loc main_arg0) (ix2 ⟨t.val * 512 + i.val, row_lt t i⟩ k)) := by
  blk_ext [iblk, V, idx t]

theorem g_blk (c : Dev nD) (t : Fin cfg0.N) (k : Fin 1024) :
    @Eq EReal (iblk m c 1 t (ix3 0 0 k)) (m ((c : Thread nD τ).loc main_arg1) (ix2 0 k)) := by
  blk_point [iblk, V, idx t]

/-- Part 0 of the weight holds its rows from 0. -/
theorem w0_blk (c : Dev nD) (t : Fin cfg0.N) (s : Fin 8) (d : Fin 256) (k : Fin 768) :
    @Eq EReal (iblk m c 2 t (ix3 s d k))
      (m ((c : Thread nD τ).loc main_arg2) (ix3 0 ⟨d.val, by omega⟩ ⟨s.val * 768 + k.val, by omega⟩)) := by
  blk_point [iblk, V, idx t]

/-- Part 1 of the weight holds its rows from 256. -/
theorem w1_blk (c : Dev nD) (t : Fin cfg0.N) (s : Fin 8) (d : Fin 256) (k : Fin 768) :
    @Eq EReal (iblk m c 3 t (ix3 s d k))
      (m ((c : Thread nD τ).loc main_arg2) (ix3 0 ⟨256 + d.val, by omega⟩ ⟨s.val * 768 + k.val, by omega⟩)) := by
  blk_point [iblk, V, idx t]

/-- Part 2 of the weight holds its rows from 512. -/
theorem w2_blk (c : Dev nD) (t : Fin cfg0.N) (s : Fin 8) (d : Fin 256) (k : Fin 768) :
    @Eq EReal (iblk m c 4 t (ix3 s d k))
      (m ((c : Thread nD τ).loc main_arg2) (ix3 0 ⟨512 + d.val, by omega⟩ ⟨s.val * 768 + k.val, by omega⟩)) := by
  blk_point [iblk, V, idx t]

/-- Part 3 of the weight holds its rows from 768. -/
theorem w3_blk (c : Dev nD) (t : Fin cfg0.N) (s : Fin 8) (d : Fin 256) (k : Fin 768) :
    @Eq EReal (iblk m c 5 t (ix3 s d k))
      (m ((c : Thread nD τ).loc main_arg2) (ix3 0 ⟨768 + d.val, by omega⟩ ⟨s.val * 768 + k.val, by omega⟩)) := by
  blk_point [iblk, V, idx t]

/-- Where entry `(i, q)` of the block the first result's point `t` writes sits in the array. -/
theorem proj_emb (t : Fin cfg0.N) (i : Fin 512) (q : Fin 6144) :
    @Eq S4096x6144.Idx (((cfg0.win 6).blk t).view.emb (ix2 i q)) (ix2 ⟨t.val * 512 + i.val, row_lt t i⟩ q) := by
  blk_ext [idx t]

/-- … and of the second's. -/
theorem h_emb (t : Fin cfg0.N) (i : Fin 512) (k : Fin 1024) :
    @Eq S4096x1024.Idx (((cfg0.win 7).blk t).view.emb (ix2 i k)) (ix2 ⟨t.val * 512 + i.val, row_lt t i⟩ k) := by
  blk_ext [idx t]

/-! ## The normed rows -/

theorem norm_at (x : FVec Ideal S512x1024 .f32) (g : FVec Ideal S1x1x1024 .f32) (i : Fin 512) (k : Fin 1024) :
    @Eq EReal (k0_pay3 (F := Ideal) x g (ix2 i k)) (x (ix2 i k) * rstd (fun k => x (ix2 i k)) * g (ix3 0 0 k)) := by
  pointwise [k0_pay3]
  rfl

/-- The rows point `t` norms are the array's. -/
theorem normed_blk (c : Dev nD) (t : Fin cfg0.N) (i : Fin 512) (k : Fin 1024) :
    @Eq EReal (k0_pay3 (iblk m c 0 t) (iblk m c 1 t) (ix2 i k))
      (normed (m ((c : Thread nD τ).loc main_arg0)) (m ((c : Thread nD τ).loc main_arg1)) ⟨t.val * 512 + i.val, row_lt t i⟩ k) := by
  refine (norm_at _ _ i k).trans ?_
  simp only [x_blk, g_blk]
  rfl

theorem final7 (c : Dev nD) : (dats m 0 c).arrAt 7 (cfgs 0).N
    = val_main_v19 (F := Ideal) (m ((c : Thread nD τ).loc main_arg0)) (m ((c : Thread nD τ).loc main_arg1)) := by
  refine (dats m 0 c).arrAt_eq_of_covers 7 _ (by decide +kernel) fun t _ y => ?_
  obtain ⟨i, q, rfl⟩ : ∃ (i : Fin 512) (q : Fin 1024), y = ix2 i q := ⟨y 0, y 1, eq_ix2 y⟩
  rw [h_emb]
  blk_simp
  rw [h_at, after0_7]
  frame_out
  exact normed_blk m c t i q

/-! ## The projection -/

/-! Slab `s` of a weight part's block, read as a vector. -/

section Slabs
variable (w : FVec Ideal S8x256x768 .bf16) (k : Fin 256) (j : Fin 768)

theorem ld_slab0 : @Eq EReal (View.ld (Val := Elt Ideal) (e' := .bf16) w r0_2 (ix3 0 k j)) (w (ix3 0 k j)) := by
  pointwise []

theorem ld_slab1 : @Eq EReal (View.ld (Val := Elt Ideal) (e' := .bf16) w r0_4 (ix3 0 k j)) (w (ix3 1 k j)) := by
  pointwise []

theorem ld_slab2 : @Eq EReal (View.ld (Val := Elt Ideal) (e' := .bf16) w r0_6 (ix3 0 k j)) (w (ix3 2 k j)) := by
  pointwise []

theorem ld_slab3 : @Eq EReal (View.ld (Val := Elt Ideal) (e' := .bf16) w r0_8 (ix3 0 k j)) (w (ix3 3 k j)) := by
  pointwise []

theorem ld_slab4 : @Eq EReal (View.ld (Val := Elt Ideal) (e' := .bf16) w r0_10 (ix3 0 k j)) (w (ix3 4 k j)) := by
  pointwise []

theorem ld_slab5 : @Eq EReal (View.ld (Val := Elt Ideal) (e' := .bf16) w r0_12 (ix3 0 k j)) (w (ix3 5 k j)) := by
  pointwise []

theorem ld_slab6 : @Eq EReal (View.ld (Val := Elt Ideal) (e' := .bf16) w r0_14 (ix3 0 k j)) (w (ix3 6 k j)) := by
  pointwise []

theorem ld_slab7 : @Eq EReal (View.ld (Val := Elt Ideal) (e' := .bf16) w r0_16 (ix3 0 k j)) (w (ix3 7 k j)) := by
  pointwise []

end Slabs

/-! Each store's payload: the normed rows against one slab, its four parts' products added. -/

/-- Row `i` of `h` against column `j` of the four parts of a slab. -/
def parts (h : FVec Ideal S512x1024 .bf16) (w0 w1 w2 w3 : FVec Ideal S1x256x768 .bf16) (i : Fin 512) (j : Fin 768) : EReal :=
  (∑ d : Fin 256, h (ix2 i ⟨d.val, by omega⟩) * w0 (ix3 0 d j)) + (∑ d : Fin 256, h (ix2 i ⟨256 + d.val, by omega⟩) * w1 (ix3 0 d j))
    + (∑ d : Fin 256, h (ix2 i ⟨512 + d.val, by omega⟩) * w2 (ix3 0 d j)) + (∑ d : Fin 256, h (ix2 i ⟨768 + d.val, by omega⟩) * w3 (ix3 0 d j))

section Payloads
variable (x : FVec Ideal S512x1024 .f32) (g : FVec Ideal S1x1x1024 .f32) (h : FVec Ideal S512x1024 .bf16)
  (w0 w1 w2 w3 : FVec Ideal S1x256x768 .bf16) (i : Fin 512) (j : Fin 768)

theorem slab0_at : @Eq EReal (k0_pay6 (F := Ideal) (k0_pay4 x g w0 w1 w2) (k0_pay5 x g) w3 (ix2 i j)) (parts (k0_pay3 (F := Ideal) x g) w0 w1 w2 w3 i j) := by
  pointwise [k0_pay6, k0_pay4, k0_pay5]
  rfl

theorem slab1_at : @Eq EReal (k0_pay7 (F := Ideal) h w0 w1 w2 w3 (ix2 i j)) (parts h w0 w1 w2 w3 i j) := by
  pointwise [k0_pay7]
  rfl

theorem slab2_at : @Eq EReal (k0_pay10 (F := Ideal) h (k0_pay8 h w0) (k0_pay9 h) w1 w2 w3 (ix2 i j)) (parts h w0 w1 w2 w3 i j) := by
  pointwise [k0_pay10, k0_pay8, k0_pay9]
  rfl

theorem slab3_at : @Eq EReal (k0_pay13 (F := Ideal) (k0_pay11 h w0 w1 w2) (k0_pay12 h) w3 (ix2 i j)) (parts h w0 w1 w2 w3 i j) := by
  pointwise [k0_pay13, k0_pay11, k0_pay12]
  rfl

theorem slab4_at : @Eq EReal (k0_pay14 (F := Ideal) h w0 w1 w2 w3 (ix2 i j)) (parts h w0 w1 w2 w3 i j) := by
  pointwise [k0_pay14]
  rfl

theorem slab5_at : @Eq EReal (k0_pay17 (F := Ideal) h (k0_pay15 h w0) (k0_pay16 h) w1 w2 w3 (ix2 i j)) (parts h w0 w1 w2 w3 i j) := by
  pointwise [k0_pay17, k0_pay15, k0_pay16]
  rfl

theorem slab6_at : @Eq EReal (k0_pay1 (F := Ideal) (k0_pay18 h w0 w1 w2) (k0_pay19 h) w3 (ix2 i j)) (parts h w0 w1 w2 w3 i j) := by
  pointwise [k0_pay1, k0_pay18, k0_pay19]
  rfl

theorem slab7_at : @Eq EReal (k0_pay2 (F := Ideal) h w0 w1 w2 w3 (ix2 i j)) (parts h w0 w1 w2 w3 i j) := by
  pointwise [k0_pay2]
  rfl

end Payloads

/-- The value the later stores share is the normed rows. -/
theorem pay20_eq (x : FVec Ideal S512x1024 .f32) (g : FVec Ideal S1x1x1024 .f32) (w0 w1 w2 w3 : FVec Ideal S8x256x768 .bf16) :
    k0_pay20 (F := Ideal) x g w0 w1 w2 w3 = k0_pay3 x g := by
  unfold k0_pay20
  frame_out

/-- A sum over the 1024 channels, four quarters added. -/
theorem four_parts (f : Fin 1024 → EReal) : (∑ d : Fin 256, f ⟨d.val, by omega⟩) + (∑ d : Fin 256, f ⟨256 + d.val, by omega⟩)
    + (∑ d : Fin 256, f ⟨512 + d.val, by omega⟩) + (∑ d : Fin 256, f ⟨768 + d.val, by omega⟩) = ∑ k : Fin 1024, f k := by
  refine ((Fin.sum_univ_tiles 4 256 rfl f).trans ?_).symm
  rw [Fin.sum_univ_four]
  refine congrArg₂ (· + ·) (congrArg₂ (· + ·) (congrArg₂ (· + ·) ?_ ?_) ?_) ?_ <;>
    exact Finset.sum_congr rfl fun d _ => congrArg f (Fin.ext (by simp))

/-- A store of slab `s` is the projection's columns from `768·s`. -/
theorem piece (c : Dev nD) (t : Fin cfg0.N) (i : Fin 512) (q : Fin 6144) (s : Fin 8) (j : Fin 768)
    (hq : q.val = s.val * 768 + j.val) (h : FVec Ideal S512x1024 .bf16) (w0 w1 w2 w3 : FVec Ideal S1x256x768 .bf16)
    (hh : ∀ k : Fin 1024, @Eq EReal (h (ix2 i k)) (normed (m ((c : Thread nD τ).loc main_arg0))
      (m ((c : Thread nD τ).loc main_arg1)) ⟨t.val * 512 + i.val, row_lt t i⟩ k))
    (hw0 : ∀ d : Fin 256, @Eq EReal (w0 (ix3 0 d j)) (iblk m c 2 t (ix3 s d j)))
    (hw1 : ∀ d : Fin 256, @Eq EReal (w1 (ix3 0 d j)) (iblk m c 3 t (ix3 s d j)))
    (hw2 : ∀ d : Fin 256, @Eq EReal (w2 (ix3 0 d j)) (iblk m c 4 t (ix3 s d j)))
    (hw3 : ∀ d : Fin 256, @Eq EReal (w3 (ix3 0 d j)) (iblk m c 5 t (ix3 s d j))) (p : EReal)
    (hp : p = parts h w0 w1 w2 w3 i j) :
    p = ∑ k : Fin 1024, normed (m ((c : Thread nD τ).loc main_arg0)) (m ((c : Thread nD τ).loc main_arg1)) ⟨t.val * 512 + i.val, row_lt t i⟩ k
        * m ((c : Thread nD τ).loc main_arg2) (ix3 0 k q) := by
  have e : q = ⟨s.val * 768 + j.val, by omega⟩ := Fin.ext hq
  rw [e]
  refine hp.trans (.trans ?_ (four_parts fun k => normed (m ((c : Thread nD τ).loc main_arg0))
    (m ((c : Thread nD τ).loc main_arg1)) ⟨t.val * 512 + i.val, row_lt t i⟩ k
    * m ((c : Thread nD τ).loc main_arg2) (ix3 0 k ⟨s.val * 768 + j.val, by omega⟩)))
  refine congrArg₂ (fun a b : EReal => a + b) (congrArg₂ (fun a b : EReal => a + b) (congrArg₂ (fun a b : EReal => a + b) ?_ ?_) ?_) ?_
  · exact Finset.sum_congr rfl fun d _ => congrArg₂ (fun a b : EReal => a * b) (hh _) ((hw0 d).trans (w0_blk m c t s d j))
  · exact Finset.sum_congr rfl fun d _ => congrArg₂ (fun a b : EReal => a * b) (hh _) ((hw1 d).trans (w1_blk m c t s d j))
  · exact Finset.sum_congr rfl fun d _ => congrArg₂ (fun a b : EReal => a * b) (hh _) ((hw2 d).trans (w2_blk m c t s d j))
  · exact Finset.sum_congr rfl fun d _ => congrArg₂ (fun a b : EReal => a * b) (hh _) ((hw3 d).trans (w3_blk m c t s d j))

/-- Entry `(i, 768·s + j)` of a point's block: row `i` against column `j` of slab `s`. -/
theorem proj_block (c : Dev nD) (t : Fin cfg0.N) (i : Fin 512) (q : Fin 6144) :
    @Eq EReal (out0_6 (iblk m c 0 t) (iblk m c 1 t) (iblk m c 2 t) (iblk m c 3 t) (iblk m c 4 t) (iblk m c 5 t) (ix2 i q))
      (∑ k : Fin 1024, normed (m ((c : Thread nD τ).loc main_arg0)) (m ((c : Thread nD τ).loc main_arg1)) ⟨t.val * 512 + i.val, row_lt t i⟩ k
        * m ((c : Thread nD τ).loc main_arg2) (ix3 0 k q)) := by
  frame_out
  canon_tiles x h
  all_goals
    obtain ⟨a, j, rfl⟩ : ∃ (a : Fin 512) (j : Fin 768), x = ix2 a j := ⟨x 0, x 1, eq_ix2 x⟩
    obtain rfl : i = a := Fin.ext h0
    simp only [ix2_1] at h1
  · rw [pay20_eq]; exact piece m c t i q 7 j (by show q.val = 7 * 768 + j.val; omega) _ _ _ _ _ (normed_blk m c t i)
      (fun d => ld_slab7 _ d j) (fun d => ld_slab7 _ d j)
      (fun d => ld_slab7 _ d j) (fun d => ld_slab7 _ d j) _ (slab7_at _ _ _ _ _ i j)
  · rw [pay20_eq]; exact piece m c t i q 6 j (by show q.val = 6 * 768 + j.val; omega) _ _ _ _ _ (normed_blk m c t i)
      (fun d => ld_slab6 _ d j) (fun d => ld_slab6 _ d j)
      (fun d => ld_slab6 _ d j) (fun d => ld_slab6 _ d j) _ (slab6_at _ _ _ _ _ i j)
  · rw [pay20_eq]; exact piece m c t i q 5 j (by show q.val = 5 * 768 + j.val; omega) _ _ _ _ _ (normed_blk m c t i)
      (fun d => ld_slab5 _ d j) (fun d => ld_slab5 _ d j)
      (fun d => ld_slab5 _ d j) (fun d => ld_slab5 _ d j) _ (slab5_at _ _ _ _ _ i j)
  · rw [pay20_eq]; exact piece m c t i q 4 j (by show q.val = 4 * 768 + j.val; omega) _ _ _ _ _ (normed_blk m c t i)
      (fun d => ld_slab4 _ d j) (fun d => ld_slab4 _ d j)
      (fun d => ld_slab4 _ d j) (fun d => ld_slab4 _ d j) _ (slab4_at _ _ _ _ _ i j)
  · rw [pay20_eq]; exact piece m c t i q 3 j (by show q.val = 3 * 768 + j.val; omega) _ _ _ _ _ (normed_blk m c t i)
      (fun d => ld_slab3 _ d j) (fun d => ld_slab3 _ d j)
      (fun d => ld_slab3 _ d j) (fun d => ld_slab3 _ d j) _ (slab3_at _ _ _ _ _ i j)
  · rw [pay20_eq]; exact piece m c t i q 2 j (by show q.val = 2 * 768 + j.val; omega) _ _ _ _ _ (normed_blk m c t i)
      (fun d => ld_slab2 _ d j) (fun d => ld_slab2 _ d j)
      (fun d => ld_slab2 _ d j) (fun d => ld_slab2 _ d j) _ (slab2_at _ _ _ _ _ i j)
  · rw [pay20_eq]; exact piece m c t i q 1 j (by show q.val = 1 * 768 + j.val; omega) _ _ _ _ _ (normed_blk m c t i)
      (fun d => ld_slab1 _ d j) (fun d => ld_slab1 _ d j)
      (fun d => ld_slab1 _ d j) (fun d => ld_slab1 _ d j) _ (slab1_at _ _ _ _ _ i j)
  · exact piece m c t i q 0 j (by show q.val = 0 * 768 + j.val; omega) _ _ _ _ _ (normed_blk m c t i)
      (fun d => ld_slab0 _ d j) (fun d => ld_slab0 _ d j)
      (fun d => ld_slab0 _ d j) (fun d => ld_slab0 _ d j) _ (slab0_at _ _ _ _ _ _ i j)

theorem final6 (c : Dev nD) : (dats m 0 c).arrAt 6 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  obtain ⟨i, q, rfl⟩ : ∃ (i : Fin 512) (q : Fin 6144), y = ix2 i q := ⟨y 0, y 1, eq_ix2 y⟩
  rw [proj_emb]
  blk_simp
  rw [proj_at, after0_6]
  exact proj_block m c t i q

end Cert.Kernel6Ideal.InFwd0

end
-- ==== Proof.InFwd1Ref.lean ====
/-
  What the reference of `b_in_fwd_1` returns, entry by entry: the RMSNorm of a token's row, and its products with the
  columns of the layer's input projection.
-/
module

public import proofs.«01_k».proof.Proof.Gen.Reference7Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference7Ideal.InFwd1
open Cert.Reference7Ideal Cert.Reference7Ideal.Gen Cert.Reference7Ideal.Read
variable (X0 : FVec Ideal S4096x1024 .f32) (X1 : FVec Ideal S4x1024 .f32) (X2 : FVec Ideal S2x1024x4096 .f32)

/-- The normed row of token `t` at channel `k`. -/
def normed (t : Fin 4096) (k : Fin 1024) : EReal := X0 (ix2 t k) * rstd (fun k => X0 (ix2 t k)) * X1 (ix2 1 k)

theorem v14_at (t : Fin 4096) (k : Fin 1024) : val_main_v14 (F := Ideal) X0 X1 (ix2 t k) = normed X0 X1 t k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The second result, the normed rows. -/
theorem h_at (t : Fin 4096) (k : Fin 1024) : val_main_v19 (F := Ideal) X0 X1 (ix2 t k) = normed X0 X1 t k := by
  pointwise [val_main_v19]
  exact v14_at X0 X1 t k

/-- The first result, the projection. -/
theorem proj_at (t : Fin 4096) (q : Fin 4096) : val_main_v18 (F := Ideal) X0 X1 X2 (ix2 t q)
    = ∑ k : Fin 1024, normed X0 X1 t k * X2 (ix3 0 k q) := by
  pointwise [val_main_v18, val_main_v17, val_main_v16, val_main_v15]
  simp only [v14_at]

end Cert.Reference7Ideal.InFwd1

end
-- ==== Proof.InFwd1Value.lean ====
/-
  What `b_in_fwd_1` leaves in its two results: point `t` norms the 512 rows from `512·t`, stores them, and stores
  their products with the weight's eight column slabs side by side.
-/
module

public import proofs.«01_k».proof.Proof.Gen.Kernel7Ideal.Frame
public import proofs.«01_k».proof.Proof.InFwd1Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel7Ideal.InFwd1
open Cert.Kernel7Ideal Cert.Kernel7Ideal.Gen
open Cert.Reference7Ideal.InFwd1 (normed h_at proj_at)
open Cert.Reference7Ideal.Read (val_main_v18 val_main_v19)
variable (m : (ℓ : Loc nD τ sig) → Buf (Elt Ideal) ℓ)

/-- Every window's block index at point `t`. -/
theorem idx : ∀ t : Fin cfg0.N, win0_0.index t = ![t.val, 0] ∧ win0_1.index t = ![1, 0, 0] ∧ win0_2.index t = ![0, 0, 0]
    ∧ win0_3.index t = ![t.val, 0] ∧ win0_4.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem x_blk (c : Dev nD) (t : Fin cfg0.N) (i : Fin 512) (k : Fin 1024) :
    @Eq EReal (iblk m c 0 t (ix2 i k))
      (m ((c : Thread nD τ).loc main_arg0) (ix2 ⟨t.val * 512 + i.val, row_lt t i⟩ k)) := by
  blk_ext [iblk, V, idx t]

theorem g_blk (c : Dev nD) (t : Fin cfg0.N) (k : Fin 1024) :
    @Eq EReal (iblk m c 1 t (ix3 0 0 k)) (m ((c : Thread nD τ).loc main_arg1) (ix2 1 k)) := by
  blk_point [iblk, V, idx t]

theorem w_blk (c : Dev nD) (t : Fin cfg0.N) (s : Fin 8) (d : Fin 1024) (k : Fin 512) :
    @Eq EReal (iblk m c 2 t (ix3 s d k))
      (m ((c : Thread nD τ).loc main_arg2) (ix3 0 d ⟨s.val * 512 + k.val, by omega⟩)) := by
  blk_point [iblk, V, idx t]

/-- Where entry `(i, q)` of the block the first result's point `t` writes sits in the array. -/
theorem proj_emb (t : Fin cfg0.N) (i : Fin 512) (q : Fin 4096) :
    @Eq S4096x4096.Idx (((cfg0.win 3).blk t).view.emb (ix2 i q)) (ix2 ⟨t.val * 512 + i.val, row_lt t i⟩ q) := by
  blk_ext [idx t]

/-- … and of the second's. -/
theorem h_emb (t : Fin cfg0.N) (i : Fin 512) (k : Fin 1024) :
    @Eq S4096x1024.Idx (((cfg0.win 4).blk t).view.emb (ix2 i k)) (ix2 ⟨t.val * 512 + i.val, row_lt t i⟩ k) := by
  blk_ext [idx t]

/-! ## The normed rows -/

theorem norm_at (x : FVec Ideal S512x1024 .f32) (g : FVec Ideal S1x1x1024 .f32) (i : Fin 512) (k : Fin 1024) :
    @Eq EReal (k0_pay2 (F := Ideal) x g (ix2 i k)) (x (ix2 i k) * rstd (fun k => x (ix2 i k)) * g (ix3 0 0 k)) := by
  pointwise [k0_pay2]
  rfl

/-- The rows point `t` norms are the array's. -/
theorem normed_blk (c : Dev nD) (t : Fin cfg0.N) (i : Fin 512) (k : Fin 1024) :
    @Eq EReal (k0_pay2 (iblk m c 0 t) (iblk m c 1 t) (ix2 i k))
      (normed (m ((c : Thread nD τ).loc main_arg0)) (m ((c : Thread nD τ).loc main_arg1)) ⟨t.val * 512 + i.val, row_lt t i⟩ k) := by
  refine (norm_at _ _ i k).trans ?_
  simp only [x_blk, g_blk]
  rfl

theorem final4 (c : Dev nD) : (dats m 0 c).arrAt 4 (cfgs 0).N
    = val_main_v19 (F := Ideal) (m ((c : Thread nD τ).loc main_arg0)) (m ((c : Thread nD τ).loc main_arg1)) := by
  refine (dats m 0 c).arrAt_eq_of_covers 4 _ (by decide +kernel) fun t _ y => ?_
  obtain ⟨i, q, rfl⟩ : ∃ (i : Fin 512) (q : Fin 1024), y = ix2 i q := ⟨y 0, y 1, eq_ix2 y⟩
  rw [h_emb]
  blk_simp
  rw [h_at, after0_4]
  frame_out
  exact normed_blk m c t i q

/-! ## The projection -/

/-! Slab `s` of the weight's block, read as a vector. -/

section Slabs
variable (w : FVec Ideal S8x1024x512 .bf16) (k : Fin 1024) (j : Fin 512)

theorem ld_slab0 : @Eq EReal (View.ld (Val := Elt Ideal) (e' := .bf16) w r0_2 (ix3 0 k j)) (w (ix3 0 k j)) := by
  pointwise []

theorem ld_slab1 : @Eq EReal (View.ld (Val := Elt Ideal) (e' := .bf16) w r0_4 (ix3 0 k j)) (w (ix3 1 k j)) := by
  pointwise []

theorem ld_slab2 : @Eq EReal (View.ld (Val := Elt Ideal) (e' := .bf16) w r0_6 (ix3 0 k j)) (w (ix3 2 k j)) := by
  pointwise []

theorem ld_slab3 : @Eq EReal (View.ld (Val := Elt Ideal) (e' := .bf16) w r0_8 (ix3 0 k j)) (w (ix3 3 k j)) := by
  pointwise []

theorem ld_slab4 : @Eq EReal (View.ld (Val := Elt Ideal) (e' := .bf16) w r0_10 (ix3 0 k j)) (w (ix3 4 k j)) := by
  pointwise []

theorem ld_slab5 : @Eq EReal (View.ld (Val := Elt Ideal) (e' := .bf16) w r0_12 (ix3 0 k j)) (w (ix3 5 k j)) := by
  pointwise []

theorem ld_slab6 : @Eq EReal (View.ld (Val := Elt Ideal) (e' := .bf16) w r0_14 (ix3 0 k j)) (w (ix3 6 k j)) := by
  pointwise []

theorem ld_slab7 : @Eq EReal (View.ld (Val := Elt Ideal) (e' := .bf16) w r0_16 (ix3 0 k j)) (w (ix3 7 k j)) := by
  pointwise []

end Slabs

/-! Each store's payload: the normed rows against one slab. -/

section Payloads
variable (x : FVec Ideal S512x1024 .f32) (g : FVec Ideal S1x1x1024 .f32) (h : FVec Ideal S512x1024 .bf16)
  (w : FVec Ideal S1x1024x512 .bf16) (i j : Fin 512)

theorem slab0_at : @Eq EReal (k0_pay3 (F := Ideal) x g w (ix2 i j)) (∑ k : Fin 1024, k0_pay2 (F := Ideal) x g (ix2 i k) * w (ix3 0 k j)) := by
  pointwise [k0_pay3]

theorem slab1_at : @Eq EReal (k0_pay4 (F := Ideal) x g w (ix2 i j)) (∑ k : Fin 1024, k0_pay2 (F := Ideal) x g (ix2 i k) * w (ix3 0 k j)) := by
  pointwise [k0_pay4]

theorem slab2_at : @Eq EReal (k0_pay6 (F := Ideal) (k0_pay5 x g w) (ix2 i j)) (∑ k : Fin 1024, k0_pay2 (F := Ideal) x g (ix2 i k) * w (ix3 0 k j)) := by
  pointwise [k0_pay6, k0_pay5]

theorem slab3_at : @Eq EReal (k0_pay7 (F := Ideal) h w (ix2 i j)) (∑ k : Fin 1024, h (ix2 i k) * w (ix3 0 k j)) := by
  pointwise [k0_pay7]

theorem slab4_at : @Eq EReal (k0_pay8 (F := Ideal) h w (ix2 i j)) (∑ k : Fin 1024, h (ix2 i k) * w (ix3 0 k j)) := by
  pointwise [k0_pay8]

theorem slab5_at : @Eq EReal (k0_pay9 (F := Ideal) h w (ix2 i j)) (∑ k : Fin 1024, h (ix2 i k) * w (ix3 0 k j)) := by
  pointwise [k0_pay9]

theorem slab6_at : @Eq EReal (k0_pay10 (F := Ideal) h w (ix2 i j)) (∑ k : Fin 1024, h (ix2 i k) * w (ix3 0 k j)) := by
  pointwise [k0_pay10]

theorem slab7_at : @Eq EReal (k0_pay1 (F := Ideal) (k0_pay11 h w) (ix2 i j)) (∑ k : Fin 1024, h (ix2 i k) * w (ix3 0 k j)) := by
  pointwise [k0_pay1, k0_pay11]

end Payloads

/-- The value the later stores share is the normed rows. -/
theorem pay12_eq (x : FVec Ideal S512x1024 .f32) (g : FVec Ideal S1x1x1024 .f32) (w : FVec Ideal S8x1024x512 .bf16) :
    k0_pay12 (F := Ideal) x g w = k0_pay2 x g := by
  unfold k0_pay12
  frame_out

/-- A store of slab `s` is the projection's columns from `512·s`. -/
theorem piece (c : Dev nD) (t : Fin cfg0.N) (i : Fin 512) (q : Fin 4096) (s : Fin 8) (j : Fin 512)
    (hq : q.val = s.val * 512 + j.val) (h : FVec Ideal S512x1024 .bf16) (w : FVec Ideal S1x1024x512 .bf16)
    (hh : ∀ k : Fin 1024, @Eq EReal (h (ix2 i k)) (normed (m ((c : Thread nD τ).loc main_arg0))
      (m ((c : Thread nD τ).loc main_arg1)) ⟨t.val * 512 + i.val, row_lt t i⟩ k))
    (hw : ∀ k : Fin 1024, @Eq EReal (w (ix3 0 k j)) (iblk m c 2 t (ix3 s k j))) (p : EReal)
    (hp : p = ∑ k : Fin 1024, h (ix2 i k) * w (ix3 0 k j)) :
    p = ∑ k : Fin 1024, normed (m ((c : Thread nD τ).loc main_arg0)) (m ((c : Thread nD τ).loc main_arg1)) ⟨t.val * 512 + i.val, row_lt t i⟩ k
        * m ((c : Thread nD τ).loc main_arg2) (ix3 0 k q) := by
  have e : q = ⟨s.val * 512 + j.val, by omega⟩ := Fin.ext hq
  rw [e]
  refine hp.trans (Finset.sum_congr rfl fun k _ => congrArg₂ (fun a b : EReal => a * b) (hh k) ?_)
  exact (hw k).trans (w_blk m c t s k j)

/-- Entry `(i, 512·s + j)` of a point's block: row `i` against column `j` of slab `s`. -/
theorem proj_block (c : Dev nD) (t : Fin cfg0.N) (i : Fin 512) (q : Fin 4096) :
    @Eq EReal (out0_3 (iblk m c 0 t) (iblk m c 1 t) (iblk m c 2 t) (ix2 i q))
      (∑ k : Fin 1024, normed (m ((c : Thread nD τ).loc main_arg0)) (m ((c : Thread nD τ).loc main_arg1)) ⟨t.val * 512 + i.val, row_lt t i⟩ k
        * m ((c : Thread nD τ).loc main_arg2) (ix3 0 k q)) := by
  frame_out
  canon_tiles x h
  all_goals
    obtain ⟨a, j, rfl⟩ : ∃ (a j : Fin 512), x = ix2 a j := ⟨x 0, x 1, eq_ix2 x⟩
    obtain rfl : i = a := Fin.ext h0
    simp only [ix2_1] at h1
  · rw [pay12_eq]; exact piece m c t i q 7 j (by show q.val = 7 * 512 + j.val; omega) _ _ (normed_blk m c t i)
      (fun k => ld_slab7 _ k j) _ (slab7_at _ _ i j)
  · rw [pay12_eq]; exact piece m c t i q 6 j (by show q.val = 6 * 512 + j.val; omega) _ _ (normed_blk m c t i)
      (fun k => ld_slab6 _ k j) _ (slab6_at _ _ i j)
  · rw [pay12_eq]; exact piece m c t i q 5 j (by show q.val = 5 * 512 + j.val; omega) _ _ (normed_blk m c t i)
      (fun k => ld_slab5 _ k j) _ (slab5_at _ _ i j)
  · rw [pay12_eq]; exact piece m c t i q 4 j (by show q.val = 4 * 512 + j.val; omega) _ _ (normed_blk m c t i)
      (fun k => ld_slab4 _ k j) _ (slab4_at _ _ i j)
  · rw [pay12_eq]; exact piece m c t i q 3 j (by show q.val = 3 * 512 + j.val; omega) _ _ (normed_blk m c t i)
      (fun k => ld_slab3 _ k j) _ (slab3_at _ _ i j)
  · exact piece m c t i q 2 j (by show q.val = 2 * 512 + j.val; omega) _ _ (normed_blk m c t i)
      (fun k => ld_slab2 _ k j) _ (slab2_at _ _ _ i j)
  · exact piece m c t i q 1 j (by show q.val = 1 * 512 + j.val; omega) _ _ (normed_blk m c t i)
      (fun k => ld_slab1 _ k j) _ (slab1_at _ _ _ i j)
  · exact piece m c t i q 0 j (by show q.val = 0 * 512 + j.val; omega) _ _ (normed_blk m c t i)
      (fun k => ld_slab0 _ k j) _ (slab0_at _ _ _ i j)

theorem final3 (c : Dev nD) : (dats m 0 c).arrAt 3 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  obtain ⟨i, q, rfl⟩ : ∃ (i : Fin 512) (q : Fin 4096), y = ix2 i q := ⟨y 0, y 1, eq_ix2 y⟩
  rw [proj_emb]
  blk_simp
  rw [proj_at, after0_3]
  exact proj_block m c t i q

end Cert.Kernel7Ideal.InFwd1

end
-- ==== Proof.InFwd2Ref.lean ====
/-
  What the reference of `a_in_fwd_2` returns, entry by entry: the RMSNorm of a token's row, and its products with the
  columns of the layer's input projection.
-/
module

public import proofs.«01_k».proof.Proof.Gen.Reference8Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference8Ideal.InFwd2
open Cert.Reference8Ideal Cert.Reference8Ideal.Gen Cert.Reference8Ideal.Read
variable (X0 : FVec Ideal S4096x1024 .f32) (X1 : FVec Ideal S4x1024 .f32) (X2 : FVec Ideal S2x1024x6144 .f32)

/-- The normed row of token `t` at channel `k`. -/
def normed (t : Fin 4096) (k : Fin 1024) : EReal := X0 (ix2 t k) * rstd (fun k => X0 (ix2 t k)) * X1 (ix2 2 k)

theorem v14_at (t : Fin 4096) (k : Fin 1024) : val_main_v14 (F := Ideal) X0 X1 (ix2 t k) = normed X0 X1 t k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The second result, the normed rows. -/
theorem h_at (t : Fin 4096) (k : Fin 1024) : val_main_v19 (F := Ideal) X0 X1 (ix2 t k) = normed X0 X1 t k := by
  pointwise [val_main_v19]
  exact v14_at X0 X1 t k

/-- The first result, the projection. -/
theorem proj_at (t : Fin 4096) (q : Fin 6144) : val_main_v18 (F := Ideal) X0 X1 X2 (ix2 t q)
    = ∑ k : Fin 1024, normed X0 X1 t k * X2 (ix3 1 k q) := by
  pointwise [val_main_v18, val_main_v17, val_main_v16, val_main_v15]
  simp only [v14_at]

end Cert.Reference8Ideal.InFwd2

end
-- ==== Proof.InFwd2Value.lean ====
/-
  What `a_in_fwd_2` leaves in its two results: point `t` norms the 512 rows from `512·t`, stores them, and stores
  their products with the weight's eight column slabs side by side. The weight arrives as four parts of 256 rows, so that
  each product is the sum of four.
-/
module

public import proofs.«01_k».proof.Proof.Gen.Kernel8Ideal.Frame
public import proofs.«01_k».proof.Proof.InFwd2Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel8Ideal.InFwd2
open Cert.Kernel8Ideal Cert.Kernel8Ideal.Gen
open Cert.Reference8Ideal.InFwd2 (normed h_at proj_at)
open Cert.Reference8Ideal.Read (val_main_v18 val_main_v19)
variable (m : (ℓ : Loc nD τ sig) → Buf (Elt Ideal) ℓ)

/-- Every window's block index at point `t`. -/
theorem idx : ∀ t : Fin cfg0.N, win0_0.index t = ![t.val, 0] ∧ win0_1.index t = ![2, 0, 0] ∧ win0_2.index t = ![0, 0, 0]
    ∧ win0_3.index t = ![0, 0, 0] ∧ win0_4.index t = ![0, 0, 0] ∧ win0_5.index t = ![0, 0, 0]
    ∧ win0_6.index t = ![t.val, 0] ∧ win0_7.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem x_blk (c : Dev nD) (t : Fin cfg0.N) (i : Fin 512) (k : Fin 1024) :
    @Eq EReal (iblk m c 0 t (ix2 i k))
      (m ((c : Thread nD τ).loc main_arg0) (ix2 ⟨t.val * 512 + i.val, row_lt t i⟩ k)) := by
  blk_ext [iblk, V, idx t]

theorem g_blk (c : Dev nD) (t : Fin cfg0.N) (k : Fin 1024) :
    @Eq EReal (iblk m c 1 t (ix3 0 0 k)) (m ((c : Thread nD τ).loc main_arg1) (ix2 2 k)) := by
  blk_point [iblk, V, idx t]

/-- Part 0 of the weight holds its rows from 0. -/
theorem w0_blk (c : Dev nD) (t : Fin cfg0.N) (s : Fin 8) (d : Fin 256) (k : Fin 768) :
    @Eq EReal (iblk m c 2 t (ix3 s d k))
      (m ((c : Thread nD τ).loc main_arg2) (ix3 1 ⟨d.val, by omega⟩ ⟨s.val * 768 + k.val, by omega⟩)) := by
  blk_point [iblk, V, idx t]

/-- Part 1 of the weight holds its rows from 256. -/
theorem w1_blk (c : Dev nD) (t : Fin cfg0.N) (s : Fin 8) (d : Fin 256) (k : Fin 768) :
    @Eq EReal (iblk m c 3 t (ix3 s d k))
      (m ((c : Thread nD τ).loc main_arg2) (ix3 1 ⟨256 + d.val, by omega⟩ ⟨s.val * 768 + k.val, by omega⟩)) := by
  blk_point [iblk, V, idx t]

/-- Part 2 of the weight holds its rows from 512. -/
theorem w2_blk (c : Dev nD) (t : Fin cfg0.N) (s : Fin 8) (d : Fin 256) (k : Fin 768) :
    @Eq EReal (iblk m c 4 t (ix3 s d k))
      (m ((c : Thread nD τ).loc main_arg2) (ix3 1 ⟨512 + d.val, by omega⟩ ⟨s.val * 768 + k.val, by omega⟩)) := by
  blk_point [iblk, V, idx t]

/-- Part 3 of the weight holds its rows from 768. -/
theorem w3_blk (c : Dev nD) (t : Fin cfg0.N) (s : Fin 8) (d : Fin 256) (k : Fin 768) :
    @Eq EReal (iblk m c 5 t (ix3 s d k))
      (m ((c : Thread nD τ).loc main_arg2) (ix3 1 ⟨768 + d.val, by omega⟩ ⟨s.val * 768 + k.val, by omega⟩)) := by
  blk_point [iblk, V, idx t]

/-- Where entry `(i, q)` of the block the first result's point `t` writes sits in the array. -/
theorem proj_emb (t : Fin cfg0.N) (i : Fin 512) (q : Fin 6144) :
    @Eq S4096x6144.Idx (((cfg0.win 6).blk t).view.emb (ix2 i q)) (ix2 ⟨t.val * 512 + i.val, row_lt t i⟩ q) := by
  blk_ext [idx t]

/-- … and of the second's. -/
theorem h_emb (t : Fin cfg0.N) (i : Fin 512) (k : Fin 1024) :
    @Eq S4096x1024.Idx (((cfg0.win 7).blk t).view.emb (ix2 i k)) (ix2 ⟨t.val * 512 + i.val, row_lt t i⟩ k) := by
  blk_ext [idx t]

/-! ## The normed rows -/

theorem norm_at (x : FVec Ideal S512x1024 .f32) (g : FVec Ideal S1x1x1024 .f32) (i : Fin 512) (k : Fin 1024) :
    @Eq EReal (k0_pay3 (F := Ideal) x g (ix2 i k)) (x (ix2 i k) * rstd (fun k => x (ix2 i k)) * g (ix3 0 0 k)) := by
  pointwise [k0_pay3]
  rfl

/-- The rows point `t` norms are the array's. -/
theorem normed_blk (c : Dev nD) (t : Fin cfg0.N) (i : Fin 512) (k : Fin 1024) :
    @Eq EReal (k0_pay3 (iblk m c 0 t) (iblk m c 1 t) (ix2 i k))
      (normed (m ((c : Thread nD τ).loc main_arg0)) (m ((c : Thread nD τ).loc main_arg1)) ⟨t.val * 512 + i.val, row_lt t i⟩ k) := by
  refine (norm_at _ _ i k).trans ?_
  simp only [x_blk, g_blk]
  rfl

theorem final7 (c : Dev nD) : (dats m 0 c).arrAt 7 (cfgs 0).N
    = val_main_v19 (F := Ideal) (m ((c : Thread nD τ).loc main_arg0)) (m ((c : Thread nD τ).loc main_arg1)) := by
  refine (dats m 0 c).arrAt_eq_of_covers 7 _ (by decide +kernel) fun t _ y => ?_
  obtain ⟨i, q, rfl⟩ : ∃ (i : Fin 512) (q : Fin 1024), y = ix2 i q := ⟨y 0, y 1, eq_ix2 y⟩
  rw [h_emb]
  blk_simp
  rw [h_at, after0_7]
  frame_out
  exact normed_blk m c t i q

/-! ## The projection -/

/-! Slab `s` of a weight part's block, read as a vector. -/

section Slabs
variable (w : FVec Ideal S8x256x768 .bf16) (k : Fin 256) (j : Fin 768)

theorem ld_slab0 : @Eq EReal (View.ld (Val := Elt Ideal) (e' := .bf16) w r0_2 (ix3 0 k j)) (w (ix3 0 k j)) := by
  pointwise []

theorem ld_slab1 : @Eq EReal (View.ld (Val := Elt Ideal) (e' := .bf16) w r0_4 (ix3 0 k j)) (w (ix3 1 k j)) := by
  pointwise []

theorem ld_slab2 : @Eq EReal (View.ld (Val := Elt Ideal) (e' := .bf16) w r0_6 (ix3 0 k j)) (w (ix3 2 k j)) := by
  pointwise []

theorem ld_slab3 : @Eq EReal (View.ld (Val := Elt Ideal) (e' := .bf16) w r0_8 (ix3 0 k j)) (w (ix3 3 k j)) := by
  pointwise []

theorem ld_slab4 : @Eq EReal (View.ld (Val := Elt Ideal) (e' := .bf16) w r0_10 (ix3 0 k j)) (w (ix3 4 k j)) := by
  pointwise []

theorem ld_slab5 : @Eq EReal (View.ld (Val := Elt Ideal) (e' := .bf16) w r0_12 (ix3 0 k j)) (w (ix3 5 k j)) := by
  pointwise []

theorem ld_slab6 : @Eq EReal (View.ld (Val := Elt Ideal) (e' := .bf16) w r0_14 (ix3 0 k j)) (w (ix3 6 k j)) := by
  pointwise []

theorem ld_slab7 : @Eq EReal (View.ld (Val := Elt Ideal) (e' := .bf16) w r0_16 (ix3 0 k j)) (w (ix3 7 k j)) := by
  pointwise []

end Slabs

/-! Each store's payload: the normed rows against one slab, its four parts' products added. -/

/-- Row `i` of `h` against column `j` of the four parts of a slab. -/
def parts (h : FVec Ideal S512x1024 .bf16) (w0 w1 w2 w3 : FVec Ideal S1x256x768 .bf16) (i : Fin 512) (j : Fin 768) : EReal :=
  (∑ d : Fin 256, h (ix2 i ⟨d.val, by omega⟩) * w0 (ix3 0 d j)) + (∑ d : Fin 256, h (ix2 i ⟨256 + d.val, by omega⟩) * w1 (ix3 0 d j))
    + (∑ d : Fin 256, h (ix2 i ⟨512 + d.val, by omega⟩) * w2 (ix3 0 d j)) + (∑ d : Fin 256, h (ix2 i ⟨768 + d.val, by omega⟩) * w3 (ix3 0 d j))

section Payloads
variable (x : FVec Ideal S512x1024 .f32) (g : FVec Ideal S1x1x1024 .f32) (h : FVec Ideal S512x1024 .bf16)
  (w0 w1 w2 w3 : FVec Ideal S1x256x768 .bf16) (i : Fin 512) (j : Fin 768)

theorem slab0_at : @Eq EReal (k0_pay6 (F := Ideal) (k0_pay4 x g w0 w1 w2) (k0_pay5 x g) w3 (ix2 i j)) (parts (k0_pay3 (F := Ideal) x g) w0 w1 w2 w3 i j) := by
  pointwise [k0_pay6, k0_pay4, k0_pay5]
  rfl

theorem slab1_at : @Eq EReal (k0_pay7 (F := Ideal) h w0 w1 w2 w3 (ix2 i j)) (parts h w0 w1 w2 w3 i j) := by
  pointwise [k0_pay7]
  rfl

theorem slab2_at : @Eq EReal (k0_pay10 (F := Ideal) h (k0_pay8 h w0) (k0_pay9 h) w1 w2 w3 (ix2 i j)) (parts h w0 w1 w2 w3 i j) := by
  pointwise [k0_pay10, k0_pay8, k0_pay9]
  rfl

theorem slab3_at : @Eq EReal (k0_pay13 (F := Ideal) (k0_pay11 h w0 w1 w2) (k0_pay12 h) w3 (ix2 i j)) (parts h w0 w1 w2 w3 i j) := by
  pointwise [k0_pay13, k0_pay11, k0_pay12]
  rfl

theorem slab4_at : @Eq EReal (k0_pay14 (F := Ideal) h w0 w1 w2 w3 (ix2 i j)) (parts h w0 w1 w2 w3 i j) := by
  pointwise [k0_pay14]
  rfl

theorem slab5_at : @Eq EReal (k0_pay17 (F := Ideal) h (k0_pay15 h w0) (k0_pay16 h) w1 w2 w3 (ix2 i j)) (parts h w0 w1 w2 w3 i j) := by
  pointwise [k0_pay17, k0_pay15, k0_pay16]
  rfl

theorem slab6_at : @Eq EReal (k0_pay1 (F := Ideal) (k0_pay18 h w0 w1 w2) (k0_pay19 h) w3 (ix2 i j)) (parts h w0 w1 w2 w3 i j) := by
  pointwise [k0_pay1, k0_pay18, k0_pay19]
  rfl

theorem slab7_at : @Eq EReal (k0_pay2 (F := Ideal) h w0 w1 w2 w3 (ix2 i j)) (parts h w0 w1 w2 w3 i j) := by
  pointwise [k0_pay2]
  rfl

end Payloads

/-- The value the later stores share is the normed rows. -/
theorem pay20_eq (x : FVec Ideal S512x1024 .f32) (g : FVec Ideal S1x1x1024 .f32) (w0 w1 w2 w3 : FVec Ideal S8x256x768 .bf16) :
    k0_pay20 (F := Ideal) x g w0 w1 w2 w3 = k0_pay3 x g := by
  unfold k0_pay20
  frame_out

/-- A sum over the 1024 channels, four quarters added. -/
theorem four_parts (f : Fin 1024 → EReal) : (∑ d : Fin 256, f ⟨d.val, by omega⟩) + (∑ d : Fin 256, f ⟨256 + d.val, by omega⟩)
    + (∑ d : Fin 256, f ⟨512 + d.val, by omega⟩) + (∑ d : Fin 256, f ⟨768 + d.val, by omega⟩) = ∑ k : Fin 1024, f k := by
  refine ((Fin.sum_univ_tiles 4 256 rfl f).trans ?_).symm
  rw [Fin.sum_univ_four]
  refine congrArg₂ (· + ·) (congrArg₂ (· + ·) (congrArg₂ (· + ·) ?_ ?_) ?_) ?_ <;>
    exact Finset.sum_congr rfl fun d _ => congrArg f (Fin.ext (by simp))

/-- A store of slab `s` is the projection's columns from `768·s`. -/
theorem piece (c : Dev nD) (t : Fin cfg0.N) (i : Fin 512) (q : Fin 6144) (s : Fin 8) (j : Fin 768)
    (hq : q.val = s.val * 768 + j.val) (h : FVec Ideal S512x1024 .bf16) (w0 w1 w2 w3 : FVec Ideal S1x256x768 .bf16)
    (hh : ∀ k : Fin 1024, @Eq EReal (h (ix2 i k)) (normed (m ((c : Thread nD τ).loc main_arg0))
      (m ((c : Thread nD τ).loc main_arg1)) ⟨t.val * 512 + i.val, row_lt t i⟩ k))
    (hw0 : ∀ d : Fin 256, @Eq EReal (w0 (ix3 0 d j)) (iblk m c 2 t (ix3 s d j)))
    (hw1 : ∀ d : Fin 256, @Eq EReal (w1 (ix3 0 d j)) (iblk m c 3 t (ix3 s d j)))
    (hw2 : ∀ d : Fin 256, @Eq EReal (w2 (ix3 0 d j)) (iblk m c 4 t (ix3 s d j)))
    (hw3 : ∀ d : Fin 256, @Eq EReal (w3 (ix3 0 d j)) (iblk m c 5 t (ix3 s d j))) (p : EReal)
    (hp : p = parts h w0 w1 w2 w3 i j) :
    p = ∑ k : Fin 1024, normed (m ((c : Thread nD τ).loc main_arg0)) (m ((c : Thread nD τ).loc main_arg1)) ⟨t.val * 512 + i.val, row_lt t i⟩ k
        * m ((c : Thread nD τ).loc main_arg2) (ix3 1 k q) := by
  have e : q = ⟨s.val * 768 + j.val, by omega⟩ := Fin.ext hq
  rw [e]
  refine hp.trans (.trans ?_ (four_parts fun k => normed (m ((c : Thread nD τ).loc main_arg0))
    (m ((c : Thread nD τ).loc main_arg1)) ⟨t.val * 512 + i.val, row_lt t i⟩ k
    * m ((c : Thread nD τ).loc main_arg2) (ix3 1 k ⟨s.val * 768 + j.val, by omega⟩)))
  refine congrArg₂ (fun a b : EReal => a + b) (congrArg₂ (fun a b : EReal => a + b) (congrArg₂ (fun a b : EReal => a + b) ?_ ?_) ?_) ?_
  · exact Finset.sum_congr rfl fun d _ => congrArg₂ (fun a b : EReal => a * b) (hh _) ((hw0 d).trans (w0_blk m c t s d j))
  · exact Finset.sum_congr rfl fun d _ => congrArg₂ (fun a b : EReal => a * b) (hh _) ((hw1 d).trans (w1_blk m c t s d j))
  · exact Finset.sum_congr rfl fun d _ => congrArg₂ (fun a b : EReal => a * b) (hh _) ((hw2 d).trans (w2_blk m c t s d j))
  · exact Finset.sum_congr rfl fun d _ => congrArg₂ (fun a b : EReal => a * b) (hh _) ((hw3 d).trans (w3_blk m c t s d j))

/-- Entry `(i, 768·s + j)` of a point's block: row `i` against column `j` of slab `s`. -/
theorem proj_block (c : Dev nD) (t : Fin cfg0.N) (i : Fin 512) (q : Fin 6144) :
    @Eq EReal (out0_6 (iblk m c 0 t) (iblk m c 1 t) (iblk m c 2 t) (iblk m c 3 t) (iblk m c 4 t) (iblk m c 5 t) (ix2 i q))
      (∑ k : Fin 1024, normed (m ((c : Thread nD τ).loc main_arg0)) (m ((c : Thread nD τ).loc main_arg1)) ⟨t.val * 512 + i.val, row_lt t i⟩ k
        * m ((c : Thread nD τ).loc main_arg2) (ix3 1 k q)) := by
  frame_out
  canon_tiles x h
  all_goals
    obtain ⟨a, j, rfl⟩ : ∃ (a : Fin 512) (j : Fin 768), x = ix2 a j := ⟨x 0, x 1, eq_ix2 x⟩
    obtain rfl : i = a := Fin.ext h0
    simp only [ix2_1] at h1
  · rw [pay20_eq]; exact piece m c t i q 7 j (by show q.val = 7 * 768 + j.val; omega) _ _ _ _ _ (normed_blk m c t i)
      (fun d => ld_slab7 _ d j) (fun d => ld_slab7 _ d j)
      (fun d => ld_slab7 _ d j) (fun d => ld_slab7 _ d j) _ (slab7_at _ _ _ _ _ i j)
  · rw [pay20_eq]; exact piece m c t i q 6 j (by show q.val = 6 * 768 + j.val; omega) _ _ _ _ _ (normed_blk m c t i)
      (fun d => ld_slab6 _ d j) (fun d => ld_slab6 _ d j)
      (fun d => ld_slab6 _ d j) (fun d => ld_slab6 _ d j) _ (slab6_at _ _ _ _ _ i j)
  · rw [pay20_eq]; exact piece m c t i q 5 j (by show q.val = 5 * 768 + j.val; omega) _ _ _ _ _ (normed_blk m c t i)
      (fun d => ld_slab5 _ d j) (fun d => ld_slab5 _ d j)
      (fun d => ld_slab5 _ d j) (fun d => ld_slab5 _ d j) _ (slab5_at _ _ _ _ _ i j)
  · rw [pay20_eq]; exact piece m c t i q 4 j (by show q.val = 4 * 768 + j.val; omega) _ _ _ _ _ (normed_blk m c t i)
      (fun d => ld_slab4 _ d j) (fun d => ld_slab4 _ d j)
      (fun d => ld_slab4 _ d j) (fun d => ld_slab4 _ d j) _ (slab4_at _ _ _ _ _ i j)
  · rw [pay20_eq]; exact piece m c t i q 3 j (by show q.val = 3 * 768 + j.val; omega) _ _ _ _ _ (normed_blk m c t i)
      (fun d => ld_slab3 _ d j) (fun d => ld_slab3 _ d j)
      (fun d => ld_slab3 _ d j) (fun d => ld_slab3 _ d j) _ (slab3_at _ _ _ _ _ i j)
  · rw [pay20_eq]; exact piece m c t i q 2 j (by show q.val = 2 * 768 + j.val; omega) _ _ _ _ _ (normed_blk m c t i)
      (fun d => ld_slab2 _ d j) (fun d => ld_slab2 _ d j)
      (fun d => ld_slab2 _ d j) (fun d => ld_slab2 _ d j) _ (slab2_at _ _ _ _ _ i j)
  · rw [pay20_eq]; exact piece m c t i q 1 j (by show q.val = 1 * 768 + j.val; omega) _ _ _ _ _ (normed_blk m c t i)
      (fun d => ld_slab1 _ d j) (fun d => ld_slab1 _ d j)
      (fun d => ld_slab1 _ d j) (fun d => ld_slab1 _ d j) _ (slab1_at _ _ _ _ _ i j)
  · exact piece m c t i q 0 j (by show q.val = 0 * 768 + j.val; omega) _ _ _ _ _ (normed_blk m c t i)
      (fun d => ld_slab0 _ d j) (fun d => ld_slab0 _ d j)
      (fun d => ld_slab0 _ d j) (fun d => ld_slab0 _ d j) _ (slab0_at _ _ _ _ _ _ i j)

theorem final6 (c : Dev nD) : (dats m 0 c).arrAt 6 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  obtain ⟨i, q, rfl⟩ : ∃ (i : Fin 512) (q : Fin 6144), y = ix2 i q := ⟨y 0, y 1, eq_ix2 y⟩
  rw [proj_emb]
  blk_simp
  rw [proj_at, after0_6]
  exact proj_block m c t i q

end Cert.Kernel8Ideal.InFwd2

end
-- ==== Proof.InFwd3Ref.lean ====
/-
  What the reference of `b_in_fwd_3` returns, entry by entry: the RMSNorm of a token's row, and its products with the
  columns of the layer's input projection.
-/
module

public import proofs.«01_k».proof.Proof.Gen.Reference9Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference9Ideal.InFwd3
open Cert.Reference9Ideal Cert.Reference9Ideal.Gen Cert.Reference9Ideal.Read
variable (X0 : FVec Ideal S4096x1024 .f32) (X1 : FVec Ideal S4x1024 .f32) (X2 : FVec Ideal S2x1024x4096 .f32)

/-- The normed row of token `t` at channel `k`. -/
def normed (t : Fin 4096) (k : Fin 1024) : EReal := X0 (ix2 t k) * rstd (fun k => X0 (ix2 t k)) * X1 (ix2 3 k)

theorem v14_at (t : Fin 4096) (k : Fin 1024) : val_main_v14 (F := Ideal) X0 X1 (ix2 t k) = normed X0 X1 t k := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The second result, the normed rows. -/
theorem h_at (t : Fin 4096) (k : Fin 1024) : val_main_v19 (F := Ideal) X0 X1 (ix2 t k) = normed X0 X1 t k := by
  pointwise [val_main_v19]
  exact v14_at X0 X1 t k

/-- The first result, the projection. -/
theorem proj_at (t : Fin 4096) (q : Fin 4096) : val_main_v18 (F := Ideal) X0 X1 X2 (ix2 t q)
    = ∑ k : Fin 1024, normed X0 X1 t k * X2 (ix3 1 k q) := by
  pointwise [val_main_v18, val_main_v17, val_main_v16, val_main_v15]
  simp only [v14_at]

end Cert.Reference9Ideal.InFwd3

end
-- ==== Proof.InFwd3Value.lean ====
/-
  What `b_in_fwd_3` leaves in its two results: point `t` norms the 512 rows from `512·t`, stores them, and stores
  their products with the weight's eight column slabs side by side.
-/
module

public import proofs.«01_k».proof.Proof.Gen.Kernel9Ideal.Frame
public import proofs.«01_k».proof.Proof.InFwd3Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel9Ideal.InFwd3
open Cert.Kernel9Ideal Cert.Kernel9Ideal.Gen
open Cert.Reference9Ideal.InFwd3 (normed h_at proj_at)
open Cert.Reference9Ideal.Read (val_main_v18 val_main_v19)
variable (m : (ℓ : Loc nD τ sig) → Buf (Elt Ideal) ℓ)

/-- Every window's block index at point `t`. -/
theorem idx : ∀ t : Fin cfg0.N, win0_0.index t = ![t.val, 0] ∧ win0_1.index t = ![3, 0, 0] ∧ win0_2.index t = ![0, 0, 0]
    ∧ win0_3.index t = ![t.val, 0] ∧ win0_4.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem x_blk (c : Dev nD) (t : Fin cfg0.N) (i : Fin 512) (k : Fin 1024) :
    @Eq EReal (iblk m c 0 t (ix2 i k))
      (m ((c : Thread nD τ).loc main_arg0) (ix2 ⟨t.val * 512 + i.val, row_lt t i⟩ k)) := by
  blk_ext [iblk, V, idx t]

theorem g_blk (c : Dev nD) (t : Fin cfg0.N) (k : Fin 1024) :
    @Eq EReal (iblk m c 1 t (ix3 0 0 k)) (m ((c : Thread nD τ).loc main_arg1) (ix2 3 k)) := by
  blk_point [iblk, V, idx t]

theorem w_blk (c : Dev nD) (t : Fin cfg0.N) (s : Fin 8) (d : Fin 1024) (k : Fin 512) :
    @Eq EReal (iblk m c 2 t (ix3 s d k))
      (m ((c : Thread nD τ).loc main_arg2) (ix3 1 d ⟨s.val * 512 + k.val, by omega⟩)) := by
  blk_point [iblk, V, idx t]

/-- Where entry `(i, q)` of the block the first result's point `t` writes sits in the array. -/
theorem proj_emb (t : Fin cfg0.N) (i : Fin 512) (q : Fin 4096) :
    @Eq S4096x4096.Idx (((cfg0.win 3).blk t).view.emb (ix2 i q)) (ix2 ⟨t.val * 512 + i.val, row_lt t i⟩ q) := by
  blk_ext [idx t]

/-- … and of the second's. -/
theorem h_emb (t : Fin cfg0.N) (i : Fin 512) (k : Fin 1024) :
    @Eq S4096x1024.Idx (((cfg0.win 4).blk t).view.emb (ix2 i k)) (ix2 ⟨t.val * 512 + i.val, row_lt t i⟩ k) := by
  blk_ext [idx t]

/-! ## The normed rows -/

theorem norm_at (x : FVec Ideal S512x1024 .f32) (g : FVec Ideal S1x1x1024 .f32) (i : Fin 512) (k : Fin 1024) :
    @Eq EReal (k0_pay2 (F := Ideal) x g (ix2 i k)) (x (ix2 i k) * rstd (fun k => x (ix2 i k)) * g (ix3 0 0 k)) := by
  pointwise [k0_pay2]
  rfl

/-- The rows point `t` norms are the array's. -/
theorem normed_blk (c : Dev nD) (t : Fin cfg0.N) (i : Fin 512) (k : Fin 1024) :
    @Eq EReal (k0_pay2 (iblk m c 0 t) (iblk m c 1 t) (ix2 i k))
      (normed (m ((c : Thread nD τ).loc main_arg0)) (m ((c : Thread nD τ).loc main_arg1)) ⟨t.val * 512 + i.val, row_lt t i⟩ k) := by
  refine (norm_at _ _ i k).trans ?_
  simp only [x_blk, g_blk]
  rfl

theorem final4 (c : Dev nD) : (dats m 0 c).arrAt 4 (cfgs 0).N
    = val_main_v19 (F := Ideal) (m ((c : Thread nD τ).loc main_arg0)) (m ((c : Thread nD τ).loc main_arg1)) := by
  refine (dats m 0 c).arrAt_eq_of_covers 4 _ (by decide +kernel) fun t _ y => ?_
  obtain ⟨i, q, rfl⟩ : ∃ (i : Fin 512) (q : Fin 1024), y = ix2 i q := ⟨y 0, y 1, eq_ix2 y⟩
  rw [h_emb]
  blk_simp
  rw [h_at, after0_4]
  frame_out
  exact normed_blk m c t i q

/-! ## The projection -/

/-! Slab `s` of the weight's block, read as a vector. -/

section Slabs
variable (w : FVec Ideal S8x1024x512 .bf16) (k : Fin 1024) (j : Fin 512)

theorem ld_slab0 : @Eq EReal (View.ld (Val := Elt Ideal) (e' := .bf16) w r0_2 (ix3 0 k j)) (w (ix3 0 k j)) := by
  pointwise []

theorem ld_slab1 : @Eq EReal (View.ld (Val := Elt Ideal) (e' := .bf16) w r0_4 (ix3 0 k j)) (w (ix3 1 k j)) := by
  pointwise []

theorem ld_slab2 : @Eq EReal (View.ld (Val := Elt Ideal) (e' := .bf16) w r0_6 (ix3 0 k j)) (w (ix3 2 k j)) := by
  pointwise []

theorem ld_slab3 : @Eq EReal (View.ld (Val := Elt Ideal) (e' := .bf16) w r0_8 (ix3 0 k j)) (w (ix3 3 k j)) := by
  pointwise []

theorem ld_slab4 : @Eq EReal (View.ld (Val := Elt Ideal) (e' := .bf16) w r0_10 (ix3 0 k j)) (w (ix3 4 k j)) := by
  pointwise []

theorem ld_slab5 : @Eq EReal (View.ld (Val := Elt Ideal) (e' := .bf16) w r0_12 (ix3 0 k j)) (w (ix3 5 k j)) := by
  pointwise []

theorem ld_slab6 : @Eq EReal (View.ld (Val := Elt Ideal) (e' := .bf16) w r0_14 (ix3 0 k j)) (w (ix3 6 k j)) := by
  pointwise []

theorem ld_slab7 : @Eq EReal (View.ld (Val := Elt Ideal) (e' := .bf16) w r0_16 (ix3 0 k j)) (w (ix3 7 k j)) := by
  pointwise []

end Slabs

/-! Each store's payload: the normed rows against one slab. -/

section Payloads
variable (x : FVec Ideal S512x1024 .f32) (g : FVec Ideal S1x1x1024 .f32) (h : FVec Ideal S512x1024 .bf16)
  (w : FVec Ideal S1x1024x512 .bf16) (i j : Fin 512)

theorem slab0_at : @Eq EReal (k0_pay3 (F := Ideal) x g w (ix2 i j)) (∑ k : Fin 1024, k0_pay2 (F := Ideal) x g (ix2 i k) * w (ix3 0 k j)) := by
  pointwise [k0_pay3]

theorem slab1_at : @Eq EReal (k0_pay4 (F := Ideal) x g w (ix2 i j)) (∑ k : Fin 1024, k0_pay2 (F := Ideal) x g (ix2 i k) * w (ix3 0 k j)) := by
  pointwise [k0_pay4]

theorem slab2_at : @Eq EReal (k0_pay6 (F := Ideal) (k0_pay5 x g w) (ix2 i j)) (∑ k : Fin 1024, k0_pay2 (F := Ideal) x g (ix2 i k) * w (ix3 0 k j)) := by
  pointwise [k0_pay6, k0_pay5]

theorem slab3_at : @Eq EReal (k0_pay7 (F := Ideal) h w (ix2 i j)) (∑ k : Fin 1024, h (ix2 i k) * w (ix3 0 k j)) := by
  pointwise [k0_pay7]

theorem slab4_at : @Eq EReal (k0_pay8 (F := Ideal) h w (ix2 i j)) (∑ k : Fin 1024, h (ix2 i k) * w (ix3 0 k j)) := by
  pointwise [k0_pay8]

theorem slab5_at : @Eq EReal (k0_pay9 (F := Ideal) h w (ix2 i j)) (∑ k : Fin 1024, h (ix2 i k) * w (ix3 0 k j)) := by
  pointwise [k0_pay9]

theorem slab6_at : @Eq EReal (k0_pay10 (F := Ideal) h w (ix2 i j)) (∑ k : Fin 1024, h (ix2 i k) * w (ix3 0 k j)) := by
  pointwise [k0_pay10]

theorem slab7_at : @Eq EReal (k0_pay1 (F := Ideal) (k0_pay11 h w) (ix2 i j)) (∑ k : Fin 1024, h (ix2 i k) * w (ix3 0 k j)) := by
  pointwise [k0_pay1, k0_pay11]

end Payloads

/-- The value the later stores share is the normed rows. -/
theorem pay12_eq (x : FVec Ideal S512x1024 .f32) (g : FVec Ideal S1x1x1024 .f32) (w : FVec Ideal S8x1024x512 .bf16) :
    k0_pay12 (F := Ideal) x g w = k0_pay2 x g := by
  unfold k0_pay12
  frame_out

/-- A store of slab `s` is the projection's columns from `512·s`. -/
theorem piece (c : Dev nD) (t : Fin cfg0.N) (i : Fin 512) (q : Fin 4096) (s : Fin 8) (j : Fin 512)
    (hq : q.val = s.val * 512 + j.val) (h : FVec Ideal S512x1024 .bf16) (w : FVec Ideal S1x1024x512 .bf16)
    (hh : ∀ k : Fin 1024, @Eq EReal (h (ix2 i k)) (normed (m ((c : Thread nD τ).loc main_arg0))
      (m ((c : Thread nD τ).loc main_arg1)) ⟨t.val * 512 + i.val, row_lt t i⟩ k))
    (hw : ∀ k : Fin 1024, @Eq EReal (w (ix3 0 k j)) (iblk m c 2 t (ix3 s k j))) (p : EReal)
    (hp : p = ∑ k : Fin 1024, h (ix2 i k) * w (ix3 0 k j)) :
    p = ∑ k : Fin 1024, normed (m ((c : Thread nD τ).loc main_arg0)) (m ((c : Thread nD τ).loc main_arg1)) ⟨t.val * 512 + i.val, row_lt t i⟩ k
        * m ((c : Thread nD τ).loc main_arg2) (ix3 1 k q) := by
  have e : q = ⟨s.val * 512 + j.val, by omega⟩ := Fin.ext hq
  rw [e]
  refine hp.trans (Finset.sum_congr rfl fun k _ => congrArg₂ (fun a b : EReal => a * b) (hh k) ?_)
  exact (hw k).trans (w_blk m c t s k j)

/-- Entry `(i, 512·s + j)` of a point's block: row `i` against column `j` of slab `s`. -/
theorem proj_block (c : Dev nD) (t : Fin cfg0.N) (i : Fin 512) (q : Fin 4096) :
    @Eq EReal (out0_3 (iblk m c 0 t) (iblk m c 1 t) (iblk m c 2 t) (ix2 i q))
      (∑ k : Fin 1024, normed (m ((c : Thread nD τ).loc main_arg0)) (m ((c : Thread nD τ).loc main_arg1)) ⟨t.val * 512 + i.val, row_lt t i⟩ k
        * m ((c : Thread nD τ).loc main_arg2) (ix3 1 k q)) := by
  frame_out
  canon_tiles x h
  all_goals
    obtain ⟨a, j, rfl⟩ : ∃ (a j : Fin 512), x = ix2 a j := ⟨x 0, x 1, eq_ix2 x⟩
    obtain rfl : i = a := Fin.ext h0
    simp only [ix2_1] at h1
  · rw [pay12_eq]; exact piece m c t i q 7 j (by show q.val = 7 * 512 + j.val; omega) _ _ (normed_blk m c t i)
      (fun k => ld_slab7 _ k j) _ (slab7_at _ _ i j)
  · rw [pay12_eq]; exact piece m c t i q 6 j (by show q.val = 6 * 512 + j.val; omega) _ _ (normed_blk m c t i)
      (fun k => ld_slab6 _ k j) _ (slab6_at _ _ i j)
  · rw [pay12_eq]; exact piece m c t i q 5 j (by show q.val = 5 * 512 + j.val; omega) _ _ (normed_blk m c t i)
      (fun k => ld_slab5 _ k j) _ (slab5_at _ _ i j)
  · rw [pay12_eq]; exact piece m c t i q 4 j (by show q.val = 4 * 512 + j.val; omega) _ _ (normed_blk m c t i)
      (fun k => ld_slab4 _ k j) _ (slab4_at _ _ i j)
  · rw [pay12_eq]; exact piece m c t i q 3 j (by show q.val = 3 * 512 + j.val; omega) _ _ (normed_blk m c t i)
      (fun k => ld_slab3 _ k j) _ (slab3_at _ _ i j)
  · exact piece m c t i q 2 j (by show q.val = 2 * 512 + j.val; omega) _ _ (normed_blk m c t i)
      (fun k => ld_slab2 _ k j) _ (slab2_at _ _ _ i j)
  · exact piece m c t i q 1 j (by show q.val = 1 * 512 + j.val; omega) _ _ (normed_blk m c t i)
      (fun k => ld_slab1 _ k j) _ (slab1_at _ _ _ i j)
  · exact piece m c t i q 0 j (by show q.val = 0 * 512 + j.val; omega) _ _ (normed_blk m c t i)
      (fun k => ld_slab0 _ k j) _ (slab0_at _ _ _ i j)

theorem final3 (c : Dev nD) : (dats m 0 c).arrAt 3 (cfgs 0).N
    = val_main_v18 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  obtain ⟨i, q, rfl⟩ : ∃ (i : Fin 512) (q : Fin 4096), y = ix2 i q := ⟨y 0, y 1, eq_ix2 y⟩
  rw [proj_emb]
  blk_simp
  rw [proj_at, after0_3]
  exact proj_block m c t i q

end Cert.Kernel9Ideal.InFwd3

end
-- ==== Proof.OutFwd0Ref.lean ====
/-
  What the reference of `a_out_fwd_0` returns, entry by entry: the products of a token's row with the columns of the layer's
  output projection, and the residual stream with the RMSNorm of those products added.
-/
module

public import proofs.«01_k».proof.Proof.Gen.Reference10Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference10Ideal.OutFwd0
open Cert.Reference10Ideal Cert.Reference10Ideal.Gen Cert.Reference10Ideal.Read
variable (X0 : FVec Ideal S4096x2048 .bf16) (X1 : FVec Ideal S2x2048x1024 .f32) (X2 : FVec Ideal S4096x1024 .f32)
  (X3 : FVec Ideal S4x1024 .f32)

/-- The output projection of token `t` at channel `q`. -/
def out (t : Fin 4096) (q : Fin 1024) : EReal := ∑ k : Fin 2048, X0 (ix2 t k) * X1 (ix3 0 k q)

/-- The second result, the projection. -/
theorem out_at (t : Fin 4096) (q : Fin 1024) : val_main_v3 (F := Ideal) X0 X1 (ix2 t q) = out X0 X1 t q := by
  pointwise [val_main_v3, val_main_v2, val_main_v1, val_main_v0]
  rfl

/-- The first result, the residual stream after the layer. -/
theorem next_at (t : Fin 4096) (q : Fin 1024) : val_main_v19 (F := Ideal) X0 X1 X2 X3 (ix2 t q)
    = X2 (ix2 t q) + out X0 X1 t q * rstd (fun k => out X0 X1 t k) * X3 (ix2 0 q) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_cst, val_main_cst_0, val_main_cst_1, out_at]
  rfl

end Cert.Reference10Ideal.OutFwd0

end
-- ==== Proof.OutFwd0Value.lean ====
/-
  What `a_out_fwd_0` leaves in its two results: point `t` writes the 512 rows from `512·t` of the output projection, and of
  the residual stream with the projection's RMSNorm added.
-/
module

public import proofs.«01_k».proof.Proof.Gen.Kernel10Ideal.Frame
public import proofs.«01_k».proof.Proof.OutFwd0Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel10Ideal.OutFwd0
open Cert.Kernel10Ideal Cert.Kernel10Ideal.Gen
open Cert.Reference10Ideal.OutFwd0 (out out_at next_at)
open Cert.Reference10Ideal.Read (val_main_v3 val_main_v19)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![0, 0, 0] ∧ win0_4.index t = ![t.val, 0]
    ∧ win0_5.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem y_blk (c : Dev nD) (t : Fin cfg0.N) (i : Fin 512) (k : Fin 2048) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (r : Fin 256) (q : Fin 1024) :
    @Eq EReal (iblk m c 1 t (ix3 s r q))
      (m ((c : Thread nD τ).loc main_arg1) (ix3 0 ⟨s.val * 256 + r.val, by omega⟩ q)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 0 k)) := by
  blk_point [iblk, V, idx t]

/-- Where entry `(i, q)` of the block the first result's point `t` writes sits in the array. -/
theorem next_emb (t : Fin cfg0.N) (i : Fin 512) (q : Fin 1024) :
    @Eq S4096x1024.Idx (((cfg0.win 4).blk t).view.emb (ix2 i q)) (ix2 ⟨t.val * 512 + i.val, row_lt t i⟩ q) := by
  blk_ext [idx t]

/-- … and of the second's. -/
theorem out_emb (t : Fin cfg0.N) (i : Fin 512) (q : Fin 1024) :
    @Eq S4096x1024.Idx (((cfg0.win 5).blk t).view.emb (ix2 i q)) (ix2 ⟨t.val * 512 + i.val, row_lt t i⟩ q) := by
  blk_ext [idx t]

/-! ## The projection -/

/-- A row of 2048 against a column the weight's block holds in eight pieces of 256. -/
theorem mul_at (y : FVec Ideal S512x2048 .bf16) (w : FVec Ideal S8x256x1024 .bf16) (i : Fin 512) (q : Fin 1024) :
    @Eq EReal (k0_pay1 (F := Ideal) y w (ix2 i q))
      (∑ k : Fin 2048, y (ix2 i k) * w (ix3 ⟨k.val / 256, by omega⟩ ⟨k.val % 256, by omega⟩ q)) := by
  pointwise [k0_pay1]

/-- The projection point `t` computes is the array's. -/
theorem out_blk (c : Dev nD) (t : Fin cfg0.N) (i : Fin 512) (q : Fin 1024) :
    @Eq EReal (k0_pay1 (F := Ideal) (iblk m c 0 t) (iblk m c 1 t) (ix2 i q))
      (out (m ((c : Thread nD τ).loc main_arg0)) (m ((c : Thread nD τ).loc main_arg1)) ⟨t.val * 512 + i.val, row_lt t i⟩ q) := by
  refine (mul_at _ _ i q).trans (Finset.sum_congr rfl fun k _ => ?_)
  rw [y_blk, w_blk]
  have e : (⟨k.val / 256 * 256 + k.val % 256, by omega⟩ : Fin 2048) = k := Fin.ext (by show k.val / 256 * 256 + k.val % 256 = k.val; omega)
  rw [e]

theorem final5 (c : Dev nD) : (dats m 0 c).arrAt 5 (cfgs 0).N
    = val_main_v3 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [out_emb]
  blk_simp
  rw [out_at, after0_5]
  frame_out
  exact out_blk m c t i q

/-! ## The residual stream -/

/-- The payload's norm and residual, over the projection's row. -/
theorem next_pay (y : FVec Ideal S512x2048 .bf16) (w : FVec Ideal S8x256x1024 .bf16) (x : FVec Ideal S512x1024 .f32)
    (g : FVec Ideal S1x1x1024 .f32) (i : Fin 512) (q : Fin 1024) :
    @Eq EReal (k0_pay2 (F := Ideal) y w x g (ix2 i q))
      (x (ix2 i q) + k0_pay1 (F := Ideal) y w (ix2 i q) * rstd (fun k => k0_pay1 (F := Ideal) y w (ix2 i k)) * g (ix3 0 0 q)) := by
  pointwise [k0_pay2]
  rfl

theorem final4 (c : Dev nD) : (dats m 0 c).arrAt 4 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨i, q, rfl⟩ : ∃ (i : Fin 512) (q : Fin 1024), y = ix2 i q := ⟨y 0, y 1, eq_ix2 y⟩
  rw [next_emb]
  blk_simp
  rw [next_at, after0_4]
  frame_out
  refine (next_pay _ _ _ _ i q).trans ?_
  simp only [out_blk, x_blk, g_blk]

end Cert.Kernel10Ideal.OutFwd0

end
-- ==== Proof.OutFwd1Ref.lean ====
/-
  What the reference of `b_out_fwd_1` returns, entry by entry: the products of a token's row with the columns of the layer's
  output projection, and the residual stream with the RMSNorm of those products added.
-/
module

public import proofs.«01_k».proof.Proof.Gen.Reference11Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference11Ideal.OutFwd1
open Cert.Reference11Ideal Cert.Reference11Ideal.Gen Cert.Reference11Ideal.Read
variable (X0 : FVec Ideal S4096x2048 .bf16) (X1 : FVec Ideal S2x2048x1024 .f32) (X2 : FVec Ideal S4096x1024 .f32)
  (X3 : FVec Ideal S4x1024 .f32)

/-- The output projection of token `t` at channel `q`. -/
def out (t : Fin 4096) (q : Fin 1024) : EReal := ∑ k : Fin 2048, X0 (ix2 t k) * X1 (ix3 0 k q)

/-- The second result, the projection. -/
theorem out_at (t : Fin 4096) (q : Fin 1024) : val_main_v3 (F := Ideal) X0 X1 (ix2 t q) = out X0 X1 t q := by
  pointwise [val_main_v3, val_main_v2, val_main_v1, val_main_v0]
  rfl

/-- The first result, the residual stream after the layer. -/
theorem next_at (t : Fin 4096) (q : Fin 1024) : val_main_v19 (F := Ideal) X0 X1 X2 X3 (ix2 t q)
    = X2 (ix2 t q) + out X0 X1 t q * rstd (fun k => out X0 X1 t k) * X3 (ix2 1 q) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_cst, val_main_cst_0, val_main_cst_1, out_at]
  rfl

end Cert.Reference11Ideal.OutFwd1

end
-- ==== Proof.OutFwd1Value.lean ====
/-
  What `b_out_fwd_1` leaves in its two results: point `t` writes the 512 rows from `512·t` of the output projection, and of
  the residual stream with the projection's RMSNorm added.
-/
module

public import proofs.«01_k».proof.Proof.Gen.Kernel11Ideal.Frame
public import proofs.«01_k».proof.Proof.OutFwd1Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel11Ideal.OutFwd1
open Cert.Kernel11Ideal Cert.Kernel11Ideal.Gen
open Cert.Reference11Ideal.OutFwd1 (out out_at next_at)
open Cert.Reference11Ideal.Read (val_main_v3 val_main_v19)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![1, 0, 0] ∧ win0_4.index t = ![t.val, 0]
    ∧ win0_5.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem y_blk (c : Dev nD) (t : Fin cfg0.N) (i : Fin 512) (k : Fin 2048) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (r : Fin 256) (q : Fin 1024) :
    @Eq EReal (iblk m c 1 t (ix3 s r q))
      (m ((c : Thread nD τ).loc main_arg1) (ix3 0 ⟨s.val * 256 + r.val, by omega⟩ q)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 1 k)) := by
  blk_point [iblk, V, idx t]

/-- Where entry `(i, q)` of the block the first result's point `t` writes sits in the array. -/
theorem next_emb (t : Fin cfg0.N) (i : Fin 512) (q : Fin 1024) :
    @Eq S4096x1024.Idx (((cfg0.win 4).blk t).view.emb (ix2 i q)) (ix2 ⟨t.val * 512 + i.val, row_lt t i⟩ q) := by
  blk_ext [idx t]

/-- … and of the second's. -/
theorem out_emb (t : Fin cfg0.N) (i : Fin 512) (q : Fin 1024) :
    @Eq S4096x1024.Idx (((cfg0.win 5).blk t).view.emb (ix2 i q)) (ix2 ⟨t.val * 512 + i.val, row_lt t i⟩ q) := by
  blk_ext [idx t]

/-! ## The projection -/

/-- A row of 2048 against a column the weight's block holds in eight pieces of 256. -/
theorem mul_at (y : FVec Ideal S512x2048 .bf16) (w : FVec Ideal S8x256x1024 .bf16) (i : Fin 512) (q : Fin 1024) :
    @Eq EReal (k0_pay1 (F := Ideal) y w (ix2 i q))
      (∑ k : Fin 2048, y (ix2 i k) * w (ix3 ⟨k.val / 256, by omega⟩ ⟨k.val % 256, by omega⟩ q)) := by
  pointwise [k0_pay1]

/-- The projection point `t` computes is the array's. -/
theorem out_blk (c : Dev nD) (t : Fin cfg0.N) (i : Fin 512) (q : Fin 1024) :
    @Eq EReal (k0_pay1 (F := Ideal) (iblk m c 0 t) (iblk m c 1 t) (ix2 i q))
      (out (m ((c : Thread nD τ).loc main_arg0)) (m ((c : Thread nD τ).loc main_arg1)) ⟨t.val * 512 + i.val, row_lt t i⟩ q) := by
  refine (mul_at _ _ i q).trans (Finset.sum_congr rfl fun k _ => ?_)
  rw [y_blk, w_blk]
  have e : (⟨k.val / 256 * 256 + k.val % 256, by omega⟩ : Fin 2048) = k := Fin.ext (by show k.val / 256 * 256 + k.val % 256 = k.val; omega)
  rw [e]

theorem final5 (c : Dev nD) : (dats m 0 c).arrAt 5 (cfgs 0).N
    = val_main_v3 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [out_emb]
  blk_simp
  rw [out_at, after0_5]
  frame_out
  exact out_blk m c t i q

/-! ## The residual stream -/

/-- The payload's norm and residual, over the projection's row. -/
theorem next_pay (y : FVec Ideal S512x2048 .bf16) (w : FVec Ideal S8x256x1024 .bf16) (x : FVec Ideal S512x1024 .f32)
    (g : FVec Ideal S1x1x1024 .f32) (i : Fin 512) (q : Fin 1024) :
    @Eq EReal (k0_pay2 (F := Ideal) y w x g (ix2 i q))
      (x (ix2 i q) + k0_pay1 (F := Ideal) y w (ix2 i q) * rstd (fun k => k0_pay1 (F := Ideal) y w (ix2 i k)) * g (ix3 0 0 q)) := by
  pointwise [k0_pay2]
  rfl

theorem final4 (c : Dev nD) : (dats m 0 c).arrAt 4 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨i, q, rfl⟩ : ∃ (i : Fin 512) (q : Fin 1024), y = ix2 i q := ⟨y 0, y 1, eq_ix2 y⟩
  rw [next_emb]
  blk_simp
  rw [next_at, after0_4]
  frame_out
  refine (next_pay _ _ _ _ i q).trans ?_
  simp only [out_blk, x_blk, g_blk]

end Cert.Kernel11Ideal.OutFwd1

end
-- ==== Proof.OutFwd2Ref.lean ====
/-
  What the reference of `a_out_fwd_2` returns, entry by entry: the products of a token's row with the columns of the layer's
  output projection, and the residual stream with the RMSNorm of those products added.
-/
module

public import proofs.«01_k».proof.Proof.Gen.Reference12Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference12Ideal.OutFwd2
open Cert.Reference12Ideal Cert.Reference12Ideal.Gen Cert.Reference12Ideal.Read
variable (X0 : FVec Ideal S4096x2048 .bf16) (X1 : FVec Ideal S2x2048x1024 .f32) (X2 : FVec Ideal S4096x1024 .f32)
  (X3 : FVec Ideal S4x1024 .f32)

/-- The output projection of token `t` at channel `q`. -/
def out (t : Fin 4096) (q : Fin 1024) : EReal := ∑ k : Fin 2048, X0 (ix2 t k) * X1 (ix3 1 k q)

/-- The second result, the projection. -/
theorem out_at (t : Fin 4096) (q : Fin 1024) : val_main_v3 (F := Ideal) X0 X1 (ix2 t q) = out X0 X1 t q := by
  pointwise [val_main_v3, val_main_v2, val_main_v1, val_main_v0]
  rfl

/-- The first result, the residual stream after the layer. -/
theorem next_at (t : Fin 4096) (q : Fin 1024) : val_main_v19 (F := Ideal) X0 X1 X2 X3 (ix2 t q)
    = X2 (ix2 t q) + out X0 X1 t q * rstd (fun k => out X0 X1 t k) * X3 (ix2 2 q) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_cst, val_main_cst_0, val_main_cst_1, out_at]
  rfl

end Cert.Reference12Ideal.OutFwd2

end
-- ==== Proof.OutFwd2Value.lean ====
/-
  What `a_out_fwd_2` leaves in its two results: point `t` writes the 512 rows from `512·t` of the output projection, and of
  the residual stream with the projection's RMSNorm added.
-/
module

public import proofs.«01_k».proof.Proof.Gen.Kernel12Ideal.Frame
public import proofs.«01_k».proof.Proof.OutFwd2Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel12Ideal.OutFwd2
open Cert.Kernel12Ideal Cert.Kernel12Ideal.Gen
open Cert.Reference12Ideal.OutFwd2 (out out_at next_at)
open Cert.Reference12Ideal.Read (val_main_v3 val_main_v19)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![2, 0, 0] ∧ win0_4.index t = ![t.val, 0]
    ∧ win0_5.index t = ![t.val, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem y_blk (c : Dev nD) (t : Fin cfg0.N) (i : Fin 512) (k : Fin 2048) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (r : Fin 256) (q : Fin 1024) :
    @Eq EReal (iblk m c 1 t (ix3 s r q))
      (m ((c : Thread nD τ).loc main_arg1) (ix3 1 ⟨s.val * 256 + r.val, by omega⟩ q)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 2 k)) := by
  blk_point [iblk, V, idx t]

/-- Where entry `(i, q)` of the block the first result's point `t` writes sits in the array. -/
theorem next_emb (t : Fin cfg0.N) (i : Fin 512) (q : Fin 1024) :
    @Eq S4096x1024.Idx (((cfg0.win 4).blk t).view.emb (ix2 i q)) (ix2 ⟨t.val * 512 + i.val, row_lt t i⟩ q) := by
  blk_ext [idx t]

/-- … and of the second's. -/
theorem out_emb (t : Fin cfg0.N) (i : Fin 512) (q : Fin 1024) :
    @Eq S4096x1024.Idx (((cfg0.win 5).blk t).view.emb (ix2 i q)) (ix2 ⟨t.val * 512 + i.val, row_lt t i⟩ q) := by
  blk_ext [idx t]

/-! ## The projection -/

/-- A row of 2048 against a column the weight's block holds in eight pieces of 256. -/
theorem mul_at (y : FVec Ideal S512x2048 .bf16) (w : FVec Ideal S8x256x1024 .bf16) (i : Fin 512) (q : Fin 1024) :
    @Eq EReal (k0_pay1 (F := Ideal) y w (ix2 i q))
      (∑ k : Fin 2048, y (ix2 i k) * w (ix3 ⟨k.val / 256, by omega⟩ ⟨k.val % 256, by omega⟩ q)) := by
  pointwise [k0_pay1]

/-- The projection point `t` computes is the array's. -/
theorem out_blk (c : Dev nD) (t : Fin cfg0.N) (i : Fin 512) (q : Fin 1024) :
    @Eq EReal (k0_pay1 (F := Ideal) (iblk m c 0 t) (iblk m c 1 t) (ix2 i q))
      (out (m ((c : Thread nD τ).loc main_arg0)) (m ((c : Thread nD τ).loc main_arg1)) ⟨t.val * 512 + i.val, row_lt t i⟩ q) := by
  refine (mul_at _ _ i q).trans (Finset.sum_congr rfl fun k _ => ?_)
  rw [y_blk, w_blk]
  have e : (⟨k.val / 256 * 256 + k.val % 256, by omega⟩ : Fin 2048) = k := Fin.ext (by show k.val / 256 * 256 + k.val % 256 = k.val; omega)
  rw [e]

theorem final5 (c : Dev nD) : (dats m 0 c).arrAt 5 (cfgs 0).N
    = val_main_v3 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [out_emb]
  blk_simp
  rw [out_at, after0_5]
  frame_out
  exact out_blk m c t i q

/-! ## The residual stream -/

/-- The payload's norm and residual, over the projection's row. -/
theorem next_pay (y : FVec Ideal S512x2048 .bf16) (w : FVec Ideal S8x256x1024 .bf16) (x : FVec Ideal S512x1024 .f32)
    (g : FVec Ideal S1x1x1024 .f32) (i : Fin 512) (q : Fin 1024) :
    @Eq EReal (k0_pay2 (F := Ideal) y w x g (ix2 i q))
      (x (ix2 i q) + k0_pay1 (F := Ideal) y w (ix2 i q) * rstd (fun k => k0_pay1 (F := Ideal) y w (ix2 i k)) * g (ix3 0 0 q)) := by
  pointwise [k0_pay2]
  rfl

theorem final4 (c : Dev nD) : (dats m 0 c).arrAt 4 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨i, q, rfl⟩ : ∃ (i : Fin 512) (q : Fin 1024), y = ix2 i q := ⟨y 0, y 1, eq_ix2 y⟩
  rw [next_emb]
  blk_simp
  rw [next_at, after0_4]
  frame_out
  refine (next_pay _ _ _ _ i q).trans ?_
  simp only [out_blk, x_blk, g_blk]

end Cert.Kernel12Ideal.OutFwd2

end
-- ==== Proof.AdamW.lean ====
/-
  AdamW at one entry, over the extended reals: the two moments of a gradient `g`, and the step of a weight `w` from the
  bias-corrected moments at step ten with weight decay. Every constant is an f32, kept by its bits.
-/
module

public import Idealize.ShloMosaic.Lib.Pointwise

@[expose] public section

noncomputable section

namespace Cert.AdamW
open Idealize.ShloMosaic

/-- The first moment, `0.9·m + 0.1·g`. -/
def newM (g m : EReal) : EReal := Ideal.ofBits .f32 0x3F666666#32 * m + Ideal.ofBits .f32 0x3DCCCCCD#32 * g

/-- The second moment, `0.999·v + 0.001·g²`. -/
def newV (g v : EReal) : EReal := Ideal.ofBits .f32 0x3F7FBE77#32 * v + Ideal.ofBits .f32 0x3A83126F#32 * (g * g)

/-- The step, `−0.001·(m̂/(√v̂ + 1e-8) + 0.01·w)` with `m̂`, `v̂` the new moments over `1 − 0.9¹⁰` and `1 − 0.999¹⁰`. -/
def delta (g w m v : EReal) : EReal :=
  Ideal.ofBits .f32 0xBA83126F#32 * (Ideal.div (Ideal.div (newM g m) (Ideal.ofBits .f32 0x3F26BD02#32))
      (Ideal.sqrt (Ideal.div (newV g v) (Ideal.ofBits .f32 0x3C231ACC#32)) + Ideal.ofBits .f32 0x322BCC77#32)
    + Ideal.ofBits .f32 0x3C23D70A#32 * w)

theorem delta_congr {g g' w w' m m' v v' : EReal} (hg : g = g') (hw : w = w') (hm : m = m') (hv : v = v') :
    delta g w m v = delta g' w' m' v' := by
  rw [hg, hw, hm, hv]

end Cert.AdamW

end
-- ==== Proof.AdamAWInRef.lean ====
/-
  What the reference of `adam_a_w_in` returns, entry by entry: each layer's gradient summed over the four received parts,
  and the moments and the step AdamW makes of it.
-/
module

public import proofs.«01_k».proof.Proof.Gen.Reference13Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference13Ideal.AdamAWIn
open Cert.Reference13Ideal Cert.Reference13Ideal.Gen Cert.Reference13Ideal.Read
variable (X0 X1 : FVec Ideal S4x1024x768 .bf16) (X2 X3 X4 : FVec Ideal S2x1024x768 .f32)

/-- The first result in the first layer, the gradient. -/
theorem grad_at0 (r : Fin 1024) (q : Fin 768) : val_main_v6 (F := Ideal) X0 X1 (ix3 0 r q)
    = X0 (ix3 0 r q) + X0 (ix3 1 r q) + X0 (ix3 2 r q) + X0 (ix3 3 r q) := by
  rw [← Fin.sum_univ_four fun s => (X0 (ix3 s r q) : EReal)]
  pointwise [val_main_v6, val_main_v5, val_main_v4, val_main_v3, val_main_v2, val_main_v1, val_main_v0, val_main_cst,
    val_main_cst_0]

/-- … and in the second. -/
theorem grad_at1 (r : Fin 1024) (q : Fin 768) : val_main_v6 (F := Ideal) X0 X1 (ix3 1 r q)
    = X1 (ix3 0 r q) + X1 (ix3 1 r q) + X1 (ix3 2 r q) + X1 (ix3 3 r q) := by
  rw [← Fin.sum_univ_four fun s => (X1 (ix3 s r q) : EReal)]
  pointwise [val_main_v6, val_main_v5, val_main_v4, val_main_v3, val_main_v2, val_main_v1, val_main_v0, val_main_cst,
    val_main_cst_0]

/-- The third result, the first moment. -/
theorem m_at (l : Fin 2) (r : Fin 1024) (q : Fin 768) : val_main_v11 (F := Ideal) X0 X1 X3 (ix3 l r q)
    = newM (val_main_v6 (F := Ideal) X0 X1 (ix3 l r q)) (X3 (ix3 l r q)) := by
  pointwise [val_main_v11, val_main_v10, val_main_v9, val_main_v8, val_main_v7, val_main_cst_1, val_main_cst_2]
  rfl

/-- The fourth result, the second moment. -/
theorem v_at (l : Fin 2) (r : Fin 1024) (q : Fin 768) : val_main_v17 (F := Ideal) X0 X1 X4 (ix3 l r q)
    = newV (val_main_v6 (F := Ideal) X0 X1 (ix3 l r q)) (X4 (ix3 l r q)) := by
  pointwise [val_main_v17, val_main_v16, val_main_v15, val_main_v14, val_main_v13, val_main_v12, val_main_cst_3,
    val_main_cst_4]
  rfl

/-- The second result, the step. -/
theorem delta_at (l : Fin 2) (r : Fin 1024) (q : Fin 768) : val_main_v30 (F := Ideal) X0 X1 X2 X3 X4 (ix3 l r q)
    = delta (val_main_v6 (F := Ideal) X0 X1 (ix3 l r q)) (X2 (ix3 l r q)) (X3 (ix3 l r q)) (X4 (ix3 l r q)) := by
  pointwise [val_main_v30, val_main_v29, val_main_v28, val_main_v27, val_main_v26, val_main_v25, val_main_v24,
    val_main_v23, val_main_v22, val_main_v21, val_main_v20, val_main_v19, val_main_v18, val_main_cst_5, val_main_cst_6,
    val_main_cst_7, val_main_cst_8, val_main_cst_9, m_at, v_at]
  rfl

end Cert.Reference13Ideal.AdamAWIn

end
-- ==== Proof.AdamAWInValue.lean ====
/-
  What `adam_a_w_in` leaves in its four results: point `t` sums the four received parts of 256 rows of the gradient, the
  first layer's rows at the first 4 points and the second's after them, and makes AdamW's step on them.
-/
module

public import proofs.«01_k».proof.Proof.Gen.Kernel13Ideal.Frame
public import proofs.«01_k».proof.Proof.AdamAWInRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel13Ideal.AdamAWIn
open Cert.Kernel13Ideal Cert.Kernel13Ideal.Gen
open Cert.Reference13Ideal.AdamAWIn (grad_at0 grad_at1 m_at v_at delta_at)
open Cert.Reference13Ideal.Read (val_main_v6 val_main_v11 val_main_v17 val_main_v30)
variable (m : (ℓ : Loc nD τ sig) → Buf (Elt Ideal) ℓ)

/-- Every window's block index at a point of the first layer. -/
theorem idx0 : ∀ t : Fin cfg0.N, t.val < 4 → win0_0.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- … and at a point of the second. -/
theorem idx1 : ∀ t : Fin cfg0.N, 4 ≤ t.val → win0_1.index t = ![0, t.val - 4, 0] ∧ win0_2.index t = ![1, t.val - 4, 0]
    ∧ win0_3.index t = ![1, t.val - 4, 0] ∧ win0_4.index t = ![1, t.val - 4, 0] ∧ win0_5.index t = ![1, t.val - 4, 0]
    ∧ win0_6.index t = ![1, t.val - 4, 0] ∧ win0_7.index t = ![1, t.val - 4, 0] ∧ win0_8.index t = ![1, t.val - 4, 0] :=
  (by decide +kernel : ∀ t : Fin grid0.N, _)

theorem row0 (t : Fin cfg0.N) (h : t.val < 4) (i : Fin 256) : t.val * 256 + i.val < 1024 := by omega

theorem row1 (t : Fin cfg0.N) (h : 4 ≤ t.val) (i : Fin 256) : (t.val - 4) * 256 + i.val < 1024 := by
  have := t.isLt; have hN : cfg0.N = 8 := N_0; omega

/-! ## The input blocks at an index -/

theorem recv0_blk (c : Dev nD) (t : Fin cfg0.N) (h : t.val < 4) (s : Fin 4) (i : Fin 256) (q : Fin 768) :
    @Eq EReal (iblk m c 0 t (ix3 s i q))
      (m ((c : Thread nD τ).loc main_arg0) (ix3 s ⟨t.val * 256 + i.val, row0 t h i⟩ q)) := by
  blk_ext [iblk, V, idx0 t h]

theorem recv1_blk (c : Dev nD) (t : Fin cfg0.N) (h : 4 ≤ t.val) (s : Fin 4) (i : Fin 256) (q : Fin 768) :
    @Eq EReal (iblk m c 1 t (ix3 s i q))
      (m ((c : Thread nD τ).loc main_arg1) (ix3 s ⟨(t.val - 4) * 256 + i.val, row1 t h i⟩ q)) := by
  blk_ext [iblk, V, idx1 t h]

theorem w_blk0 (c : Dev nD) (t : Fin cfg0.N) (h : t.val < 4) (i : Fin 256) (q : Fin 768) :
    @Eq EReal (iblk m c 2 t (ix3 0 i q))
      (m ((c : Thread nD τ).loc main_arg2) (ix3 0 ⟨t.val * 256 + i.val, row0 t h i⟩ q)) := by
  blk_ext [iblk, V, idx0 t h]

theorem w_blk1 (c : Dev nD) (t : Fin cfg0.N) (h : 4 ≤ t.val) (i : Fin 256) (q : Fin 768) :
    @Eq EReal (iblk m c 2 t (ix3 0 i q))
      (m ((c : Thread nD τ).loc main_arg2) (ix3 1 ⟨(t.val - 4) * 256 + i.val, row1 t h i⟩ q)) := by
  blk_ext [iblk, V, idx1 t h]

theorem m_blk0 (c : Dev nD) (t : Fin cfg0.N) (h : t.val < 4) (i : Fin 256) (q : Fin 768) :
    @Eq EReal (iblk m c 3 t (ix3 0 i q))
      (m ((c : Thread nD τ).loc main_arg3) (ix3 0 ⟨t.val * 256 + i.val, row0 t h i⟩ q)) := by
  blk_ext [iblk, V, idx0 t h]

theorem m_blk1 (c : Dev nD) (t : Fin cfg0.N) (h : 4 ≤ t.val) (i : Fin 256) (q : Fin 768) :
    @Eq EReal (iblk m c 3 t (ix3 0 i q))
      (m ((c : Thread nD τ).loc main_arg3) (ix3 1 ⟨(t.val - 4) * 256 + i.val, row1 t h i⟩ q)) := by
  blk_ext [iblk, V, idx1 t h]

theorem v_blk0 (c : Dev nD) (t : Fin cfg0.N) (h : t.val < 4) (i : Fin 256) (q : Fin 768) :
    @Eq EReal (iblk m c 4 t (ix3 0 i q))
      (m ((c : Thread nD τ).loc main_arg4) (ix3 0 ⟨t.val * 256 + i.val, row0 t h i⟩ q)) := by
  blk_ext [iblk, V, idx0 t h]

theorem v_blk1 (c : Dev nD) (t : Fin cfg0.N) (h : 4 ≤ t.val) (i : Fin 256) (q : Fin 768) :
    @Eq EReal (iblk m c 4 t (ix3 0 i q))
      (m ((c : Thread nD τ).loc main_arg4) (ix3 1 ⟨(t.val - 4) * 256 + i.val, row1 t h i⟩ q)) := by
  blk_ext [iblk, V, idx1 t h]

/-! ## Where the blocks each point writes sit in the arrays -/

theorem emb5_0 (t : Fin cfg0.N) (h : t.val < 4) (i : Fin 256) (q : Fin 768) :
    @Eq S2x1024x768.Idx (((cfg0.win 5).blk t).view.emb (ix3 0 i q)) (ix3 0 ⟨t.val * 256 + i.val, row0 t h i⟩ q) := by
  blk_ext [idx0 t h]

theorem emb5_1 (t : Fin cfg0.N) (h : 4 ≤ t.val) (i : Fin 256) (q : Fin 768) :
    @Eq S2x1024x768.Idx (((cfg0.win 5).blk t).view.emb (ix3 0 i q)) (ix3 1 ⟨(t.val - 4) * 256 + i.val, row1 t h i⟩ q) := by
  blk_ext [idx1 t h]

theorem emb6_0 (t : Fin cfg0.N) (h : t.val < 4) (i : Fin 256) (q : Fin 768) :
    @Eq S2x1024x768.Idx (((cfg0.win 6).blk t).view.emb (ix3 0 i q)) (ix3 0 ⟨t.val * 256 + i.val, row0 t h i⟩ q) := by
  blk_ext [idx0 t h]

theorem emb6_1 (t : Fin cfg0.N) (h : 4 ≤ t.val) (i : Fin 256) (q : Fin 768) :
    @Eq S2x1024x768.Idx (((cfg0.win 6).blk t).view.emb (ix3 0 i q)) (ix3 1 ⟨(t.val - 4) * 256 + i.val, row1 t h i⟩ q) := by
  blk_ext [idx1 t h]

theorem emb7_0 (t : Fin cfg0.N) (h : t.val < 4) (i : Fin 256) (q : Fin 768) :
    @Eq S2x1024x768.Idx (((cfg0.win 7).blk t).view.emb (ix3 0 i q)) (ix3 0 ⟨t.val * 256 + i.val, row0 t h i⟩ q) := by
  blk_ext [idx0 t h]

theorem emb7_1 (t : Fin cfg0.N) (h : 4 ≤ t.val) (i : Fin 256) (q : Fin 768) :
    @Eq S2x1024x768.Idx (((cfg0.win 7).blk t).view.emb (ix3 0 i q)) (ix3 1 ⟨(t.val - 4) * 256 + i.val, row1 t h i⟩ q) := by
  blk_ext [idx1 t h]

theorem emb8_0 (t : Fin cfg0.N) (h : t.val < 4) (i : Fin 256) (q : Fin 768) :
    @Eq S2x1024x768.Idx (((cfg0.win 8).blk t).view.emb (ix3 0 i q)) (ix3 0 ⟨t.val * 256 + i.val, row0 t h i⟩ q) := by
  blk_ext [idx0 t h]

theorem emb8_1 (t : Fin cfg0.N) (h : 4 ≤ t.val) (i : Fin 256) (q : Fin 768) :
    @Eq S2x1024x768.Idx (((cfg0.win 8).blk t).view.emb (ix3 0 i q)) (ix3 1 ⟨(t.val - 4) * 256 + i.val, row1 t h i⟩ q) := by
  blk_ext [idx1 t h]

/-! ## What the stores hold -/

section Payloads
variable (a : FVec Ideal S4x256x768 .bf16) (g : FVec Ideal S256x768 .f32) (w mm vv : FVec Ideal S1x256x768 .f32)
  (i : Fin 256) (q : Fin 768)

theorem sum_at0 : @Eq EReal (k0_pay3 (F := Ideal)
      (View.ld (Val := Elt Ideal) (e' := .bf16) a (Rect.unit ![0, 0, 0] ![1, 256, 768] inb_S4x256x768_S1x256x768_0_0_0))
      (View.ld (Val := Elt Ideal) (e' := .bf16) a (Rect.unit ![1, 0, 0] ![1, 256, 768] inb_S4x256x768_S1x256x768_1_0_0))
      (View.ld (Val := Elt Ideal) (e' := .bf16) a (Rect.unit ![2, 0, 0] ![1, 256, 768] inb_S4x256x768_S1x256x768_2_0_0))
      (View.ld (Val := Elt Ideal) (e' := .bf16) a (Rect.unit ![3, 0, 0] ![1, 256, 768] inb_S4x256x768_S1x256x768_3_0_0)) (ix2 i q))
    (a (ix3 0 i q) + a (ix3 1 i q) + a (ix3 2 i q) + a (ix3 3 i q)) := by
  pointwise [k0_pay3]

theorem sum_at1 : @Eq EReal (k0_pay4 (F := Ideal)
      (View.ld (Val := Elt Ideal) (e' := .bf16) a (Rect.unit ![0, 0, 0] ![1, 256, 768] inb_S4x256x768_S1x256x768_0_0_0))
      (View.ld (Val := Elt Ideal) (e' := .bf16) a (Rect.unit ![1, 0, 0] ![1, 256, 768] inb_S4x256x768_S1x256x768_1_0_0))
      (View.ld (Val := Elt Ideal) (e' := .bf16) a (Rect.unit ![2, 0, 0] ![1, 256, 768] inb_S4x256x768_S1x256x768_2_0_0))
      (View.ld (Val := Elt Ideal) (e' := .bf16) a (Rect.unit ![3, 0, 0] ![1, 256, 768] inb_S4x256x768_S1x256x768_3_0_0)) (ix2 i q))
    (a (ix3 0 i q) + a (ix3 1 i q) + a (ix3 2 i q) + a (ix3 3 i q)) := by
  pointwise [k0_pay4]

theorem g_pay : @Eq EReal (k0_pay5 (F := Ideal) g (ix3 0 i q)) (g (ix2 i q)) := by
  pointwise [k0_pay5]

theorem m_pay : @Eq EReal (k0_pay8 (F := Ideal) g mm (ix3 0 i q)) (newM (g (ix2 i q)) (mm (ix3 0 i q))) := by
  pointwise [k0_pay8, k0_pay6]
  rfl

theorem v_pay : @Eq EReal (k0_pay1 (F := Ideal) (k0_pay7 g vv) (ix3 0 i q)) (newV (g (ix2 i q)) (vv (ix3 0 i q))) := by
  pointwise [k0_pay1, k0_pay7]
  rfl

theorem delta_pay : @Eq EReal (k0_pay2 (F := Ideal) (k0_pay6 g mm) (k0_pay7 g vv) w (ix3 0 i q))
    (delta (g (ix2 i q)) (w (ix3 0 i q)) (mm (ix3 0 i q)) (vv (ix3 0 i q))) := by
  pointwise [k0_pay2, k0_pay6, k0_pay7]
  rfl

end Payloads

/-- The sum a point of the first layer makes is the reference's gradient. -/
theorem grad_blk0 (c : Dev nD) (t : Fin cfg0.N) (h : t.val < 4) (i : Fin 256) (q : Fin 768) :
    @Eq EReal (k0_pay3 (F := Ideal)
      (View.ld (Val := Elt Ideal) (e' := .bf16) (iblk m c 0 t) (Rect.unit ![0, 0, 0] ![1, 256, 768] inb_S4x256x768_S1x256x768_0_0_0))
      (View.ld (Val := Elt Ideal) (e' := .bf16) (iblk m c 0 t) (Rect.unit ![1, 0, 0] ![1, 256, 768] inb_S4x256x768_S1x256x768_1_0_0))
      (View.ld (Val := Elt Ideal) (e' := .bf16) (iblk m c 0 t) (Rect.unit ![2, 0, 0] ![1, 256, 768] inb_S4x256x768_S1x256x768_2_0_0))
      (View.ld (Val := Elt Ideal) (e' := .bf16) (iblk m c 0 t) (Rect.unit ![3, 0, 0] ![1, 256, 768] inb_S4x256x768_S1x256x768_3_0_0)) (ix2 i q)) (val_main_v6 (F := Ideal) (m ((c : Thread nD τ).loc main_arg0))
      (m ((c : Thread nD τ).loc main_arg1)) (ix3 0 ⟨t.val * 256 + i.val, row0 t h i⟩ q)) := by
  rw [grad_at0]
  refine (sum_at0 _ i q).trans ?_
  simp only [recv0_blk m c t h]

/-- … and of the second. -/
theorem grad_blk1 (c : Dev nD) (t : Fin cfg0.N) (h : 4 ≤ t.val) (i : Fin 256) (q : Fin 768) :
    @Eq EReal (k0_pay4 (F := Ideal)
      (View.ld (Val := Elt Ideal) (e' := .bf16) (iblk m c 1 t) (Rect.unit ![0, 0, 0] ![1, 256, 768] inb_S4x256x768_S1x256x768_0_0_0))
      (View.ld (Val := Elt Ideal) (e' := .bf16) (iblk m c 1 t) (Rect.unit ![1, 0, 0] ![1, 256, 768] inb_S4x256x768_S1x256x768_1_0_0))
      (View.ld (Val := Elt Ideal) (e' := .bf16) (iblk m c 1 t) (Rect.unit ![2, 0, 0] ![1, 256, 768] inb_S4x256x768_S1x256x768_2_0_0))
      (View.ld (Val := Elt Ideal) (e' := .bf16) (iblk m c 1 t) (Rect.unit ![3, 0, 0] ![1, 256, 768] inb_S4x256x768_S1x256x768_3_0_0)) (ix2 i q)) (val_main_v6 (F := Ideal) (m ((c : Thread nD τ).loc main_arg0))
      (m ((c : Thread nD τ).loc main_arg1)) (ix3 1 ⟨(t.val - 4) * 256 + i.val, row1 t h i⟩ q)) := by
  rw [grad_at1]
  refine (sum_at1 _ i q).trans ?_
  simp only [recv1_blk m c t h]

/-! ## The results -/

theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 256) (q : Fin 768), y = ix3 0 i q :=
    ⟨y 1, y 2, by rw [eq_ix3 y]; exact congrArg (ix3 · _ _) (Subsingleton.elim _ _)⟩
  rcases Nat.lt_or_ge t.val 4 with h | h
  · rw [emb5_0 t h]
    blk_simp
    rw [after0_5, outsAt0_A m c t h (Nat.not_le.mpr h)]
    frame_out
    exact (g_pay _ i q).trans (grad_blk0 m c t h i q)
  · rw [emb5_1 t h]
    blk_simp
    rw [after0_5, outsAt0_B m c t (Nat.not_lt.mpr h) h]
    frame_out
    exact (g_pay _ i q).trans (grad_blk1 m c t h i q)

theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨i, q, rfl⟩ : ∃ (i : Fin 256) (q : Fin 768), y = ix3 0 i q :=
    ⟨y 1, y 2, by rw [eq_ix3 y]; exact congrArg (ix3 · _ _) (Subsingleton.elim _ _)⟩
  rcases Nat.lt_or_ge t.val 4 with h | h
  · rw [emb6_0 t h]
    blk_simp
    rw [delta_at, after0_6, outsAt0_A m c t h (Nat.not_le.mpr h)]
    frame_out
    exact (delta_pay _ _ _ _ i q).trans (delta_congr (grad_blk0 m c t h i q) (w_blk0 m c t h i q) (m_blk0 m c t h i q) (v_blk0 m c t h i q))
  · rw [emb6_1 t h]
    blk_simp
    rw [delta_at, after0_6, outsAt0_B m c t (Nat.not_lt.mpr h) h]
    frame_out
    exact (delta_pay _ _ _ _ i q).trans (delta_congr (grad_blk1 m c t h i q) (w_blk1 m c t h i q) (m_blk1 m c t h i q) (v_blk1 m c t h i q))

theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨i, q, rfl⟩ : ∃ (i : Fin 256) (q : Fin 768), y = ix3 0 i q :=
    ⟨y 1, y 2, by rw [eq_ix3 y]; exact congrArg (ix3 · _ _) (Subsingleton.elim _ _)⟩
  rcases Nat.lt_or_ge t.val 4 with h | h
  · rw [emb7_0 t h]
    blk_simp
    rw [m_at, after0_7, outsAt0_A m c t h (Nat.not_le.mpr h)]
    frame_out
    exact (m_pay _ _ i q).trans (congrArg₂ newM (grad_blk0 m c t h i q) (m_blk0 m c t h i q))
  · rw [emb7_1 t h]
    blk_simp
    rw [m_at, after0_7, outsAt0_B m c t (Nat.not_lt.mpr h) h]
    frame_out
    exact (m_pay _ _ i q).trans (congrArg₂ newM (grad_blk1 m c t h i q) (m_blk1 m c t h i q))

theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨i, q, rfl⟩ : ∃ (i : Fin 256) (q : Fin 768), y = ix3 0 i q :=
    ⟨y 1, y 2, by rw [eq_ix3 y]; exact congrArg (ix3 · _ _) (Subsingleton.elim _ _)⟩
  rcases Nat.lt_or_ge t.val 4 with h | h
  · rw [emb8_0 t h]
    blk_simp
    rw [v_at, after0_8, outsAt0_A m c t h (Nat.not_le.mpr h)]
    frame_out
    exact (v_pay _ _ i q).trans (congrArg₂ newV (grad_blk0 m c t h i q) (v_blk0 m c t h i q))
  · rw [emb8_1 t h]
    blk_simp
    rw [v_at, after0_8, outsAt0_B m c t (Nat.not_lt.mpr h) h]
    frame_out
    exact (v_pay _ _ i q).trans (congrArg₂ newV (grad_blk1 m c t h i q) (v_blk1 m c t h i q))

end Cert.Kernel13Ideal.AdamAWIn

end
-- ==== Proof.AdamAWOutRef.lean ====
/-
  What the reference of `adam_a_w_out` returns, entry by entry: each layer's gradient summed over the four received parts,
  and the moments and the step AdamW makes of it.
-/
module

public import proofs.«01_k».proof.Proof.Gen.Reference14Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference14Ideal.AdamAWOut
open Cert.Reference14Ideal Cert.Reference14Ideal.Gen Cert.Reference14Ideal.Read
variable (X0 X1 : FVec Ideal S4x256x1024 .bf16) (X2 X3 X4 : FVec Ideal S2x256x1024 .f32)

/-- The first result in the first layer, the gradient. -/
theorem grad_at0 (r : Fin 256) (q : Fin 1024) : val_main_v6 (F := Ideal) X0 X1 (ix3 0 r q)
    = X0 (ix3 0 r q) + X0 (ix3 1 r q) + X0 (ix3 2 r q) + X0 (ix3 3 r q) := by
  rw [← Fin.sum_univ_four fun s => (X0 (ix3 s r q) : EReal)]
  pointwise [val_main_v6, val_main_v5, val_main_v4, val_main_v3, val_main_v2, val_main_v1, val_main_v0, val_main_cst,
    val_main_cst_0]

/-- … and in the second. -/
theorem grad_at1 (r : Fin 256) (q : Fin 1024) : val_main_v6 (F := Ideal) X0 X1 (ix3 1 r q)
    = X1 (ix3 0 r q) + X1 (ix3 1 r q) + X1 (ix3 2 r q) + X1 (ix3 3 r q) := by
  rw [← Fin.sum_univ_four fun s => (X1 (ix3 s r q) : EReal)]
  pointwise [val_main_v6, val_main_v5, val_main_v4, val_main_v3, val_main_v2, val_main_v1, val_main_v0, val_main_cst,
    val_main_cst_0]

/-- The third result, the first moment. -/
theorem m_at (l : Fin 2) (r : Fin 256) (q : Fin 1024) : val_main_v11 (F := Ideal) X0 X1 X3 (ix3 l r q)
    = newM (val_main_v6 (F := Ideal) X0 X1 (ix3 l r q)) (X3 (ix3 l r q)) := by
  pointwise [val_main_v11, val_main_v10, val_main_v9, val_main_v8, val_main_v7, val_main_cst_1, val_main_cst_2]
  rfl

/-- The fourth result, the second moment. -/
theorem v_at (l : Fin 2) (r : Fin 256) (q : Fin 1024) : val_main_v17 (F := Ideal) X0 X1 X4 (ix3 l r q)
    = newV (val_main_v6 (F := Ideal) X0 X1 (ix3 l r q)) (X4 (ix3 l r q)) := by
  pointwise [val_main_v17, val_main_v16, val_main_v15, val_main_v14, val_main_v13, val_main_v12, val_main_cst_3,
    val_main_cst_4]
  rfl

/-- The second result, the step. -/
theorem delta_at (l : Fin 2) (r : Fin 256) (q : Fin 1024) : val_main_v30 (F := Ideal) X0 X1 X2 X3 X4 (ix3 l r q)
    = delta (val_main_v6 (F := Ideal) X0 X1 (ix3 l r q)) (X2 (ix3 l r q)) (X3 (ix3 l r q)) (X4 (ix3 l r q)) := by
  pointwise [val_main_v30, val_main_v29, val_main_v28, val_main_v27, val_main_v26, val_main_v25, val_main_v24,
    val_main_v23, val_main_v22, val_main_v21, val_main_v20, val_main_v19, val_main_v18, val_main_cst_5, val_main_cst_6,
    val_main_cst_7, val_main_cst_8, val_main_cst_9, m_at, v_at]
  rfl

end Cert.Reference14Ideal.AdamAWOut

end
-- ==== Proof.AdamAWOutValue.lean ====
/-
  What `adam_a_w_out` leaves in its four results: point `t` sums the four received parts of 128 rows of the gradient, the
  first layer's rows at the first 2 points and the second's after them, and makes AdamW's step on them.
-/
module

public import proofs.«01_k».proof.Proof.Gen.Kernel14Ideal.Frame
public import proofs.«01_k».proof.Proof.AdamAWOutRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel14Ideal.AdamAWOut
open Cert.Kernel14Ideal Cert.Kernel14Ideal.Gen
open Cert.Reference14Ideal.AdamAWOut (grad_at0 grad_at1 m_at v_at delta_at)
open Cert.Reference14Ideal.Read (val_main_v6 val_main_v11 val_main_v17 val_main_v30)
variable (m : (ℓ : Loc nD τ sig) → Buf (Elt Ideal) ℓ)

/-- Every window's block index at a point of the first layer. -/
theorem idx0 : ∀ t : Fin cfg0.N, t.val < 2 → win0_0.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- … and at a point of the second. -/
theorem idx1 : ∀ t : Fin cfg0.N, 2 ≤ t.val → win0_1.index t = ![0, t.val - 2, 0] ∧ win0_2.index t = ![1, t.val - 2, 0]
    ∧ win0_3.index t = ![1, t.val - 2, 0] ∧ win0_4.index t = ![1, t.val - 2, 0] ∧ win0_5.index t = ![1, t.val - 2, 0]
    ∧ win0_6.index t = ![1, t.val - 2, 0] ∧ win0_7.index t = ![1, t.val - 2, 0] ∧ win0_8.index t = ![1, t.val - 2, 0] :=
  (by decide +kernel : ∀ t : Fin grid0.N, _)

theorem row0 (t : Fin cfg0.N) (h : t.val < 2) (i : Fin 128) : t.val * 128 + i.val < 256 := by omega

theorem row1 (t : Fin cfg0.N) (h : 2 ≤ t.val) (i : Fin 128) : (t.val - 2) * 128 + i.val < 256 := by
  have := t.isLt; have hN : cfg0.N = 4 := N_0; omega

/-! ## The input blocks at an index -/

theorem recv0_blk (c : Dev nD) (t : Fin cfg0.N) (h : t.val < 2) (s : Fin 4) (i : Fin 128) (q : Fin 1024) :
    @Eq EReal (iblk m c 0 t (ix3 s i q))
      (m ((c : Thread nD τ).loc main_arg0) (ix3 s ⟨t.val * 128 + i.val, row0 t h i⟩ q)) := by
  blk_ext [iblk, V, idx0 t h]

theorem recv1_blk (c : Dev nD) (t : Fin cfg0.N) (h : 2 ≤ t.val) (s : Fin 4) (i : Fin 128) (q : Fin 1024) :
    @Eq EReal (iblk m c 1 t (ix3 s i q))
      (m ((c : Thread nD τ).loc main_arg1) (ix3 s ⟨(t.val - 2) * 128 + i.val, row1 t h i⟩ q)) := by
  blk_ext [iblk, V, idx1 t h]

theorem w_blk0 (c : Dev nD) (t : Fin cfg0.N) (h : t.val < 2) (i : Fin 128) (q : Fin 1024) :
    @Eq EReal (iblk m c 2 t (ix3 0 i q))
      (m ((c : Thread nD τ).loc main_arg2) (ix3 0 ⟨t.val * 128 + i.val, row0 t h i⟩ q)) := by
  blk_ext [iblk, V, idx0 t h]

theorem w_blk1 (c : Dev nD) (t : Fin cfg0.N) (h : 2 ≤ t.val) (i : Fin 128) (q : Fin 1024) :
    @Eq EReal (iblk m c 2 t (ix3 0 i q))
      (m ((c : Thread nD τ).loc main_arg2) (ix3 1 ⟨(t.val - 2) * 128 + i.val, row1 t h i⟩ q)) := by
  blk_ext [iblk, V, idx1 t h]

theorem m_blk0 (c : Dev nD) (t : Fin cfg0.N) (h : t.val < 2) (i : Fin 128) (q : Fin 1024) :
    @Eq EReal (iblk m c 3 t (ix3 0 i q))
      (m ((c : Thread nD τ).loc main_arg3) (ix3 0 ⟨t.val * 128 + i.val, row0 t h i⟩ q)) := by
  blk_ext [iblk, V, idx0 t h]

theorem m_blk1 (c : Dev nD) (t : Fin cfg0.N) (h : 2 ≤ t.val) (i : Fin 128) (q : Fin 1024) :
    @Eq EReal (iblk m c 3 t (ix3 0 i q))
      (m ((c : Thread nD τ).loc main_arg3) (ix3 1 ⟨(t.val - 2) * 128 + i.val, row1 t h i⟩ q)) := by
  blk_ext [iblk, V, idx1 t h]

theorem v_blk0 (c : Dev nD) (t : Fin cfg0.N) (h : t.val < 2) (i : Fin 128) (q : Fin 1024) :
    @Eq EReal (iblk m c 4 t (ix3 0 i q))
      (m ((c : Thread nD τ).loc main_arg4) (ix3 0 ⟨t.val * 128 + i.val, row0 t h i⟩ q)) := by
  blk_ext [iblk, V, idx0 t h]

theorem v_blk1 (c : Dev nD) (t : Fin cfg0.N) (h : 2 ≤ t.val) (i : Fin 128) (q : Fin 1024) :
    @Eq EReal (iblk m c 4 t (ix3 0 i q))
      (m ((c : Thread nD τ).loc main_arg4) (ix3 1 ⟨(t.val - 2) * 128 + i.val, row1 t h i⟩ q)) := by
  blk_ext [iblk, V, idx1 t h]

/-! ## Where the blocks each point writes sit in the arrays -/

theorem emb5_0 (t : Fin cfg0.N) (h : t.val < 2) (i : Fin 128) (q : Fin 1024) :
    @Eq S2x256x1024.Idx (((cfg0.win 5).blk t).view.emb (ix3 0 i q)) (ix3 0 ⟨t.val * 128 + i.val, row0 t h i⟩ q) := by
  blk_ext [idx0 t h]

theorem emb5_1 (t : Fin cfg0.N) (h : 2 ≤ t.val) (i : Fin 128) (q : Fin 1024) :
    @Eq S2x256x1024.Idx (((cfg0.win 5).blk t).view.emb (ix3 0 i q)) (ix3 1 ⟨(t.val - 2) * 128 + i.val, row1 t h i⟩ q) := by
  blk_ext [idx1 t h]

theorem emb6_0 (t : Fin cfg0.N) (h : t.val < 2) (i : Fin 128) (q : Fin 1024) :
    @Eq S2x256x1024.Idx (((cfg0.win 6).blk t).view.emb (ix3 0 i q)) (ix3 0 ⟨t.val * 128 + i.val, row0 t h i⟩ q) := by
  blk_ext [idx0 t h]

theorem emb6_1 (t : Fin cfg0.N) (h : 2 ≤ t.val) (i : Fin 128) (q : Fin 1024) :
    @Eq S2x256x1024.Idx (((cfg0.win 6).blk t).view.emb (ix3 0 i q)) (ix3 1 ⟨(t.val - 2) * 128 + i.val, row1 t h i⟩ q) := by
  blk_ext [idx1 t h]

theorem emb7_0 (t : Fin cfg0.N) (h : t.val < 2) (i : Fin 128) (q : Fin 1024) :
    @Eq S2x256x1024.Idx (((cfg0.win 7).blk t).view.emb (ix3 0 i q)) (ix3 0 ⟨t.val * 128 + i.val, row0 t h i⟩ q) := by
  blk_ext [idx0 t h]

theorem emb7_1 (t : Fin cfg0.N) (h : 2 ≤ t.val) (i : Fin 128) (q : Fin 1024) :
    @Eq S2x256x1024.Idx (((cfg0.win 7).blk t).view.emb (ix3 0 i q)) (ix3 1 ⟨(t.val - 2) * 128 + i.val, row1 t h i⟩ q) := by
  blk_ext [idx1 t h]

theorem emb8_0 (t : Fin cfg0.N) (h : t.val < 2) (i : Fin 128) (q : Fin 1024) :
    @Eq S2x256x1024.Idx (((cfg0.win 8).blk t).view.emb (ix3 0 i q)) (ix3 0 ⟨t.val * 128 + i.val, row0 t h i⟩ q) := by
  blk_ext [idx0 t h]

theorem emb8_1 (t : Fin cfg0.N) (h : 2 ≤ t.val) (i : Fin 128) (q : Fin 1024) :
    @Eq S2x256x1024.Idx (((cfg0.win 8).blk t).view.emb (ix3 0 i q)) (ix3 1 ⟨(t.val - 2) * 128 + i.val, row1 t h i⟩ q) := by
  blk_ext [idx1 t h]

/-! ## What the stores hold -/

section Payloads
variable (a : FVec Ideal S4x128x1024 .bf16) (g : FVec Ideal S128x1024 .f32) (w mm vv : FVec Ideal S1x128x1024 .f32)
  (i : Fin 128) (q : Fin 1024)

theorem sum_at0 : @Eq EReal (k0_pay3 (F := Ideal)
      (View.ld (Val := Elt Ideal) (e' := .bf16) a (Rect.unit ![0, 0, 0] ![1, 128, 1024] inb_S4x128x1024_S1x128x1024_0_0_0))
      (View.ld (Val := Elt Ideal) (e' := .bf16) a (Rect.unit ![1, 0, 0] ![1, 128, 1024] inb_S4x128x1024_S1x128x1024_1_0_0))
      (View.ld (Val := Elt Ideal) (e' := .bf16) a (Rect.unit ![2, 0, 0] ![1, 128, 1024] inb_S4x128x1024_S1x128x1024_2_0_0))
      (View.ld (Val := Elt Ideal) (e' := .bf16) a (Rect.unit ![3, 0, 0] ![1, 128, 1024] inb_S4x128x1024_S1x128x1024_3_0_0)) (ix2 i q))
    (a (ix3 0 i q) + a (ix3 1 i q) + a (ix3 2 i q) + a (ix3 3 i q)) := by
  pointwise [k0_pay3]

theorem sum_at1 : @Eq EReal (k0_pay4 (F := Ideal)
      (View.ld (Val := Elt Ideal) (e' := .bf16) a (Rect.unit ![0, 0, 0] ![1, 128, 1024] inb_S4x128x1024_S1x128x1024_0_0_0))
      (View.ld (Val := Elt Ideal) (e' := .bf16) a (Rect.unit ![1, 0, 0] ![1, 128, 1024] inb_S4x128x1024_S1x128x1024_1_0_0))
      (View.ld (Val := Elt Ideal) (e' := .bf16) a (Rect.unit ![2, 0, 0] ![1, 128, 1024] inb_S4x128x1024_S1x128x1024_2_0_0))
      (View.ld (Val := Elt Ideal) (e' := .bf16) a (Rect.unit ![3, 0, 0] ![1, 128, 1024] inb_S4x128x1024_S1x128x1024_3_0_0)) (ix2 i q))
    (a (ix3 0 i q) + a (ix3 1 i q) + a (ix3 2 i q) + a (ix3 3 i q)) := by
  pointwise [k0_pay4]

theorem g_pay : @Eq EReal (k0_pay5 (F := Ideal) g (ix3 0 i q)) (g (ix2 i q)) := by
  pointwise [k0_pay5]

theorem m_pay : @Eq EReal (k0_pay8 (F := Ideal) g mm (ix3 0 i q)) (newM (g (ix2 i q)) (mm (ix3 0 i q))) := by
  pointwise [k0_pay8, k0_pay6]
  rfl

theorem v_pay : @Eq EReal (k0_pay1 (F := Ideal) (k0_pay7 g vv) (ix3 0 i q)) (newV (g (ix2 i q)) (vv (ix3 0 i q))) := by
  pointwise [k0_pay1, k0_pay7]
  rfl

theorem delta_pay : @Eq EReal (k0_pay2 (F := Ideal) (k0_pay6 g mm) (k0_pay7 g vv) w (ix3 0 i q))
    (delta (g (ix2 i q)) (w (ix3 0 i q)) (mm (ix3 0 i q)) (vv (ix3 0 i q))) := by
  pointwise [k0_pay2, k0_pay6, k0_pay7]
  rfl

end Payloads

/-- The sum a point of the first layer makes is the reference's gradient. -/
theorem grad_blk0 (c : Dev nD) (t : Fin cfg0.N) (h : t.val < 2) (i : Fin 128) (q : Fin 1024) :
    @Eq EReal (k0_pay3 (F := Ideal)
      (View.ld (Val := Elt Ideal) (e' := .bf16) (iblk m c 0 t) (Rect.unit ![0, 0, 0] ![1, 128, 1024] inb_S4x128x1024_S1x128x1024_0_0_0))
      (View.ld (Val := Elt Ideal) (e' := .bf16) (iblk m c 0 t) (Rect.unit ![1, 0, 0] ![1, 128, 1024] inb_S4x128x1024_S1x128x1024_1_0_0))
      (View.ld (Val := Elt Ideal) (e' := .bf16) (iblk m c 0 t) (Rect.unit ![2, 0, 0] ![1, 128, 1024] inb_S4x128x1024_S1x128x1024_2_0_0))
      (View.ld (Val := Elt Ideal) (e' := .bf16) (iblk m c 0 t) (Rect.unit ![3, 0, 0] ![1, 128, 1024] inb_S4x128x1024_S1x128x1024_3_0_0)) (ix2 i q)) (val_main_v6 (F := Ideal) (m ((c : Thread nD τ).loc main_arg0))
      (m ((c : Thread nD τ).loc main_arg1)) (ix3 0 ⟨t.val * 128 + i.val, row0 t h i⟩ q)) := by
  rw [grad_at0]
  refine (sum_at0 _ i q).trans ?_
  simp only [recv0_blk m c t h]

/-- … and of the second. -/
theorem grad_blk1 (c : Dev nD) (t : Fin cfg0.N) (h : 2 ≤ t.val) (i : Fin 128) (q : Fin 1024) :
    @Eq EReal (k0_pay4 (F := Ideal)
      (View.ld (Val := Elt Ideal) (e' := .bf16) (iblk m c 1 t) (Rect.unit ![0, 0, 0] ![1, 128, 1024] inb_S4x128x1024_S1x128x1024_0_0_0))
      (View.ld (Val := Elt Ideal) (e' := .bf16) (iblk m c 1 t) (Rect.unit ![1, 0, 0] ![1, 128, 1024] inb_S4x128x1024_S1x128x1024_1_0_0))
      (View.ld (Val := Elt Ideal) (e' := .bf16) (iblk m c 1 t) (Rect.unit ![2, 0, 0] ![1, 128, 1024] inb_S4x128x1024_S1x128x1024_2_0_0))
      (View.ld (Val := Elt Ideal) (e' := .bf16) (iblk m c 1 t) (Rect.unit ![3, 0, 0] ![1, 128, 1024] inb_S4x128x1024_S1x128x1024_3_0_0)) (ix2 i q)) (val_main_v6 (F := Ideal) (m ((c : Thread nD τ).loc main_arg0))
      (m ((c : Thread nD τ).loc main_arg1)) (ix3 1 ⟨(t.val - 2) * 128 + i.val, row1 t h i⟩ q)) := by
  rw [grad_at1]
  refine (sum_at1 _ i q).trans ?_
  simp only [recv1_blk m c t h]

/-! ## The results -/

theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb5_0 t h]
    blk_simp
    rw [after0_5, outsAt0_A m c t h (Nat.not_le.mpr h)]
    frame_out
    exact (g_pay _ i q).trans (grad_blk0 m c t h i q)
  · rw [emb5_1 t h]
    blk_simp
    rw [after0_5, outsAt0_B m c t (Nat.not_lt.mpr h) h]
    frame_out
    exact (g_pay _ i q).trans (grad_blk1 m c t h i q)

theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb6_0 t h]
    blk_simp
    rw [delta_at, after0_6, outsAt0_A m c t h (Nat.not_le.mpr h)]
    frame_out
    exact (delta_pay _ _ _ _ i q).trans (delta_congr (grad_blk0 m c t h i q) (w_blk0 m c t h i q) (m_blk0 m c t h i q) (v_blk0 m c t h i q))
  · rw [emb6_1 t h]
    blk_simp
    rw [delta_at, after0_6, outsAt0_B m c t (Nat.not_lt.mpr h) h]
    frame_out
    exact (delta_pay _ _ _ _ i q).trans (delta_congr (grad_blk1 m c t h i q) (w_blk1 m c t h i q) (m_blk1 m c t h i q) (v_blk1 m c t h i q))

theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb7_0 t h]
    blk_simp
    rw [m_at, after0_7, outsAt0_A m c t h (Nat.not_le.mpr h)]
    frame_out
    exact (m_pay _ _ i q).trans (congrArg₂ newM (grad_blk0 m c t h i q) (m_blk0 m c t h i q))
  · rw [emb7_1 t h]
    blk_simp
    rw [m_at, after0_7, outsAt0_B m c t (Nat.not_lt.mpr h) h]
    frame_out
    exact (m_pay _ _ i q).trans (congrArg₂ newM (grad_blk1 m c t h i q) (m_blk1 m c t h i q))

theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb8_0 t h]
    blk_simp
    rw [v_at, after0_8, outsAt0_A m c t h (Nat.not_le.mpr h)]
    frame_out
    exact (v_pay _ _ i q).trans (congrArg₂ newV (grad_blk0 m c t h i q) (v_blk0 m c t h i q))
  · rw [emb8_1 t h]
    blk_simp
    rw [v_at, after0_8, outsAt0_B m c t (Nat.not_lt.mpr h) h]
    frame_out
    exact (v_pay _ _ i q).trans (congrArg₂ newV (grad_blk1 m c t h i q) (v_blk1 m c t h i q))

end Cert.Kernel14Ideal.AdamAWOut

end
-- ==== Proof.AdamBWInRef.lean ====
/-
  What the reference of `adam_b_w_in` returns, entry by entry: each layer's gradient summed over the four received parts,
  and the moments and the step AdamW makes of it.
-/
module

public import proofs.«01_k».proof.Proof.Gen.Reference15Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference15Ideal.AdamBWIn
open Cert.Reference15Ideal Cert.Reference15Ideal.Gen Cert.Reference15Ideal.Read
variable (X0 X1 : FVec Ideal S4x1024x512 .bf16) (X2 X3 X4 : FVec Ideal S2x1024x512 .f32)

/-- The first result in the first layer, the gradient. -/
theorem grad_at0 (r : Fin 1024) (q : Fin 512) : val_main_v6 (F := Ideal) X0 X1 (ix3 0 r q)
    = X0 (ix3 0 r q) + X0 (ix3 1 r q) + X0 (ix3 2 r q) + X0 (ix3 3 r q) := by
  rw [← Fin.sum_univ_four fun s => (X0 (ix3 s r q) : EReal)]
  pointwise [val_main_v6, val_main_v5, val_main_v4, val_main_v3, val_main_v2, val_main_v1, val_main_v0, val_main_cst,
    val_main_cst_0]

/-- … and in the second. -/
theorem grad_at1 (r : Fin 1024) (q : Fin 512) : val_main_v6 (F := Ideal) X0 X1 (ix3 1 r q)
    = X1 (ix3 0 r q) + X1 (ix3 1 r q) + X1 (ix3 2 r q) + X1 (ix3 3 r q) := by
  rw [← Fin.sum_univ_four fun s => (X1 (ix3 s r q) : EReal)]
  pointwise [val_main_v6, val_main_v5, val_main_v4, val_main_v3, val_main_v2, val_main_v1, val_main_v0, val_main_cst,
    val_main_cst_0]

/-- The third result, the first moment. -/
theorem m_at (l : Fin 2) (r : Fin 1024) (q : Fin 512) : val_main_v11 (F := Ideal) X0 X1 X3 (ix3 l r q)
    = newM (val_main_v6 (F := Ideal) X0 X1 (ix3 l r q)) (X3 (ix3 l r q)) := by
  pointwise [val_main_v11, val_main_v10, val_main_v9, val_main_v8, val_main_v7, val_main_cst_1, val_main_cst_2]
  rfl

/-- The fourth result, the second moment. -/
theorem v_at (l : Fin 2) (r : Fin 1024) (q : Fin 512) : val_main_v17 (F := Ideal) X0 X1 X4 (ix3 l r q)
    = newV (val_main_v6 (F := Ideal) X0 X1 (ix3 l r q)) (X4 (ix3 l r q)) := by
  pointwise [val_main_v17, val_main_v16, val_main_v15, val_main_v14, val_main_v13, val_main_v12, val_main_cst_3,
    val_main_cst_4]
  rfl

/-- The second result, the step. -/
theorem delta_at (l : Fin 2) (r : Fin 1024) (q : Fin 512) : val_main_v30 (F := Ideal) X0 X1 X2 X3 X4 (ix3 l r q)
    = delta (val_main_v6 (F := Ideal) X0 X1 (ix3 l r q)) (X2 (ix3 l r q)) (X3 (ix3 l r q)) (X4 (ix3 l r q)) := by
  pointwise [val_main_v30, val_main_v29, val_main_v28, val_main_v27, val_main_v26, val_main_v25, val_main_v24,
    val_main_v23, val_main_v22, val_main_v21, val_main_v20, val_main_v19, val_main_v18, val_main_cst_5, val_main_cst_6,
    val_main_cst_7, val_main_cst_8, val_main_cst_9, m_at, v_at]
  rfl

end Cert.Reference15Ideal.AdamBWIn

end
-- ==== Proof.AdamBWInValue.lean ====
/-
  What `adam_b_w_in` leaves in its four results: point `t` sums the four received parts of 256 rows of the gradient, the
  first layer's rows at the first 4 points and the second's after them, and makes AdamW's step on them.
-/
module

public import proofs.«01_k».proof.Proof.Gen.Kernel15Ideal.Frame
public import proofs.«01_k».proof.Proof.AdamBWInRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel15Ideal.AdamBWIn
open Cert.Kernel15Ideal Cert.Kernel15Ideal.Gen
open Cert.Reference15Ideal.AdamBWIn (grad_at0 grad_at1 m_at v_at delta_at)
open Cert.Reference15Ideal.Read (val_main_v6 val_main_v11 val_main_v17 val_main_v30)
variable (m : (ℓ : Loc nD τ sig) → Buf (Elt Ideal) ℓ)

/-- Every window's block index at a point of the first layer. -/
theorem idx0 : ∀ t : Fin cfg0.N, t.val < 4 → win0_0.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- … and at a point of the second. -/
theorem idx1 : ∀ t : Fin cfg0.N, 4 ≤ t.val → win0_1.index t = ![0, t.val - 4, 0] ∧ win0_2.index t = ![1, t.val - 4, 0]
    ∧ win0_3.index t = ![1, t.val - 4, 0] ∧ win0_4.index t = ![1, t.val - 4, 0] ∧ win0_5.index t = ![1, t.val - 4, 0]
    ∧ win0_6.index t = ![1, t.val - 4, 0] ∧ win0_7.index t = ![1, t.val - 4, 0] ∧ win0_8.index t = ![1, t.val - 4, 0] :=
  (by decide +kernel : ∀ t : Fin grid0.N, _)

theorem row0 (t : Fin cfg0.N) (h : t.val < 4) (i : Fin 256) : t.val * 256 + i.val < 1024 := by omega

theorem row1 (t : Fin cfg0.N) (h : 4 ≤ t.val) (i : Fin 256) : (t.val - 4) * 256 + i.val < 1024 := by
  have := t.isLt; have hN : cfg0.N = 8 := N_0; omega

/-! ## The input blocks at an index -/

theorem recv0_blk (c : Dev nD) (t : Fin cfg0.N) (h : t.val < 4) (s : Fin 4) (i : Fin 256) (q : Fin 512) :
    @Eq EReal (iblk m c 0 t (ix3 s i q))
      (m ((c : Thread nD τ).loc main_arg0) (ix3 s ⟨t.val * 256 + i.val, row0 t h i⟩ q)) := by
  blk_ext [iblk, V, idx0 t h]

theorem recv1_blk (c : Dev nD) (t : Fin cfg0.N) (h : 4 ≤ t.val) (s : Fin 4) (i : Fin 256) (q : Fin 512) :
    @Eq EReal (iblk m c 1 t (ix3 s i q))
      (m ((c : Thread nD τ).loc main_arg1) (ix3 s ⟨(t.val - 4) * 256 + i.val, row1 t h i⟩ q)) := by
  blk_ext [iblk, V, idx1 t h]

theorem w_blk0 (c : Dev nD) (t : Fin cfg0.N) (h : t.val < 4) (i : Fin 256) (q : Fin 512) :
    @Eq EReal (iblk m c 2 t (ix3 0 i q))
      (m ((c : Thread nD τ).loc main_arg2) (ix3 0 ⟨t.val * 256 + i.val, row0 t h i⟩ q)) := by
  blk_ext [iblk, V, idx0 t h]

theorem w_blk1 (c : Dev nD) (t : Fin cfg0.N) (h : 4 ≤ t.val) (i : Fin 256) (q : Fin 512) :
    @Eq EReal (iblk m c 2 t (ix3 0 i q))
      (m ((c : Thread nD τ).loc main_arg2) (ix3 1 ⟨(t.val - 4) * 256 + i.val, row1 t h i⟩ q)) := by
  blk_ext [iblk, V, idx1 t h]

theorem m_blk0 (c : Dev nD) (t : Fin cfg0.N) (h : t.val < 4) (i : Fin 256) (q : Fin 512) :
    @Eq EReal (iblk m c 3 t (ix3 0 i q))
      (m ((c : Thread nD τ).loc main_arg3) (ix3 0 ⟨t.val * 256 + i.val, row0 t h i⟩ q)) := by
  blk_ext [iblk, V, idx0 t h]

theorem m_blk1 (c : Dev nD) (t : Fin cfg0.N) (h : 4 ≤ t.val) (i : Fin 256) (q : Fin 512) :
    @Eq EReal (iblk m c 3 t (ix3 0 i q))
      (m ((c : Thread nD τ).loc main_arg3) (ix3 1 ⟨(t.val - 4) * 256 + i.val, row1 t h i⟩ q)) := by
  blk_ext [iblk, V, idx1 t h]

theorem v_blk0 (c : Dev nD) (t : Fin cfg0.N) (h : t.val < 4) (i : Fin 256) (q : Fin 512) :
    @Eq EReal (iblk m c 4 t (ix3 0 i q))
      (m ((c : Thread nD τ).loc main_arg4) (ix3 0 ⟨t.val * 256 + i.val, row0 t h i⟩ q)) := by
  blk_ext [iblk, V, idx0 t h]

theorem v_blk1 (c : Dev nD) (t : Fin cfg0.N) (h : 4 ≤ t.val) (i : Fin 256) (q : Fin 512) :
    @Eq EReal (iblk m c 4 t (ix3 0 i q))
      (m ((c : Thread nD τ).loc main_arg4) (ix3 1 ⟨(t.val - 4) * 256 + i.val, row1 t h i⟩ q)) := by
  blk_ext [iblk, V, idx1 t h]

/-! ## Where the blocks each point writes sit in the arrays -/

theorem emb5_0 (t : Fin cfg0.N) (h : t.val < 4) (i : Fin 256) (q : Fin 512) :
    @Eq S2x1024x512.Idx (((cfg0.win 5).blk t).view.emb (ix3 0 i q)) (ix3 0 ⟨t.val * 256 + i.val, row0 t h i⟩ q) := by
  blk_ext [idx0 t h]

theorem emb5_1 (t : Fin cfg0.N) (h : 4 ≤ t.val) (i : Fin 256) (q : Fin 512) :
    @Eq S2x1024x512.Idx (((cfg0.win 5).blk t).view.emb (ix3 0 i q)) (ix3 1 ⟨(t.val - 4) * 256 + i.val, row1 t h i⟩ q) := by
  blk_ext [idx1 t h]

theorem emb6_0 (t : Fin cfg0.N) (h : t.val < 4) (i : Fin 256) (q : Fin 512) :
    @Eq S2x1024x512.Idx (((cfg0.win 6).blk t).view.emb (ix3 0 i q)) (ix3 0 ⟨t.val * 256 + i.val, row0 t h i⟩ q) := by
  blk_ext [idx0 t h]

theorem emb6_1 (t : Fin cfg0.N) (h : 4 ≤ t.val) (i : Fin 256) (q : Fin 512) :
    @Eq S2x1024x512.Idx (((cfg0.win 6).blk t).view.emb (ix3 0 i q)) (ix3 1 ⟨(t.val - 4) * 256 + i.val, row1 t h i⟩ q) := by
  blk_ext [idx1 t h]

theorem emb7_0 (t : Fin cfg0.N) (h : t.val < 4) (i : Fin 256) (q : Fin 512) :
    @Eq S2x1024x512.Idx (((cfg0.win 7).blk t).view.emb (ix3 0 i q)) (ix3 0 ⟨t.val * 256 + i.val, row0 t h i⟩ q) := by
  blk_ext [idx0 t h]

theorem emb7_1 (t : Fin cfg0.N) (h : 4 ≤ t.val) (i : Fin 256) (q : Fin 512) :
    @Eq S2x1024x512.Idx (((cfg0.win 7).blk t).view.emb (ix3 0 i q)) (ix3 1 ⟨(t.val - 4) * 256 + i.val, row1 t h i⟩ q) := by
  blk_ext [idx1 t h]

theorem emb8_0 (t : Fin cfg0.N) (h : t.val < 4) (i : Fin 256) (q : Fin 512) :
    @Eq S2x1024x512.Idx (((cfg0.win 8).blk t).view.emb (ix3 0 i q)) (ix3 0 ⟨t.val * 256 + i.val, row0 t h i⟩ q) := by
  blk_ext [idx0 t h]

theorem emb8_1 (t : Fin cfg0.N) (h : 4 ≤ t.val) (i : Fin 256) (q : Fin 512) :
    @Eq S2x1024x512.Idx (((cfg0.win 8).blk t).view.emb (ix3 0 i q)) (ix3 1 ⟨(t.val - 4) * 256 + i.val, row1 t h i⟩ q) := by
  blk_ext [idx1 t h]

/-! ## What the stores hold -/

section Payloads
variable (a : FVec Ideal S4x256x512 .bf16) (g : FVec Ideal S256x512 .f32) (w mm vv : FVec Ideal S1x256x512 .f32)
  (i : Fin 256) (q : Fin 512)

theorem sum_at0 : @Eq EReal (k0_pay3 (F := Ideal)
      (View.ld (Val := Elt Ideal) (e' := .bf16) a (Rect.unit ![0, 0, 0] ![1, 256, 512] inb_S4x256x512_S1x256x512_0_0_0))
      (View.ld (Val := Elt Ideal) (e' := .bf16) a (Rect.unit ![1, 0, 0] ![1, 256, 512] inb_S4x256x512_S1x256x512_1_0_0))
      (View.ld (Val := Elt Ideal) (e' := .bf16) a (Rect.unit ![2, 0, 0] ![1, 256, 512] inb_S4x256x512_S1x256x512_2_0_0))
      (View.ld (Val := Elt Ideal) (e' := .bf16) a (Rect.unit ![3, 0, 0] ![1, 256, 512] inb_S4x256x512_S1x256x512_3_0_0)) (ix2 i q))
    (a (ix3 0 i q) + a (ix3 1 i q) + a (ix3 2 i q) + a (ix3 3 i q)) := by
  pointwise [k0_pay3]

theorem sum_at1 : @Eq EReal (k0_pay4 (F := Ideal)
      (View.ld (Val := Elt Ideal) (e' := .bf16) a (Rect.unit ![0, 0, 0] ![1, 256, 512] inb_S4x256x512_S1x256x512_0_0_0))
      (View.ld (Val := Elt Ideal) (e' := .bf16) a (Rect.unit ![1, 0, 0] ![1, 256, 512] inb_S4x256x512_S1x256x512_1_0_0))
      (View.ld (Val := Elt Ideal) (e' := .bf16) a (Rect.unit ![2, 0, 0] ![1, 256, 512] inb_S4x256x512_S1x256x512_2_0_0))
      (View.ld (Val := Elt Ideal) (e' := .bf16) a (Rect.unit ![3, 0, 0] ![1, 256, 512] inb_S4x256x512_S1x256x512_3_0_0)) (ix2 i q))
    (a (ix3 0 i q) + a (ix3 1 i q) + a (ix3 2 i q) + a (ix3 3 i q)) := by
  pointwise [k0_pay4]

theorem g_pay : @Eq EReal (k0_pay5 (F := Ideal) g (ix3 0 i q)) (g (ix2 i q)) := by
  pointwise [k0_pay5]

theorem m_pay : @Eq EReal (k0_pay8 (F := Ideal) g mm (ix3 0 i q)) (newM (g (ix2 i q)) (mm (ix3 0 i q))) := by
  pointwise [k0_pay8, k0_pay6]
  rfl

theorem v_pay : @Eq EReal (k0_pay1 (F := Ideal) (k0_pay7 g vv) (ix3 0 i q)) (newV (g (ix2 i q)) (vv (ix3 0 i q))) := by
  pointwise [k0_pay1, k0_pay7]
  rfl

theorem delta_pay : @Eq EReal (k0_pay2 (F := Ideal) (k0_pay6 g mm) (k0_pay7 g vv) w (ix3 0 i q))
    (delta (g (ix2 i q)) (w (ix3 0 i q)) (mm (ix3 0 i q)) (vv (ix3 0 i q))) := by
  pointwise [k0_pay2, k0_pay6, k0_pay7]
  rfl

end Payloads

/-- The sum a point of the first layer makes is the reference's gradient. -/
theorem grad_blk0 (c : Dev nD) (t : Fin cfg0.N) (h : t.val < 4) (i : Fin 256) (q : Fin 512) :
    @Eq EReal (k0_pay3 (F := Ideal)
      (View.ld (Val := Elt Ideal) (e' := .bf16) (iblk m c 0 t) (Rect.unit ![0, 0, 0] ![1, 256, 512] inb_S4x256x512_S1x256x512_0_0_0))
      (View.ld (Val := Elt Ideal) (e' := .bf16) (iblk m c 0 t) (Rect.unit ![1, 0, 0] ![1, 256, 512] inb_S4x256x512_S1x256x512_1_0_0))
      (View.ld (Val := Elt Ideal) (e' := .bf16) (iblk m c 0 t) (Rect.unit ![2, 0, 0] ![1, 256, 512] inb_S4x256x512_S1x256x512_2_0_0))
      (View.ld (Val := Elt Ideal) (e' := .bf16) (iblk m c 0 t) (Rect.unit ![3, 0, 0] ![1, 256, 512] inb_S4x256x512_S1x256x512_3_0_0)) (ix2 i q)) (val_main_v6 (F := Ideal) (m ((c : Thread nD τ).loc main_arg0))
      (m ((c : Thread nD τ).loc main_arg1)) (ix3 0 ⟨t.val * 256 + i.val, row0 t h i⟩ q)) := by
  rw [grad_at0]
  refine (sum_at0 _ i q).trans ?_
  simp only [recv0_blk m c t h]

/-- … and of the second. -/
theorem grad_blk1 (c : Dev nD) (t : Fin cfg0.N) (h : 4 ≤ t.val) (i : Fin 256) (q : Fin 512) :
    @Eq EReal (k0_pay4 (F := Ideal)
      (View.ld (Val := Elt Ideal) (e' := .bf16) (iblk m c 1 t) (Rect.unit ![0, 0, 0] ![1, 256, 512] inb_S4x256x512_S1x256x512_0_0_0))
      (View.ld (Val := Elt Ideal) (e' := .bf16) (iblk m c 1 t) (Rect.unit ![1, 0, 0] ![1, 256, 512] inb_S4x256x512_S1x256x512_1_0_0))
      (View.ld (Val := Elt Ideal) (e' := .bf16) (iblk m c 1 t) (Rect.unit ![2, 0, 0] ![1, 256, 512] inb_S4x256x512_S1x256x512_2_0_0))
      (View.ld (Val := Elt Ideal) (e' := .bf16) (iblk m c 1 t) (Rect.unit ![3, 0, 0] ![1, 256, 512] inb_S4x256x512_S1x256x512_3_0_0)) (ix2 i q)) (val_main_v6 (F := Ideal) (m ((c : Thread nD τ).loc main_arg0))
      (m ((c : Thread nD τ).loc main_arg1)) (ix3 1 ⟨(t.val - 4) * 256 + i.val, row1 t h i⟩ q)) := by
  rw [grad_at1]
  refine (sum_at1 _ i q).trans ?_
  simp only [recv1_blk m c t h]

/-! ## The results -/

theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 256) (q : Fin 512), y = ix3 0 i q :=
    ⟨y 1, y 2, by rw [eq_ix3 y]; exact congrArg (ix3 · _ _) (Subsingleton.elim _ _)⟩
  rcases Nat.lt_or_ge t.val 4 with h | h
  · rw [emb5_0 t h]
    blk_simp
    rw [after0_5, outsAt0_A m c t h (Nat.not_le.mpr h)]
    frame_out
    exact (g_pay _ i q).trans (grad_blk0 m c t h i q)
  · rw [emb5_1 t h]
    blk_simp
    rw [after0_5, outsAt0_B m c t (Nat.not_lt.mpr h) h]
    frame_out
    exact (g_pay _ i q).trans (grad_blk1 m c t h i q)

theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨i, q, rfl⟩ : ∃ (i : Fin 256) (q : Fin 512), y = ix3 0 i q :=
    ⟨y 1, y 2, by rw [eq_ix3 y]; exact congrArg (ix3 · _ _) (Subsingleton.elim _ _)⟩
  rcases Nat.lt_or_ge t.val 4 with h | h
  · rw [emb6_0 t h]
    blk_simp
    rw [delta_at, after0_6, outsAt0_A m c t h (Nat.not_le.mpr h)]
    frame_out
    exact (delta_pay _ _ _ _ i q).trans (delta_congr (grad_blk0 m c t h i q) (w_blk0 m c t h i q) (m_blk0 m c t h i q) (v_blk0 m c t h i q))
  · rw [emb6_1 t h]
    blk_simp
    rw [delta_at, after0_6, outsAt0_B m c t (Nat.not_lt.mpr h) h]
    frame_out
    exact (delta_pay _ _ _ _ i q).trans (delta_congr (grad_blk1 m c t h i q) (w_blk1 m c t h i q) (m_blk1 m c t h i q) (v_blk1 m c t h i q))

theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨i, q, rfl⟩ : ∃ (i : Fin 256) (q : Fin 512), y = ix3 0 i q :=
    ⟨y 1, y 2, by rw [eq_ix3 y]; exact congrArg (ix3 · _ _) (Subsingleton.elim _ _)⟩
  rcases Nat.lt_or_ge t.val 4 with h | h
  · rw [emb7_0 t h]
    blk_simp
    rw [m_at, after0_7, outsAt0_A m c t h (Nat.not_le.mpr h)]
    frame_out
    exact (m_pay _ _ i q).trans (congrArg₂ newM (grad_blk0 m c t h i q) (m_blk0 m c t h i q))
  · rw [emb7_1 t h]
    blk_simp
    rw [m_at, after0_7, outsAt0_B m c t (Nat.not_lt.mpr h) h]
    frame_out
    exact (m_pay _ _ i q).trans (congrArg₂ newM (grad_blk1 m c t h i q) (m_blk1 m c t h i q))

theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨i, q, rfl⟩ : ∃ (i : Fin 256) (q : Fin 512), y = ix3 0 i q :=
    ⟨y 1, y 2, by rw [eq_ix3 y]; exact congrArg (ix3 · _ _) (Subsingleton.elim _ _)⟩
  rcases Nat.lt_or_ge t.val 4 with h | h
  · rw [emb8_0 t h]
    blk_simp
    rw [v_at, after0_8, outsAt0_A m c t h (Nat.not_le.mpr h)]
    frame_out
    exact (v_pay _ _ i q).trans (congrArg₂ newV (grad_blk0 m c t h i q) (v_blk0 m c t h i q))
  · rw [emb8_1 t h]
    blk_simp
    rw [v_at, after0_8, outsAt0_B m c t (Nat.not_lt.mpr h) h]
    frame_out
    exact (v_pay _ _ i q).trans (congrArg₂ newV (grad_blk1 m c t h i q) (v_blk1 m c t h i q))

end Cert.Kernel15Ideal.AdamBWIn

end
-- ==== Proof.AdamBWGrpRef.lean ====
/-
  What the reference of `adam_b_w_grp` returns, entry by entry: each layer's gradient summed over the four received parts,
  and the moments and the step AdamW makes of it. The four groups of 64 rows are read as 256 rows.
-/
module

public import proofs.«01_k».proof.Proof.Gen.Reference16Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference16Ideal.AdamBWGrp
open Cert.Reference16Ideal Cert.Reference16Ideal.Gen Cert.Reference16Ideal.Read
variable (X0 X1 : FVec Ideal S4x4x64x512 .bf16) (X2 X3 X4 : FVec Ideal S2x4x64x512 .f32)

/-- The first result in the first layer, the gradient. -/
theorem grad_at0 (r : Fin 256) (q : Fin 512) : val_main_v31 (F := Ideal) X0 X1 (ix3 0 r q)
    = X0 (ix4 0 ⟨r.val / 64, by omega⟩ ⟨r.val % 64, by omega⟩ q) + X0 (ix4 1 ⟨r.val / 64, by omega⟩ ⟨r.val % 64, by omega⟩ q) + X0 (ix4 2 ⟨r.val / 64, by omega⟩ ⟨r.val % 64, by omega⟩ q) + X0 (ix4 3 ⟨r.val / 64, by omega⟩ ⟨r.val % 64, by omega⟩ q) := by
  rw [← Fin.sum_univ_four fun s => (X0 (ix4 s ⟨r.val / 64, by omega⟩ ⟨r.val % 64, by omega⟩ q) : EReal)]
  pointwise [val_main_v31, val_main_v6, val_main_v5, val_main_v4, val_main_v3, val_main_v2, val_main_v1, val_main_v0, val_main_cst,
    val_main_cst_0]

/-- … and in the second. -/
theorem grad_at1 (r : Fin 256) (q : Fin 512) : val_main_v31 (F := Ideal) X0 X1 (ix3 1 r q)
    = X1 (ix4 0 ⟨r.val / 64, by omega⟩ ⟨r.val % 64, by omega⟩ q) + X1 (ix4 1 ⟨r.val / 64, by omega⟩ ⟨r.val % 64, by omega⟩ q) + X1 (ix4 2 ⟨r.val / 64, by omega⟩ ⟨r.val % 64, by omega⟩ q) + X1 (ix4 3 ⟨r.val / 64, by omega⟩ ⟨r.val % 64, by omega⟩ q) := by
  rw [← Fin.sum_univ_four fun s => (X1 (ix4 s ⟨r.val / 64, by omega⟩ ⟨r.val % 64, by omega⟩ q) : EReal)]
  pointwise [val_main_v31, val_main_v6, val_main_v5, val_main_v4, val_main_v3, val_main_v2, val_main_v1, val_main_v0, val_main_cst,
    val_main_cst_0]

/-- The third result, the first moment. -/
theorem m_at (l : Fin 2) (r : Fin 256) (q : Fin 512) : val_main_v33 (F := Ideal) X0 X1 X3 (ix3 l r q)
    = newM (val_main_v31 (F := Ideal) X0 X1 (ix3 l r q)) (X3 (ix4 l ⟨r.val / 64, by omega⟩ ⟨r.val % 64, by omega⟩ q)) := by
  pointwise [val_main_v33, val_main_v11, val_main_v10, val_main_v9, val_main_v8, val_main_v7, val_main_cst_1, val_main_cst_2, val_main_v31]
  rfl

/-- The fourth result, the second moment. -/
theorem v_at (l : Fin 2) (r : Fin 256) (q : Fin 512) : val_main_v34 (F := Ideal) X0 X1 X4 (ix3 l r q)
    = newV (val_main_v31 (F := Ideal) X0 X1 (ix3 l r q)) (X4 (ix4 l ⟨r.val / 64, by omega⟩ ⟨r.val % 64, by omega⟩ q)) := by
  pointwise [val_main_v34, val_main_v17, val_main_v16, val_main_v15, val_main_v14, val_main_v13, val_main_v12, val_main_cst_3,
    val_main_cst_4, val_main_v31]
  rfl

/-- The second result, the step. -/
theorem delta_at (l : Fin 2) (r : Fin 256) (q : Fin 512) : val_main_v32 (F := Ideal) X0 X1 X2 X3 X4 (ix3 l r q)
    = delta (val_main_v31 (F := Ideal) X0 X1 (ix3 l r q)) (X2 (ix4 l ⟨r.val / 64, by omega⟩ ⟨r.val % 64, by omega⟩ q)) (X3 (ix4 l ⟨r.val / 64, by omega⟩ ⟨r.val % 64, by omega⟩ q)) (X4 (ix4 l ⟨r.val / 64, by omega⟩ ⟨r.val % 64, by omega⟩ q)) := by
  pointwise [val_main_v32, val_main_v30, val_main_v29, val_main_v28, val_main_v27, val_main_v26, val_main_v25, val_main_v24,
    val_main_v23, val_main_v22, val_main_v21, val_main_v20, val_main_v19, val_main_v18, val_main_cst_5, val_main_cst_6,
    val_main_cst_7, val_main_cst_8, val_main_cst_9, val_main_v17, val_main_v16,
    val_main_v15, val_main_v14, val_main_v13, val_main_v12, val_main_v11, val_main_v10, val_main_v9, val_main_v8,
    val_main_v7, val_main_cst_1, val_main_cst_2, val_main_cst_3, val_main_cst_4, val_main_v31]
  rfl

end Cert.Reference16Ideal.AdamBWGrp

end
-- ==== Proof.AdamBWGrpValue.lean ====
/-
  What `adam_b_w_grp` leaves in its four results, the four groups of 64 rows read as 256 rows: point `t` sums the four received parts of 128 rows of the gradient, the
  first layer's rows at the first 2 points and the second's after them, and makes AdamW's step on them.
-/
module

public import proofs.«01_k».proof.Proof.Gen.Kernel16Ideal.Frame
public import proofs.«01_k».proof.Proof.AdamBWGrpRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel16Ideal.AdamBWGrp
open Cert.Kernel16Ideal Cert.Kernel16Ideal.Gen
open Cert.Reference16Ideal.AdamBWGrp (grad_at0 grad_at1 m_at v_at delta_at)
open Cert.Reference16Ideal.Read (val_main_v31 val_main_v33 val_main_v34 val_main_v32)
variable (m : (ℓ : Loc nD τ sig) → Buf (Elt Ideal) ℓ)

/-- Every window's block index at a point of the first layer. -/
theorem idx0 : ∀ t : Fin cfg0.N, t.val < 2 → win0_0.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- … and at a point of the second. -/
theorem idx1 : ∀ t : Fin cfg0.N, 2 ≤ t.val → win0_1.index t = ![0, t.val - 2, 0] ∧ win0_2.index t = ![1, t.val - 2, 0]
    ∧ win0_3.index t = ![1, t.val - 2, 0] ∧ win0_4.index t = ![1, t.val - 2, 0] ∧ win0_5.index t = ![1, t.val - 2, 0]
    ∧ win0_6.index t = ![1, t.val - 2, 0] ∧ win0_7.index t = ![1, t.val - 2, 0] ∧ win0_8.index t = ![1, t.val - 2, 0] :=
  (by decide +kernel : ∀ t : Fin grid0.N, _)

theorem row0 (t : Fin cfg0.N) (h : t.val < 2) (i : Fin 128) : t.val * 128 + i.val < 256 := by omega

theorem row1 (t : Fin cfg0.N) (h : 2 ≤ t.val) (i : Fin 128) : (t.val - 2) * 128 + i.val < 256 := by
  have := t.isLt; have hN : cfg0.N = 4 := N_0; omega

/-! ## The input blocks at an index -/

theorem recv0_blk (c : Dev nD) (t : Fin cfg0.N) (h : t.val < 2) (s : Fin 4) (i : Fin 128) (q : Fin 512) :
    @Eq EReal (iblk m c 0 t (ix3 s i q))
      (m ((c : Thread nD τ).loc main_arg0) (ix4 s ⟨(t.val * 128 + i.val) / 64, by have := row0 t h i; omega⟩
        ⟨(t.val * 128 + i.val) % 64, by omega⟩ q)) := by
  blk_point [iblk, V, idx0 t h]

theorem recv1_blk (c : Dev nD) (t : Fin cfg0.N) (h : 2 ≤ t.val) (s : Fin 4) (i : Fin 128) (q : Fin 512) :
    @Eq EReal (iblk m c 1 t (ix3 s i q))
      (m ((c : Thread nD τ).loc main_arg1) (ix4 s ⟨((t.val - 2) * 128 + i.val) / 64, by have := row1 t h i; omega⟩
        ⟨((t.val - 2) * 128 + i.val) % 64, by omega⟩ q)) := by
  blk_point [iblk, V, idx1 t h]

theorem w_blk0 (c : Dev nD) (t : Fin cfg0.N) (h : t.val < 2) (i : Fin 128) (q : Fin 512) :
    @Eq EReal (iblk m c 2 t (ix3 0 i q))
      (m ((c : Thread nD τ).loc main_arg2) (ix4 0 ⟨(t.val * 128 + i.val) / 64, by have := row0 t h i; omega⟩
        ⟨(t.val * 128 + i.val) % 64, by omega⟩ q)) := by
  blk_point [iblk, V, idx0 t h]

theorem w_blk1 (c : Dev nD) (t : Fin cfg0.N) (h : 2 ≤ t.val) (i : Fin 128) (q : Fin 512) :
    @Eq EReal (iblk m c 2 t (ix3 0 i q))
      (m ((c : Thread nD τ).loc main_arg2) (ix4 1 ⟨((t.val - 2) * 128 + i.val) / 64, by have := row1 t h i; omega⟩
        ⟨((t.val - 2) * 128 + i.val) % 64, by omega⟩ q)) := by
  blk_point [iblk, V, idx1 t h]

theorem m_blk0 (c : Dev nD) (t : Fin cfg0.N) (h : t.val < 2) (i : Fin 128) (q : Fin 512) :
    @Eq EReal (iblk m c 3 t (ix3 0 i q))
      (m ((c : Thread nD τ).loc main_arg3) (ix4 0 ⟨(t.val * 128 + i.val) / 64, by have := row0 t h i; omega⟩
        ⟨(t.val * 128 + i.val) % 64, by omega⟩ q)) := by
  blk_point [iblk, V, idx0 t h]

theorem m_blk1 (c : Dev nD) (t : Fin cfg0.N) (h : 2 ≤ t.val) (i : Fin 128) (q : Fin 512) :
    @Eq EReal (iblk m c 3 t (ix3 0 i q))
      (m ((c : Thread nD τ).loc main_arg3) (ix4 1 ⟨((t.val - 2) * 128 + i.val) / 64, by have := row1 t h i; omega⟩
        ⟨((t.val - 2) * 128 + i.val) % 64, by omega⟩ q)) := by
  blk_point [iblk, V, idx1 t h]

theorem v_blk0 (c : Dev nD) (t : Fin cfg0.N) (h : t.val < 2) (i : Fin 128) (q : Fin 512) :
    @Eq EReal (iblk m c 4 t (ix3 0 i q))
      (m ((c : Thread nD τ).loc main_arg4) (ix4 0 ⟨(t.val * 128 + i.val) / 64, by have := row0 t h i; omega⟩
        ⟨(t.val * 128 + i.val) % 64, by omega⟩ q)) := by
  blk_point [iblk, V, idx0 t h]

theorem v_blk1 (c : Dev nD) (t : Fin cfg0.N) (h : 2 ≤ t.val) (i : Fin 128) (q : Fin 512) :
    @Eq EReal (iblk m c 4 t (ix3 0 i q))
      (m ((c : Thread nD τ).loc main_arg4) (ix4 1 ⟨((t.val - 2) * 128 + i.val) / 64, by have := row1 t h i; omega⟩
        ⟨((t.val - 2) * 128 + i.val) % 64, by omega⟩ q)) := by
  blk_point [iblk, V, idx1 t h]

/-! ## Where the blocks each point writes sit in the arrays -/

theorem emb5_0 (t : Fin cfg0.N) (h : t.val < 2) (i : Fin 128) (q : Fin 512) :
    @Eq S2x256x512.Idx (((cfg0.win 5).blk t).view.emb (ix3 0 i q)) (ix3 0 ⟨t.val * 128 + i.val, row0 t h i⟩ q) := by
  blk_ext [idx0 t h]

theorem emb5_1 (t : Fin cfg0.N) (h : 2 ≤ t.val) (i : Fin 128) (q : Fin 512) :
    @Eq S2x256x512.Idx (((cfg0.win 5).blk t).view.emb (ix3 0 i q)) (ix3 1 ⟨(t.val - 2) * 128 + i.val, row1 t h i⟩ q) := by
  blk_ext [idx1 t h]

theorem emb6_0 (t : Fin cfg0.N) (h : t.val < 2) (i : Fin 128) (q : Fin 512) :
    @Eq S2x256x512.Idx (((cfg0.win 6).blk t).view.emb (ix3 0 i q)) (ix3 0 ⟨t.val * 128 + i.val, row0 t h i⟩ q) := by
  blk_ext [idx0 t h]

theorem emb6_1 (t : Fin cfg0.N) (h : 2 ≤ t.val) (i : Fin 128) (q : Fin 512) :
    @Eq S2x256x512.Idx (((cfg0.win 6).blk t).view.emb (ix3 0 i q)) (ix3 1 ⟨(t.val - 2) * 128 + i.val, row1 t h i⟩ q) := by
  blk_ext [idx1 t h]

theorem emb7_0 (t : Fin cfg0.N) (h : t.val < 2) (i : Fin 128) (q : Fin 512) :
    @Eq S2x256x512.Idx (((cfg0.win 7).blk t).view.emb (ix3 0 i q)) (ix3 0 ⟨t.val * 128 + i.val, row0 t h i⟩ q) := by
  blk_ext [idx0 t h]

theorem emb7_1 (t : Fin cfg0.N) (h : 2 ≤ t.val) (i : Fin 128) (q : Fin 512) :
    @Eq S2x256x512.Idx (((cfg0.win 7).blk t).view.emb (ix3 0 i q)) (ix3 1 ⟨(t.val - 2) * 128 + i.val, row1 t h i⟩ q) := by
  blk_ext [idx1 t h]

theorem emb8_0 (t : Fin cfg0.N) (h : t.val < 2) (i : Fin 128) (q : Fin 512) :
    @Eq S2x256x512.Idx (((cfg0.win 8).blk t).view.emb (ix3 0 i q)) (ix3 0 ⟨t.val * 128 + i.val, row0 t h i⟩ q) := by
  blk_ext [idx0 t h]

theorem emb8_1 (t : Fin cfg0.N) (h : 2 ≤ t.val) (i : Fin 128) (q : Fin 512) :
    @Eq S2x256x512.Idx (((cfg0.win 8).blk t).view.emb (ix3 0 i q)) (ix3 1 ⟨(t.val - 2) * 128 + i.val, row1 t h i⟩ q) := by
  blk_ext [idx1 t h]

/-! ## What the stores hold -/

section Payloads
variable (a : FVec Ideal S4x128x512 .bf16) (g : FVec Ideal S128x512 .f32) (w mm vv : FVec Ideal S1x128x512 .f32)
  (i : Fin 128) (q : Fin 512)

theorem sum_at0 : @Eq EReal (k0_pay3 (F := Ideal)
      (View.ld (Val := Elt Ideal) (e' := .bf16) a (Rect.unit ![0, 0, 0] ![1, 128, 512] inb_S4x128x512_S1x128x512_0_0_0))
      (View.ld (Val := Elt Ideal) (e' := .bf16) a (Rect.unit ![1, 0, 0] ![1, 128, 512] inb_S4x128x512_S1x128x512_1_0_0))
      (View.ld (Val := Elt Ideal) (e' := .bf16) a (Rect.unit ![2, 0, 0] ![1, 128, 512] inb_S4x128x512_S1x128x512_2_0_0))
      (View.ld (Val := Elt Ideal) (e' := .bf16) a (Rect.unit ![3, 0, 0] ![1, 128, 512] inb_S4x128x512_S1x128x512_3_0_0)) (ix2 i q))
    (a (ix3 0 i q) + a (ix3 1 i q) + a (ix3 2 i q) + a (ix3 3 i q)) := by
  pointwise [k0_pay3]

theorem sum_at1 : @Eq EReal (k0_pay4 (F := Ideal)
      (View.ld (Val := Elt Ideal) (e' := .bf16) a (Rect.unit ![0, 0, 0] ![1, 128, 512] inb_S4x128x512_S1x128x512_0_0_0))
      (View.ld (Val := Elt Ideal) (e' := .bf16) a (Rect.unit ![1, 0, 0] ![1, 128, 512] inb_S4x128x512_S1x128x512_1_0_0))
      (View.ld (Val := Elt Ideal) (e' := .bf16) a (Rect.unit ![2, 0, 0] ![1, 128, 512] inb_S4x128x512_S1x128x512_2_0_0))
      (View.ld (Val := Elt Ideal) (e' := .bf16) a (Rect.unit ![3, 0, 0] ![1, 128, 512] inb_S4x128x512_S1x128x512_3_0_0)) (ix2 i q))
    (a (ix3 0 i q) + a (ix3 1 i q) + a (ix3 2 i q) + a (ix3 3 i q)) := by
  pointwise [k0_pay4]

theorem g_pay : @Eq EReal (k0_pay5 (F := Ideal) g (ix3 0 i q)) (g (ix2 i q)) := by
  pointwise [k0_pay5]

theorem m_pay : @Eq EReal (k0_pay8 (F := Ideal) g mm (ix3 0 i q)) (newM (g (ix2 i q)) (mm (ix3 0 i q))) := by
  pointwise [k0_pay8, k0_pay6]
  rfl

theorem v_pay : @Eq EReal (k0_pay1 (F := Ideal) (k0_pay7 g vv) (ix3 0 i q)) (newV (g (ix2 i q)) (vv (ix3 0 i q))) := by
  pointwise [k0_pay1, k0_pay7]
  rfl

theorem delta_pay : @Eq EReal (k0_pay2 (F := Ideal) (k0_pay6 g mm) (k0_pay7 g vv) w (ix3 0 i q))
    (delta (g (ix2 i q)) (w (ix3 0 i q)) (mm (ix3 0 i q)) (vv (ix3 0 i q))) := by
  pointwise [k0_pay2, k0_pay6, k0_pay7]
  rfl

end Payloads

/-- The sum a point of the first layer makes is the reference's gradient. -/
theorem grad_blk0 (c : Dev nD) (t : Fin cfg0.N) (h : t.val < 2) (i : Fin 128) (q : Fin 512) :
    @Eq EReal (k0_pay3 (F := Ideal)
      (View.ld (Val := Elt Ideal) (e' := .bf16) (iblk m c 0 t) (Rect.unit ![0, 0, 0] ![1, 128, 512] inb_S4x128x512_S1x128x512_0_0_0))
      (View.ld (Val := Elt Ideal) (e' := .bf16) (iblk m c 0 t) (Rect.unit ![1, 0, 0] ![1, 128, 512] inb_S4x128x512_S1x128x512_1_0_0))
      (View.ld (Val := Elt Ideal) (e' := .bf16) (iblk m c 0 t) (Rect.unit ![2, 0, 0] ![1, 128, 512] inb_S4x128x512_S1x128x512_2_0_0))
      (View.ld (Val := Elt Ideal) (e' := .bf16) (iblk m c 0 t) (Rect.unit ![3, 0, 0] ![1, 128, 512] inb_S4x128x512_S1x128x512_3_0_0)) (ix2 i q)) (val_main_v31 (F := Ideal) (m ((c : Thread nD τ).loc main_arg0))
      (m ((c : Thread nD τ).loc main_arg1)) (ix3 0 ⟨t.val * 128 + i.val, row0 t h i⟩ q)) := by
  rw [grad_at0]
  refine (sum_at0 _ i q).trans ?_
  simp only [recv0_blk m c t h]

/-- … and of the second. -/
theorem grad_blk1 (c : Dev nD) (t : Fin cfg0.N) (h : 2 ≤ t.val) (i : Fin 128) (q : Fin 512) :
    @Eq EReal (k0_pay4 (F := Ideal)
      (View.ld (Val := Elt Ideal) (e' := .bf16) (iblk m c 1 t) (Rect.unit ![0, 0, 0] ![1, 128, 512] inb_S4x128x512_S1x128x512_0_0_0))
      (View.ld (Val := Elt Ideal) (e' := .bf16) (iblk m c 1 t) (Rect.unit ![1, 0, 0] ![1, 128, 512] inb_S4x128x512_S1x128x512_1_0_0))
      (View.ld (Val := Elt Ideal) (e' := .bf16) (iblk m c 1 t) (Rect.unit ![2, 0, 0] ![1, 128, 512] inb_S4x128x512_S1x128x512_2_0_0))
      (View.ld (Val := Elt Ideal) (e' := .bf16) (iblk m c 1 t) (Rect.unit ![3, 0, 0] ![1, 128, 512] inb_S4x128x512_S1x128x512_3_0_0)) (ix2 i q)) (val_main_v31 (F := Ideal) (m ((c : Thread nD τ).loc main_arg0))
      (m ((c : Thread nD τ).loc main_arg1)) (ix3 1 ⟨(t.val - 2) * 128 + i.val, row1 t h i⟩ q)) := by
  rw [grad_at1]
  refine (sum_at1 _ i q).trans ?_
  simp only [recv1_blk m c t h]

/-! ## The results -/

theorem final5 (c : Dev nD) : (dats m 0 c).arrAt 5 (cfgs 0).N
    = val_main_v31 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 128) (q : Fin 512), y = ix3 0 i q :=
    ⟨y 1, y 2, by rw [eq_ix3 y]; exact congrArg (ix3 · _ _) (Subsingleton.elim _ _)⟩
  rcases Nat.lt_or_ge t.val 2 with h | h
  · rw [emb5_0 t h]
    blk_simp
    rw [after0_5, outsAt0_A m c t h (Nat.not_le.mpr h)]
    frame_out
    exact (g_pay _ i q).trans (grad_blk0 m c t h i q)
  · rw [emb5_1 t h]
    blk_simp
    rw [after0_5, outsAt0_B m c t (Nat.not_lt.mpr h) h]
    frame_out
    exact (g_pay _ i q).trans (grad_blk1 m c t h i q)

theorem final6 (c : Dev nD) : (dats m 0 c).arrAt 6 (cfgs 0).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨i, q, rfl⟩ : ∃ (i : Fin 128) (q : Fin 512), y = ix3 0 i q :=
    ⟨y 1, y 2, by rw [eq_ix3 y]; exact congrArg (ix3 · _ _) (Subsingleton.elim _ _)⟩
  rcases Nat.lt_or_ge t.val 2 with h | h
  · rw [emb6_0 t h]
    blk_simp
    rw [delta_at, after0_6, outsAt0_A m c t h (Nat.not_le.mpr h)]
    frame_out
    exact (delta_pay _ _ _ _ i q).trans (delta_congr (grad_blk0 m c t h i q) (w_blk0 m c t h i q) (m_blk0 m c t h i q) (v_blk0 m c t h i q))
  · rw [emb6_1 t h]
    blk_simp
    rw [delta_at, after0_6, outsAt0_B m c t (Nat.not_lt.mpr h) h]
    frame_out
    exact (delta_pay _ _ _ _ i q).trans (delta_congr (grad_blk1 m c t h i q) (w_blk1 m c t h i q) (m_blk1 m c t h i q) (v_blk1 m c t h i q))

theorem final7 (c : Dev nD) : (dats m 0 c).arrAt 7 (cfgs 0).N
    = val_main_v33 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨i, q, rfl⟩ : ∃ (i : Fin 128) (q : Fin 512), y = ix3 0 i q :=
    ⟨y 1, y 2, by rw [eq_ix3 y]; exact congrArg (ix3 · _ _) (Subsingleton.elim _ _)⟩
  rcases Nat.lt_or_ge t.val 2 with h | h
  · rw [emb7_0 t h]
    blk_simp
    rw [m_at, after0_7, outsAt0_A m c t h (Nat.not_le.mpr h)]
    frame_out
    exact (m_pay _ _ i q).trans (congrArg₂ newM (grad_blk0 m c t h i q) (m_blk0 m c t h i q))
  · rw [emb7_1 t h]
    blk_simp
    rw [m_at, after0_7, outsAt0_B m c t (Nat.not_lt.mpr h) h]
    frame_out
    exact (m_pay _ _ i q).trans (congrArg₂ newM (grad_blk1 m c t h i q) (m_blk1 m c t h i q))

theorem final8 (c : Dev nD) : (dats m 0 c).arrAt 8 (cfgs 0).N
    = val_main_v34 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨i, q, rfl⟩ : ∃ (i : Fin 128) (q : Fin 512), y = ix3 0 i q :=
    ⟨y 1, y 2, by rw [eq_ix3 y]; exact congrArg (ix3 · _ _) (Subsingleton.elim _ _)⟩
  rcases Nat.lt_or_ge t.val 2 with h | h
  · rw [emb8_0 t h]
    blk_simp
    rw [v_at, after0_8, outsAt0_A m c t h (Nat.not_le.mpr h)]
    frame_out
    exact (v_pay _ _ i q).trans (congrArg₂ newV (grad_blk0 m c t h i q) (v_blk0 m c t h i q))
  · rw [emb8_1 t h]
    blk_simp
    rw [v_at, after0_8, outsAt0_B m c t (Nat.not_lt.mpr h) h]
    frame_out
    exact (v_pay _ _ i q).trans (congrArg₂ newV (grad_blk1 m c t h i q) (v_blk1 m c t h i q))

end Cert.Kernel16Ideal.AdamBWGrp

end
-- ==== Proof.AdamBWOutRef.lean ====
/-
  What the reference of `adam_b_w_out` returns, entry by entry: each layer's gradient summed over the four received parts,
  and the moments and the step AdamW makes of it.
-/
module

public import proofs.«01_k».proof.Proof.Gen.Reference17Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference17Ideal.AdamBWOut
open Cert.Reference17Ideal Cert.Reference17Ideal.Gen Cert.Reference17Ideal.Read
variable (X0 X1 : FVec Ideal S4x256x1024 .bf16) (X2 X3 X4 : FVec Ideal S2x256x1024 .f32)

/-- The first result in the first layer, the gradient. -/
theorem grad_at0 (r : Fin 256) (q : Fin 1024) : val_main_v6 (F := Ideal) X0 X1 (ix3 0 r q)
    = X0 (ix3 0 r q) + X0 (ix3 1 r q) + X0 (ix3 2 r q) + X0 (ix3 3 r q) := by
  rw [← Fin.sum_univ_four fun s => (X0 (ix3 s r q) : EReal)]
  pointwise [val_main_v6, val_main_v5, val_main_v4, val_main_v3, val_main_v2, val_main_v1, val_main_v0, val_main_cst,
    val_main_cst_0]

/-- … and in the second. -/
theorem grad_at1 (r : Fin 256) (q : Fin 1024) : val_main_v6 (F := Ideal) X0 X1 (ix3 1 r q)
    = X1 (ix3 0 r q) + X1 (ix3 1 r q) + X1 (ix3 2 r q) + X1 (ix3 3 r q) := by
  rw [← Fin.sum_univ_four fun s => (X1 (ix3 s r q) : EReal)]
  pointwise [val_main_v6, val_main_v5, val_main_v4, val_main_v3, val_main_v2, val_main_v1, val_main_v0, val_main_cst,
    val_main_cst_0]

/-- The third result, the first moment. -/
theorem m_at (l : Fin 2) (r : Fin 256) (q : Fin 1024) : val_main_v11 (F := Ideal) X0 X1 X3 (ix3 l r q)
    = newM (val_main_v6 (F := Ideal) X0 X1 (ix3 l r q)) (X3 (ix3 l r q)) := by
  pointwise [val_main_v11, val_main_v10, val_main_v9, val_main_v8, val_main_v7, val_main_cst_1, val_main_cst_2]
  rfl

/-- The fourth result, the second moment. -/
theorem v_at (l : Fin 2) (r : Fin 256) (q : Fin 1024) : val_main_v17 (F := Ideal) X0 X1 X4 (ix3 l r q)
    = newV (val_main_v6 (F := Ideal) X0 X1 (ix3 l r q)) (X4 (ix3 l r q)) := by
  pointwise [val_main_v17, val_main_v16, val_main_v15, val_main_v14, val_main_v13, val_main_v12, val_main_cst_3,
    val_main_cst_4]
  rfl

/-- The second result, the step. -/
theorem delta_at (l : Fin 2) (r : Fin 256) (q : Fin 1024) : val_main_v30 (F := Ideal) X0 X1 X2 X3 X4 (ix3 l r q)
    = delta (val_main_v6 (F := Ideal) X0 X1 (ix3 l r q)) (X2 (ix3 l r q)) (X3 (ix3 l r q)) (X4 (ix3 l r q)) := by
  pointwise [val_main_v30, val_main_v29, val_main_v28, val_main_v27, val_main_v26, val_main_v25, val_main_v24,
    val_main_v23, val_main_v22, val_main_v21, val_main_v20, val_main_v19, val_main_v18, val_main_cst_5, val_main_cst_6,
    val_main_cst_7, val_main_cst_8, val_main_cst_9, m_at, v_at]
  rfl

end Cert.Reference17Ideal.AdamBWOut

end
-- ==== Proof.AdamBWOutValue.lean ====
/-
  What `adam_b_w_out` leaves in its four results: point `t` sums the four received parts of 128 rows of the gradient, the
  first layer's rows at the first 2 points and the second's after them, and makes AdamW's step on them.
-/
module

public import proofs.«01_k».proof.Proof.Gen.Kernel17Ideal.Frame
public import proofs.«01_k».proof.Proof.AdamBWOutRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel17Ideal.AdamBWOut
open Cert.Kernel17Ideal Cert.Kernel17Ideal.Gen
open Cert.Reference17Ideal.AdamBWOut (grad_at0 grad_at1 m_at v_at delta_at)
open Cert.Reference17Ideal.Read (val_main_v6 val_main_v11 val_main_v17 val_main_v30)
variable (m : (ℓ : Loc nD τ sig) → Buf (Elt Ideal) ℓ)

/-- Every window's block index at a point of the first layer. -/
theorem idx0 : ∀ t : Fin cfg0.N, t.val < 2 → win0_0.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- … and at a point of the second. -/
theorem idx1 : ∀ t : Fin cfg0.N, 2 ≤ t.val → win0_1.index t = ![0, t.val - 2, 0] ∧ win0_2.index t = ![1, t.val - 2, 0]
    ∧ win0_3.index t = ![1, t.val - 2, 0] ∧ win0_4.index t = ![1, t.val - 2, 0] ∧ win0_5.index t = ![1, t.val - 2, 0]
    ∧ win0_6.index t = ![1, t.val - 2, 0] ∧ win0_7.index t = ![1, t.val - 2, 0] ∧ win0_8.index t = ![1, t.val - 2, 0] :=
  (by decide +kernel : ∀ t : Fin grid0.N, _)

theorem row0 (t : Fin cfg0.N) (h : t.val < 2) (i : Fin 128) : t.val * 128 + i.val < 256 := by omega

theorem row1 (t : Fin cfg0.N) (h : 2 ≤ t.val) (i : Fin 128) : (t.val - 2) * 128 + i.val < 256 := by
  have := t.isLt; have hN : cfg0.N = 4 := N_0; omega

/-! ## The input blocks at an index -/

theorem recv0_blk (c : Dev nD) (t : Fin cfg0.N) (h : t.val < 2) (s : Fin 4) (i : Fin 128) (q : Fin 1024) :
    @Eq EReal (iblk m c 0 t (ix3 s i q))
      (m ((c : Thread nD τ).loc main_arg0) (ix3 s ⟨t.val * 128 + i.val, row0 t h i⟩ q)) := by
  blk_ext [iblk, V, idx0 t h]

theorem recv1_blk (c : Dev nD) (t : Fin cfg0.N) (h : 2 ≤ t.val) (s : Fin 4) (i : Fin 128) (q : Fin 1024) :
    @Eq EReal (iblk m c 1 t (ix3 s i q))
      (m ((c : Thread nD τ).loc main_arg1) (ix3 s ⟨(t.val - 2) * 128 + i.val, row1 t h i⟩ q)) := by
  blk_ext [iblk, V, idx1 t h]

theorem w_blk0 (c : Dev nD) (t : Fin cfg0.N) (h : t.val < 2) (i : Fin 128) (q : Fin 1024) :
    @Eq EReal (iblk m c 2 t (ix3 0 i q))
      (m ((c : Thread nD τ).loc main_arg2) (ix3 0 ⟨t.val * 128 + i.val, row0 t h i⟩ q)) := by
  blk_ext [iblk, V, idx0 t h]

theorem w_blk1 (c : Dev nD) (t : Fin cfg0.N) (h : 2 ≤ t.val) (i : Fin 128) (q : Fin 1024) :
    @Eq EReal (iblk m c 2 t (ix3 0 i q))
      (m ((c : Thread nD τ).loc main_arg2) (ix3 1 ⟨(t.val - 2) * 128 + i.val, row1 t h i⟩ q)) := by
  blk_ext [iblk, V, idx1 t h]

theorem m_blk0 (c : Dev nD) (t : Fin cfg0.N) (h : t.val < 2) (i : Fin 128) (q : Fin 1024) :
    @Eq EReal (iblk m c 3 t (ix3 0 i q))
      (m ((c : Thread nD τ).loc main_arg3) (ix3 0 ⟨t.val * 128 + i.val, row0 t h i⟩ q)) := by
  blk_ext [iblk, V, idx0 t h]

theorem m_blk1 (c : Dev nD) (t : Fin cfg0.N) (h : 2 ≤ t.val) (i : Fin 128) (q : Fin 1024) :
    @Eq EReal (iblk m c 3 t (ix3 0 i q))
      (m ((c : Thread nD τ).loc main_arg3) (ix3 1 ⟨(t.val - 2) * 128 + i.val, row1 t h i⟩ q)) := by
  blk_ext [iblk, V, idx1 t h]

theorem v_blk0 (c : Dev nD) (t : Fin cfg0.N) (h : t.val < 2) (i : Fin 128) (q : Fin 1024) :
    @Eq EReal (iblk m c 4 t (ix3 0 i q))
      (m ((c : Thread nD τ).loc main_arg4) (ix3 0 ⟨t.val * 128 + i.val, row0 t h i⟩ q)) := by
  blk_ext [iblk, V, idx0 t h]

theorem v_blk1 (c : Dev nD) (t : Fin cfg0.N) (h : 2 ≤ t.val) (i : Fin 128) (q : Fin 1024) :
    @Eq EReal (iblk m c 4 t (ix3 0 i q))
      (m ((c : Thread nD τ).loc main_arg4) (ix3 1 ⟨(t.val - 2) * 128 + i.val, row1 t h i⟩ q)) := by
  blk_ext [iblk, V, idx1 t h]

/-! ## Where the blocks each point writes sit in the arrays -/

theorem emb5_0 (t : Fin cfg0.N) (h : t.val < 2) (i : Fin 128) (q : Fin 1024) :
    @Eq S2x256x1024.Idx (((cfg0.win 5).blk t).view.emb (ix3 0 i q)) (ix3 0 ⟨t.val * 128 + i.val, row0 t h i⟩ q) := by
  blk_ext [idx0 t h]

theorem emb5_1 (t : Fin cfg0.N) (h : 2 ≤ t.val) (i : Fin 128) (q : Fin 1024) :
    @Eq S2x256x1024.Idx (((cfg0.win 5).blk t).view.emb (ix3 0 i q)) (ix3 1 ⟨(t.val - 2) * 128 + i.val, row1 t h i⟩ q) := by
  blk_ext [idx1 t h]

theorem emb6_0 (t : Fin cfg0.N) (h : t.val < 2) (i : Fin 128) (q : Fin 1024) :
    @Eq S2x256x1024.Idx (((cfg0.win 6).blk t).view.emb (ix3 0 i q)) (ix3 0 ⟨t.val * 128 + i.val, row0 t h i⟩ q) := by
  blk_ext [idx0 t h]

theorem emb6_1 (t : Fin cfg0.N) (h : 2 ≤ t.val) (i : Fin 128) (q : Fin 1024) :
    @Eq S2x256x1024.Idx (((cfg0.win 6).blk t).view.emb (ix3 0 i q)) (ix3 1 ⟨(t.val - 2) * 128 + i.val, row1 t h i⟩ q) := by
  blk_ext [idx1 t h]

theorem emb7_0 (t : Fin cfg0.N) (h : t.val < 2) (i : Fin 128) (q : Fin 1024) :
    @Eq S2x256x1024.Idx (((cfg0.win 7).blk t).view.emb (ix3 0 i q)) (ix3 0 ⟨t.val * 128 + i.val, row0 t h i⟩ q) := by
  blk_ext [idx0 t h]

theorem emb7_1 (t : Fin cfg0.N) (h : 2 ≤ t.val) (i : Fin 128) (q : Fin 1024) :
    @Eq S2x256x1024.Idx (((cfg0.win 7).blk t).view.emb (ix3 0 i q)) (ix3 1 ⟨(t.val - 2) * 128 + i.val, row1 t h i⟩ q) := by
  blk_ext [idx1 t h]

theorem emb8_0 (t : Fin cfg0.N) (h : t.val < 2) (i : Fin 128) (q : Fin 1024) :
    @Eq S2x256x1024.Idx (((cfg0.win 8).blk t).view.emb (ix3 0 i q)) (ix3 0 ⟨t.val * 128 + i.val, row0 t h i⟩ q) := by
  blk_ext [idx0 t h]

theorem emb8_1 (t : Fin cfg0.N) (h : 2 ≤ t.val) (i : Fin 128) (q : Fin 1024) :
    @Eq S2x256x1024.Idx (((cfg0.win 8).blk t).view.emb (ix3 0 i q)) (ix3 1 ⟨(t.val - 2) * 128 + i.val, row1 t h i⟩ q) := by
  blk_ext [idx1 t h]

/-! ## What the stores hold -/

section Payloads
variable (a : FVec Ideal S4x128x1024 .bf16) (g : FVec Ideal S128x1024 .f32) (w mm vv : FVec Ideal S1x128x1024 .f32)
  (i : Fin 128) (q : Fin 1024)

theorem sum_at0 : @Eq EReal (k0_pay3 (F := Ideal)
      (View.ld (Val := Elt Ideal) (e' := .bf16) a (Rect.unit ![0, 0, 0] ![1, 128, 1024] inb_S4x128x1024_S1x128x1024_0_0_0))
      (View.ld (Val := Elt Ideal) (e' := .bf16) a (Rect.unit ![1, 0, 0] ![1, 128, 1024] inb_S4x128x1024_S1x128x1024_1_0_0))
      (View.ld (Val := Elt Ideal) (e' := .bf16) a (Rect.unit ![2, 0, 0] ![1, 128, 1024] inb_S4x128x1024_S1x128x1024_2_0_0))
      (View.ld (Val := Elt Ideal) (e' := .bf16) a (Rect.unit ![3, 0, 0] ![1, 128, 1024] inb_S4x128x1024_S1x128x1024_3_0_0)) (ix2 i q))
    (a (ix3 0 i q) + a (ix3 1 i q) + a (ix3 2 i q) + a (ix3 3 i q)) := by
  pointwise [k0_pay3]

theorem sum_at1 : @Eq EReal (k0_pay4 (F := Ideal)
      (View.ld (Val := Elt Ideal) (e' := .bf16) a (Rect.unit ![0, 0, 0] ![1, 128, 1024] inb_S4x128x1024_S1x128x1024_0_0_0))
      (View.ld (Val := Elt Ideal) (e' := .bf16) a (Rect.unit ![1, 0, 0] ![1, 128, 1024] inb_S4x128x1024_S1x128x1024_1_0_0))
      (View.ld (Val := Elt Ideal) (e' := .bf16) a (Rect.unit ![2, 0, 0] ![1, 128, 1024] inb_S4x128x1024_S1x128x1024_2_0_0))
      (View.ld (Val := Elt Ideal) (e' := .bf16) a (Rect.unit ![3, 0, 0] ![1, 128, 1024] inb_S4x128x1024_S1x128x1024_3_0_0)) (ix2 i q))
    (a (ix3 0 i q) + a (ix3 1 i q) + a (ix3 2 i q) + a (ix3 3 i q)) := by
  pointwise [k0_pay4]

theorem g_pay : @Eq EReal (k0_pay5 (F := Ideal) g (ix3 0 i q)) (g (ix2 i q)) := by
  pointwise [k0_pay5]

theorem m_pay : @Eq EReal (k0_pay8 (F := Ideal) g mm (ix3 0 i q)) (newM (g (ix2 i q)) (mm (ix3 0 i q))) := by
  pointwise [k0_pay8, k0_pay6]
  rfl

theorem v_pay : @Eq EReal (k0_pay1 (F := Ideal) (k0_pay7 g vv) (ix3 0 i q)) (newV (g (ix2 i q)) (vv (ix3 0 i q))) := by
  pointwise [k0_pay1, k0_pay7]
  rfl

theorem delta_pay : @Eq EReal (k0_pay2 (F := Ideal) (k0_pay6 g mm) (k0_pay7 g vv) w (ix3 0 i q))
    (delta (g (ix2 i q)) (w (ix3 0 i q)) (mm (ix3 0 i q)) (vv (ix3 0 i q))) := by
  pointwise [k0_pay2, k0_pay6, k0_pay7]
  rfl

end Payloads

/-- The sum a point of the first layer makes is the reference's gradient. -/
theorem grad_blk0 (c : Dev nD) (t : Fin cfg0.N) (h : t.val < 2) (i : Fin 128) (q : Fin 1024) :
    @Eq EReal (k0_pay3 (F := Ideal)
      (View.ld (Val := Elt Ideal) (e' := .bf16) (iblk m c 0 t) (Rect.unit ![0, 0, 0] ![1, 128, 1024] inb_S4x128x1024_S1x128x1024_0_0_0))
      (View.ld (Val := Elt Ideal) (e' := .bf16) (iblk m c 0 t) (Rect.unit ![1, 0, 0] ![1, 128, 1024] inb_S4x128x1024_S1x128x1024_1_0_0))
      (View.ld (Val := Elt Ideal) (e' := .bf16) (iblk m c 0 t) (Rect.unit ![2, 0, 0] ![1, 128, 1024] inb_S4x128x1024_S1x128x1024_2_0_0))
      (View.ld (Val := Elt Ideal) (e' := .bf16) (iblk m c 0 t) (Rect.unit ![3, 0, 0] ![1, 128, 1024] inb_S4x128x1024_S1x128x1024_3_0_0)) (ix2 i q)) (val_main_v6 (F := Ideal) (m ((c : Thread nD τ).loc main_arg0))
      (m ((c : Thread nD τ).loc main_arg1)) (ix3 0 ⟨t.val * 128 + i.val, row0 t h i⟩ q)) := by
  rw [grad_at0]
  refine (sum_at0 _ i q).trans ?_
  simp only [recv0_blk m c t h]

/-- … and of the second. -/
theorem grad_blk1 (c : Dev nD) (t : Fin cfg0.N) (h : 2 ≤ t.val) (i : Fin 128) (q : Fin 1024) :
    @Eq EReal (k0_pay4 (F := Ideal)
      (View.ld (Val := Elt Ideal) (e' := .bf16) (iblk m c 1 t) (Rect.unit ![0, 0, 0] ![1, 128, 1024] inb_S4x128x1024_S1x128x1024_0_0_0))
      (View.ld (Val := Elt Ideal) (e' := .bf16) (iblk m c 1 t) (Rect.unit ![1, 0, 0] ![1, 128, 1024] inb_S4x128x1024_S1x128x1024_1_0_0))
      (View.ld (Val := Elt Ideal) (e' := .bf16) (iblk m c 1 t) (Rect.unit ![2, 0, 0] ![1, 128, 1024] inb_S4x128x1024_S1x128x1024_2_0_0))
      (View.ld (Val := Elt Ideal) (e' := .bf16) (iblk m c 1 t) (Rect.unit ![3, 0, 0] ![1, 128, 1024] inb_S4x128x1024_S1x128x1024_3_0_0)) (ix2 i q)) (val_main_v6 (F := Ideal) (m ((c : Thread nD τ).loc main_arg0))
      (m ((c : Thread nD τ).loc main_arg1)) (ix3 1 ⟨(t.val - 2) * 128 + i.val, row1 t h i⟩ q)) := by
  rw [grad_at1]
  refine (sum_at1 _ i q).trans ?_
  simp only [recv1_blk m c t h]

/-! ## The results -/

theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb5_0 t h]
    blk_simp
    rw [after0_5, outsAt0_A m c t h (Nat.not_le.mpr h)]
    frame_out
    exact (g_pay _ i q).trans (grad_blk0 m c t h i q)
  · rw [emb5_1 t h]
    blk_simp
    rw [after0_5, outsAt0_B m c t (Nat.not_lt.mpr h) h]
    frame_out
    exact (g_pay _ i q).trans (grad_blk1 m c t h i q)

theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb6_0 t h]
    blk_simp
    rw [delta_at, after0_6, outsAt0_A m c t h (Nat.not_le.mpr h)]
    frame_out
    exact (delta_pay _ _ _ _ i q).trans (delta_congr (grad_blk0 m c t h i q) (w_blk0 m c t h i q) (m_blk0 m c t h i q) (v_blk0 m c t h i q))
  · rw [emb6_1 t h]
    blk_simp
    rw [delta_at, after0_6, outsAt0_B m c t (Nat.not_lt.mpr h) h]
    frame_out
    exact (delta_pay _ _ _ _ i q).trans (delta_congr (grad_blk1 m c t h i q) (w_blk1 m c t h i q) (m_blk1 m c t h i q) (v_blk1 m c t h i q))

theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb7_0 t h]
    blk_simp
    rw [m_at, after0_7, outsAt0_A m c t h (Nat.not_le.mpr h)]
    frame_out
    exact (m_pay _ _ i q).trans (congrArg₂ newM (grad_blk0 m c t h i q) (m_blk0 m c t h i q))
  · rw [emb7_1 t h]
    blk_simp
    rw [m_at, after0_7, outsAt0_B m c t (Nat.not_lt.mpr h) h]
    frame_out
    exact (m_pay _ _ i q).trans (congrArg₂ newM (grad_blk1 m c t h i q) (m_blk1 m c t h i q))

theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  obtain ⟨i, q, rfl⟩ : ∃ (i : Fin 128) (q : Fin 1024), y = ix3 0 i q :=
    ⟨y 1, y 2, by rw [eq_ix3 y]; exact congrArg (ix3 · _ _) (Subsingleton.elim _ _)⟩
  rcases Nat.lt_or_ge t.val 2 with h | h
  · rw [emb8_0 t h]
    blk_simp
    rw [v_at, after0_8, outsAt0_A m c t h (Nat.not_le.mpr h)]
    frame_out
    exact (v_pay _ _ i q).trans (congrArg₂ newV (grad_blk0 m c t h i q) (v_blk0 m c t h i q))
  · rw [emb8_1 t h]
    blk_simp
    rw [v_at, after0_8, outsAt0_B m c t (Nat.not_lt.mpr h) h]
    frame_out
    exact (v_pay _ _ i q).trans (congrArg₂ newV (grad_blk1 m c t h i q) (v_blk1 m c t h i q))

end Cert.Kernel17Ideal.AdamBWOut

end
-- ==== Proof.AdamBScaleRef.lean ====
/-
  What the reference of `adam_b_scale` returns, entry by entry: each layer's gradient summed over the eight devices'
  parts, and the moments and the step AdamW makes of it.
-/
module

public import proofs.«01_k».proof.Proof.Gen.Reference18Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference18Ideal.AdamBScale
open Cert.Reference18Ideal Cert.Reference18Ideal.Gen Cert.Reference18Ideal.Read
variable (X0 X1 : FVec Ideal S8x1x256 .f32) (X2 X3 X4 : FVec Ideal S2x256 .f32)

/-- The first result in the first layer, the gradient. -/
theorem grad_at0 (q : Fin 256) : val_main_v30 (F := Ideal) X0 X1 (ix3 0 0 q) = ∑ s : Fin 8, X0 (ix3 s 0 q) := by
  pointwise [val_main_v30, val_main_v5, val_main_v4, val_main_v3, val_main_v2, val_main_v1, val_main_v0, val_main_cst,
    val_main_cst_0]

/-- … and in the second. -/
theorem grad_at1 (q : Fin 256) : val_main_v30 (F := Ideal) X0 X1 (ix3 0 1 q) = ∑ s : Fin 8, X1 (ix3 s 0 q) := by
  pointwise [val_main_v30, val_main_v5, val_main_v4, val_main_v3, val_main_v2, val_main_v1, val_main_v0, val_main_cst,
    val_main_cst_0]

/-- The third result, the first moment. -/
theorem m_at (l : Fin 2) (q : Fin 256) : val_main_v32 (F := Ideal) X0 X1 X3 (ix3 0 l q)
    = newM (val_main_v30 (F := Ideal) X0 X1 (ix3 0 l q)) (X3 (ix2 l q)) := by
  pointwise [val_main_v32, val_main_v30, val_main_v10, val_main_v9, val_main_v8, val_main_v7, val_main_v6, val_main_cst_1,
    val_main_cst_2]
  rfl

/-- The fourth result, the second moment. -/
theorem v_at (l : Fin 2) (q : Fin 256) : val_main_v33 (F := Ideal) X0 X1 X4 (ix3 0 l q)
    = newV (val_main_v30 (F := Ideal) X0 X1 (ix3 0 l q)) (X4 (ix2 l q)) := by
  pointwise [val_main_v33, val_main_v30, val_main_v16, val_main_v15, val_main_v14, val_main_v13, val_main_v12,
    val_main_v11, val_main_cst_3, val_main_cst_4]
  rfl

/-- The second result, the step. -/
theorem delta_at (l : Fin 2) (q : Fin 256) : val_main_v31 (F := Ideal) X0 X1 X2 X3 X4 (ix3 0 l q)
    = delta (val_main_v30 (F := Ideal) X0 X1 (ix3 0 l q)) (X2 (ix2 l q)) (X3 (ix2 l q)) (X4 (ix2 l q)) := by
  pointwise [val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_cst_1, val_main_cst_2, val_main_cst_3, val_main_cst_4,
    val_main_cst_5, val_main_cst_6, val_main_cst_7, val_main_cst_8, val_main_cst_9]
  rfl

end Cert.Reference18Ideal.AdamBScale

end
-- ==== Proof.AdamBScaleValue.lean ====
/-
  What `adam_b_scale` leaves in its four results: the one point sums the eight devices' parts of both layers' gradients,
  one row each, and makes AdamW's step on them.
-/
module

public import proofs.«01_k».proof.Proof.Gen.Kernel18Ideal.Frame
public import proofs.«01_k».proof.Proof.AdamBScaleRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel18Ideal.AdamBScale
open Cert.Kernel18Ideal Cert.Kernel18Ideal.Gen
open Cert.Reference18Ideal.AdamBScale (grad_at0 grad_at1 m_at v_at delta_at)
open Cert.Reference18Ideal.Read (val_main_v30 val_main_v31 val_main_v32 val_main_v33)
variable (m : (ℓ : Loc nD τ sig) → Buf (Elt Ideal) ℓ)

/-- Every window's block index. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] :=
  (by decide +kernel : ∀ t : Fin grid0.N, _)

/-! ## The input blocks at an index -/

theorem recv_blk (c : Dev nD) (t : Fin cfg0.N) (s : Fin 8) (l : Fin 2) (q : Fin 256) :
    @Eq EReal (iblk m c 0 t (ix3 s l q)) (V m c main_v0 (ix3 s l q)) := by
  blk_ext [iblk, idx t]

/-! The array of parts holds the first layer's in row 0 and the second's in row 1. -/

theorem recv0_blk (c : Dev nD) (t : Fin cfg0.N) (s : Fin 8) (q : Fin 256) :
    @Eq EReal (iblk m c 0 t (ix3 s 0 q)) (m ((c : Thread nD τ).loc main_arg0) (ix3 s 0 q)) := by
  refine (recv_blk m c t s 0 q).trans ?_
  blk_simp [V]
  entry_read
  pointwise []

theorem recv1_blk (c : Dev nD) (t : Fin cfg0.N) (s : Fin 8) (q : Fin 256) :
    @Eq EReal (iblk m c 0 t (ix3 s 1 q)) (m ((c : Thread nD τ).loc main_arg1) (ix3 s 0 q)) := by
  refine (recv_blk m c t s 1 q).trans ?_
  blk_simp [V]
  entry_read
  pointwise []

theorem w_blk (c : Dev nD) (t : Fin cfg0.N) (l : Fin 2) (q : Fin 256) :
    @Eq EReal (iblk m c 1 t (ix3 0 l q)) (m ((c : Thread nD τ).loc main_arg2) (ix2 l q)) := by
  blk_point [iblk, V, idx t]

theorem m_blk (c : Dev nD) (t : Fin cfg0.N) (l : Fin 2) (q : Fin 256) :
    @Eq EReal (iblk m c 2 t (ix3 0 l q)) (m ((c : Thread nD τ).loc main_arg3) (ix2 l q)) := by
  blk_point [iblk, V, idx t]

theorem v_blk (c : Dev nD) (t : Fin cfg0.N) (l : Fin 2) (q : Fin 256) :
    @Eq EReal (iblk m c 3 t (ix3 0 l q)) (m ((c : Thread nD τ).loc main_arg4) (ix2 l q)) := by
  blk_point [iblk, V, idx t]

/-! ## Where the written blocks sit in the arrays -/

theorem emb4 (t : Fin cfg0.N) (l : Fin 2) (q : Fin 256) :
    @Eq S1x2x256.Idx (((cfg0.win 4).blk t).view.emb (ix3 0 l q)) (ix3 0 l q) := by
  blk_ext [idx t]

theorem emb5 (t : Fin cfg0.N) (l : Fin 2) (q : Fin 256) :
    @Eq S1x2x256.Idx (((cfg0.win 5).blk t).view.emb (ix3 0 l q)) (ix3 0 l q) := by
  blk_ext [idx t]

theorem emb6 (t : Fin cfg0.N) (l : Fin 2) (q : Fin 256) :
    @Eq S1x2x256.Idx (((cfg0.win 6).blk t).view.emb (ix3 0 l q)) (ix3 0 l q) := by
  blk_ext [idx t]

theorem emb7 (t : Fin cfg0.N) (l : Fin 2) (q : Fin 256) :
    @Eq S1x2x256.Idx (((cfg0.win 7).blk t).view.emb (ix3 0 l q)) (ix3 0 l q) := by
  blk_ext [idx t]

/-! ## What the stores hold -/

section Payloads
variable (a : FVec Ideal S8x2x256 .f32) (g : FVec Ideal S2x256 .f32) (w mm vv : FVec Ideal S1x2x256 .f32)
  (l : Fin 2) (q : Fin 256)

theorem sum_at : @Eq EReal (k0_pay2 (F := Ideal)
      (View.ld (Val := Elt Ideal) (e' := .f32) a (Rect.unit ![0, 0, 0] ![1, 2, 256] inb_S8x2x256_S1x2x256_0_0_0))
      (View.ld (Val := Elt Ideal) (e' := .f32) a (Rect.unit ![1, 0, 0] ![1, 2, 256] inb_S8x2x256_S1x2x256_1_0_0))
      (View.ld (Val := Elt Ideal) (e' := .f32) a (Rect.unit ![2, 0, 0] ![1, 2, 256] inb_S8x2x256_S1x2x256_2_0_0))
      (View.ld (Val := Elt Ideal) (e' := .f32) a (Rect.unit ![3, 0, 0] ![1, 2, 256] inb_S8x2x256_S1x2x256_3_0_0))
      (View.ld (Val := Elt Ideal) (e' := .f32) a (Rect.unit ![4, 0, 0] ![1, 2, 256] inb_S8x2x256_S1x2x256_4_0_0))
      (View.ld (Val := Elt Ideal) (e' := .f32) a (Rect.unit ![5, 0, 0] ![1, 2, 256] inb_S8x2x256_S1x2x256_5_0_0))
      (View.ld (Val := Elt Ideal) (e' := .f32) a (Rect.unit ![6, 0, 0] ![1, 2, 256] inb_S8x2x256_S1x2x256_6_0_0))
      (View.ld (Val := Elt Ideal) (e' := .f32) a (Rect.unit ![7, 0, 0] ![1, 2, 256] inb_S8x2x256_S1x2x256_7_0_0)) (ix2 l q))
    (∑ s : Fin 8, a (ix3 s l q)) := by
  rw [Fin.sum_univ_eight]
  pointwise [k0_pay2]

theorem g_pay : @Eq EReal (k0_pay3 (F := Ideal) g (ix3 0 l q)) (g (ix2 l q)) := by
  pointwise [k0_pay3]

theorem m_pay : @Eq EReal (k0_pay6 (F := Ideal) g mm (ix3 0 l q)) (newM (g (ix2 l q)) (mm (ix3 0 l q))) := by
  pointwise [k0_pay6, k0_pay4]
  rfl

theorem v_pay : @Eq EReal (k0_pay7 (F := Ideal) g vv (ix3 0 l q)) (newV (g (ix2 l q)) (vv (ix3 0 l q))) := by
  pointwise [k0_pay7, k0_pay5]
  rfl

theorem delta_pay : @Eq EReal (k0_pay1 (F := Ideal) (k0_pay5 g vv) (k0_pay8 g mm) w (ix3 0 l q))
    (delta (g (ix2 l q)) (w (ix3 0 l q)) (mm (ix3 0 l q)) (vv (ix3 0 l q))) := by
  pointwise [k0_pay1, k0_pay8, k0_pay4, k0_pay5]
  rfl

end Payloads

/-- The sum is the reference's gradient. -/
theorem grad_blk (c : Dev nD) (t : Fin cfg0.N) (l : Fin 2) (q : Fin 256) :
    @Eq EReal (k0_pay2 (F := Ideal)
      (View.ld (Val := Elt Ideal) (e' := .f32) (iblk m c 0 t) (Rect.unit ![0, 0, 0] ![1, 2, 256] inb_S8x2x256_S1x2x256_0_0_0))
      (View.ld (Val := Elt Ideal) (e' := .f32) (iblk m c 0 t) (Rect.unit ![1, 0, 0] ![1, 2, 256] inb_S8x2x256_S1x2x256_1_0_0))
      (View.ld (Val := Elt Ideal) (e' := .f32) (iblk m c 0 t) (Rect.unit ![2, 0, 0] ![1, 2, 256] inb_S8x2x256_S1x2x256_2_0_0))
      (View.ld (Val := Elt Ideal) (e' := .f32) (iblk m c 0 t) (Rect.unit ![3, 0, 0] ![1, 2, 256] inb_S8x2x256_S1x2x256_3_0_0))
      (View.ld (Val := Elt Ideal) (e' := .f32) (iblk m c 0 t) (Rect.unit ![4, 0, 0] ![1, 2, 256] inb_S8x2x256_S1x2x256_4_0_0))
      (View.ld (Val := Elt Ideal) (e' := .f32) (iblk m c 0 t) (Rect.unit ![5, 0, 0] ![1, 2, 256] inb_S8x2x256_S1x2x256_5_0_0))
      (View.ld (Val := Elt Ideal) (e' := .f32) (iblk m c 0 t) (Rect.unit ![6, 0, 0] ![1, 2, 256] inb_S8x2x256_S1x2x256_6_0_0))
      (View.ld (Val := Elt Ideal) (e' := .f32) (iblk m c 0 t) (Rect.unit ![7, 0, 0] ![1, 2, 256] inb_S8x2x256_S1x2x256_7_0_0)) (ix2 l q))
      (val_main_v30 (F := Ideal) (m ((c : Thread nD τ).loc main_arg0)) (m ((c : Thread nD τ).loc main_arg1)) (ix3 0 l q)) := by
  refine (sum_at _ l q).trans ?_
  obtain rfl | rfl : l = 0 ∨ l = 1 := by omega
  · rw [grad_at0]
    simp only [recv0_blk]
  · rw [grad_at1]
    simp only [recv1_blk]

/-! ## The results -/

theorem final4 (c : Dev nD) : (dats m 0 c).arrAt 4 (cfgs 0).N
    = val_main_v30 (F := Ideal) (m ((c : Thread nD τ).loc main_arg0)) (m ((c : Thread nD τ).loc main_arg1)) := by
  refine (dats m 0 c).arrAt_eq_of_covers 4 _ (by decide +kernel) fun t _ y => ?_
  obtain ⟨l, q, rfl⟩ : ∃ (l : Fin 2) (q : Fin 256), y = ix3 0 l q :=
    ⟨y 1, y 2, by rw [eq_ix3 y]; exact congrArg (ix3 · _ _) (Subsingleton.elim _ _)⟩
  rw [emb4]
  blk_simp
  rw [after0_4, outsAt0]
  frame_out
  exact (g_pay _ l q).trans (grad_blk m c t l q)

theorem final5 (c : Dev nD) : (dats m 0 c).arrAt 5 (cfgs 0).N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨l, q, rfl⟩ : ∃ (l : Fin 2) (q : Fin 256), y = ix3 0 l q :=
    ⟨y 1, y 2, by rw [eq_ix3 y]; exact congrArg (ix3 · _ _) (Subsingleton.elim _ _)⟩
  rw [emb5]
  blk_simp
  rw [delta_at, after0_5, outsAt0]
  frame_out
  exact (delta_pay _ _ _ _ l q).trans (delta_congr (grad_blk m c t l q) (w_blk m c t l q) (m_blk m c t l q) (v_blk m c t l q))

theorem final6 (c : Dev nD) : (dats m 0 c).arrAt 6 (cfgs 0).N
    = val_main_v32 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  obtain ⟨l, q, rfl⟩ : ∃ (l : Fin 2) (q : Fin 256), y = ix3 0 l q :=
    ⟨y 1, y 2, by rw [eq_ix3 y]; exact congrArg (ix3 · _ _) (Subsingleton.elim _ _)⟩
  rw [emb6]
  blk_simp
  rw [m_at, after0_6, outsAt0]
  frame_out
  exact (m_pay _ _ l q).trans (congrArg₂ newM (grad_blk m c t l q) (m_blk m c t l q))

theorem final7 (c : Dev nD) : (dats m 0 c).arrAt 7 (cfgs 0).N
    = val_main_v33 (F := Ideal) (m ((c : Thread nD τ).loc main_arg0)) (m ((c : Thread nD τ).loc main_arg1)) (m ((c : Thread nD τ).loc main_arg4)) := by
  refine (dats m 0 c).arrAt_eq_of_covers 7 _ (by decide +kernel) fun t _ y => ?_
  obtain ⟨l, q, rfl⟩ : ∃ (l : Fin 2) (q : Fin 256), y = ix3 0 l q :=
    ⟨y 1, y 2, by rw [eq_ix3 y]; exact congrArg (ix3 · _ _) (Subsingleton.elim _ _)⟩
  rw [emb7]
  blk_simp
  rw [v_at, after0_7, outsAt0]
  frame_out
  exact (v_pay _ _ l q).trans (congrArg₂ newV (grad_blk m c t l q) (v_blk m c t l q))

end Cert.Kernel18Ideal.AdamBScale

end
-- ==== Proof.OutLoss3Ref.lean ====
/-
  What the reference of `b_out_loss_fwd_3` returns, entry by entry: the output projection, the gradient of the residual
  stream, which is the error over 1024, and the loss, half the sum of the rows' mean square error.
-/
module

public import proofs.«01_k».proof.Proof.Gen.Reference19Ideal.Read
public import proofs.«01_k».proof.Proof.RmsBackward

@[expose] public section

set_option maxRecDepth 16384

noncomputable section

open Idealize.ShloMosaic Idealize.ShloMosaic.TcCoe Idealize.SL.Sem
open Cert.RmsBackward Cert.Consts

namespace Cert.Reference19Ideal.OutLoss3
open Cert.Reference19Ideal Cert.Reference19Ideal.Gen Cert.Reference19Ideal.Read
variable (X0 : FVec Ideal S4096x2048 .bf16) (X1 : FVec Ideal S2x2048x1024 .f32) (X2 : FVec Ideal S4096x1024 .f32)
  (X3 : FVec Ideal S4x1024 .f32) (X4 : FVec Ideal S4096x1024 .f32)

/-! ## The constants -/

theorem two_eq : Ideal.ofBits .f32 0x40000000#32 = ((2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
/-- The kernel's factor of the error. -/
theorem invLen_eq : Ideal.ofBits .f32 0x3A800000#32 = ((1 / 1024 : ℝ) : EReal) := by
  simp [Ideal.ofBits, Ideal.ieee, -EReal.coe_mul]; norm_num
/-- The kernel's factor of the sum of squares. -/
theorem halfInvLen_eq : Ideal.ofBits .f32 0x3A000000#32 = ((1 / 2048 : ℝ) : EReal) := by
  simp [Ideal.ofBits, Ideal.ieee, -EReal.coe_mul]; norm_num

/-- The chain rule's factors of the error are one over the row's length. -/
theorem grad_factor (e : EReal) : Ideal.div (half * Ideal.ofBits .f32 0x3F800000#32) len * (Ideal.ofBits .f32 0x40000000#32 * e)
    = e * ((1 / 1024 : ℝ) : EReal) := by
  rw [div_len, half_eq, one_eq, two_eq, ← mul_assoc, ← EReal.coe_mul, ← EReal.coe_mul, ← EReal.coe_mul, mul_comm]
  congr 2
  norm_num

/-- Half the sum of the rows' means is the sum of all squares over 2048. -/
theorem loss_factor (f : Fin 4096 → Fin 1024 → EReal) :
    half * ∑ t, Ideal.div (∑ k, f t k) len = (∑ k, ∑ t, f t k) * ((1 / 2048 : ℝ) : EReal) := by
  have h : (∑ t, Ideal.div (∑ k, f t k) len) = ((1 / 1024 : ℝ) : EReal) * ∑ t, ∑ k, f t k := by
    rw [coe_mul_sum _ _ (by norm_num)]
    exact Finset.sum_congr rfl fun t _ => by rw [div_len, mul_comm]
  rw [h, half_eq, ← mul_assoc, ← EReal.coe_mul, mul_comm, Finset.sum_comm]
  congr 2
  norm_num

/-! ## The results -/

/-- The output projection of token `t` at channel `q`. -/
def out (t : Fin 4096) (q : Fin 1024) : EReal := ∑ k : Fin 2048, X0 (ix2 t k) * X1 (ix3 1 k q)

/-- The error of token `t` at channel `q`. -/
def err (t : Fin 4096) (q : Fin 1024) : EReal :=
  X2 (ix2 t q) + out X0 X1 t q * rstd (fun k => out X0 X1 t k) * X3 (ix2 3 q) - X4 (ix2 t q)

/-- The second result, the projection. -/
theorem out_at (t : Fin 4096) (q : Fin 1024) : val_main_v3 (F := Ideal) X0 X1 (ix2 t q) = out X0 X1 t q := by
  pointwise [val_main_v3, val_main_v2, val_main_v1, val_main_v0]
  rfl

theorem err_at (t : Fin 4096) (q : Fin 1024) :
    val_main_v20 (F := Ideal) X0 X1 X2 X3 X4 (ix2 t q) = err X0 X1 X2 X3 X4 t q := by
  pointwise [val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_cst, val_main_cst_0, val_main_cst_1, out_at]
  rfl

/-- The first result, the gradient of the residual stream. -/
theorem dx_at (t : Fin 4096) (q : Fin 1024) : val_main_v34 (F := Ideal) X0 X1 X2 X3 X4 (ix2 t q)
    = err X0 X1 X2 X3 X4 t q * ((1 / 1024 : ℝ) : EReal) := by
  rw [← grad_factor]
  pointwise [val_main_v34, val_main_v33, val_main_v32, val_main_v31, val_main_v30, val_main_v29, val_main_v23, val_main_v22,
    val_main_cst_2, val_main_cst_7, val_main_cst_8, val_main_cst_9, err_at]

/-- The third result, the loss, in every entry of its row. -/
theorem loss_at (l : Fin 128) : val_main_v35 (F := Ideal) X0 X1 X2 X3 X4 (ix2 0 l)
    = (∑ k : Fin 1024, ∑ t : Fin 4096, err X0 X1 X2 X3 X4 t k * err X0 X1 X2 X3 X4 t k) * ((1 / 2048 : ℝ) : EReal) := by
  rw [← loss_factor]
  pointwise [val_main_v35, val_main_v28, val_main_v27, val_main_v26, val_main_v25, val_main_v24, val_main_v21, val_main_cst_3,
    val_main_cst_4, val_main_cst_5, val_main_cst_6, err_at]

end Cert.Reference19Ideal.OutLoss3

end
-- ==== Proof.OutLoss3Value.lean ====
/-
  What `b_out_loss_fwd_3` leaves in its three results: point `t` writes the 512 rows from `512·t` of the output
  projection and of the gradient of the residual stream, and adds the column sums of the squared error to the carried row;
  the last point sums that row over its lanes and writes the loss.
-/
module

public import proofs.«01_k».proof.Proof.Gen.Kernel19Ideal.Frame
public import proofs.«01_k».proof.Proof.OutLoss3Ref
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel19Ideal.OutLoss3
open Cert.Kernel19Ideal Cert.Kernel19Ideal.Gen
open Cert.Reference19Ideal.OutLoss3 (out err out_at dx_at loss_at invLen_eq halfInvLen_eq)
open Cert.Reference19Ideal.Read (val_main_v3 val_main_v34 val_main_v35)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![3, 0, 0] ∧ win0_4.index t = ![t.val, 0]
    ∧ win0_5.index t = ![t.val, 0] ∧ win0_6.index t = ![t.val, 0] ∧ win0_7.index t = ![0, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem y_blk (c : Dev nD) (t : Fin cfg0.N) (i : Fin 512) (k : Fin 2048) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (r : Fin 256) (q : Fin 1024) :
    @Eq EReal (iblk m c 1 t (ix3 s r q))
      (m ((c : Thread nD τ).loc main_arg1) (ix3 1 ⟨s.val * 256 + r.val, by omega⟩ q)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 3 k)) := by
  blk_point [iblk, V, idx t]

theorem tgt_blk (c : Dev nD) (t : Fin cfg0.N) (i : Fin 512) (k : Fin 1024) :
    @Eq EReal (iblk m c 4 t (ix2 i k))
      (m ((c : Thread nD τ).loc main_arg4) (ix2 ⟨t.val * 512 + i.val, row_lt t i⟩ k)) := by
  blk_ext [iblk, V, idx t]

/-- Where entry `(i, q)` of the block the first result's point `t` writes sits in the array. -/
theorem dx_emb (t : Fin cfg0.N) (i : Fin 512) (q : Fin 1024) :
    @Eq S4096x1024.Idx (((cfg0.win 5).blk t).view.emb (ix2 i q)) (ix2 ⟨t.val * 512 + i.val, row_lt t i⟩ q) := by
  blk_ext [idx t]

/-- … and of the second's. -/
theorem out_emb (t : Fin cfg0.N) (i : Fin 512) (q : Fin 1024) :
    @Eq S4096x1024.Idx (((cfg0.win 6).blk t).view.emb (ix2 i q)) (ix2 ⟨t.val * 512 + i.val, row_lt t i⟩ q) := by
  blk_ext [idx t]

/-! ## The projection -/

/-- A row of 2048 against a column the weight's block holds in eight pieces of 256. -/
theorem mul_at (y : FVec Ideal S512x2048 .bf16) (w : FVec Ideal S8x256x1024 .bf16) (i : Fin 512) (q : Fin 1024) :
    @Eq EReal (k0_pay4 (F := Ideal) y w (ix2 i q))
      (∑ k : Fin 2048, y (ix2 i k) * w (ix3 ⟨k.val / 256, by omega⟩ ⟨k.val % 256, by omega⟩ q)) := by
  pointwise [k0_pay4]

/-- The projection point `t` computes is the array's. -/
theorem out_blk (c : Dev nD) (t : Fin cfg0.N) (i : Fin 512) (q : Fin 1024) :
    @Eq EReal (k0_pay4 (F := Ideal) (iblk m c 0 t) (iblk m c 1 t) (ix2 i q))
      (out (m ((c : Thread nD τ).loc main_arg0)) (m ((c : Thread nD τ).loc main_arg1)) ⟨t.val * 512 + i.val, row_lt t i⟩ q) := by
  refine (mul_at _ _ i q).trans (Finset.sum_congr rfl fun k _ => ?_)
  rw [y_blk, w_blk]
  have e : (⟨k.val / 256 * 256 + k.val % 256, by omega⟩ : Fin 2048) = k := Fin.ext (by show k.val / 256 * 256 + k.val % 256 = k.val; omega)
  rw [e]

theorem final6 (c : Dev nD) : (dats m 0 c).arrAt 6 (cfgs 0).N
    = val_main_v3 (F := Ideal) (m ((c : Thread nD τ).loc main_arg0)) (m ((c : Thread nD τ).loc main_arg1)) := by
  refine (dats m 0 c).arrAt_eq_of_covers 6 _ (by decide +kernel) fun t _ y => ?_
  obtain ⟨i, q, rfl⟩ : ∃ (i : Fin 512) (q : Fin 1024), y = ix2 i q := ⟨y 0, y 1, eq_ix2 y⟩
  rw [out_emb]
  blk_simp
  rw [out_at, after0_6]
  by_cases h0 : t.val % 8 = 0
  · rw [outsAt0_A m c t h0 (by omega)]; frame_out
    exact out_blk m c t i q
  · by_cases h1 : t.val % 8 = 7
    · rw [outsAt0_C m c t h0 h1]; frame_out
      exact out_blk m c t i q
    · rw [outsAt0_B m c t h0 h1]; frame_out
      exact out_blk m c t i q

/-! ## The gradient of the residual stream -/

/-- The payload's error, over the projection's row. -/
theorem err_pay (y : FVec Ideal S512x2048 .bf16) (w : FVec Ideal S8x256x1024 .bf16) (x : FVec Ideal S512x1024 .f32)
    (g : FVec Ideal S1x1x1024 .f32) (tgt : FVec Ideal S512x1024 .f32) (i : Fin 512) (q : Fin 1024) :
    @Eq EReal (k0_pay5 (F := Ideal) y w x g tgt (ix2 i q))
      (x (ix2 i q) + k0_pay4 (F := Ideal) y w (ix2 i q) * rstd (fun k => k0_pay4 (F := Ideal) y w (ix2 i k)) * g (ix3 0 0 q)
        - tgt (ix2 i q)) := by
  pointwise [k0_pay5]
  rfl

/-- The error point `t` computes is the array's. -/
theorem err_blk (c : Dev nD) (t : Fin cfg0.N) (i : Fin 512) (q : Fin 1024) :
    @Eq EReal (k0_pay5 (F := Ideal) (iblk m c 0 t) (iblk m c 1 t) (iblk m c 2 t) (iblk m c 3 t) (iblk m c 4 t) (ix2 i q))
      (err (m ((c : Thread nD τ).loc main_arg0)) (m ((c : Thread nD τ).loc main_arg1)) (m ((c : Thread nD τ).loc main_arg2))
        (m ((c : Thread nD τ).loc main_arg3)) (m ((c : Thread nD τ).loc main_arg4)) ⟨t.val * 512 + i.val, row_lt t i⟩ q) := by
  refine (err_pay _ _ _ _ _ i q).trans ?_
  simp only [out_blk, x_blk, g_blk, tgt_blk]
  rfl

/-- The gradient's payload is the error over 1024. -/
theorem dx_pay (y : FVec Ideal S512x2048 .bf16) (w : FVec Ideal S8x256x1024 .bf16) (x : FVec Ideal S512x1024 .f32)
    (g : FVec Ideal S1x1x1024 .f32) (tgt : FVec Ideal S512x1024 .f32) (i : Fin 512) (q : Fin 1024) :
    @Eq EReal (k0_pay6 (F := Ideal) y w x g tgt (ix2 i q))
      (k0_pay5 (F := Ideal) y w x g tgt (ix2 i q) * ((1 / 1024 : ℝ) : EReal)) := by
  rw [← invLen_eq]
  pointwise [k0_pay6]

theorem dx_blk (c : Dev nD) (t : Fin cfg0.N) (i : Fin 512) (q : Fin 1024) :
    @Eq EReal (k0_pay6 (F := Ideal) (iblk m c 0 t) (iblk m c 1 t) (iblk m c 2 t) (iblk m c 3 t) (iblk m c 4 t) (ix2 i q))
      (err (m ((c : Thread nD τ).loc main_arg0)) (m ((c : Thread nD τ).loc main_arg1)) (m ((c : Thread nD τ).loc main_arg2))
        (m ((c : Thread nD τ).loc main_arg3)) (m ((c : Thread nD τ).loc main_arg4)) ⟨t.val * 512 + i.val, row_lt t i⟩ q
        * ((1 / 1024 : ℝ) : EReal)) :=
  (dx_pay _ _ _ _ _ i q).trans (congrArg (· * ((1 / 1024 : ℝ) : EReal)) (err_blk m c t i q))

theorem final5 (c : Dev nD) : (dats m 0 c).arrAt 5 (cfgs 0).N
    = val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [dx_emb]
  blk_simp
  rw [dx_at, after0_5]
  by_cases h0 : t.val % 8 = 0
  · rw [outsAt0_A m c t h0 (by omega)]; frame_out
    exact dx_blk m c t i q
  · by_cases h1 : t.val % 8 = 7
    · rw [outsAt0_C m c t h0 h1]; frame_out
      exact dx_blk m c t i q
    · rw [outsAt0_B m c t h0 h1]; frame_out
      exact dx_blk m c t i q

/-! ## The loss -/

theorem zero_at (j : S1x1024.Idx) : k0_pay3 (F := Ideal) j = 0 := by pointwise [k0_pay3]

/-- What one point adds to the carried row: the column sums of the squared error. -/
theorem add_at (e : FVec Ideal S512x1024 .f32) (acc : FVec Ideal S1x1024 .f32) (j : S1x1024.Idx) :
    k0_pay1 (F := Ideal) e acc j = acc j + ∑ i : Fin 512, e (ix2 i (j 1)) * e (ix2 i (j 1)) := by
  idx_vars j
  pointwise [k0_pay1]

/-- The loss the last point writes: the row's sum over 2048, in every lane. -/
theorem loss_pay (row : FVec Ideal S1x1024 .f32) (l : Fin 128) :
    @Eq EReal (k0_pay2 (F := Ideal) row (ix2 0 l)) ((∑ k : Fin 1024, row (ix2 0 k)) * ((1 / 2048 : ℝ) : EReal)) := by
  rw [← halfInvLen_eq]
  pointwise [k0_pay2]

/-- The carried row after the last point: the column sums of the squared error over all tokens. -/
theorem row_last (c : Dev nD) (k : Fin 1024) :
    @Eq EReal ((outsAt0 m c t0_7.val t0_7.isLt).2.2.2 (ix2 0 k))
      (∑ t : Fin 4096,
        err (m ((c : Thread nD τ).loc main_arg0)) (m ((c : Thread nD τ).loc main_arg1)) (m ((c : Thread nD τ).loc main_arg2))
          (m ((c : Thread nD τ).loc main_arg3)) (m ((c : Thread nD τ).loc main_arg4)) t k
        * err (m ((c : Thread nD τ).loc main_arg0)) (m ((c : Thread nD τ).loc main_arg1)) (m ((c : Thread nD τ).loc main_arg2))
          (m ((c : Thread nD τ).loc main_arg3)) (m ((c : Thread nD τ).loc main_arg4)) t k) := by
  rw [Pipeline.eq_sum_fin_of_reset_step_apply_last (fun n h => (outsAt0 m c n h).2.2.2) 8 (fun _ => 0) _
    (fun t h j => by rw [outsAt0_A m c t h (by omega)]; frame_out; rw [add_at, zero_at])
    (fun t h j => by
      by_cases h1 : t.val % 8 = 7
      · rw [outsAt0_C m c t h h1]; frame_out; rw [add_at, read_unread_whole]
      · rw [outsAt0_B m c t h h1]; frame_out; rw [add_at, read_unread_whole])
    (le_of_eq N_0) t0_7 rfl (ix2 0 k), zero_add]
  refine Fin.sum_mul_add_congr fun p i hl => ?_
  exact congrArg₂ (· * ·) (err_blk m c p i k) (err_blk m c p i k)

/-- What the last point writes is the loss of its carried row. -/
theorem loss_last (c : Dev nD) :
    (outsAt0 m c t0_7.val t0_7.isLt).2.2.1 = k0_pay2 (F := Ideal) (outsAt0 m c t0_7.val t0_7.isLt).2.2.2 := by
  rw [outsAt0_C m c t0_7 (by decide) (by decide)]
  frame_out

theorem final7 (c : Dev nD) : (dats m 0 c).arrAt 7 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  obtain ⟨l, rfl⟩ : ∃ l : Fin 128, j = ix2 0 l := ⟨j 1, by rw [eq_ix2 j]; exact congrArg (ix2 · _) (Subsingleton.elim _ _)⟩
  blk_simp
  rw [loss_at, after0_7, loss_last]
  refine (loss_pay _ l).trans (congrArg (· * ((1 / 2048 : ℝ) : EReal)) (Finset.sum_congr rfl fun k _ => ?_))
  exact row_last m c k

end Cert.Kernel19Ideal.OutLoss3

end
-- ==== Proof.AdamNormsRef.lean ====
/-
  What the reference of `adam_norms` returns, entry by entry: the loss and the two norms' gradients summed over the eight
  devices' parts, and the moments and the step AdamW makes of the gradients.
-/
module

public import proofs.«01_k».proof.Proof.Gen.Reference20Ideal.Read
public import proofs.«01_k».proof.Proof.AdamW
public import Idealize.ShloMosaic.Lib.Pointwise

@[expose] public section

set_option maxRecDepth 16384

noncomputable section

open Idealize.ShloMosaic Idealize.ShloMosaic.TcCoe Idealize.SL.Sem
open Cert.AdamW

namespace Cert.Reference20Ideal.AdamNorms
open Cert.Reference20Ideal Cert.Reference20Ideal.Gen Cert.Reference20Ideal.Read
variable (X0 : FVec Ideal S8x256x128 .f32) (W M U : FVec Ideal S4x1024 .f32) (i : Fin 4) (q : Fin 1024)

/-! The parts hold `norm_pre`'s gradient in the first 4096 entries, `norm_post`'s in the next and the loss after them. -/

/-- The row and the lane of the first norm's entry. -/
abbrev row0 : Fin 256 := ⟨(i.val * 1024 + q.val) / 128, by omega⟩
abbrev lane0 : Fin 128 := ⟨(i.val * 1024 + q.val) % 128, by omega⟩

/-- … and of the second's. -/
abbrev row1 : Fin 256 := ⟨(4096 + (i.val * 1024 + q.val)) / 128, by omega⟩
abbrev lane1 : Fin 128 := ⟨(4096 + (i.val * 1024 + q.val)) % 128, by omega⟩

/-- The first result, the loss. -/
theorem loss_at : val_main_v9 (F := Ideal) X0 ix0 = ∑ s : Fin 8, X0 (ix3 s 64 0) := by
  pointwise [val_main_v9, val_main_v8, val_main_v7, val_main_v0, val_main_cst_1]

/-- The gradient of `norm_pre`. -/
theorem g_pre : val_main_v3 (F := Ideal) X0 (ix2 i q) = ∑ s : Fin 8, X0 (ix3 s (row0 i q) (lane0 i q)) := by
  pointwise [val_main_v3, val_main_v2, val_main_v1, val_main_v0, val_main_cst]

/-- The gradient of `norm_post`. -/
theorem g_post : val_main_v6 (F := Ideal) X0 (ix2 i q) = ∑ s : Fin 8, X0 (ix3 s (row1 i q) (lane1 i q)) := by
  pointwise [val_main_v6, val_main_v5, val_main_v4, val_main_v0, val_main_cst_0]

/-- The first moment of `norm_pre`. -/
theorem m_pre : val_main_v14 (F := Ideal) X0 M (ix2 i q) = newM (val_main_v3 (F := Ideal) X0 (ix2 i q)) (M (ix2 i q)) := by
  pointwise [val_main_v14, val_main_v13, val_main_v12, val_main_v11, val_main_v10, val_main_cst_2, val_main_cst_3]
  rfl

/-- The second moment of `norm_pre`. -/
theorem v_pre : val_main_v20 (F := Ideal) X0 U (ix2 i q) = newV (val_main_v3 (F := Ideal) X0 (ix2 i q)) (U (ix2 i q)) := by
  pointwise [val_main_v20, val_main_v19, val_main_v18, val_main_v17, val_main_v16, val_main_v15, val_main_cst_4,
    val_main_cst_5]
  rfl

/-- The step of `norm_pre`. -/
theorem delta_pre : val_main_v33 (F := Ideal) X0 W M U (ix2 i q)
    = delta (val_main_v3 (F := Ideal) X0 (ix2 i q)) (W (ix2 i q)) (M (ix2 i q)) (U (ix2 i q)) := by
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_cst_2, val_main_cst_3, val_main_cst_4, val_main_cst_5, val_main_cst_6, val_main_cst_7,
    val_main_cst_8, val_main_cst_9, val_main_cst_10]
  rfl

/-- The first moment of `norm_post`. -/
theorem m_post : val_main_v38 (F := Ideal) X0 M (ix2 i q) = newM (val_main_v6 (F := Ideal) X0 (ix2 i q)) (M (ix2 i q)) := by
  pointwise [val_main_v38, val_main_v37, val_main_v36, val_main_v35, val_main_v34, val_main_cst_11, val_main_cst_12]
  rfl

/-- The second moment of `norm_post`. -/
theorem v_post : val_main_v44 (F := Ideal) X0 U (ix2 i q) = newV (val_main_v6 (F := Ideal) X0 (ix2 i q)) (U (ix2 i q)) := by
  pointwise [val_main_v44, val_main_v43, val_main_v42, val_main_v41, val_main_v40, val_main_v39, val_main_cst_13,
    val_main_cst_14]
  rfl

/-- The step of `norm_post`. -/
theorem delta_post : val_main_v57 (F := Ideal) X0 W M U (ix2 i q)
    = delta (val_main_v6 (F := Ideal) X0 (ix2 i q)) (W (ix2 i q)) (M (ix2 i q)) (U (ix2 i q)) := by
  pointwise [val_main_v57, val_main_v56, val_main_v55, val_main_v54, val_main_v53, val_main_v52, val_main_v51,
    val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_cst_11, val_main_cst_12, val_main_cst_13, val_main_cst_14, val_main_cst_15,
    val_main_cst_16, val_main_cst_17, val_main_cst_18, val_main_cst_19]
  rfl

end Cert.Reference20Ideal.AdamNorms

end
-- ==== Proof.AdamNormsValue.lean ====
/-
  What `adam_norms` leaves in its results: each of the two points sums half of the eight devices' packed parts and makes
  AdamW's step on it, and the host cuts the two norms' entries and the loss out of the packed arrays.
-/
module

public import proofs.«01_k».proof.Proof.Gen.Kernel20Ideal.Frame
public import proofs.«01_k».proof.Proof.AdamNormsRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.AdamW

namespace Cert.Kernel20Ideal.AdamNorms
open Cert.Kernel20Ideal Cert.Kernel20Ideal.Gen
open Cert.Reference20Ideal.AdamNorms (row0 lane0 row1 lane1 loss_at g_pre g_post m_pre v_pre delta_pre m_post v_post delta_post)
open Cert.Reference20Ideal.Read (val_main_v3 val_main_v6 val_main_v9 val_main_v14 val_main_v20 val_main_v33 val_main_v38
  val_main_v44 val_main_v57)
variable (m : (ℓ : Loc nD τ sig) → Buf (Elt Ideal) ℓ)

/-! ## The host's lines before the call: the weights and the moments, packed -/

section Lines
variable (σ : Valuation τ sig (Elt Ideal))

theorem concat_congr {a a' b b' : FVec Ideal S4096 .f32} {z z' : FVec Ideal S1 .f32} (ha : a = a') (hb : b = b') (hz : z = z') :
    concatenate S8193 0 [⟨S4096, a⟩, ⟨S4096, b⟩, ⟨S1, z⟩] concatenates_S4096_S4096_S1_S8193_d0
      = concatenate S8193 0 [⟨S4096, a'⟩, ⟨S4096, b'⟩, ⟨S1, z'⟩] concatenates_S4096_S4096_S1_S8193_d0 := by
  rw [ha, hb, hz]

theorem s6 : StableHlo.after (hostOps0_2 (F := Ideal)) σ (Proc.devRef .tc main_v6)
    = shapeCast S1x256x128 (σ (Proc.devRef .tc main_v5)) shapeCasts_S32768_S1x256x128 := by
  entry_read
  rfl

theorem s12 : StableHlo.after (hostOps0_4 (F := Ideal)) σ (Proc.devRef .tc main_v12)
    = shapeCast S1x256x128 (σ (Proc.devRef .tc main_v11)) shapeCasts_S32768_S1x256x128 := by
  entry_read
  rfl

theorem s18 : StableHlo.after (hostOps0_6 (F := Ideal)) σ (Proc.devRef .tc main_v18)
    = shapeCast S1x256x128 (σ (Proc.devRef .tc main_v17)) shapeCasts_S32768_S1x256x128 := by
  entry_read
  rfl

theorem s5 : StableHlo.after (hostOps0_1 (F := Ideal)) σ (Proc.devRef .tc main_v5)
    = pad S32768 ![0] ![24575] ![0] (σ (Proc.devRef .tc main_v4)) (sitofp (F := Ideal) .f32 (σ (Proc.devRef .tc main_c)))
        pads_S8193_S32768_0245750 h_S_ := by
  entry_read
  rfl

theorem s11 : StableHlo.after (hostOps0_3 (F := Ideal)) σ (Proc.devRef .tc main_v11)
    = pad S32768 ![0] ![24575] ![0] (σ (Proc.devRef .tc main_v10)) (sitofp (F := Ideal) .f32 (σ (Proc.devRef .tc main_c_0)))
        pads_S8193_S32768_0245750 h_S_ := by
  entry_read
  rfl

theorem s17 : StableHlo.after (hostOps0_5 (F := Ideal)) σ (Proc.devRef .tc main_v17)
    = pad S32768 ![0] ![24575] ![0] (σ (Proc.devRef .tc main_v16)) (sitofp (F := Ideal) .f32 (σ (Proc.devRef .tc main_c_1)))
        pads_S8193_S32768_0245750 h_S_ := by
  entry_read
  rfl

theorem s4 : StableHlo.after (hostOps0 (F := Ideal)) σ (Proc.devRef .tc main_v4)
    = concatenate S8193 0
        [⟨S4096, shapeCast S4096 (σ (Proc.devRef .tc main_arg1)) shapeCasts_S4x1024_S4096⟩,
          ⟨S4096, shapeCast S4096 (σ (Proc.devRef .tc main_arg2)) shapeCasts_S4x1024_S4096⟩,
          ⟨S1, shapeCast S1 (broadcastInDim S1x1 ![] bcast_S_S1x1 (constant (F := Ideal) S_ .f32 0x00000000#32)) shapeCasts_S1x1_S1⟩]
        concatenates_S4096_S4096_S1_S8193_d0 := by
  simp only [hostOps0, StableHlo.after_cons, StableHlo.after_nil]
  rw [StableHlo.nullary_result_ne main_c _ _ _ (by decide), StableHlo.nary_result]
  refine concat_congr ?_ ?_ ?_
  · change (_ : Valuation τ sig (Elt Ideal)) (Proc.devRef .tc main_v1) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v2) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v3) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl

theorem s10 : StableHlo.after (hostOps0_2 (F := Ideal)) σ (Proc.devRef .tc main_v10)
    = concatenate S8193 0
        [⟨S4096, shapeCast S4096 (σ (Proc.devRef .tc main_arg3)) shapeCasts_S4x1024_S4096⟩,
          ⟨S4096, shapeCast S4096 (σ (Proc.devRef .tc main_arg4)) shapeCasts_S4x1024_S4096⟩,
          ⟨S1, shapeCast S1 (σ (Proc.devRef .tc main_v0)) shapeCasts_S1x1_S1⟩]
        concatenates_S4096_S4096_S1_S8193_d0 := by
  simp only [hostOps0_2, StableHlo.after_cons, StableHlo.after_nil]
  rw [StableHlo.nullary_result_ne main_c_0 _ _ _ (by decide), StableHlo.nary_result]
  refine concat_congr ?_ ?_ ?_
  · change (_ : Valuation τ sig (Elt Ideal)) (Proc.devRef .tc main_v7) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v8) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v9) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl

theorem s16 : StableHlo.after (hostOps0_4 (F := Ideal)) σ (Proc.devRef .tc main_v16)
    = concatenate S8193 0
        [⟨S4096, shapeCast S4096 (σ (Proc.devRef .tc main_arg5)) shapeCasts_S4x1024_S4096⟩,
          ⟨S4096, shapeCast S4096 (σ (Proc.devRef .tc main_arg6)) shapeCasts_S4x1024_S4096⟩,
          ⟨S1, shapeCast S1 (σ (Proc.devRef .tc main_v0)) shapeCasts_S1x1_S1⟩]
        concatenates_S4096_S4096_S1_S8193_d0 := by
  simp only [hostOps0_4, StableHlo.after_cons, StableHlo.after_nil]
  rw [StableHlo.nullary_result_ne main_c_1 _ _ _ (by decide), StableHlo.nary_result]
  refine concat_congr ?_ ?_ ?_
  · change (_ : Valuation τ sig (Elt Ideal)) (Proc.devRef .tc main_v13) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v14) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl
  · change (_ : Valuation τ sig (Elt Ideal)) (Proc.devRef .tc main_v15) = _
    repeat first
      | rw [StableHlo.reshape_result]
      | rw [StableHlo.unary_result]
      | rw [StableHlo.nullary_result]
      | (rw [StableHlo.reshape_result_ne]; rotate_left; decide)
      | (rw [StableHlo.unary_result_ne]; rotate_left; decide)
      | (rw [StableHlo.nullary_result_ne]; rotate_left; decide)
    rfl

/-! The buffers a line leaves alone. -/

theorem keep_arg3 : StableHlo.after (hostOps0 (F := Ideal)) σ (Proc.devRef .tc main_arg3) = σ (Proc.devRef .tc main_arg3) := by
  entry_read
  rfl

theorem keep_arg4 : StableHlo.after (hostOps0 (F := Ideal)) σ (Proc.devRef .tc main_arg4) = σ (Proc.devRef .tc main_arg4) := by
  entry_read
  rfl

theorem keep_arg5 : StableHlo.after (hostOps0 (F := Ideal)) σ (Proc.devRef .tc main_arg5) = σ (Proc.devRef .tc main_arg5) := by
  entry_read
  rfl

theorem keep_arg6 : StableHlo.after (hostOps0 (F := Ideal)) σ (Proc.devRef .tc main_arg6) = σ (Proc.devRef .tc main_arg6) := by
  entry_read
  rfl

theorem keep_1_arg3 : StableHlo.after (hostOps0_1 (F := Ideal)) σ (Proc.devRef .tc main_arg3) = σ (Proc.devRef .tc main_arg3) := by
  entry_read
  rfl

theorem keep_1_arg4 : StableHlo.after (hostOps0_1 (F := Ideal)) σ (Proc.devRef .tc main_arg4) = σ (Proc.devRef .tc main_arg4) := by
  entry_read
  rfl

theorem keep_1_arg5 : StableHlo.after (hostOps0_1 (F := Ideal)) σ (Proc.devRef .tc main_arg5) = σ (Proc.devRef .tc main_arg5) := by
  entry_read
  rfl

theorem keep_1_arg6 : StableHlo.after (hostOps0_1 (F := Ideal)) σ (Proc.devRef .tc main_arg6) = σ (Proc.devRef .tc main_arg6) := by
  entry_read
  rfl

theorem keep_2_arg5 : StableHlo.after (hostOps0_2 (F := Ideal)) σ (Proc.devRef .tc main_arg5) = σ (Proc.devRef .tc main_arg5) := by
  entry_read
  rfl

theorem keep_2_arg6 : StableHlo.after (hostOps0_2 (F := Ideal)) σ (Proc.devRef .tc main_arg6) = σ (Proc.devRef .tc main_arg6) := by
  entry_read
  rfl

theorem keep_3_arg5 : StableHlo.after (hostOps0_3 (F := Ideal)) σ (Proc.devRef .tc main_arg5) = σ (Proc.devRef .tc main_arg5) := by
  entry_read
  rfl

theorem keep_3_arg6 : StableHlo.after (hostOps0_3 (F := Ideal)) σ (Proc.devRef .tc main_arg6) = σ (Proc.devRef .tc main_arg6) := by
  entry_read
  rfl

theorem keep_3_v6 : StableHlo.after (hostOps0_3 (F := Ideal)) σ (Proc.devRef .tc main_v6) = σ (Proc.devRef .tc main_v6) := by
  entry_read
  rfl

theorem keep_4_v6 : StableHlo.after (hostOps0_4 (F := Ideal)) σ (Proc.devRef .tc main_v6) = σ (Proc.devRef .tc main_v6) := by
  entry_read
  rfl

theorem keep_5_v6 : StableHlo.after (hostOps0_5 (F := Ideal)) σ (Proc.devRef .tc main_v6) = σ (Proc.devRef .tc main_v6) := by
  entry_read
  rfl

theorem keep_5_v12 : StableHlo.after (hostOps0_5 (F := Ideal)) σ (Proc.devRef .tc main_v12) = σ (Proc.devRef .tc main_v12) := by
  entry_read
  rfl

theorem keep_6_v6 : StableHlo.after (hostOps0_6 (F := Ideal)) σ (Proc.devRef .tc main_v6) = σ (Proc.devRef .tc main_v6) := by
  entry_read
  rfl

theorem keep_6_v12 : StableHlo.after (hostOps0_6 (F := Ideal)) σ (Proc.devRef .tc main_v12) = σ (Proc.devRef .tc main_v12) := by
  entry_read
  rfl

end Lines

/-- Two arrays and one entry flattened in turn, padded, and laid out in rows. -/
def packed (a b : FVec Ideal S4x1024 .f32) (z : FVec Ideal S1 .f32) (p : FVec Ideal S_ .f32) : FVec Ideal S1x256x128 .f32 :=
  shapeCast S1x256x128 (pad S32768 ![0] ![24575] ![0] (concatenate S8193 0
    [⟨S4096, shapeCast S4096 a shapeCasts_S4x1024_S4096⟩, ⟨S4096, shapeCast S4096 b shapeCasts_S4x1024_S4096⟩, ⟨S1, z⟩]
    concatenates_S4096_S4096_S1_S8193_d0) p pads_S8193_S32768_0245750 h_S_) shapeCasts_S32768_S1x256x128

theorem w_packed (c : Dev nD) : ∃ z p, V m c main_v6
    = packed (m ((c : Thread nD τ).loc main_arg1)) (m ((c : Thread nD τ).loc main_arg2)) z p := by
  apply Exists.intro; apply Exists.intro
  unfold V V0
  simp only [List.flatten_cons, List.flatten_nil, List.append_nil, StableHlo.after_append]
  rw [keep_6_v6, keep_5_v6, keep_4_v6, keep_3_v6, s6, s5, s4]
  rfl

theorem m_packed (c : Dev nD) : ∃ z p, V m c main_v12
    = packed (m ((c : Thread nD τ).loc main_arg3)) (m ((c : Thread nD τ).loc main_arg4)) z p := by
  apply Exists.intro; apply Exists.intro
  unfold V V0
  simp only [List.flatten_cons, List.flatten_nil, List.append_nil, StableHlo.after_append]
  rw [keep_6_v12, keep_5_v12, s12, s11, s10, keep_1_arg3, keep_1_arg4, keep_arg3, keep_arg4]
  rfl

theorem v_packed (c : Dev nD) : ∃ z p, V m c main_v18
    = packed (m ((c : Thread nD τ).loc main_arg5)) (m ((c : Thread nD τ).loc main_arg6)) z p := by
  apply Exists.intro; apply Exists.intro
  unfold V V0
  simp only [List.flatten_cons, List.flatten_nil, List.append_nil, StableHlo.after_append]
  rw [s18, s17, s16, keep_3_arg5, keep_3_arg6, keep_2_arg5, keep_2_arg6, keep_1_arg5, keep_1_arg6, keep_arg5,
    keep_arg6]
  rfl

/-- Where the packed arrays hold the first norm's entry. -/
abbrev pre (i : Fin 4) (q : Fin 1024) : S1x256x128.Idx := ix3 0 (row0 i q) (lane0 i q)

/-- … and the second's. -/
abbrev post (i : Fin 4) (q : Fin 1024) : S1x256x128.Idx := ix3 0 (row1 i q) (lane1 i q)

section Packed
variable (a b : FVec Ideal S4x1024 .f32) (z : FVec Ideal S1 .f32) (p : FVec Ideal S_ .f32) (i : Fin 4) (q : Fin 1024)

theorem packed_pre : @Eq EReal (packed a b z p (pre i q)) (a (ix2 i q)) := by
  pointwise [packed]
  rw [dif_pos (by omega), dif_pos (by omega)]

theorem packed_post : @Eq EReal (packed a b z p (post i q)) (b (ix2 i q)) := by
  pointwise [packed]
  rw [dif_pos (by omega), dif_neg (by omega), dif_pos (by omega)]
  exact congrArg b (congrArg₂ ix2 (Fin.ext (by dsimp only; omega)) (Fin.ext (by dsimp only; omega)))

end Packed

theorem w_at_pre (c : Dev nD) (i : Fin 4) (q : Fin 1024) :
    @Eq EReal (V m c main_v6 (pre i q)) (m ((c : Thread nD τ).loc main_arg1) (ix2 i q)) := by
  obtain ⟨z, p, h⟩ := w_packed m c
  rw [h]
  exact packed_pre _ _ z p i q

theorem w_at_post (c : Dev nD) (i : Fin 4) (q : Fin 1024) :
    @Eq EReal (V m c main_v6 (post i q)) (m ((c : Thread nD τ).loc main_arg2) (ix2 i q)) := by
  obtain ⟨z, p, h⟩ := w_packed m c
  rw [h]
  exact packed_post _ _ z p i q

theorem m_at_pre (c : Dev nD) (i : Fin 4) (q : Fin 1024) :
    @Eq EReal (V m c main_v12 (pre i q)) (m ((c : Thread nD τ).loc main_arg3) (ix2 i q)) := by
  obtain ⟨z, p, h⟩ := m_packed m c
  rw [h]
  exact packed_pre _ _ z p i q

theorem m_at_post (c : Dev nD) (i : Fin 4) (q : Fin 1024) :
    @Eq EReal (V m c main_v12 (post i q)) (m ((c : Thread nD τ).loc main_arg4) (ix2 i q)) := by
  obtain ⟨z, p, h⟩ := m_packed m c
  rw [h]
  exact packed_post _ _ z p i q

theorem v_at_pre (c : Dev nD) (i : Fin 4) (q : Fin 1024) :
    @Eq EReal (V m c main_v18 (pre i q)) (m ((c : Thread nD τ).loc main_arg5) (ix2 i q)) := by
  obtain ⟨z, p, h⟩ := v_packed m c
  rw [h]
  exact packed_pre _ _ z p i q

theorem v_at_post (c : Dev nD) (i : Fin 4) (q : Fin 1024) :
    @Eq EReal (V m c main_v18 (post i q)) (m ((c : Thread nD τ).loc main_arg6) (ix2 i q)) := by
  obtain ⟨z, p, h⟩ := v_packed m c
  rw [h]
  exact packed_post _ _ z p i q

/-! ## The call -/

/-- Every window's block index. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The row of the packed arrays a block's row is. -/
def row (t : Fin cfg0.N) (r : Fin 128) : Fin 256 :=
  ⟨t.val * 128 + r.val, by have : t.val < 2 := t.isLt; omega⟩

/-! ## The input blocks at an index -/

theorem recv_blk (c : Dev nD) (t : Fin cfg0.N) (s : Fin 8) (r l : Fin 128) :
    @Eq EReal (iblk m c 0 t (ix3 s r l)) (m ((c : Thread nD τ).loc main_arg0) (ix3 s (row t r) l)) := by
  refine Eq.trans (b := V m c main_arg0 (ix3 s (row t r) l)) ?_ (congrFun (V_main_arg0 m c) _)
  blk_ext [iblk, row, idx t]

theorem w_blk (c : Dev nD) (t : Fin cfg0.N) (r l : Fin 128) :
    @Eq EReal (iblk m c 1 t (ix3 0 r l)) (V m c main_v6 (ix3 0 (row t r) l)) := by
  blk_ext [iblk, row, idx t]

theorem m_blk (c : Dev nD) (t : Fin cfg0.N) (r l : Fin 128) :
    @Eq EReal (iblk m c 2 t (ix3 0 r l)) (V m c main_v12 (ix3 0 (row t r) l)) := by
  blk_ext [iblk, row, idx t]

theorem v_blk (c : Dev nD) (t : Fin cfg0.N) (r l : Fin 128) :
    @Eq EReal (iblk m c 3 t (ix3 0 r l)) (V m c main_v18 (ix3 0 (row t r) l)) := by
  blk_ext [iblk, row, idx t]

/-! ## Where the written blocks sit in the arrays -/

theorem emb4 (t : Fin cfg0.N) (r l : Fin 128) :
    @Eq S1x256x128.Idx (((cfg0.win 4).blk t).view.emb (ix3 0 r l)) (ix3 0 (row t r) l) := by
  blk_ext [row, idx t]

theorem emb5 (t : Fin cfg0.N) (r l : Fin 128) :
    @Eq S1x256x128.Idx (((cfg0.win 5).blk t).view.emb (ix3 0 r l)) (ix3 0 (row t r) l) := by
  blk_ext [row, idx t]

theorem emb6 (t : Fin cfg0.N) (r l : Fin 128) :
    @Eq S1x256x128.Idx (((cfg0.win 6).blk t).view.emb (ix3 0 r l)) (ix3 0 (row t r) l) := by
  blk_ext [row, idx t]

theorem emb7 (t : Fin cfg0.N) (r l : Fin 128) :
    @Eq S1x256x128.Idx (((cfg0.win 7).blk t).view.emb (ix3 0 r l)) (ix3 0 (row t r) l) := by
  blk_ext [row, idx t]

/-! ## What the stores hold -/

section Payloads
variable (a : FVec Ideal S8x128x128 .f32) (g : FVec Ideal S128x128 .f32) (w mm vv : FVec Ideal S1x128x128 .f32)
  (r l : Fin 128)

theorem sum_at : @Eq EReal (k0_pay2 (F := Ideal)
      (View.ld (Val := Elt Ideal) (e' := .f32) a (Rect.unit ![0, 0, 0] ![1, 128, 128] inb_S8x128x128_S1x128x128_0_0_0))
      (View.ld (Val := Elt Ideal) (e' := .f32) a (Rect.unit ![1, 0, 0] ![1, 128, 128] inb_S8x128x128_S1x128x128_1_0_0))
      (View.ld (Val := Elt Ideal) (e' := .f32) a (Rect.unit ![2, 0, 0] ![1, 128, 128] inb_S8x128x128_S1x128x128_2_0_0))
      (View.ld (Val := Elt Ideal) (e' := .f32) a (Rect.unit ![3, 0, 0] ![1, 128, 128] inb_S8x128x128_S1x128x128_3_0_0))
      (View.ld (Val := Elt Ideal) (e' := .f32) a (Rect.unit ![4, 0, 0] ![1, 128, 128] inb_S8x128x128_S1x128x128_4_0_0))
      (View.ld (Val := Elt Ideal) (e' := .f32) a (Rect.unit ![5, 0, 0] ![1, 128, 128] inb_S8x128x128_S1x128x128_5_0_0))
      (View.ld (Val := Elt Ideal) (e' := .f32) a (Rect.unit ![6, 0, 0] ![1, 128, 128] inb_S8x128x128_S1x128x128_6_0_0))
      (View.ld (Val := Elt Ideal) (e' := .f32) a (Rect.unit ![7, 0, 0] ![1, 128, 128] inb_S8x128x128_S1x128x128_7_0_0)) (ix2 r l))
    (∑ s : Fin 8, a (ix3 s r l)) := by
  rw [Fin.sum_univ_eight]
  pointwise [k0_pay2]

theorem g_pay : @Eq EReal (k0_pay3 (F := Ideal) g (ix3 0 r l)) (g (ix2 r l)) := by
  pointwise [k0_pay3]

theorem m_pay : @Eq EReal (k0_pay6 (F := Ideal) g mm (ix3 0 r l)) (newM (g (ix2 r l)) (mm (ix3 0 r l))) := by
  pointwise [k0_pay6, k0_pay4]
  rfl

theorem v_pay : @Eq EReal (k0_pay7 (F := Ideal) g vv (ix3 0 r l)) (newV (g (ix2 r l)) (vv (ix3 0 r l))) := by
  pointwise [k0_pay7, k0_pay5]
  rfl

theorem delta_pay : @Eq EReal (k0_pay1 (F := Ideal) (k0_pay5 g vv) (k0_pay8 g mm) w (ix3 0 r l))
    (delta (g (ix2 r l)) (w (ix3 0 r l)) (mm (ix3 0 r l)) (vv (ix3 0 r l))) := by
  pointwise [k0_pay1, k0_pay8, k0_pay4, k0_pay5]
  rfl

end Payloads

/-- The gradient's packed array: the sum of the devices' parts. -/
def grad (c : Dev nD) (y : S1x256x128.Idx) : EReal :=
  ∑ s : Fin 8, (m ((c : Thread nD τ).loc main_arg0) : FVec Ideal S8x256x128 .f32) (ix3 s (y 1) (y 2))

theorem grad_blk (c : Dev nD) (t : Fin cfg0.N) (r l : Fin 128) :
    @Eq EReal (k0_pay2 (F := Ideal)
      (View.ld (Val := Elt Ideal) (e' := .f32) (iblk m c 0 t) (Rect.unit ![0, 0, 0] ![1, 128, 128] inb_S8x128x128_S1x128x128_0_0_0))
      (View.ld (Val := Elt Ideal) (e' := .f32) (iblk m c 0 t) (Rect.unit ![1, 0, 0] ![1, 128, 128] inb_S8x128x128_S1x128x128_1_0_0))
      (View.ld (Val := Elt Ideal) (e' := .f32) (iblk m c 0 t) (Rect.unit ![2, 0, 0] ![1, 128, 128] inb_S8x128x128_S1x128x128_2_0_0))
      (View.ld (Val := Elt Ideal) (e' := .f32) (iblk m c 0 t) (Rect.unit ![3, 0, 0] ![1, 128, 128] inb_S8x128x128_S1x128x128_3_0_0))
      (View.ld (Val := Elt Ideal) (e' := .f32) (iblk m c 0 t) (Rect.unit ![4, 0, 0] ![1, 128, 128] inb_S8x128x128_S1x128x128_4_0_0))
      (View.ld (Val := Elt Ideal) (e' := .f32) (iblk m c 0 t) (Rect.unit ![5, 0, 0] ![1, 128, 128] inb_S8x128x128_S1x128x128_5_0_0))
      (View.ld (Val := Elt Ideal) (e' := .f32) (iblk m c 0 t) (Rect.unit ![6, 0, 0] ![1, 128, 128] inb_S8x128x128_S1x128x128_6_0_0))
      (View.ld (Val := Elt Ideal) (e' := .f32) (iblk m c 0 t) (Rect.unit ![7, 0, 0] ![1, 128, 128] inb_S8x128x128_S1x128x128_7_0_0)) (ix2 r l))
      (grad m c (ix3 0 (row t r) l)) := by
  refine (sum_at _ r l).trans ?_
  simp only [recv_blk]
  rfl

/-! ## The packed results -/

theorem final4 (c : Dev nD) : (dats m 0 c).arrAt 4 (cfgs 0).N
    = (fun y => (grad m c y : EReal) : FVec Ideal S1x256x128 .f32) := by
  refine (dats m 0 c).arrAt_eq_of_covers 4 _ (by decide +kernel) fun t _ y => ?_
  obtain ⟨r, l, rfl⟩ : ∃ (r l : Fin 128), y = ix3 0 r l :=
    ⟨y 1, y 2, by rw [eq_ix3 y]; exact congrArg (ix3 · _ _) (Subsingleton.elim _ _)⟩
  rw [emb4]
  blk_simp
  rw [after0_4, outsAt0]
  frame_out
  exact (g_pay _ r l).trans (grad_blk m c t r l)

theorem final5 (c : Dev nD) : (dats m 0 c).arrAt 5 (cfgs 0).N
    = (fun y => delta (grad m c y) (V m c main_v6 y) (V m c main_v12 y) (V m c main_v18 y) : FVec Ideal S1x256x128 .f32) := by
  refine (dats m 0 c).arrAt_eq_of_covers 5 _ (by decide +kernel) fun t _ y => ?_
  obtain ⟨r, l, rfl⟩ : ∃ (r l : Fin 128), y = ix3 0 r l :=
    ⟨y 1, y 2, by rw [eq_ix3 y]; exact congrArg (ix3 · _ _) (Subsingleton.elim _ _)⟩
  rw [emb5]
  blk_simp
  rw [after0_5, outsAt0]
  frame_out
  exact (delta_pay _ _ _ _ r l).trans (delta_congr (grad_blk m c t r l) (w_blk m c t r l) (m_blk m c t r l) (v_blk m c t r l))

theorem final6 (c : Dev nD) : (dats m 0 c).arrAt 6 (cfgs 0).N
    = (fun y => newM (grad m c y) (V m c main_v12 y) : FVec Ideal S1x256x128 .f32) := by
  refine (dats m 0 c).arrAt_eq_of_covers 6 _ (by decide +kernel) fun t _ y => ?_
  obtain ⟨r, l, rfl⟩ : ∃ (r l : Fin 128), y = ix3 0 r l :=
    ⟨y 1, y 2, by rw [eq_ix3 y]; exact congrArg (ix3 · _ _) (Subsingleton.elim _ _)⟩
  rw [emb6]
  blk_simp
  rw [after0_6, outsAt0]
  frame_out
  exact (m_pay _ _ r l).trans (congrArg₂ newM (grad_blk m c t r l) (m_blk m c t r l))

theorem final7 (c : Dev nD) : (dats m 0 c).arrAt 7 (cfgs 0).N
    = (fun y => newV (grad m c y) (V m c main_v18 y) : FVec Ideal S1x256x128 .f32) := by
  refine (dats m 0 c).arrAt_eq_of_covers 7 _ (by decide +kernel) fun t _ y => ?_
  obtain ⟨r, l, rfl⟩ : ∃ (r l : Fin 128), y = ix3 0 r l :=
    ⟨y 1, y 2, by rw [eq_ix3 y]; exact congrArg (ix3 · _ _) (Subsingleton.elim _ _)⟩
  rw [emb7]
  blk_simp
  rw [after0_7, outsAt0]
  frame_out
  exact (v_pay _ _ r l).trans (congrArg₂ newV (grad_blk m c t r l) (v_blk m c t r l))

/-! ## The host's lines after the call -/

theorem cut22 (c : Dev nD) (i : Fin 4) (q : Fin 1024) :
    @Eq EReal (Pipeline.afterTail₀ cfgs (dats m) 0 (V0 m) [hostOps1] c main_v22 (ix2 i q))
      ((dats m 0 c).arrAt 4 (cfgs 0).N (pre i q)) := by
  unfold Pipeline.afterTail₀
  simp only [List.flatten_cons, List.flatten_nil, List.append_nil]
  entry_read
  pointwise []
  exact congrFun (Pipeline.withArrays_arr spec0 launch0.win.arr_inj c (V0 m c) _ 4) _

theorem cut24 (c : Dev nD) (i : Fin 4) (q : Fin 1024) :
    @Eq EReal (Pipeline.afterTail₀ cfgs (dats m) 0 (V0 m) [hostOps1] c main_v24 (ix2 i q))
      ((dats m 0 c).arrAt 4 (cfgs 0).N (post i q)) := by
  unfold Pipeline.afterTail₀
  simp only [List.flatten_cons, List.flatten_nil, List.append_nil]
  entry_read
  pointwise []
  exact congrFun (Pipeline.withArrays_arr spec0 launch0.win.arr_inj c (V0 m c) _ 4) _

theorem cut30 (c : Dev nD) (i : Fin 4) (q : Fin 1024) :
    @Eq EReal (Pipeline.afterTail₀ cfgs (dats m) 0 (V0 m) [hostOps1] c main_v30 (ix2 i q))
      ((dats m 0 c).arrAt 5 (cfgs 0).N (pre i q)) := by
  unfold Pipeline.afterTail₀
  simp only [List.flatten_cons, List.flatten_nil, List.append_nil]
  entry_read
  pointwise []
  exact congrFun (Pipeline.withArrays_arr spec0 launch0.win.arr_inj c (V0 m c) _ 5) _

theorem cut32 (c : Dev nD) (i : Fin 4) (q : Fin 1024) :
    @Eq EReal (Pipeline.afterTail₀ cfgs (dats m) 0 (V0 m) [hostOps1] c main_v32 (ix2 i q))
      ((dats m 0 c).arrAt 5 (cfgs 0).N (post i q)) := by
  unfold Pipeline.afterTail₀
  simp only [List.flatten_cons, List.flatten_nil, List.append_nil]
  entry_read
  pointwise []
  exact congrFun (Pipeline.withArrays_arr spec0 launch0.win.arr_inj c (V0 m c) _ 5) _

theorem cut37 (c : Dev nD) (i : Fin 4) (q : Fin 1024) :
    @Eq EReal (Pipeline.afterTail₀ cfgs (dats m) 0 (V0 m) [hostOps1] c main_v37 (ix2 i q))
      ((dats m 0 c).arrAt 6 (cfgs 0).N (pre i q)) := by
  unfold Pipeline.afterTail₀
  simp only [List.flatten_cons, List.flatten_nil, List.append_nil]
  entry_read
  pointwise []
  exact congrFun (Pipeline.withArrays_arr spec0 launch0.win.arr_inj c (V0 m c) _ 6) _

theorem cut39 (c : Dev nD) (i : Fin 4) (q : Fin 1024) :
    @Eq EReal (Pipeline.afterTail₀ cfgs (dats m) 0 (V0 m) [hostOps1] c main_v39 (ix2 i q))
      ((dats m 0 c).arrAt 6 (cfgs 0).N (post i q)) := by
  unfold Pipeline.afterTail₀
  simp only [List.flatten_cons, List.flatten_nil, List.append_nil]
  entry_read
  pointwise []
  exact congrFun (Pipeline.withArrays_arr spec0 launch0.win.arr_inj c (V0 m c) _ 6) _

theorem cut44 (c : Dev nD) (i : Fin 4) (q : Fin 1024) :
    @Eq EReal (Pipeline.afterTail₀ cfgs (dats m) 0 (V0 m) [hostOps1] c main_v44 (ix2 i q))
      ((dats m 0 c).arrAt 7 (cfgs 0).N (pre i q)) := by
  unfold Pipeline.afterTail₀
  simp only [List.flatten_cons, List.flatten_nil, List.append_nil]
  entry_read
  pointwise []
  exact congrFun (Pipeline.withArrays_arr spec0 launch0.win.arr_inj c (V0 m c) _ 7) _

theorem cut46 (c : Dev nD) (i : Fin 4) (q : Fin 1024) :
    @Eq EReal (Pipeline.afterTail₀ cfgs (dats m) 0 (V0 m) [hostOps1] c main_v46 (ix2 i q))
      ((dats m 0 c).arrAt 7 (cfgs 0).N (post i q)) := by
  unfold Pipeline.afterTail₀
  simp only [List.flatten_cons, List.flatten_nil, List.append_nil]
  entry_read
  pointwise []
  exact congrFun (Pipeline.withArrays_arr spec0 launch0.win.arr_inj c (V0 m c) _ 7) _

theorem cut27 (c : Dev nD) : @Eq EReal (Pipeline.afterTail₀ cfgs (dats m) 0 (V0 m) [hostOps1] c main_v27 ix0)
    ((dats m 0 c).arrAt 4 (cfgs 0).N (ix3 0 64 0)) := by
  unfold Pipeline.afterTail₀
  simp only [List.flatten_cons, List.flatten_nil, List.append_nil]
  entry_read
  pointwise []
  exact congrFun (Pipeline.withArrays_arr spec0 launch0.win.arr_inj c (V0 m c) _ 4) _

/-! ## The results -/

theorem res27 (c : Dev nD) : Pipeline.afterTail₀ cfgs (dats m) 0 (V0 m) [hostOps1] c main_v27
    = val_main_v9 (F := Ideal) (m ((c : Thread nD τ).loc main_arg0)) := by
  funext y
  obtain rfl : y = ix0 := funext fun a => a.elim0
  refine (cut27 m c).trans ?_
  rw [final4, loss_at]
  rfl

theorem res22 (c : Dev nD) : Pipeline.afterTail₀ cfgs (dats m) 0 (V0 m) [hostOps1] c main_v22
    = val_main_v3 (F := Ideal) (m ((c : Thread nD τ).loc main_arg0)) := by
  funext y
  obtain ⟨i, q, rfl⟩ : ∃ (i : Fin 4) (q : Fin 1024), y = ix2 i q := ⟨y 0, y 1, eq_ix2 y⟩
  refine (cut22 m c i q).trans ?_
  rw [final4, g_pre]
  rfl

theorem res24 (c : Dev nD) : Pipeline.afterTail₀ cfgs (dats m) 0 (V0 m) [hostOps1] c main_v24
    = val_main_v6 (F := Ideal) (m ((c : Thread nD τ).loc main_arg0)) := by
  funext y
  obtain ⟨i, q, rfl⟩ : ∃ (i : Fin 4) (q : Fin 1024), y = ix2 i q := ⟨y 0, y 1, eq_ix2 y⟩
  refine (cut24 m c i q).trans ?_
  rw [final4, g_post]
  rfl

theorem res30 (c : Dev nD) : Pipeline.afterTail₀ cfgs (dats m) 0 (V0 m) [hostOps1] c main_v30
    = val_main_v33 (F := Ideal) (m ((c : Thread nD τ).loc main_arg0)) (m ((c : Thread nD τ).loc main_arg1)) (m ((c : Thread nD τ).loc main_arg3)) (m ((c : Thread nD τ).loc main_arg5)) := by
  funext y
  obtain ⟨i, q, rfl⟩ : ∃ (i : Fin 4) (q : Fin 1024), y = ix2 i q := ⟨y 0, y 1, eq_ix2 y⟩
  refine (cut30 m c i q).trans ?_
  rw [final5, delta_pre, g_pre]
  exact delta_congr rfl (w_at_pre m c i q) (m_at_pre m c i q) (v_at_pre m c i q)

theorem res32 (c : Dev nD) : Pipeline.afterTail₀ cfgs (dats m) 0 (V0 m) [hostOps1] c main_v32
    = val_main_v57 (F := Ideal) (m ((c : Thread nD τ).loc main_arg0)) (m ((c : Thread nD τ).loc main_arg2)) (m ((c : Thread nD τ).loc main_arg4)) (m ((c : Thread nD τ).loc main_arg6)) := by
  funext y
  obtain ⟨i, q, rfl⟩ : ∃ (i : Fin 4) (q : Fin 1024), y = ix2 i q := ⟨y 0, y 1, eq_ix2 y⟩
  refine (cut32 m c i q).trans ?_
  rw [final5, delta_post, g_post]
  exact delta_congr rfl (w_at_post m c i q) (m_at_post m c i q) (v_at_post m c i q)

theorem res37 (c : Dev nD) : Pipeline.afterTail₀ cfgs (dats m) 0 (V0 m) [hostOps1] c main_v37
    = val_main_v14 (F := Ideal) (m ((c : Thread nD τ).loc main_arg0)) (m ((c : Thread nD τ).loc main_arg3)) := by
  funext y
  obtain ⟨i, q, rfl⟩ : ∃ (i : Fin 4) (q : Fin 1024), y = ix2 i q := ⟨y 0, y 1, eq_ix2 y⟩
  refine (cut37 m c i q).trans ?_
  rw [final6, m_pre, g_pre]
  exact congrArg (newM _) (m_at_pre m c i q)

theorem res39 (c : Dev nD) : Pipeline.afterTail₀ cfgs (dats m) 0 (V0 m) [hostOps1] c main_v39
    = val_main_v38 (F := Ideal) (m ((c : Thread nD τ).loc main_arg0)) (m ((c : Thread nD τ).loc main_arg4)) := by
  funext y
  obtain ⟨i, q, rfl⟩ : ∃ (i : Fin 4) (q : Fin 1024), y = ix2 i q := ⟨y 0, y 1, eq_ix2 y⟩
  refine (cut39 m c i q).trans ?_
  rw [final6, m_post, g_post]
  exact congrArg (newM _) (m_at_post m c i q)

theorem res44 (c : Dev nD) : Pipeline.afterTail₀ cfgs (dats m) 0 (V0 m) [hostOps1] c main_v44
    = val_main_v20 (F := Ideal) (m ((c : Thread nD τ).loc main_arg0)) (m ((c : Thread nD τ).loc main_arg5)) := by
  funext y
  obtain ⟨i, q, rfl⟩ : ∃ (i : Fin 4) (q : Fin 1024), y = ix2 i q := ⟨y 0, y 1, eq_ix2 y⟩
  refine (cut44 m c i q).trans ?_
  rw [final7, v_pre, g_pre]
  exact congrArg (newV _) (v_at_pre m c i q)

theorem res46 (c : Dev nD) : Pipeline.afterTail₀ cfgs (dats m) 0 (V0 m) [hostOps1] c main_v46
    = val_main_v44 (F := Ideal) (m ((c : Thread nD τ).loc main_arg0)) (m ((c : Thread nD τ).loc main_arg6)) := by
  funext y
  obtain ⟨i, q, rfl⟩ : ∃ (i : Fin 4) (q : Fin 1024), y = ix2 i q := ⟨y 0, y 1, eq_ix2 y⟩
  refine (cut46 m c i q).trans ?_
  rw [final7, v_post, g_post]
  exact congrArg (newV _) (v_at_post m c i q)

end Cert.Kernel20Ideal.AdamNorms

end
-- ==== Proof.MixBits.lean ====
/-
  `a_mix_bwd` over the machine's floats is the program whose run is proved in `MixFrame`: the two have one text, so the
  frame proved there for any float arithmetic is the frame here.
-/
module

public import proofs.«01_k».proof.Defs
public import proofs.«01_k».proof.Proof.Gen.Kernel3
public import proofs.«01_k».proof.Proof.Gen.Kernel3Ideal
public import proofs.«01_k».proof.Proof.MixFrame

@[expose] public section

set_option maxRecDepth 16384

noncomputable section

namespace Cert.Kernel3Ideal.Mix

open Idealize.ShloMosaic Idealize.ShloMosaic.TcCoe Idealize.SL.Sem

local instance bitsFacts : Cert.Kernel3.Facts := Cert.Kernel3.Gen.facts
local instance idealFacts : Cert.Kernel3Ideal.Facts := Cert.Kernel3Ideal.Gen.facts

set_option maxHeartbeats 2000000 in
theorem body_same : Cert.Kernel3.cc0_a_mix_bwd_0 (F := Bits) = Cert.Kernel3Ideal.cc0_a_mix_bwd_0 (F := Bits) := rfl

set_option maxHeartbeats 2000000 in
theorem main_same : Cert.Kernel3.main (F := Bits) = Cert.Kernel3Ideal.main (F := Bits) := rfl

set_option maxHeartbeats 2000000 in
theorem table_same : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rw [body_same]; rfl
  | ⟨_ + 1, h⟩, _ => exact absurd h (by omega)

theorem defs_same : Cert.Kernel3.defs (F := Bits) = Cert.Kernel3Ideal.defs (F := Bits) :=
  congrArg (Pipeline.defs (Cert.Kernel3.pcfgs (F := Bits))) table_same

end Cert.Kernel3Ideal.Mix

namespace Cert.Proof

open Idealize.ShloMosaic Idealize.ShloMosaic.TcCoe Idealize.SL.Sem

set_option maxHeartbeats 4000000 in
/-- The frame of `a_mix_bwd` over the machine's floats. -/
theorem frame_mix : Cert.quiescent_Kernel3 (hKernel3 := Cert.Kernel3.Gen.facts) := fun m g _ => by
  have h := Cert.Kernel3Ideal.Mix.frame3 (F := Bits) m g
  rw [← Cert.Kernel3Ideal.Mix.defs_same, ← Cert.Kernel3Ideal.Mix.main_same] at h
  exact h

end Cert.Proof

end
-- ==== Proof.MixMask.lean ====
/-
  The mask of the mixing weights: a row reads the rows of its own 64 and those of the 64 before it.
-/
module

public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Reference3Ideal.Mix
open Cert.Reference3Ideal Cert.Reference3Ideal.Gen Cert.Reference3Ideal.Read

/-- Which pairs of rows of a block mix: those whose second half is not ahead of the first's. -/
abbrev mixes (p q : Fin 128) : Prop := q.val / 64 ≤ p.val / 64

/-- Sixty-four columns to a half: the first side of the comparison, at a column. -/
theorem half_col (q : Fin 128) : val_main_v82 (F := Ideal) (ix2 0 q) = BitVec.ofNat 32 (q.val / 64) :=
  (by decide +kernel : ∀ q : Fin 128, val_main_v82 (F := Ideal) (ix2 0 q) = BitVec.ofNat 32 (q.val / 64)) q
/-- The second side, at a row. -/
theorem half_row (p : Fin 128) : val_main_v84 (F := Ideal) (ix2 p 0) = BitVec.ofNat 32 (p.val / 64) :=
  (by decide +kernel : ∀ p : Fin 128, val_main_v84 (F := Ideal) (ix2 p 0) = BitVec.ofNat 32 (p.val / 64)) p

theorem mask_at (p q : Fin 128) : val_main_v87 (F := Ideal) (ix2 p q) = if mixes p q then 1#1 else 0#1 := by
  have h : val_main_v87 (F := Ideal) (ix2 p q) = IntOp.cmpi .sle (val_main_v82 (F := Ideal) (ix2 0 q)) (val_main_v84 (F := Ideal) (ix2 p 0)) := by
    pointwise [val_main_v87, val_main_v85, val_main_v86]
  rw [h, half_col, half_row]
  have hp : p.val / 64 = 0 ∨ p.val / 64 = 1 := by omega
  have hq : q.val / 64 = 0 ∨ q.val / 64 = 1 := by omega
  unfold mixes
  rcases hp with hp | hp <;> rcases hq with hq | hq <;> rw [hp, hq] <;> decide

end Cert.Reference3Ideal.Mix

end
-- ==== Proof.MixHalf.lean ====
/-
  The body's two masks: a row of a block reads the rows of its own 64 and those of the 64 before it.
-/
module

public import proofs.«01_k».proof.Proof.MixPay
public import proofs.«01_k».proof.Proof.MixMask
public import Idealize.ShloMosaic.Lib.Pointwise

@[expose] public section

set_option maxRecDepth 16384

noncomputable section

open Idealize.ShloMosaic Idealize.ShloMosaic.TcCoe Idealize.SL.Sem

namespace Cert.Kernel3Ideal.Mix
open Cert.Kernel3Ideal Cert.Kernel3Ideal.Gen
open Cert.Reference3Ideal.Mix (mixes)

/-- The half of row `p` against a number: the second side of the first mask's comparison. -/
def cmpRow (b : BitVec 32) : IVec S128x128 1 :=
  k0_pay31 (iota .tc S128x128 32 [0] iota_S128x128_d0_w32) (fun _ => b) 64#32 k0_pay29 k0_pay30 (Scalar.cmpi .sgt 64#32 0#32)
/-- The half of column `p` against a number: the second side of the other mask's comparison. -/
def cmpCol (b : BitVec 32) : IVec S128x128 1 :=
  k0_pay36 (iota .tc S128x128 32 [1] iota_S128x128_d1_w32) (fun _ => b) 64#32 k0_pay33 k0_pay34 k0_pay35

theorem half28 (p q : Fin 128) : k0_pay28 (ix2 p q) = BitVec.ofNat 32 (q.val / 64) := by
  have h : k0_pay28 (ix2 p q) = k0_pay28 (ix2 0 q) := rfl
  rw [h]
  exact (by decide +kernel : ∀ q : Fin 128, k0_pay28 (ix2 0 q) = BitVec.ofNat 32 (q.val / 64)) q
theorem half32 (q p : Fin 128) : k0_pay32 (ix2 q p) = BitVec.ofNat 32 (q.val / 64) := by
  have h : k0_pay32 (ix2 q p) = k0_pay32 (ix2 q 0) := rfl
  rw [h]
  exact (by decide +kernel : ∀ q : Fin 128, k0_pay32 (ix2 q 0) = BitVec.ofNat 32 (q.val / 64)) q
theorem cmpRow_at : ∀ (b : Fin 2) (p : Fin 128), cmpRow (BitVec.ofNat 32 b.val) (ix2 p 0) = if b.val ≤ p.val / 64 then 1#1 else 0#1 := by
  decide +kernel
theorem cmpCol_at : ∀ (b : Fin 2) (p : Fin 128), cmpCol (BitVec.ofNat 32 b.val) (ix2 0 p) = if b.val ≤ p.val / 64 then 1#1 else 0#1 := by
  decide +kernel

theorem maskU_at (p q : Fin 128) : maskU (ix2 p q) = if mixes p q then 1#1 else 0#1 := by
  have h : maskU (ix2 p q) = cmpRow (k0_pay28 (ix2 p q)) (ix2 p 0) := rfl
  rw [h, half28]
  exact cmpRow_at ⟨q.val / 64, by omega⟩ p
theorem maskL_at (q p : Fin 128) : maskL (ix2 q p) = if mixes p q then 1#1 else 0#1 := by
  have h : maskL (ix2 q p) = cmpCol (k0_pay32 (ix2 q p)) (ix2 0 p) := rfl
  rw [h, half32]
  exact cmpCol_at ⟨q.val / 64, by omega⟩ p

end Cert.Kernel3Ideal.Mix

end
-- ==== Proof.MixPoint.lean ====
/-
  One grid point of `a_mix_bwd` over the extended reals, entry by entry: the cotangent and the normalised branch it keeps,
  and what it adds to the four gradients.
-/
module

public import proofs.«01_k».proof.Proof.MixHalf
public import Idealize.ShloMosaic.Lib.Pointwise

@[expose] public section

set_option maxRecDepth 16384

noncomputable section

open Idealize.ShloMosaic Idealize.ShloMosaic.TcCoe Idealize.SL.Sem

namespace Cert.Kernel3Ideal.Mix
open Cert.Kernel3Ideal Cert.Kernel3Ideal.Gen
open Cert.Reference3Ideal.Mix (mixes)

/-! ## One head -/

theorem hdV_at (w : FVec Ideal S1x1x128x128 .f32) (c : FVec Ideal S128x256 .bf16) (q : Fin 128) (k : Fin 256) :
    hdV (F := Ideal) w c (ix2 q k) = ∑ p : Fin 128, (if mixes p q then w (ix4 0 0 p q) else 0) * c (ix2 p k) := by
  have h : ∀ p : Fin 128, (if mixes p q then w (ix4 0 0 p q) else 0 : EReal) = Scalar.select (maskL (ix2 q p)) (w (ix4 0 0 p q)) 0 := fun p => by
    rw [maskL_at, Scalar.select]; by_cases hm : mixes p q
    · rw [if_pos hm, if_pos hm, if_pos (show (1#1 : BitVec 1) = 1 from rfl)]
    · rw [if_neg hm, if_neg hm, if_neg (show ¬ (0#1 : BitVec 1) = 1 by decide)]
  simp only [h]
  unfold hdV maskL
  generalize iota .tc S128x128 32 [1] iota_S128x128_d1_w32 = x1
  pointwise [k0_pay45, k0_pay39, k0_pay37]

theorem hdW_at (v0 c0 v1 c1 : FVec Ideal S128x256 .bf16) (o : FVec Ideal S1x128x128 .f32) (p q : Fin 128) :
    hdW (F := Ideal) v0 c0 v1 c1 o (ix3 0 p q) = o (ix3 0 p q)
      + if mixes p q then ∑ k : Fin 256, c0 (ix2 p k) * v0 (ix2 q k) + ∑ k : Fin 256, c1 (ix2 p k) * v1 (ix2 q k) else 0 := by
  unfold hdW
  have hm := maskU_at p q
  generalize maskU = M at hm ⊢
  pointwise [k0_pay52, k0_pay46, k0_pay40]
  rw [hm, Scalar.select]
  by_cases h : mixes p q
  · rw [if_pos h, if_pos h, if_pos (show (1#1 : BitVec 1) = 1 from rfl)]
  · rw [if_neg h, if_neg h, if_neg (show ¬ (0#1 : BitVec 1) = 1 by decide)]

theorem hdB_at (c0 c1 : FVec Ideal S128x256 .bf16) (o : FVec Ideal S1x128 .f32) (p : Fin 128) :
    hdB (F := Ideal) c0 c1 o (ix2 0 p) = o (ix2 0 p) + (∑ k : Fin 256, c0 (ix2 p k) + ∑ k : Fin 256, c1 (ix2 p k)) := by
  unfold hdB
  pointwise [k0_pay53, k0_pay47, k0_pay41]

/-! ## Sixteen rows -/

theorem norm_at (x : FVec Ideal S16x2048 .bf16) (g b : FVec Ideal S1x1x2048 .f32) (i : Fin 16) (d : Fin 2048) :
    k0_pay2 (F := Ideal) x g b (ix2 i d) = x (ix2 i d) * g (ix3 0 0 d) + b (ix3 0 0 d) := by
  pointwise [k0_pay2]

theorem lg_at (dv : FVec Ideal S16x2048 .f32) (x : FVec Ideal S16x2048 .bf16) (g : FVec Ideal S1x2048 .f32) (d : Fin 2048) :
    k0_pay17 (F := Ideal) dv x g (ix2 0 d) = g (ix2 0 d) + ∑ i : Fin 16, dv (ix2 i d) * x (ix2 i d) := by
  pointwise [k0_pay17, k0_pay16]

theorem lb_at (dv : FVec Ideal S16x2048 .f32) (g : FVec Ideal S1x2048 .f32) (d : Fin 2048) :
    k0_pay18 (F := Ideal) dv g (ix2 0 d) = g (ix2 0 d) + ∑ i : Fin 16, dv (ix2 i d) := by
  pointwise [k0_pay18]

end Cert.Kernel3Ideal.Mix

end
-- ==== Proof.MixRef.lean ====
/-
  What the reference of `a_mix_bwd` returns, entry by entry: `C` is the cotangent of the mixed branch and `V` the
  normalised branch, in blocks of 128 rows and heads of 256 columns.
-/
module

public import proofs.«01_k».proof.Proof.MixMask
public import Idealize.ShloMosaic.Lib.Pointwise

@[expose] public section

set_option maxRecDepth 16384

noncomputable section

open Idealize.ShloMosaic Idealize.ShloMosaic.TcCoe Idealize.SL.Sem

namespace Cert.Reference3Ideal.Mix
open Cert.Reference3Ideal Cert.Reference3Ideal.Gen Cert.Reference3Ideal.Read
variable (X0 : FVec Ideal S4096x6144 .bf16) (X1 : FVec Ideal S4096x2048 .bf16) (X2 X3 : FVec Ideal S2x2048 .f32)
  (X4 : FVec Ideal S2x8x128x128 .f32)

/-- Row `p` of block `n`. -/
abbrev row (n : Fin 32) (p : Fin 128) : Fin 4096 := ⟨n.val * 128 + p.val, by omega⟩
/-- Column `k` of head `g`. -/
abbrev col (g : Fin 8) (k : Fin 256) : Fin 2048 := ⟨g.val * 256 + k.val, by omega⟩

/-- A sum over the first and the last axis. -/
theorem sum_blocks (v : S32x128x8x256.Idx → EReal) (z : EReal) (p : Fin 128) (g : Fin 8) :
    Ideal.hostReduceAdd reducesTo_S32x128x8x256_S128x8_d0_3 v z (ix2 p g) = z + ∑ n : Fin 32, ∑ k : Fin 256, v (ix4 n p g k) := by
  refine congrArg (z + ·) ?_
  rw [Finset.sum_filter_eq_sum_of_fiber _ (fun k : Fin 32 × Fin 256 => ix4 k.1 p g k.2)
    (fun _ _ e => Prod.ext (congrFun e 0) (congrFun e 3)) (fun i => ?_) v, Fintype.sum_prod_type]
  constructor
  · intro e
    refine ⟨(i 0, i 3), funext fun a => Fin.ext ?_⟩
    match a with
    | 0 => rfl
    | 1 => exact (congrArg Fin.val (congrFun e 0)).symm
    | 2 => exact (congrArg Fin.val (congrFun e 1)).symm
    | 3 => rfl
  · rintro ⟨k, rfl⟩
    refine funext fun b => Fin.ext ?_
    match b with
    | 0 => rfl
    | 1 => rfl

/-- The same where both axes have length one. -/
theorem sum_unit (v : S1x128x8x1.Idx → EReal) (z : EReal) (p : Fin 128) (g : Fin 8) :
    Ideal.hostReduceAdd reducesTo_S1x128x8x1_S128x8_d0_3 v z (ix2 p g) = z + v (ix4 0 p g 0) := by
  refine congrArg (z + ·) ?_
  rw [Finset.sum_filter_eq_sum_of_fiber _ (fun _ : Fin 1 => ix4 0 p g 0)
    (fun _ _ _ => Subsingleton.elim _ _) (fun i => ?_) v, Finset.univ_unique, Finset.sum_singleton]
  constructor
  · intro e
    refine ⟨0, funext fun a => Fin.ext ?_⟩
    have h0 : (i 0).val < 1 := (i 0).isLt
    have h3 : (i 3).val < 1 := (i 3).isLt
    match a with
    | 0 => show 0 = (i 0).val; omega
    | 1 => exact (congrArg Fin.val (congrFun e 0)).symm
    | 2 => exact (congrArg Fin.val (congrFun e 1)).symm
    | 3 => show 0 = (i 3).val; omega
  · rintro ⟨k, rfl⟩
    refine funext fun b => Fin.ext ?_
    match b with
    | 0 => rfl
    | 1 => rfl

/-- The mask, the same for every head. -/
theorem mask3_at (g : Fin 8) (p q : Fin 128) : val_main_v90_1 (F := Ideal) (ix3 g p q) = if mixes p q then 1#1 else 0#1 := by
  rw [← mask_at]; pointwise [val_main_v90_1, val_main_v88]

/-- The cotangent, cut into blocks and heads. -/
theorem v107_at (n : Fin 32) (p : Fin 128) (g : Fin 8) (k : Fin 256) :
    val_main_v107 (F := Ideal) X0 X1 (ix4 n p g k) = val_main_v105 (F := Ideal) X0 X1 (ix2 (row n p) (col g k)) := by
  rw [val_main_v107_apply]
  refine congrArg _ (funext fun a => Fin.ext ?_)
  match a with
  | 0 => show (((n.val * 128 + p.val) * 8 + g.val) * 256 + k.val) / 2048 = n.val * 128 + p.val; omega
  | 1 => show (((n.val * 128 + p.val) * 8 + g.val) * 256 + k.val) % 2048 = g.val * 256 + k.val; omega

/-- The normalised branch, cut into blocks and heads. -/
theorem v79_at (n : Fin 32) (p : Fin 128) (g : Fin 8) (k : Fin 256) :
    val_main_v79 (F := Ideal) X0 X2 X3 (ix4 n p g k) = val_main_v78 (F := Ideal) X0 X2 X3 (ix2 (row n p) (col g k)) := by
  rw [val_main_v79_apply]
  refine congrArg _ (funext fun a => Fin.ext ?_)
  match a with
  | 0 => show (((n.val * 128 + p.val) * 8 + g.val) * 256 + k.val) / 2048 = n.val * 128 + p.val; omega
  | 1 => show (((n.val * 128 + p.val) * 8 + g.val) * 256 + k.val) % 2048 = g.val * 256 + k.val; omega

/-- The bias gradient: the cotangent summed over the blocks and over the head's columns. -/
theorem dbs_at (g : Fin 8) (p : Fin 128) : val_main_v111 (F := Ideal) X0 X1 (ix2 g p)
    = ∑ n : Fin 32, ∑ k : Fin 256, val_main_v105 (F := Ideal) X0 X1 (ix2 (row n p) (col g k)) := by
  have h : val_main_v110 (F := Ideal) X0 X1 (ix2 p g) = ∑ n : Fin 32, ∑ k : Fin 256, val_main_v107 (F := Ideal) X0 X1 (ix4 n p g k) := by
    refine (sum_unit _ _ p g).trans ?_
    pointwise [val_main_cst_22, val_main_v109]
    refine (sum_blocks _ _ p g).trans ?_
    pointwise [val_main_cst_21]
  pointwise [val_main_v111]
  rw [h]
  refine Finset.sum_congr rfl fun n _ => Finset.sum_congr rfl fun k _ => ?_
  exact v107_at X0 X1 n p g k

/-- The gradient of the mixing weights, on the pairs that mix. -/
theorem dws_at (g : Fin 8) (p q : Fin 128) : val_main_v116 (F := Ideal) X0 X1 X2 X3 (ix3 g p q)
    = if mixes p q then ∑ n : Fin 32, ∑ k : Fin 256,
        val_main_v105 (F := Ideal) X0 X1 (ix2 (row n p) (col g k)) * val_main_v78 (F := Ideal) X0 X2 X3 (ix2 (row n q) (col g k))
      else 0 := by
  rw [val_main_v116_apply, mask3_at]
  by_cases h : mixes p q
  · rw [if_pos h, if_pos h, Scalar.select, if_pos (show (1#1 : BitVec 1) = 1 from rfl)]
    pointwise [val_main_v113, val_main_v112]
    exact Finset.sum_congr rfl fun n _ => Finset.sum_congr rfl fun k _ => by rw [v107_at, v79_at]
  · rw [if_neg h, if_neg h, Scalar.select, if_neg (show ¬ (0#1 : BitVec 1) = 1 by decide)]
    pointwise [val_main_call5_v0, val_main_call5_cst]

/-- The cotangent of the normalised branch: the block's mixing matrix, transposed, against the block. -/
theorem dv_at (n : Fin 32) (q : Fin 128) (g : Fin 8) (k : Fin 256) :
    val_main_v117 (F := Ideal) X0 X1 X4 (ix2 (row n q) (col g k))
    = ∑ p : Fin 128, val_main_v105 (F := Ideal) X0 X1 (ix2 (row n p) (col g k)) * (if mixes p q then X4 (ix4 0 g p q) else 0) := by
  pointwise [val_main_v117, val_main_v115, val_main_v114, val_main_v112, val_main_v107]
  have hr : ∀ x : Fin 128, (⟨(n.val * 128 + q.val) / 128 * 128 + x.val, by omega⟩ : Fin 4096) = row n x := fun x => Fin.ext (by show (n.val * 128 + q.val) / 128 * 128 + x.val = n.val * 128 + x.val; omega)
  have hc : (⟨(g.val * 256 + k.val) / 256 * 256 + (g.val * 256 + k.val) % 256, by omega⟩ : Fin 2048) = col g k := Fin.ext (by show (g.val * 256 + k.val) / 256 * 256 + (g.val * 256 + k.val) % 256 = g.val * 256 + k.val; omega)
  have hg : (⟨(g.val * 256 + k.val) / 256, by omega⟩ : Fin 8) = g := Fin.ext (by show (g.val * 256 + k.val) / 256 = g.val; omega)
  have hq : (⟨(n.val * 128 + q.val) % 128, by omega⟩ : Fin 128) = q := Fin.ext (by show (n.val * 128 + q.val) % 128 = q.val; omega)
  simp only [hr, hc, hg, hq]
  refine Finset.sum_congr rfl fun x _ => congrArg (val_main_v105 (F := Ideal) X0 X1 (ix2 (row n x) (col g k)) * ·) ?_
  rw [val_main_v90_0_apply, mask3_at]
  by_cases h : mixes x q
  · rw [if_pos h, if_pos h, Scalar.select, if_pos (show (1#1 : BitVec 1) = 1 from rfl)]
    pointwise [val_main_v6, val_main_v5]
  · rw [if_neg h, if_neg h, Scalar.select, if_neg (show ¬ (0#1 : BitVec 1) = 1 by decide)]
    pointwise [val_main_v89, val_main_cst_20]

/-- The gradient of the norm's scale. -/
theorem dg_at (d : Fin 2048) : val_main_v174 (F := Ideal) X0 X1 X4 (ix2 0 d)
    = ∑ r : Fin 4096, val_main_v72 (F := Ideal) X0 (ix2 r d) * val_main_v117 (F := Ideal) X0 X1 X4 (ix2 r d) := by
  pointwise [val_main_v174, val_main_v126, val_main_v123, val_main_v122, val_main_v121, val_main_cst_25, val_main_cst_26]
  simp only [Finset.univ_unique, Finset.sum_singleton]

/-- The gradient of the norm's shift. -/
theorem db_at (d : Fin 2048) : val_main_v175 (F := Ideal) X0 X1 X4 (ix2 0 d)
    = ∑ r : Fin 4096, val_main_v117 (F := Ideal) X0 X1 X4 (ix2 r d) := by
  pointwise [val_main_v175, val_main_v120, val_main_v119, val_main_v118, val_main_cst_23, val_main_cst_24]
  simp only [Finset.univ_unique, Finset.sum_singleton]

end Cert.Reference3Ideal.Mix

end
-- ==== Proof.Silu.lean ====
/-
  The kernel's sigmoid: half of a hyperbolic tangent, plus a half.
-/
module

public import proofs.«01_k».proof.Proof.Consts

@[expose] public section

noncomputable section

namespace Cert.Silu
open Idealize.ShloMosaic Cert.Consts

theorem real_logistic (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have ha : 0 < Real.exp (1 / 2 * r) := Real.exp_pos _
  have hb : 0 < Real.exp (-(1 / 2 * r)) := Real.exp_pos _
  rw [Real.tanh_eq_sinh_div_cosh, Real.sinh_eq, Real.cosh_eq, h1]
  generalize Real.exp (1 / 2 * r) = a at *
  generalize Real.exp (-(1 / 2 * r)) = b at *
  have hab : a + b ≠ 0 := by positivity
  have hbb : 1 + b * b ≠ 0 := by positivity
  field_simp
  linear_combination (2 * b) * h2

/-- On every extended real it is the logistic function. -/
theorem half_tanh (z : EReal) : half * Ideal.tanh (half * z) + half = Ideal.logistic z := by
  rw [half_eq]
  induction z using EReal.rec with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    rw [show (1 : EReal) = ((1 : ℝ) : EReal) from rfl, ← EReal.coe_mul, ← EReal.coe_add]
    norm_num
  | coe r =>
    rw [← EReal.coe_mul, Ideal.tanh_coe, Ideal.logistic_coe, ← EReal.coe_mul, ← EReal.coe_add, real_logistic]

end Cert.Silu

end
-- ==== Proof.MixBlocks.lean ====
/-
  The blocks a grid point of `a_mix_bwd` reads, and what it makes of them, against the reference's arrays: point `t` holds
  the 256 rows from `256·t`.
-/
module

public import proofs.«01_k».proof.Proof.MixFrame
public import proofs.«01_k».proof.Proof.MixPoint
public import proofs.«01_k».proof.Proof.MixRef
public import proofs.«01_k».proof.Proof.Silu
public import Idealize.ShloMosaic.Lib.Pipeline.ValueKit

@[expose] public section

set_option maxRecDepth 16384

noncomputable section

open Idealize.ShloMosaic Idealize.ShloMosaic.TcCoe Idealize.SL.Sem

namespace Cert.Kernel3Ideal.Mix
open Cert.Kernel3Ideal Cert.Kernel3Ideal.Gen
open Cert.Reference3Ideal.Mix (mixes row col)
open Cert.Reference3Ideal.Read
variable (m : (ℓ : Loc nD τ sig) → Buf (Elt Ideal) ℓ)

/-- Every window's block index at point `t`. -/
theorem idx : ∀ t : Fin cfg0.N, win0_0.index t = ![t.val, 0] ∧ win0_1.index t = ![t.val, 2] ∧ win0_2.index t = ![t.val, 0]
    ∧ win0_3.index t = ![t.val, 0] ∧ win0_6.index t = ![0, 0, 0] ∧ win0_7.index t = ![0, 0, 0] ∧ win0_8.index t = ![0, 0, 0, 0] :=
  (by decide +kernel : ∀ t : Fin grid0.N, _)

theorem row_lt (t : Fin cfg0.N) (i : Fin 256) : t.val * 256 + i.val < 4096 := by
  have := t.isLt; have h : cfg0.N = 16 := N_0; omega
/-- Row `i` of point `t`. -/
abbrev rw_ (t : Fin cfg0.N) (i : Fin 256) : Fin 4096 := ⟨t.val * 256 + i.val, row_lt t i⟩

/-! ## What the host prepares -/

theorem xh_host (c : Dev nD) : (V m c main_v55 : FVec Ideal S4096x2048 .bf16)
    = val_main_v72 (F := Ideal) (m ((c : Thread nD τ).loc main_arg0)) := rfl
theorem g_host (c : Dev nD) : (V m c main_v0 : FVec Ideal S2x1x2048 .f32)
    = shapeCast S2x1x2048 (m ((c : Thread nD τ).loc main_arg2) : FVec Ideal S2x2048 .f32) shapeCasts_S2x2048_S2x1x2048 := rfl
theorem b_host (c : Dev nD) : (V m c main_v1 : FVec Ideal S2x1x2048 .f32)
    = shapeCast S2x1x2048 (m ((c : Thread nD τ).loc main_arg3) : FVec Ideal S2x2048 .f32) shapeCasts_S2x2048_S2x1x2048 := rfl

/-- The scale and shift, given a unit axis, at an index. -/
theorem vec3_at (x : FVec Ideal S2x2048 .f32) (d : Fin 2048) :
    @Eq EReal (shapeCast S2x1x2048 x shapeCasts_S2x2048_S2x1x2048 (ix3 0 0 d)) (x (ix2 0 d)) := by pointwise

/-! ## The input blocks at an index -/

theorem u_blk (c : Dev nD) (t : Fin cfg0.N) (i : Fin 256) (d : Fin 2048) :
    @Eq EReal (iblk m c 0 t (ix2 i d)) (m ((c : Thread nD τ).loc main_arg0) (ix2 (rw_ t i) ⟨d.val, by omega⟩)) := by
  rw [← V_main_arg0 m c]
  blk_ext [iblk, idx t]
theorem z_blk (c : Dev nD) (t : Fin cfg0.N) (i : Fin 256) (d : Fin 2048) :
    @Eq EReal (iblk m c 1 t (ix2 i d)) (m ((c : Thread nD τ).loc main_arg0) (ix2 (rw_ t i) ⟨4096 + d.val, by omega⟩)) := by
  rw [← V_main_arg0 m c]
  blk_ext [iblk, idx t]
theorem dy_blk (c : Dev nD) (t : Fin cfg0.N) (i : Fin 256) (d : Fin 2048) :
    @Eq EReal (iblk m c 2 t (ix2 i d)) (m ((c : Thread nD τ).loc main_arg1) (ix2 (rw_ t i) d)) := by
  rw [← V_main_arg1 m c]
  blk_ext [iblk, idx t]
theorem xh_blk (c : Dev nD) (t : Fin cfg0.N) (i : Fin 256) (d : Fin 2048) :
    @Eq EReal (iblk m c 3 t (ix2 i d)) (val_main_v72 (F := Ideal) (m ((c : Thread nD τ).loc main_arg0)) (ix2 (rw_ t i) d)) := by
  rw [← xh_host m c]
  blk_ext [iblk, idx t]
theorem g_blk (c : Dev nD) (t : Fin cfg0.N) (d : Fin 2048) :
    @Eq EReal (iblk m c 6 t (ix3 0 0 d)) (m ((c : Thread nD τ).loc main_arg2) (ix2 0 d)) := by
  have h : @Eq EReal (iblk m c 6 t (ix3 0 0 d)) ((V m c main_v0 : FVec Ideal S2x1x2048 .f32) (ix3 0 0 d)) := by
    blk_ext [iblk, idx t]
  rw [h, g_host]
  exact vec3_at _ d
theorem b_blk (c : Dev nD) (t : Fin cfg0.N) (d : Fin 2048) :
    @Eq EReal (iblk m c 7 t (ix3 0 0 d)) (m ((c : Thread nD τ).loc main_arg3) (ix2 0 d)) := by
  have h : @Eq EReal (iblk m c 7 t (ix3 0 0 d)) ((V m c main_v1 : FVec Ideal S2x1x2048 .f32) (ix3 0 0 d)) := by
    blk_ext [iblk, idx t]
  rw [h, b_host]
  exact vec3_at _ d
theorem w_blk (c : Dev nD) (t : Fin cfg0.N) (g : Fin 8) (p q : Fin 128) :
    @Eq EReal (iblk m c 8 t (ix4 0 g p q)) (m ((c : Thread nD τ).loc main_arg4) (ix4 0 g p q)) := by
  rw [← V_main_arg4 m c]
  blk_ext [iblk, idx t]

end Cert.Kernel3Ideal.Mix

end
-- ==== Proof.MixCoef.lean ====
/-
  The cotangent of the spatial mix at one element: what the kernel computes from `u`, `z` and `dy` and what the reference
  does are one number.
-/
module

public import proofs.«01_k».proof.Proof.MixBlocks

@[expose] public section

set_option maxRecDepth 16384

noncomputable section

open Idealize.ShloMosaic Idealize.ShloMosaic.TcCoe Idealize.SL.Sem

namespace Cert.Kernel3Ideal.Mix
open Cert.Kernel3Ideal Cert.Kernel3Ideal.Gen
open Cert.Reference3Ideal.Mix (mixes row col)
open Cert.Reference3Ideal.Read
open Cert.Consts

/-- The sum inside the activation. -/
def arm (u : EReal) : EReal :=
  1 + Ideal.tanh (Ideal.ofBits .f32 0x3F4C422A#32 * (u + Ideal.ofBits .f32 0x3D372713#32 * (u * u * u)))
/-- `gelu u · (dy · silu z)`. -/
def coef (u z dy : EReal) : EReal := u * (half * arm u) * (dy * (z * Ideal.logistic z))

theorem coef_kernel (x1 x2 x3 : FVec Ideal S16x2048 .bf16) (i : Fin 16) (d : Fin 2048) :
    k0_pay27 (F := Ideal) (k0_pay11 x2) (k0_pay15 (k0_pay6 x1) x3) (ix2 i d)
      = coef (x1 (ix2 i d)) (x2 (ix2 i d)) (x3 (ix2 i d)) := by
  have h : k0_pay27 (F := Ideal) (k0_pay11 x2) (k0_pay15 (k0_pay6 x1) x3) (ix2 i d)
      = x3 (ix2 i d) * (half * x1 (ix2 i d) * arm (x1 (ix2 i d)))
        * (x2 (ix2 i d) * (half * Ideal.tanh (half * x2 (ix2 i d)) + half)) := by
    pointwise [k0_pay27, k0_pay15, k0_pay12, k0_pay11, k0_pay10, k0_pay9, k0_pay6, k0_pay5, k0_pay4, k0_pay3]
    rfl
  rw [h, Cert.Silu.half_tanh, coef]
  ac_rfl

theorem coef_ref (X0 : FVec Ideal S4096x6144 .bf16) (X1 : FVec Ideal S4096x2048 .bf16) (r : Fin 4096) (d : Fin 2048) :
    val_main_v105 (F := Ideal) X0 X1 (ix2 r d)
      = coef (X0 (ix2 r ⟨d.val, by omega⟩)) (X0 (ix2 r ⟨4096 + d.val, by omega⟩)) (X1 (ix2 r d)) := by
  rw [coef, Ideal.logistic, arm]
  pointwise [val_main_v105, val_main_v103, val_main_v101, val_main_v99_0, val_main_v99_2, val_main_call3_v4,
    val_main_call3_cst_0, val_main_call3_v3, val_main_call3_v2, val_main_call3_cst, val_main_call3_v1, val_main_call3_v0,
    val_main_v11, val_main_v32, val_main_v31, val_main_v30, val_main_cst_5, val_main_v29, val_main_v28, val_main_cst_4,
    val_main_v22, val_main_v21, val_main_v20, val_main_cst_1, val_main_v19, val_main_v18, val_main_v17, val_main_cst_0,
    val_main_v13, val_main_v12, val_main_v9, val_main_v0]

theorem norm_ref (X0 : FVec Ideal S4096x6144 .bf16) (X2 X3 : FVec Ideal S2x2048 .f32) (r : Fin 4096) (d : Fin 2048) :
    val_main_v78 (F := Ideal) X0 X2 X3 (ix2 r d) = val_main_v72 (F := Ideal) X0 (ix2 r d) * X2 (ix2 0 d) + X3 (ix2 0 d) := by
  pointwise [val_main_v78, val_main_v77, val_main_v76, val_main_v75, val_main_v74, val_main_v73, val_main_v4, val_main_v3,
    val_main_v2, val_main_v1]

/-! ## Sixteen rows of a block of 256 -/

theorem rows_at {e : EltTy} (x : Vec Ideal S256x2048 e) (k : ℕ) (hk : k < 16) (i : Fin 16) (d : Fin 2048) :
    rows x k (ix2 i d) = x (ix2 ⟨k * 16 + i.val, by omega⟩ d) := by
  unfold rows
  have : (16 * k + i.val) % 256 = k * 16 + i.val := by omega
  exact congrArg (fun r => x (ix2 r d)) (Fin.ext this)

theorem rows_stack {e : EltTy} (x : Vec Ideal S256x2048 e) (i : Fin 256) (d : Fin 2048) :
    rows x (i.val / 16) (ix2 ⟨i.val % 16, Nat.mod_lt _ (by decide)⟩ d) = x (ix2 i d) := by
  unfold rows
  have : (16 * (i.val / 16) + i.val % 16) % 256 = i.val := by omega
  exact congrArg (fun r => x (ix2 r d)) (Fin.ext this)

theorem cS_at (x1 x2 x3 : FVec Ideal S256x2048 .bf16) (i : Fin 256) (d : Fin 2048) :
    cS (F := Ideal) x1 x2 x3 (ix2 i d) = coef (x1 (ix2 i d)) (x2 (ix2 i d)) (x3 (ix2 i d)) := by
  rw [← rows_stack (e := .bf16) x1 i d, ← rows_stack (e := .bf16) x2 i d, ← rows_stack (e := .bf16) x3 i d]
  exact coef_kernel _ _ _ _ _

theorem vS_at (x4 : FVec Ideal S256x2048 .bf16) (g b : FVec Ideal S1x1x2048 .f32) (i : Fin 256) (d : Fin 2048) :
    vS (F := Ideal) x4 g b (ix2 i d) = x4 (ix2 i d) * g (ix3 0 0 d) + b (ix3 0 0 d) := by
  rw [← rows_stack (e := .bf16) x4 i d]
  exact norm_at _ _ _ _ _

/-- A sum over the 256 rows of a block, sixteen at a time. -/
theorem sum_rows (f : Fin 256 → EReal) : ∑ k : Fin 16, ∑ i : Fin 16, f ⟨k.val * 16 + i.val, by omega⟩ = ∑ i : Fin 256, f i :=
  Fin.sum_mul_add_congr fun _ _ _ => rfl

theorem lgAcc_at (dv : FVec Ideal S256x2048 .f32) (x : FVec Ideal S256x2048 .bf16) (g : FVec Ideal S1x2048 .f32) (d : Fin 2048) :
    lgAcc (F := Ideal) dv x g 16 (ix2 0 d) = g (ix2 0 d) + ∑ i : Fin 256, dv (ix2 i d) * x (ix2 i d) := by
  have h (n : ℕ) (hn : n ≤ 16) : lgAcc (F := Ideal) dv x g n (ix2 0 d)
      = g (ix2 0 d) + ∑ k : Fin n, ∑ i : Fin 16, (dv (ix2 ⟨k.val * 16 + i.val, by omega⟩ d) * x (ix2 ⟨k.val * 16 + i.val, by omega⟩ d) : EReal) := by
    induction n with
    | zero => simp [lgAcc]
    | succ n ih =>
      rw [lgAcc, lg_at, ih (by omega), Fin.sum_univ_castSucc (n := n), ← add_assoc]
      simp only [rows_at (e := .f32) dv n (by omega), rows_at (e := .bf16) x n (by omega)]
      rfl
  rw [h 16 le_rfl]
  congr 1
  exact sum_rows fun i => dv (ix2 i d) * x (ix2 i d)

theorem lbAcc_at (dv : FVec Ideal S256x2048 .f32) (g : FVec Ideal S1x2048 .f32) (d : Fin 2048) :
    lbAcc (F := Ideal) dv g 16 (ix2 0 d) = g (ix2 0 d) + ∑ i : Fin 256, dv (ix2 i d) := by
  have h (n : ℕ) (hn : n ≤ 16) : lbAcc (F := Ideal) dv g n (ix2 0 d)
      = g (ix2 0 d) + ∑ k : Fin n, ∑ i : Fin 16, (dv (ix2 ⟨k.val * 16 + i.val, by omega⟩ d) : EReal) := by
    induction n with
    | zero => simp [lbAcc]
    | succ n ih =>
      rw [lbAcc, lb_at, ih (by omega), Fin.sum_univ_castSucc (n := n), ← add_assoc]
      simp only [rows_at (e := .f32) dv n (by omega)]
      rfl
  rw [h 16 le_rfl]
  congr 1
  exact sum_rows fun i => dv (ix2 i d)

end Cert.Kernel3Ideal.Mix

end
-- ==== Proof.MixValue.lean ====
/-
  The four gradients `a_mix_bwd` returns are the reference's: each point adds the terms of its two blocks of 128 rows, and
  the sixteen points cover the 32 blocks.
-/
module

public import proofs.«01_k».proof.Proof.MixCoef
public import Idealize.ShloMosaic.Lib.Claim

@[expose] public section

set_option maxRecDepth 16384

noncomputable section

open Idealize.ShloMosaic Idealize.ShloMosaic.TcCoe Idealize.SL.Sem

namespace Cert.Kernel3Ideal.Mix
open Cert.Kernel3Ideal Cert.Kernel3Ideal.Gen
open Cert.Reference3Ideal.Mix (mixes row col dbs_at dws_at dv_at dg_at db_at)
open Cert.Reference3Ideal.Read

/-! ## The cuts at an index -/

theorem cut_at (x : FVec Ideal S256x2048 .bf16) (b : Fin 2) (g : Fin 8) (p : Fin 128) (k : Fin 256) :
    cut (F := Ideal) (e := .bf16) x b.val g.val (ix2 p k) = x (ix2 ⟨b.val * 128 + p.val, by omega⟩ (col g k)) := by
  unfold cut
  have h0 : (128 * b.val + p.val) % 256 = b.val * 128 + p.val := by omega
  have h1 : (256 * g.val + k.val) % 2048 = g.val * 256 + k.val := by omega
  exact congrArg₂ (fun r d => x (ix2 r d)) (Fin.ext h0) (Fin.ext h1)

theorem cut_first (x : FVec Ideal S256x2048 .bf16) (g : Fin 8) (p : Fin 128) (k : Fin 256) :
    cut (F := Ideal) (e := .bf16) x 0 g.val (ix2 p k) = x (ix2 ⟨(0 : Fin 2).val * 128 + p.val, by omega⟩ (col g k)) := cut_at x 0 g p k
theorem cut_second (x : FVec Ideal S256x2048 .bf16) (g : Fin 8) (p : Fin 128) (k : Fin 256) :
    cut (F := Ideal) (e := .bf16) x 1 g.val (ix2 p k) = x (ix2 ⟨(1 : Fin 2).val * 128 + p.val, by omega⟩ (col g k)) := cut_at x 1 g p k

theorem cutW_at (x : FVec Ideal S1x8x128x128 .f32) (g : Fin 8) (p q : Fin 128) :
    cutW (F := Ideal) x g.val (ix4 0 0 p q) = x (ix4 0 g p q) := by
  unfold cutW
  exact congrArg (fun a => x (ix4 0 a p q)) (Fin.ext (Nat.mod_eq_of_lt g.isLt))

theorem cutG_at (x : FVec Ideal S8x128x128 .f32) (g : Fin 8) (p q : Fin 128) :
    cutG (F := Ideal) x g.val (ix3 0 p q) = x (ix3 g p q) := by
  unfold cutG
  exact congrArg (fun a => x (ix3 a p q)) (Fin.ext (Nat.mod_eq_of_lt g.isLt))

theorem cutB_at (x : FVec Ideal S8x128 .f32) (g : Fin 8) (p : Fin 128) :
    cutB (F := Ideal) x g.val (ix2 0 p) = x (ix2 g p) := by
  unfold cutB
  exact congrArg (fun a => x (ix2 a p)) (Fin.ext (Nat.mod_eq_of_lt g.isLt))

theorem wAcc_at (v c : FVec Ideal S256x2048 .bf16) (o : FVec Ideal S8x128x128 .f32) (g : Fin 8) (p q : Fin 128) :
    wAcc (F := Ideal) v c o (ix3 g p q) = o (ix3 g p q)
      + if mixes p q then
          ∑ k : Fin 256, c (ix2 ⟨(0 : Fin 2).val * 128 + p.val, by omega⟩ (col g k)) * v (ix2 ⟨(0 : Fin 2).val * 128 + q.val, by omega⟩ (col g k))
          + ∑ k : Fin 256, c (ix2 ⟨(1 : Fin 2).val * 128 + p.val, by omega⟩ (col g k)) * v (ix2 ⟨(1 : Fin 2).val * 128 + q.val, by omega⟩ (col g k))
        else 0 := by
  have h : wAcc (F := Ideal) v c o (ix3 g p q)
      = hdW (F := Ideal) (cut v 0 g.val) (cut c 0 g.val) (cut v 1 g.val) (cut c 1 g.val) (cutG o g.val) (ix3 0 p q) := rfl
  rw [h, hdW_at, cutG_at]
  simp only [cut_first, cut_second]

theorem bAcc_at (c : FVec Ideal S256x2048 .bf16) (o : FVec Ideal S8x128 .f32) (g : Fin 8) (p : Fin 128) :
    bAcc (F := Ideal) c o (ix2 g p) = o (ix2 g p)
      + (∑ k : Fin 256, c (ix2 ⟨(0 : Fin 2).val * 128 + p.val, by omega⟩ (col g k))
          + ∑ k : Fin 256, c (ix2 ⟨(1 : Fin 2).val * 128 + p.val, by omega⟩ (col g k))) := by
  have h : bAcc (F := Ideal) c o (ix2 g p) = hdB (F := Ideal) (cut c 0 g.val) (cut c 1 g.val) (cutB o g.val) (ix2 0 p) := rfl
  rw [h, hdB_at, cutB_at]
  simp only [cut_first, cut_second]

theorem dvS_at (w : FVec Ideal S1x8x128x128 .f32) (c : FVec Ideal S256x2048 .bf16) (b : Fin 2) (q : Fin 128) (g : Fin 8) (k : Fin 256) :
    dvS (F := Ideal) w c (ix2 ⟨b.val * 128 + q.val, by omega⟩ (col g k))
      = ∑ p : Fin 128, (if mixes p q then w (ix4 0 g p q) else 0) * c (ix2 ⟨b.val * 128 + p.val, by omega⟩ (col g k)) := by
  have e1 : (g.val * 256 + k.val) / 256 = g.val := by omega
  have e2 : (b.val * 128 + q.val) / 128 = b.val := by omega
  have e3 : (b.val * 128 + q.val) % 128 = q.val := by omega
  have e4 : (g.val * 256 + k.val) % 256 = k.val := by omega
  have h : dvS (F := Ideal) w c (ix2 ⟨b.val * 128 + q.val, by omega⟩ (col g k))
      = hdV (F := Ideal) (cutW w g.val) (cut c b.val g.val) (ix2 q k) := by
    show hdV (F := Ideal) (cutW w ((g.val * 256 + k.val) / 256)) (cut c ((b.val * 128 + q.val) / 128) ((g.val * 256 + k.val) / 256))
      (ix2 ⟨(b.val * 128 + q.val) % 128, _⟩ ⟨(g.val * 256 + k.val) % 256, _⟩) = _
    rw [e1, e2]
    exact congrArg₂ (fun r d => hdV (F := Ideal) (cutW w g.val) (cut c b.val g.val) (ix2 r d)) (Fin.ext e3) (Fin.ext e4)
  rw [h, hdV_at]
  simp only [cutW_at, cut_at]

/-! ## What a point makes of its blocks -/

variable (m : (ℓ : Loc nD τ sig) → Buf (Elt Ideal) ℓ)

/-- The arguments, as the reference takes them. -/
abbrev A0 (c : Dev nD) : FVec Ideal S4096x6144 .bf16 := m ((c : Thread nD τ).loc main_arg0)
abbrev A1 (c : Dev nD) : FVec Ideal S4096x2048 .bf16 := m ((c : Thread nD τ).loc main_arg1)
abbrev A2 (c : Dev nD) : FVec Ideal S2x2048 .f32 := m ((c : Thread nD τ).loc main_arg2)
abbrev A3 (c : Dev nD) : FVec Ideal S2x2048 .f32 := m ((c : Thread nD τ).loc main_arg3)
abbrev A4 (c : Dev nD) : FVec Ideal S2x8x128x128 .f32 := m ((c : Thread nD τ).loc main_arg4)

theorem cAt_at (c : Dev nD) (t : Fin cfg0.N) (i : Fin 256) (d : Fin 2048) :
    @Eq EReal (cAt m c t (ix2 i d)) (val_main_v105 (F := Ideal) (A0 m c) (A1 m c) (ix2 (rw_ t i) d)) := by
  refine (cS_at (iblk m c 0 t) (iblk m c 1 t) (iblk m c 2 t) i d).trans ?_
  rw [coef_ref]
  exact congr (congrArg₂ coef (u_blk m c t i d) (z_blk m c t i d)) (dy_blk m c t i d)

theorem vAt_at (c : Dev nD) (t : Fin cfg0.N) (i : Fin 256) (d : Fin 2048) :
    @Eq EReal (vAt m c t (ix2 i d)) (val_main_v78 (F := Ideal) (A0 m c) (A2 m c) (A3 m c) (ix2 (rw_ t i) d)) := by
  refine (vS_at (iblk m c 3 t) (iblk m c 6 t) (iblk m c 7 t) i d).trans ?_
  rw [norm_ref]
  exact congrArg₂ (fun a b : EReal => a + b) (congrArg₂ (fun a b : EReal => a * b) (xh_blk m c t i d) (g_blk m c t d)) (b_blk m c t d)

/-- The block of 128 rows that is block `b` of point `t`. -/
abbrev half_ (t : Fin cfg0.N) (b : Fin 2) : Fin 32 :=
  ⟨t.val * 2 + b.val, by have := t.isLt; have h : cfg0.N = 16 := N_0; omega⟩

theorem row_eq (t : Fin cfg0.N) (b : Fin 2) (p : Fin 128) : rw_ t ⟨b.val * 128 + p.val, by omega⟩ = row (half_ t b) p :=
  Fin.ext (by show t.val * 256 + (b.val * 128 + p.val) = (t.val * 2 + b.val) * 128 + p.val; omega)

theorem c_at (c : Dev nD) (t : Fin cfg0.N) (b : Fin 2) (p : Fin 128) (d : Fin 2048) :
    @Eq EReal (cAt m c t (ix2 ⟨b.val * 128 + p.val, by omega⟩ d)) (val_main_v105 (F := Ideal) (A0 m c) (A1 m c) (ix2 (row (half_ t b) p) d)) := by
  rw [cAt_at, row_eq]
theorem v_at (c : Dev nD) (t : Fin cfg0.N) (b : Fin 2) (p : Fin 128) (d : Fin 2048) :
    @Eq EReal (vAt m c t (ix2 ⟨b.val * 128 + p.val, by omega⟩ d)) (val_main_v78 (F := Ideal) (A0 m c) (A2 m c) (A3 m c) (ix2 (row (half_ t b) p) d)) := by
  rw [vAt_at, row_eq]

theorem dAt_at (c : Dev nD) (t : Fin cfg0.N) (i : Fin 256) (d : Fin 2048) :
    @Eq EReal (dvS (F := Ideal) (iblk m c 8 t) (cAt m c t) (ix2 i d))
      (val_main_v117 (F := Ideal) (A0 m c) (A1 m c) (A4 m c) (ix2 (rw_ t i) d)) := by
  obtain ⟨b, q, rfl⟩ : ∃ (b : Fin 2) (q : Fin 128), i = ⟨b.val * 128 + q.val, by omega⟩ :=
    ⟨⟨i.val / 128, by omega⟩, ⟨i.val % 128, by omega⟩, Fin.ext (by show i.val = i.val / 128 * 128 + i.val % 128; omega)⟩
  obtain ⟨g, k, rfl⟩ : ∃ (g : Fin 8) (k : Fin 256), d = col g k :=
    ⟨⟨d.val / 256, by omega⟩, ⟨d.val % 256, by omega⟩, Fin.ext (by show d.val = d.val / 256 * 256 + d.val % 256; omega)⟩
  refine (dvS_at (iblk m c 8 t) (cAt m c t) b q g k).trans ?_
  rw [row_eq, dv_at]
  refine Finset.sum_congr rfl fun p _ => ?_
  refine (EReal.mul_comm _ _).trans ?_
  refine congrArg₂ (fun a b : EReal => a * b) (c_at m c t b p _) ?_
  by_cases h : mixes p q
  · rw [if_pos h, if_pos h]; exact w_blk m c t g p q
  · rw [if_neg h, if_neg h]

/-! ## The sums over the points -/

/-- Two blocks a point, sixteen points. -/
theorem sum_halves (f : Fin 32 → EReal) : ∑ t : Fin cfg0.N, (f (half_ t 0) + f (half_ t 1)) = ∑ n : Fin 32, f n := by
  have h : ∑ t : Fin cfg0.N, ∑ b : Fin 2, f (half_ t b) = ∑ n : Fin 32, f n := Fin.sum_mul_add_congr fun _ _ _ => rfl
  rw [← h]
  exact Finset.sum_congr rfl fun t _ => (Fin.sum_univ_two fun b : Fin 2 => f (half_ t b)).symm

/-- 256 rows a point, sixteen points. -/
theorem sum_all (f : Fin 4096 → EReal) : ∑ t : Fin cfg0.N, ∑ i : Fin 256, f (rw_ t i) = ∑ r : Fin 4096, f r :=
  Fin.sum_mul_add_congr fun _ _ _ => rfl

theorem mod16 (t : Fin grid0.N) : t.val % 16 = 0 ↔ t.val = 0 := by
  have := t.isLt; have h : grid0.N = 16 := N_0; omega

theorem zeroW (j : S8x128x128.Idx) : k0_pay23 (F := Ideal) j = 0 := by pointwise [k0_pay23]
theorem zeroB (j : S8x128.Idx) : k0_pay24 (F := Ideal) j = 0 := by pointwise [k0_pay24]
theorem zeroG (j : S1x2048.Idx) : k0_pay25 (F := Ideal) j = 0 := by pointwise [k0_pay25]
theorem zeroS (j : S1x2048.Idx) : k0_pay26 (F := Ideal) j = 0 := by pointwise [k0_pay26]

/-- What point `t` adds to the weight's gradient, -/
def termW (c : Dev nD) (t : Fin grid0.N) (j : S8x128x128.Idx) : EReal :=
  if mixes (j 1) (j 2) then
    ∑ k : Fin 256, (val_main_v105 (F := Ideal) (A0 m c) (A1 m c) (ix2 (row (half_ t 0) (j 1)) (col (j 0) k)) : EReal)
        * val_main_v78 (F := Ideal) (A0 m c) (A2 m c) (A3 m c) (ix2 (row (half_ t 0) (j 2)) (col (j 0) k))
    + ∑ k : Fin 256, (val_main_v105 (F := Ideal) (A0 m c) (A1 m c) (ix2 (row (half_ t 1) (j 1)) (col (j 0) k)) : EReal)
        * val_main_v78 (F := Ideal) (A0 m c) (A2 m c) (A3 m c) (ix2 (row (half_ t 1) (j 2)) (col (j 0) k))
  else 0
/-- to the bias's, -/
def termB (c : Dev nD) (t : Fin grid0.N) (j : S8x128.Idx) : EReal :=
  ∑ k : Fin 256, (val_main_v105 (F := Ideal) (A0 m c) (A1 m c) (ix2 (row (half_ t 0) (j 1)) (col (j 0) k)) : EReal)
    + ∑ k : Fin 256, (val_main_v105 (F := Ideal) (A0 m c) (A1 m c) (ix2 (row (half_ t 1) (j 1)) (col (j 0) k)) : EReal)
/-- to the scale's, -/
def termG (c : Dev nD) (t : Fin grid0.N) (j : S1x2048.Idx) : EReal :=
  ∑ i : Fin 256, (val_main_v72 (F := Ideal) (A0 m c) (ix2 (rw_ t i) (j 1)) : EReal)
    * val_main_v117 (F := Ideal) (A0 m c) (A1 m c) (A4 m c) (ix2 (rw_ t i) (j 1))
/-- and to the shift's. -/
def termS (c : Dev nD) (t : Fin grid0.N) (j : S1x2048.Idx) : EReal :=
  ∑ i : Fin 256, (val_main_v117 (F := Ideal) (A0 m c) (A1 m c) (A4 m c) (ix2 (rw_ t i) (j 1)) : EReal)

theorem stepW (c : Dev nD) (t : Fin grid0.N) (o : FVec Ideal S8x128x128 .f32) (j : S8x128x128.Idx) :
    @Eq EReal (wAcc (F := Ideal) (vAt m c t) (cAt m c t) o j) (o j + termW m c t j) := by
  obtain ⟨g, p, q, rfl⟩ : ∃ (g : Fin 8) (p q : Fin 128), j = ix3 g p q := ⟨j 0, j 1, j 2, eq_ix3 j⟩
  refine (wAcc_at (vAt m c t) (cAt m c t) o g p q).trans ?_
  simp only [c_at, v_at]
  rfl
theorem stepB (c : Dev nD) (t : Fin grid0.N) (o : FVec Ideal S8x128 .f32) (j : S8x128.Idx) :
    @Eq EReal (bAcc (F := Ideal) (cAt m c t) o j) (o j + termB m c t j) := by
  obtain ⟨g, p, rfl⟩ : ∃ (g : Fin 8) (p : Fin 128), j = ix2 g p := ⟨j 0, j 1, eq_ix2 j⟩
  refine (bAcc_at (cAt m c t) o g p).trans ?_
  simp only [c_at]
  rfl

theorem one_row (j : S1x2048.Idx) : ∃ d : Fin 2048, j = ix2 0 d :=
  ⟨j 1, by rw [eq_ix2 j]; exact congrArg (ix2 · _) (Subsingleton.elim _ _)⟩

theorem stepG (c : Dev nD) (t : Fin grid0.N) (o : FVec Ideal S1x2048 .f32) (j : S1x2048.Idx) :
    @Eq EReal (lgAcc (F := Ideal) (dvS (iblk m c 8 t) (cAt m c t)) (iblk m c 3 t) o 16 j) (o j + termG m c t j) := by
  obtain ⟨d, rfl⟩ := one_row j
  refine (lgAcc_at (dvS (F := Ideal) (iblk m c 8 t) (cAt m c t)) (iblk m c 3 t) o d).trans ?_
  refine congrArg (fun z : EReal => o (ix2 0 d) + z) (Finset.sum_congr rfl fun i _ => ?_)
  exact (EReal.mul_comm _ _).trans (congrArg₂ (fun a b : EReal => a * b) (xh_blk m c t i d) (dAt_at m c t i d))
theorem stepS (c : Dev nD) (t : Fin grid0.N) (o : FVec Ideal S1x2048 .f32) (j : S1x2048.Idx) :
    @Eq EReal (lbAcc (F := Ideal) (dvS (iblk m c 8 t) (cAt m c t)) o 16 j) (o j + termS m c t j) := by
  obtain ⟨d, rfl⟩ := one_row j
  refine (lbAcc_at (dvS (F := Ideal) (iblk m c 8 t) (cAt m c t)) o d).trans ?_
  exact congrArg (fun z : EReal => o (ix2 0 d) + z) (Finset.sum_congr rfl fun i _ => dAt_at m c t i d)

theorem sumW (c : Dev nD) (j : S8x128x128.Idx) :
    ∑ t : Fin grid0.N, termW m c t j = val_main_v116 (F := Ideal) (A0 m c) (A1 m c) (A2 m c) (A3 m c) j := by
  obtain ⟨g, p, q, rfl⟩ : ∃ (g : Fin 8) (p q : Fin 128), j = ix3 g p q := ⟨j 0, j 1, j 2, eq_ix3 j⟩
  rw [dws_at]
  by_cases h : mixes p q
  · rw [if_pos h]
    refine Eq.trans (Finset.sum_congr rfl fun t _ => if_pos h) ?_
    exact sum_halves fun n => ∑ k : Fin 256, (val_main_v105 (F := Ideal) (A0 m c) (A1 m c) (ix2 (row n p) (col g k)) : EReal)
      * val_main_v78 (F := Ideal) (A0 m c) (A2 m c) (A3 m c) (ix2 (row n q) (col g k))
  · rw [if_neg h]
    exact Finset.sum_eq_zero fun t _ => if_neg h
theorem sumB (c : Dev nD) (j : S8x128.Idx) :
    ∑ t : Fin grid0.N, termB m c t j = val_main_v111 (F := Ideal) (A0 m c) (A1 m c) j := by
  obtain ⟨g, p, rfl⟩ : ∃ (g : Fin 8) (p : Fin 128), j = ix2 g p := ⟨j 0, j 1, eq_ix2 j⟩
  rw [dbs_at]
  exact sum_halves fun n => ∑ k : Fin 256, (val_main_v105 (F := Ideal) (A0 m c) (A1 m c) (ix2 (row n p) (col g k)) : EReal)
theorem sumG (c : Dev nD) (j : S1x2048.Idx) :
    ∑ t : Fin grid0.N, termG m c t j = val_main_v174 (F := Ideal) (A0 m c) (A1 m c) (A4 m c) j := by
  obtain ⟨d, rfl⟩ := one_row j
  rw [dg_at]
  exact sum_all fun r => val_main_v72 (F := Ideal) (A0 m c) (ix2 r d) * val_main_v117 (F := Ideal) (A0 m c) (A1 m c) (A4 m c) (ix2 r d)
theorem sumS (c : Dev nD) (j : S1x2048.Idx) :
    ∑ t : Fin grid0.N, termS m c t j = val_main_v175 (F := Ideal) (A0 m c) (A1 m c) (A4 m c) j := by
  obtain ⟨d, rfl⟩ := one_row j
  rw [db_at]
  exact sum_all fun r => val_main_v117 (F := Ideal) (A0 m c) (A1 m c) (A4 m c) (ix2 r d)

/-! ## The four results -/

theorem final11 (c : Dev nD) : (dats m 0 c).arrAt 11 cfg0.N
    = val_main_v116 (F := Ideal) (A0 m c) (A1 m c) (A2 m c) (A3 m c) := by
  refine (dats m 0 c).arrAt_eq_of_after_last 11 t0_15 (by decide +kernel) _ fun j => ?_
  blk_simp
  rw [after_11, Pipeline.eq_sum_fin_of_reset_step_apply_last (fun n h => accW m c n h) 16 (fun _ => (0 : EReal)) (termW m c)
    (fun t h j => by rw [accW_first m c t ((mod16 t).mp h), stepW, zeroW])
    (fun t h j => by rw [accW_next m c t (fun h0 => h ((mod16 t).mpr h0)), stepW])
    (le_of_eq N_0) t0_15 rfl j, zero_add]
  exact sumW m c j

theorem final12 (c : Dev nD) : (dats m 0 c).arrAt 12 cfg0.N = val_main_v111 (F := Ideal) (A0 m c) (A1 m c) := by
  refine (dats m 0 c).arrAt_eq_of_after_last 12 t0_15 (by decide +kernel) _ fun j => ?_
  blk_simp
  rw [after_12, Pipeline.eq_sum_fin_of_reset_step_apply_last (fun n h => accB m c n h) 16 (fun _ => (0 : EReal)) (termB m c)
    (fun t h j => by rw [accB_first m c t ((mod16 t).mp h), stepB, zeroB])
    (fun t h j => by rw [accB_next m c t (fun h0 => h ((mod16 t).mpr h0)), stepB])
    (le_of_eq N_0) t0_15 rfl j, zero_add]
  exact sumB m c j

theorem final13 (c : Dev nD) : (dats m 0 c).arrAt 13 cfg0.N = val_main_v174 (F := Ideal) (A0 m c) (A1 m c) (A4 m c) := by
  refine (dats m 0 c).arrAt_eq_of_after_last 13 t0_15 (by decide +kernel) _ fun j => ?_
  blk_simp
  rw [after_13, Pipeline.eq_sum_fin_of_reset_step_apply_last (fun n h => accG m c n h) 16 (fun _ => (0 : EReal)) (termG m c)
    (fun t h j => by rw [accG_first m c t ((mod16 t).mp h), stepG, zeroG])
    (fun t h j => by rw [accG_next m c t (fun h0 => h ((mod16 t).mpr h0)), stepG])
    (le_of_eq N_0) t0_15 rfl j, zero_add]
  exact sumG m c j

theorem final14 (c : Dev nD) : (dats m 0 c).arrAt 14 cfg0.N = val_main_v175 (F := Ideal) (A0 m c) (A1 m c) (A4 m c) := by
  refine (dats m 0 c).arrAt_eq_of_after_last 14 t0_15 (by decide +kernel) _ fun j => ?_
  blk_simp
  rw [after_14, Pipeline.eq_sum_fin_of_reset_step_apply_last (fun n h => accS m c n h) 16 (fun _ => (0 : EReal)) (termS m c)
    (fun t h j => by rw [accS_first m c t ((mod16 t).mp h), stepS, zeroS])
    (fun t h j => by rw [accS_next m c t (fun h0 => h ((mod16 t).mpr h0)), stepS])
    (le_of_eq N_0) t0_15 rfl j, zero_add]
  exact sumS m c j

/-! ## The run -/

theorem named (w : Fin cfg0.W) (h : w ≠ 10) : unnamed10 w = false := by
  revert w; decide

set_option maxHeartbeats 2000000 in
/-- The call ends with the reference's four arrays and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v57_1) = val_main_v116 (F := Ideal) (A0 m c) (A1 m c) (A2 m c) (A3 m c)
      ∧ r.2.mem ((c.tc : Thread nD τ).loc main_v57_2) = val_main_v111 (F := Ideal) (A0 m c) (A1 m c)
      ∧ r.2.mem ((c.tc : Thread nD τ).loc main_v57_3) = val_main_v174 (F := Ideal) (A0 m c) (A1 m c) (A4 m c)
      ∧ r.2.mem ((c.tc : Thread nD τ).loc main_v57_4) = val_main_v175 (F := Ideal) (A0 m c) (A1 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(Final.arr m h.1 c 11 (named 11 (by decide))).trans (final11 m c), (Final.arr m h.1 c 12 (named 12 (by decide))).trans (final12 m c),
      (Final.arr m h.1 c 13 (named 13 (by decide))).trans (final13 m c), (Final.arr m h.1 c 14 (named 14 (by decide))).trans (final14 m c),
      Final.args m h.1 c⟩) (runs m ρ)

end Cert.Kernel3Ideal.Mix

end
-- ==== Proof.InBwd0Ref.lean ====
/-
  What the reference of `a_in_bwd_0` returns, entry by entry: the chain rule through `rms_norm` of the gradient
  `dh = dproj · wᵀ` of the normed row.
-/
module

public import proofs.«01_k».proof.Proof.Gen.ReferenceIdeal.Read
public import proofs.«01_k».proof.Proof.RmsBackward

@[expose] public section

set_option maxRecDepth 16384

noncomputable section

open Idealize.ShloMosaic Idealize.ShloMosaic.TcCoe Idealize.SL.Sem
open Cert.RmsBackward

namespace Cert.ReferenceIdeal.InBwd0
open Cert.ReferenceIdeal Cert.ReferenceIdeal.Gen Cert.ReferenceIdeal.Read
variable (X0 : FVec Ideal S4096x6144 .bf16) (X1 : FVec Ideal S2x1024x6144 .f32) (X2 : FVec Ideal S4096x1024 .f32)
  (X3 : FVec Ideal S4x1024 .f32) (X4 : FVec Ideal S4096x1024 .f32)

/-- The gradient of the normed rows: token `t` of `dproj` against row `d` of the layer's weight, the 6144 columns in
    eight slabs of 768. -/
def dh (t : Fin 4096) (d : Fin 1024) : EReal := ∑ s : Fin 8, ∑ k : Fin 768,
  X0 (ix2 t ⟨s * 768 + k, by omega⟩) * X1 (ix3 0 d ⟨s * 768 + k, by omega⟩)

theorem v22_at (t : Fin 4096) (d : Fin 1024) : val_main_v22 (F := Ideal) X0 X1 (ix2 t d) = dh X0 X1 t d := by
  pointwise [val_main_v22, val_main_v21, val_main_v3, val_main_v2]
  exact Fin.sum_univ_tiles 8 768 rfl _

/-- The first result, the gradient of the layer's input. -/
theorem dx_at (j : S4096x1024.Idx) : val_main_v43 (F := Ideal) X0 X1 X2 X3 X4 j
    = vjpForm (fun k => X2 (ix2 (j 0) k)) (fun k => dh X0 X1 (j 0) k * X3 (ix2 0 k)) (X4 j) (j 1) := by
  idx_vars j
  pointwise [val_main_v43, val_main_v42, val_main_v41, val_main_v40, val_main_v39, val_main_v38, val_main_v37,
    val_main_v36, val_main_v35, val_main_v34, val_main_v33, val_main_v32, val_main_v31, val_main_v30, val_main_v29,
    val_main_v27, val_main_v26, val_main_v14, val_main_v13, val_main_v12, val_main_v11, val_main_v10, val_main_v9,
    val_main_v8, val_main_v7, val_main_v6, val_main_v5, val_main_v4, val_main_v1, val_main_v0, val_main_v17,
    val_main_cst, val_main_cst_0, val_main_cst_1, val_main_cst_2, val_main_cst_5, val_main_cst_6, val_main_cst_7,
    v22_at]
  simp only [Finset.univ_unique, Finset.sum_singleton]
  rfl

/-- … in the arrangement the kernel computes it in. -/
theorem dx_at_kernelForm (j : S4096x1024.Idx) : val_main_v43 (F := Ideal) X0 X1 X2 X3 X4 j
    = kernelForm (fun k => X2 (ix2 (j 0) k)) (fun k => dh X0 X1 (j 0) k * X3 (ix2 0 k)) (X4 j) (j 1) :=
  (dx_at X0 X1 X2 X3 X4 j).trans (kernel_eq_vjp _ _ _ _).symm

/-- The second result, the gradient of the norm's gain. -/
theorem dg_at (j : S1x1024.Idx) : val_main_v44 (F := Ideal) X0 X1 X2 j
    = ∑ t : Fin 4096, X2 (ix2 t (j 1)) * rstd (fun k => X2 (ix2 t k)) * dh X0 X1 t (j 1) := by
  idx_vars j
  pointwise [val_main_v44, val_main_v28, val_main_v25, val_main_v24, val_main_v23, val_main_v16, val_main_v15,
    val_main_v11, val_main_v10, val_main_v9, val_main_v8, val_main_v7, val_main_v6, val_main_v5, val_main_v4,
    val_main_cst, val_main_cst_0, val_main_cst_1, val_main_cst_3, val_main_cst_4, v22_at]
  simp only [Finset.univ_unique, Finset.sum_singleton]
  rfl

end Cert.ReferenceIdeal.InBwd0

end
-- ==== Proof.InBwd0Value.lean ====
/-
  What `a_in_bwd_0` leaves in its two results. The weight comes in four windows of 256 rows each (the four parts the
  gathers carry), every one in eight column slabs; a point computes `dh` for 512 tokens a window at a time, sets the
  four pieces side by side, and goes on as `b_in_bwd_1` does.
-/
module

public import proofs.«01_k».proof.Proof.Gen.KernelIdeal.Frame
public import proofs.«01_k».proof.Proof.InBwd0Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.KernelIdeal.InBwd0
open Cert.KernelIdeal Cert.KernelIdeal.Gen
open Cert.ReferenceIdeal.InBwd0 (dh dx_at_kernelForm dg_at)
open Cert.ReferenceIdeal.Read (val_main_v43 val_main_v44)
variable (m : (ℓ : Loc nD τ sig) → Buf (Elt Ideal) ℓ)

/-- Every window's block index at point `t`. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0]
    ∧ win0_6.index t = ![0, 0, 0] ∧ win0_7.index t = ![t.val, 0] ∧ win0_8.index t = ![t.val, 0] ∧ win0_9.index t = ![0, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem dproj_blk (c : Dev nD) (t : Fin cfg0.N) (i : Fin 512) (k : Fin 6144) :
    @Eq EReal (iblk m c 0 t (ix2 i k))
      (m ((c : Thread nD τ).loc main_arg0) (ix2 ⟨t.val * 512 + i.val, row_lt t i⟩ k)) := by
  blk_ext [iblk, V, idx t]

/-- Window 1: the weight's rows 0 to 255, slab by slab. -/
theorem w0_blk (c : Dev nD) (t : Fin cfg0.N) (s : Fin 8) (d : Fin 256) (k : Fin 768) :
    @Eq EReal (iblk m c 1 t (ix3 s d k))
      (m ((c : Thread nD τ).loc main_arg1) (ix3 0 ⟨d.val, by omega⟩ ⟨s.val * 768 + k.val, by omega⟩)) := by
  blk_point [iblk, V, idx t]

/-- Window 2: the weight's rows 256 to 511, slab by slab. -/
theorem w1_blk (c : Dev nD) (t : Fin cfg0.N) (s : Fin 8) (d : Fin 256) (k : Fin 768) :
    @Eq EReal (iblk m c 2 t (ix3 s d k))
      (m ((c : Thread nD τ).loc main_arg1) (ix3 0 ⟨256 + d.val, by omega⟩ ⟨s.val * 768 + k.val, by omega⟩)) := by
  blk_point [iblk, V, idx t]

/-- Window 3: the weight's rows 512 to 767, slab by slab. -/
theorem w2_blk (c : Dev nD) (t : Fin cfg0.N) (s : Fin 8) (d : Fin 256) (k : Fin 768) :
    @Eq EReal (iblk m c 3 t (ix3 s d k))
      (m ((c : Thread nD τ).loc main_arg1) (ix3 0 ⟨512 + d.val, by omega⟩ ⟨s.val * 768 + k.val, by omega⟩)) := by
  blk_point [iblk, V, idx t]

/-- Window 4: the weight's rows 768 to 1023, slab by slab. -/
theorem w3_blk (c : Dev nD) (t : Fin cfg0.N) (s : Fin 8) (d : Fin 256) (k : Fin 768) :
    @Eq EReal (iblk m c 4 t (ix3 s d k))
      (m ((c : Thread nD τ).loc main_arg1) (ix3 0 ⟨768 + d.val, by omega⟩ ⟨s.val * 768 + k.val, by omega⟩)) := by
  blk_point [iblk, V, idx t]

theorem x_blk (c : Dev nD) (t : Fin cfg0.N) (i : Fin 512) (k : Fin 1024) :
    @Eq EReal (iblk m c 5 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 6 t (ix3 0 0 k)) (m ((c : Thread nD τ).loc main_arg3) (ix2 0 k)) := by
  blk_point [iblk, V, idx t]

theorem dxn_blk (c : Dev nD) (t : Fin cfg0.N) (i : Fin 512) (k : Fin 1024) :
    @Eq EReal (iblk m c 7 t (ix2 i k))
      (m ((c : Thread nD τ).loc main_arg4) (ix2 ⟨t.val * 512 + i.val, row_lt t i⟩ k)) := by
  blk_ext [iblk, V, idx t]

/-- Where entry `(i, k)` of the block the first result's point `t` writes sits in the array. -/
theorem dx_emb (t : Fin cfg0.N) (i : Fin 512) (k : Fin 1024) :
    @Eq S4096x1024.Idx (((cfg0.win 8).blk t).view.emb (ix2 i k)) (ix2 ⟨t.val * 512 + i.val, row_lt t i⟩ k) := by
  blk_ext [idx t]

/-! ## One point -/

/-- Four pieces of 256 columns set side by side: their entries are `f`'s, piece after piece. -/
theorem dh_of_pieces (f : Fin 512 → Fin 1024 → EReal) (v41 v80 v119 v133 : FVec Ideal S512x256 .f32)
    (a3 a4 a5 a6 a7 : FVec Ideal S512x768 .bf16) (w3 w4 w5 w6 w7 : FVec Ideal S1x256x768 .bf16) (i : Fin 512) (q : Fin 1024)
    (h0 : ∀ d : Fin 256, v41 (ix2 i d) = f i ⟨d.val, by omega⟩)
    (h1 : ∀ d : Fin 256, v80 (ix2 i d) = f i ⟨256 + d.val, by omega⟩)
    (h2 : ∀ d : Fin 256, v119 (ix2 i d) = f i ⟨512 + d.val, by omega⟩)
    (h3 : ∀ d : Fin 256, v133 (ix2 i d) + (∑ k, a3 (ix2 i k) * w3 (ix3 0 d k)) + (∑ k, a4 (ix2 i k) * w4 (ix3 0 d k))
      + (∑ k, a5 (ix2 i k) * w5 (ix3 0 d k)) + (∑ k, a6 (ix2 i k) * w6 (ix3 0 d k)) + (∑ k, a7 (ix2 i k) * w7 (ix3 0 d k))
        = f i ⟨768 + d.val, by omega⟩) :
    k0_pay16 v41 v80 v119 v133 a3 w3 a4 w4 a5 w5 a6 w6 a7 w7 (ix2 i q) = f i q := by
  pointwise [k0_pay16]
  simp only [h0, h1, h2, h3]
  have e : ∀ (n : ℕ) (h : n < 1024), n = q.val → f i ⟨n, h⟩ = f i q := fun n h hn => congrArg (f i) (Fin.ext hn)
  have hq := q.isLt
  by_cases c0 : q.val < 256
  · rw [dif_pos c0]
  · rw [dif_neg c0]
    by_cases c1 : q.val - 256 < 256
    · rw [dif_pos c1]; exact e _ _ (by omega)
    · rw [dif_neg c1]
      by_cases c2 : q.val - 256 - 256 < 256
      · rw [dif_pos c2]; exact e _ _ (by omega)
      · rw [dif_neg c2]; exact e _ _ (by omega)

/-- What a point stores in the first result, from its `dh`: the kernel's form of the gradient of RMSNorm. -/
theorem dx_block (D x y : FVec Ideal S512x1024 .f32) (g : FVec Ideal S1x1x1024 .f32) (i : Fin 512) (q : Fin 1024) :
    k0_pay4 D x (k0_pay17 x) y g (ix2 i q)
      = kernelForm (fun k => x (ix2 i k)) (fun k => D (ix2 i k) * g (ix3 0 0 k)) (y (ix2 i q)) q := by
  pointwise [k0_pay4, k0_pay17, k0_pay1, k0_pay2]
  rfl

theorem zero_at (j : S1x1024.Idx) : k0_pay5 (F := Ideal) j = 0 := by pointwise [k0_pay5]

/-- What one point adds to the gain's gradient: the column sums of `dh · x · r` over its 512 rows. -/
theorem add_at (D x : FVec Ideal S512x1024 .f32) (acc : FVec Ideal S1x1024 .f32) (j : S1x1024.Idx) :
    k0_pay3 D x (k0_pay17 x) acc j
      = acc j + ∑ i : Fin 512, D (ix2 i (j 1)) * (x (ix2 i (j 1)) * rstd (fun k => x (ix2 i k))) := by
  idx_vars j
  pointwise [k0_pay3, k0_pay17, k0_pay1, k0_pay2]
  rfl

theorem kernelForm_congr {x x' a a' : Fin 1024 → EReal} {y y' : EReal} {q : Fin 1024} (hx : ∀ k, x k = x' k)
    (ha : ∀ k, a k = a' k) (hy : y = y') : kernelForm x a y q = kernelForm x' a' y' q := by
  rw [funext hx, funext ha, hy]

/-! ## The first result -/

set_option maxHeartbeats 2000000 in
theorem final8 (c : Dev nD) : (dats m 0 c).arrAt 8 (cfgs 0).N
    = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  obtain ⟨i, q, rfl⟩ : ∃ (i : Fin 512) (q : Fin 1024), y = ix2 i q := ⟨y 0, y 1, eq_ix2 y⟩
  rw [dx_emb]
  blk_simp
  rw [dx_at_kernelForm, after0_8]
  by_cases h : t.val % 8 = 0
  · rw [outsAt0_A m c t h]; frame_out
    rw [dx_block]
    refine kernelForm_congr (fun k => x_blk m c t i k) (fun k => ?_) (dxn_blk m c t i q)
    refine congrArg₂ (· * ·) (dh_of_pieces (fun i d => dh (m ((c : Thread nD τ).loc main_arg0))
        (m ((c : Thread nD τ).loc main_arg1)) ⟨t.val * 512 + i.val, row_lt t i⟩ d) _ _ _ _ _ _ _ _ _ _ _ _ _ _ _ _
        (fun d => ?_) (fun d => ?_) (fun d => ?_) (fun d => ?_)) (g_blk m c t k)
    · pointwise [k0_pay8, k0_pay6, k0_pay7]; simp only [dh, Fin.sum_univ_eight, dproj_blk, w0_blk]; rfl
    · pointwise [k0_pay12, k0_pay10, k0_pay9, k0_pay11]; simp only [dh, Fin.sum_univ_eight, dproj_blk, w1_blk]; rfl
    · pointwise [k0_pay14, k0_pay13]; simp only [dh, Fin.sum_univ_eight, dproj_blk, w2_blk]; rfl
    · pointwise [k0_pay15]; simp only [dh, Fin.sum_univ_eight, dproj_blk, w3_blk]; rfl
  · rw [outsAt0_B m c t h]; frame_out
    rw [dx_block]
    refine kernelForm_congr (fun k => x_blk m c t i k) (fun k => ?_) (dxn_blk m c t i q)
    refine congrArg₂ (· * ·) (dh_of_pieces (fun i d => dh (m ((c : Thread nD τ).loc main_arg0))
        (m ((c : Thread nD τ).loc main_arg1)) ⟨t.val * 512 + i.val, row_lt t i⟩ d) _ _ _ _ _ _ _ _ _ _ _ _ _ _ _ _
        (fun d => ?_) (fun d => ?_) (fun d => ?_) (fun d => ?_)) (g_blk m c t k)
    · pointwise [k0_pay8, k0_pay6, k0_pay7]; simp only [dh, Fin.sum_univ_eight, dproj_blk, w0_blk]; rfl
    · pointwise [k0_pay12, k0_pay10, k0_pay9, k0_pay11]; simp only [dh, Fin.sum_univ_eight, dproj_blk, w1_blk]; rfl
    · pointwise [k0_pay14, k0_pay13]; simp only [dh, Fin.sum_univ_eight, dproj_blk, w2_blk]; rfl
    · pointwise [k0_pay15]; simp only [dh, Fin.sum_univ_eight, dproj_blk, w3_blk]; rfl

/-! ## The second result -/

set_option maxHeartbeats 2000000 in
theorem final9 (c : Dev nD) : (dats m 0 c).arrAt 9 (cfgs 0).N
    = val_main_v44 (F := Ideal) (m ((c : Thread nD τ).loc main_arg0)) (m ((c : Thread nD τ).loc main_arg1))
        (m ((c : Thread nD τ).loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) _
    (fun t h j => by rw [outsAt0_A m c t h]; frame_out; rw [add_at, zero_at])
    (fun t h j => by rw [outsAt0_B m c t h]; frame_out; rw [add_at])
    (le_of_eq N_0) t0_7 rfl j, zero_add]
  rw [dg_at]
  refine Fin.sum_mul_add_congr fun p i hl => ?_
  refine (EReal.mul_comm _ _).trans ?_
  obtain ⟨q, rfl⟩ : ∃ q : Fin 1024, j = ix2 0 q := ⟨j 1, by rw [eq_ix2 j]; exact congrArg (ix2 · _) (Subsingleton.elim _ _)⟩
  refine congrArg₂ (· * ·) (congrArg₂ (· * ·) (x_blk m c _ i _) (congrArg rstd (funext fun k => x_blk m c _ i k))) ?_
  refine (dh_of_pieces (fun i d => dh (m ((c : Thread nD τ).loc main_arg0))
        (m ((c : Thread nD τ).loc main_arg1)) ⟨p.val * 512 + i.val, row_lt ⟨p.val, lt_of_lt_of_le p.isLt (le_of_eq N_0.symm)⟩ i⟩ d) _ _ _ _ _ _ _ _ _ _ _ _ _ _ _ _
        (fun d => ?_) (fun d => ?_) (fun d => ?_) (fun d => ?_))
  · pointwise [k0_pay8, k0_pay6, k0_pay7]; simp only [dh, Fin.sum_univ_eight, dproj_blk, w0_blk]; rfl
  · pointwise [k0_pay12, k0_pay10, k0_pay9, k0_pay11]; simp only [dh, Fin.sum_univ_eight, dproj_blk, w1_blk]; rfl
  · pointwise [k0_pay14, k0_pay13]; simp only [dh, Fin.sum_univ_eight, dproj_blk, w2_blk]; rfl
  · pointwise [k0_pay15]; simp only [dh, Fin.sum_univ_eight, dproj_blk, w3_blk]; rfl

end Cert.KernelIdeal.InBwd0

end
-- ==== Proof.InBwd1Ref.lean ====
/-
  What the reference of `b_in_bwd_1` returns, entry by entry: the chain rule through `rms_norm` of the gradient
  `dh = dproj · wᵀ` of the normed row.
-/
module

public import proofs.«01_k».proof.Proof.Gen.Reference2Ideal.Read
public import proofs.«01_k».proof.Proof.RmsBackward

@[expose] public section

set_option maxRecDepth 16384

noncomputable section

open Idealize.ShloMosaic Idealize.ShloMosaic.TcCoe Idealize.SL.Sem
open Cert.RmsBackward

namespace Cert.Reference2Ideal.InBwd1
open Cert.Reference2Ideal Cert.Reference2Ideal.Gen Cert.Reference2Ideal.Read
variable (X0 : FVec Ideal S4096x4096 .bf16) (X1 : FVec Ideal S2x1024x4096 .f32) (X2 : FVec Ideal S4096x1024 .f32)
  (X3 : FVec Ideal S4x1024 .f32) (X4 : FVec Ideal S4096x1024 .f32)

/-- The gradient of the normed rows: token `t` of `dproj` against row `d` of the layer's weight, the 4096 columns in
    eight slabs of 512. -/
def dh (t : Fin 4096) (d : Fin 1024) : EReal := ∑ s : Fin 8, ∑ k : Fin 512,
  X0 (ix2 t ⟨s * 512 + k, by omega⟩) * X1 (ix3 0 d ⟨s * 512 + k, by omega⟩)

theorem v22_at (t : Fin 4096) (d : Fin 1024) : val_main_v22 (F := Ideal) X0 X1 (ix2 t d) = dh X0 X1 t d := by
  pointwise [val_main_v22, val_main_v21, val_main_v3, val_main_v2]
  exact Fin.sum_univ_tiles 8 512 rfl _

/-- The first result, the gradient of the layer's input. -/
theorem dx_at (j : S4096x1024.Idx) : val_main_v43 (F := Ideal) X0 X1 X2 X3 X4 j
    = vjpForm (fun k => X2 (ix2 (j 0) k)) (fun k => dh X0 X1 (j 0) k * X3 (ix2 1 k)) (X4 j) (j 1) := by
  idx_vars j
  pointwise [val_main_v43, val_main_v42, val_main_v41, val_main_v40, val_main_v39, val_main_v38, val_main_v37,
    val_main_v36, val_main_v35, val_main_v34, val_main_v33, val_main_v32, val_main_v31, val_main_v30, val_main_v29,
    val_main_v27, val_main_v26, val_main_v14, val_main_v13, val_main_v12, val_main_v11, val_main_v10, val_main_v9,
    val_main_v8, val_main_v7, val_main_v6, val_main_v5, val_main_v4, val_main_v1, val_main_v0, val_main_v17,
    val_main_cst, val_main_cst_0, val_main_cst_1, val_main_cst_2, val_main_cst_5, val_main_cst_6, val_main_cst_7,
    v22_at]
  simp only [Finset.univ_unique, Finset.sum_singleton]
  rfl

/-- … in the arrangement the kernel computes it in. -/
theorem dx_at_kernelForm (j : S4096x1024.Idx) : val_main_v43 (F := Ideal) X0 X1 X2 X3 X4 j
    = kernelForm (fun k => X2 (ix2 (j 0) k)) (fun k => dh X0 X1 (j 0) k * X3 (ix2 1 k)) (X4 j) (j 1) :=
  (dx_at X0 X1 X2 X3 X4 j).trans (kernel_eq_vjp _ _ _ _).symm

/-- The second result, the gradient of the norm's gain. -/
theorem dg_at (j : S1x1024.Idx) : val_main_v44 (F := Ideal) X0 X1 X2 j
    = ∑ t : Fin 4096, X2 (ix2 t (j 1)) * rstd (fun k => X2 (ix2 t k)) * dh X0 X1 t (j 1) := by
  idx_vars j
  pointwise [val_main_v44, val_main_v28, val_main_v25, val_main_v24, val_main_v23, val_main_v16, val_main_v15,
    val_main_v11, val_main_v10, val_main_v9, val_main_v8, val_main_v7, val_main_v6, val_main_v5, val_main_v4,
    val_main_cst, val_main_cst_0, val_main_cst_1, val_main_cst_3, val_main_cst_4, v22_at]
  simp only [Finset.univ_unique, Finset.sum_singleton]
  rfl

end Cert.Reference2Ideal.InBwd1

end
-- ==== Proof.InBwd1Value.lean ====
/-
  What `b_in_bwd_1` leaves in its two results: point `t` writes the 512 rows from `512·t` of the input's gradient, and
  adds its column sums to the gain's gradient, which the last point writes back.
-/
module

public import proofs.«01_k».proof.Proof.Gen.Kernel2Ideal.Frame
public import proofs.«01_k».proof.Proof.InBwd1Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.RmsBackward

namespace Cert.Kernel2Ideal.InBwd1
open Cert.Kernel2Ideal Cert.Kernel2Ideal.Gen
open Cert.Reference2Ideal.InBwd1 (dh dx_at_kernelForm dg_at)
open Cert.Reference2Ideal.Read (val_main_v43 val_main_v44)
variable (m : (ℓ : Loc nD τ sig) → Buf (Elt Ideal) ℓ)

/-- Every window's block index at point `t`. -/
theorem idx : ∀ t : Fin cfg0.N, win0_0.index t = ![t.val, 0] ∧ win0_1.index t = ![0, 0, 0]
    ∧ win0_2.index t = ![t.val, 0] ∧ win0_3.index t = ![1, 0, 0] ∧ win0_4.index t = ![t.val, 0] ∧ win0_5.index t = ![t.val, 0] ∧ win0_6.index t = ![0, 0] :=
  (by decide +kernel : ∀ t : Fin grid0.N, _)

theorem row_lt (t : Fin cfg0.N) (i : Fin 512) : t.val * 512 + i.val < 4096 := by
  have := t.isLt; have h : cfg0.N = 8 := N_0; omega

/-! ## The input blocks at an index -/

theorem dproj_blk (c : Dev nD) (t : Fin cfg0.N) (i : Fin 512) (k : Fin 4096) :
    @Eq EReal (iblk m c 0 t (ix2 i k))
      (m ((c : Thread nD τ).loc main_arg0) (ix2 ⟨t.val * 512 + i.val, row_lt t i⟩ k)) := by
  blk_ext [iblk, V, idx t]

theorem w_blk (c : Dev nD) (t : Fin cfg0.N) (s : Fin 8) (d : Fin 1024) (k : Fin 512) :
    @Eq EReal (iblk m c 1 t (ix3 s d k))
      (m ((c : Thread nD τ).loc main_arg1) (ix3 0 d ⟨s.val * 512 + k.val, by omega⟩)) := by
  blk_point [iblk, V, idx t]

theorem x_blk (c : Dev nD) (t : Fin cfg0.N) (i : Fin 512) (k : Fin 1024) :
    @Eq EReal (iblk m c 2 t (ix2 i k))
      (m ((c : Thread nD τ).loc main_arg2) (ix2 ⟨t.val * 512 + i.val, row_lt t i⟩ k)) := by
  blk_ext [iblk, V, idx t]

theorem g_blk (c : Dev nD) (t : Fin cfg0.N) (k : Fin 1024) :
    @Eq EReal (iblk m c 3 t (ix3 0 0 k)) (m ((c : Thread nD τ).loc main_arg3) (ix2 1 k)) := by
  blk_point [iblk, V, idx t]

theorem dxn_blk (c : Dev nD) (t : Fin cfg0.N) (i : Fin 512) (k : Fin 1024) :
    @Eq EReal (iblk m c 4 t (ix2 i k))
      (m ((c : Thread nD τ).loc main_arg4) (ix2 ⟨t.val * 512 + i.val, row_lt t i⟩ k)) := by
  blk_ext [iblk, V, idx t]

/-- Where entry `(i, k)` of the block the first result's point `t` writes sits in the array. -/
theorem dx_emb (t : Fin cfg0.N) (i : Fin 512) (k : Fin 1024) :
    @Eq S4096x1024.Idx (((cfg0.win 5).blk t).view.emb (ix2 i k)) (ix2 ⟨t.val * 512 + i.val, row_lt t i⟩ k) := by
  blk_ext [idx t]

/-! ## The first result -/

theorem final5 (c : Dev nD) : (dats m 0 c).arrAt 5 (cfgs 0).N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨i, q, rfl⟩ : ∃ (i : Fin 512) (q : Fin 1024), y = ix2 i q := ⟨y 0, y 1, eq_ix2 y⟩
  rw [dx_emb]
  blk_simp
  rw [dx_at_kernelForm]
  simp only [kernelForm, rstd, ms, dh, Fin.sum_univ_eight]
  rw [after0_5]
  by_cases h : t.val % 8 = 0
  · rw [outsAt0_A m c t h]; frame_out
    pointwise [k0_pay1, k0_pay5, k0_pay6, k0_pay7, k0_pay3, k0_pay4]
    simp only [dproj_blk, w_blk, x_blk, g_blk, dxn_blk]
    rfl
  · rw [outsAt0_B m c t h]; frame_out
    pointwise [k0_pay1, k0_pay5, k0_pay6, k0_pay7, k0_pay3, k0_pay4]
    simp only [dproj_blk, w_blk, x_blk, g_blk, dxn_blk]
    rfl

/-! ## The second result -/

theorem zero_at (j : S1x1024.Idx) : k0_pay2 (F := Ideal) j = 0 := by pointwise [k0_pay2]

/-- What one point adds to the gain's gradient: the column sums of `dh · x · r` over its 512 rows. -/
theorem add_at (v3 v7 v12 v17 v22 v27 v32 v37 : FVec Ideal S512x512 .bf16)
    (w0 w1 w2 w3 w4 w5 w6 w7 : FVec Ideal S1x1024x512 .bf16) (x : FVec Ideal S512x1024 .f32) (acc : FVec Ideal S1x1024 .f32)
    (j : S1x1024.Idx) :
    k0_pay8 (k0_pay3 v3 w0 v7 w1 v12 w2 v17 w3) (k0_pay4 v22 w4) v27 w5 v32 w6 v37 w7 x acc j
      = acc j + ∑ i : Fin 512,
          (k0_pay5 (k0_pay3 v3 w0 v7 w1 v12 w2 v17 w3) (k0_pay4 v22 w4) v27 w5 v32 w6 v37 w7) (ix2 i (j 1)) * (x (ix2 i (j 1)) * rstd (fun k => x (ix2 i k))) := by
  idx_vars j
  pointwise [k0_pay8, k0_pay7, k0_pay6]
  rfl

theorem final6 (c : Dev nD) : (dats m 0 c).arrAt 6 (cfgs 0).N
    = val_main_v44 (F := Ideal) (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [add_at, zero_at])
    (fun t h j => by rw [outsAt0_B m c t h]; frame_out; rw [add_at])
    (le_of_eq N_0) t0_7 rfl j, zero_add]
  rw [dg_at]
  refine Fin.sum_mul_add_congr fun p i hl => ?_
  refine (EReal.mul_comm _ _).trans ?_
  obtain ⟨q, rfl⟩ : ∃ q : Fin 1024, j = ix2 0 q := ⟨j 1, by rw [eq_ix2 j]; exact congrArg (ix2 · _) (Subsingleton.elim _ _)⟩
  pointwise [k0_pay5, k0_pay3, k0_pay4]
  simp only [rstd, ms, dh, Fin.sum_univ_eight, dproj_blk, w_blk, x_blk]
  rfl

end Cert.Kernel2Ideal.InBwd1

end
-- ==== Proof.lean ====
/-
  The claim assembled: the frames of the calls and of their references, the value of the gradients through the input
  projections, of the gradient of the spatial gating, of the input and output projections, and of the loss head, and of AdamW
  on the six weights whose gradients the devices' parts are summed for, and on the two norms' gains with the sum of the loss.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.MixFrame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.InBwd2Value
public import proofs.«01_k».proof.Proof.InBwd3Value
public import proofs.«01_k».proof.Proof.InFwd0Value
public import proofs.«01_k».proof.Proof.InFwd1Value
public import proofs.«01_k».proof.Proof.InFwd2Value
public import proofs.«01_k».proof.Proof.InFwd3Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.OutFwd0Value
public import proofs.«01_k».proof.Proof.OutFwd1Value
public import proofs.«01_k».proof.Proof.OutFwd2Value
public import proofs.«01_k».proof.Proof.AdamAWInValue
public import proofs.«01_k».proof.Proof.AdamAWOutValue
public import proofs.«01_k».proof.Proof.AdamBWInValue
public import proofs.«01_k».proof.Proof.AdamBWGrpValue
public import proofs.«01_k».proof.Proof.AdamBWOutValue
public import proofs.«01_k».proof.Proof.AdamBScaleValue
public import proofs.«01_k».proof.Proof.OutLoss3Value
public import proofs.«01_k».proof.Proof.AdamNormsValue
public import proofs.«01_k».proof.Proof.Gen.Reference20Ideal
public import proofs.«01_k».proof.Proof.Gen.Kernel20Ideal
public import proofs.«01_k».proof.Proof.Gen.Kernel20
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.MixBits
public import proofs.«01_k».proof.Proof.MixValue
public import proofs.«01_k».proof.Proof.InBwd0Value
public import proofs.«01_k».proof.Proof.InBwd1Value
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## The references run: they are host operations only and declare no semaphore -/

theorem frame_ref : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩) (Cert.ReferenceIdeal.Value.run m g)

theorem frame_ref2 : Cert.quiescent_Reference2Ideal (hReference2Ideal := Cert.Reference2Ideal.Gen.facts) := by
  intro m g _
  exact (θ_run Cert.Reference2Ideal.defs _ _).mono
    (fun r h => ⟨fun c => (h c).2.2, sem_eq_zero_of_no_sems (by decide) r.2⟩) (Cert.Reference2Ideal.Value.run m g)

theorem frame_ref3 : Cert.quiescent_Reference3Ideal (hReference3Ideal := Cert.Reference3Ideal.Gen.facts) := by
  intro m g _
  exact (θ_run Cert.Reference3Ideal.defs _ _).mono
    (fun r h => ⟨fun c => (h c).2.2.2.2, sem_eq_zero_of_no_sems (by decide) r.2⟩) (Cert.Reference3Ideal.Value.run m g)

theorem frame_ref4 : Cert.quiescent_Reference4Ideal (hReference4Ideal := Cert.Reference4Ideal.Gen.facts) := by
  intro m g _
  exact (θ_run Cert.Reference4Ideal.defs _ _).mono
    (fun r h => ⟨fun c => (h c).2.2, sem_eq_zero_of_no_sems (by decide) r.2⟩) (Cert.Reference4Ideal.Value.run m g)

theorem frame_ref5 : Cert.quiescent_Reference5Ideal (hReference5Ideal := Cert.Reference5Ideal.Gen.facts) := by
  intro m g _
  exact (θ_run Cert.Reference5Ideal.defs _ _).mono
    (fun r h => ⟨fun c => (h c).2.2, sem_eq_zero_of_no_sems (by decide) r.2⟩) (Cert.Reference5Ideal.Value.run m g)

theorem frame_ref6 : Cert.quiescent_Reference6Ideal (hReference6Ideal := Cert.Reference6Ideal.Gen.facts) := by
  intro m g _
  exact (θ_run Cert.Reference6Ideal.defs _ _).mono
    (fun r h => ⟨fun c => (h c).2.2, sem_eq_zero_of_no_sems (by decide) r.2⟩) (Cert.Reference6Ideal.Value.run m g)

theorem frame_ref7 : Cert.quiescent_Reference7Ideal (hReference7Ideal := Cert.Reference7Ideal.Gen.facts) := by
  intro m g _
  exact (θ_run Cert.Reference7Ideal.defs _ _).mono
    (fun r h => ⟨fun c => (h c).2.2, sem_eq_zero_of_no_sems (by decide) r.2⟩) (Cert.Reference7Ideal.Value.run m g)

theorem frame_ref8 : Cert.quiescent_Reference8Ideal (hReference8Ideal := Cert.Reference8Ideal.Gen.facts) := by
  intro m g _
  exact (θ_run Cert.Reference8Ideal.defs _ _).mono
    (fun r h => ⟨fun c => (h c).2.2, sem_eq_zero_of_no_sems (by decide) r.2⟩) (Cert.Reference8Ideal.Value.run m g)

theorem frame_ref9 : Cert.quiescent_Reference9Ideal (hReference9Ideal := Cert.Reference9Ideal.Gen.facts) := by
  intro m g _
  exact (θ_run Cert.Reference9Ideal.defs _ _).mono
    (fun r h => ⟨fun c => (h c).2.2, sem_eq_zero_of_no_sems (by decide) r.2⟩) (Cert.Reference9Ideal.Value.run m g)

theorem frame_ref10 : Cert.quiescent_Reference10Ideal (hReference10Ideal := Cert.Reference10Ideal.Gen.facts) := by
  intro m g _
  exact (θ_run Cert.Reference10Ideal.defs _ _).mono
    (fun r h => ⟨fun c => (h c).2.2, sem_eq_zero_of_no_sems (by decide) r.2⟩) (Cert.Reference10Ideal.Value.run m g)

theorem frame_ref11 : Cert.quiescent_Reference11Ideal (hReference11Ideal := Cert.Reference11Ideal.Gen.facts) := by
  intro m g _
  exact (θ_run Cert.Reference11Ideal.defs _ _).mono
    (fun r h => ⟨fun c => (h c).2.2, sem_eq_zero_of_no_sems (by decide) r.2⟩) (Cert.Reference11Ideal.Value.run m g)

theorem frame_ref12 : Cert.quiescent_Reference12Ideal (hReference12Ideal := Cert.Reference12Ideal.Gen.facts) := by
  intro m g _
  exact (θ_run Cert.Reference12Ideal.defs _ _).mono
    (fun r h => ⟨fun c => (h c).2.2, sem_eq_zero_of_no_sems (by decide) r.2⟩) (Cert.Reference12Ideal.Value.run m g)

theorem frame_ref13 : Cert.quiescent_Reference13Ideal (hReference13Ideal := Cert.Reference13Ideal.Gen.facts) := by
  intro m g _
  exact (θ_run Cert.Reference13Ideal.defs _ _).mono
    (fun r h => ⟨fun c => (h c).2.2.2.2, sem_eq_zero_of_no_sems (by decide) r.2⟩) (Cert.Reference13Ideal.Value.run m g)

theorem frame_ref14 : Cert.quiescent_Reference14Ideal (hReference14Ideal := Cert.Reference14Ideal.Gen.facts) := by
  intro m g _
  exact (θ_run Cert.Reference14Ideal.defs _ _).mono
    (fun r h => ⟨fun c => (h c).2.2.2.2, sem_eq_zero_of_no_sems (by decide) r.2⟩) (Cert.Reference14Ideal.Value.run m g)

theorem frame_ref15 : Cert.quiescent_Reference15Ideal (hReference15Ideal := Cert.Reference15Ideal.Gen.facts) := by
  intro m g _
  exact (θ_run Cert.Reference15Ideal.defs _ _).mono
    (fun r h => ⟨fun c => (h c).2.2.2.2, sem_eq_zero_of_no_sems (by decide) r.2⟩) (Cert.Reference15Ideal.Value.run m g)

theorem frame_ref16 : Cert.quiescent_Reference16Ideal (hReference16Ideal := Cert.Reference16Ideal.Gen.facts) := by
  intro m g _
  exact (θ_run Cert.Reference16Ideal.defs _ _).mono
    (fun r h => ⟨fun c => (h c).2.2.2.2, sem_eq_zero_of_no_sems (by decide) r.2⟩) (Cert.Reference16Ideal.Value.run m g)

theorem frame_ref17 : Cert.quiescent_Reference17Ideal (hReference17Ideal := Cert.Reference17Ideal.Gen.facts) := by
  intro m g _
  exact (θ_run Cert.Reference17Ideal.defs _ _).mono
    (fun r h => ⟨fun c => (h c).2.2.2.2, sem_eq_zero_of_no_sems (by decide) r.2⟩) (Cert.Reference17Ideal.Value.run m g)

theorem frame_ref18 : Cert.quiescent_Reference18Ideal (hReference18Ideal := Cert.Reference18Ideal.Gen.facts) := by
  intro m g _
  exact (θ_run Cert.Reference18Ideal.defs _ _).mono
    (fun r h => ⟨fun c => (h c).2.2.2.2, sem_eq_zero_of_no_sems (by decide) r.2⟩) (Cert.Reference18Ideal.Value.run m g)

theorem frame_ref19 : Cert.quiescent_Reference19Ideal (hReference19Ideal := Cert.Reference19Ideal.Gen.facts) := by
  intro m g _
  exact (θ_run Cert.Reference19Ideal.defs _ _).mono
    (fun r h => ⟨fun c => (h c).2.2.2, sem_eq_zero_of_no_sems (by decide) r.2⟩) (Cert.Reference19Ideal.Value.run m g)

theorem frame_ref20 : Cert.quiescent_Reference20Ideal (hReference20Ideal := Cert.Reference20Ideal.Gen.facts) := by
  intro m g _
  exact (θ_run Cert.Reference20Ideal.defs _ _).mono
    (fun r h => ⟨fun c => (h c).2.2.2.2.2.2.2.2.2, sem_eq_zero_of_no_sems (by decide) r.2⟩) (Cert.Reference20Ideal.Value.run m g)

/-! ## The gradients through the input projections -/

/-- `a_in_bwd_0` returns the gradient of the step's input and of the first layer's gain. -/
theorem value : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    · obtain ⟨h0, h1, h2, h3, h4⟩ := hagree c
      refine (Cert.ReferenceIdeal.Read.val_main_v43_eq m' c).trans ?_
      rw [h0, h1, h2, h3, h4]
      exact (Cert.KernelIdeal.InBwd0.final8 m c).symm
    · exact (Cert.ReferenceIdeal.Read.val_main_v44_eq _ _ _).trans (Cert.KernelIdeal.InBwd0.final9 m c).symm

/-- `b_in_bwd_1` returns the gradient of its layer's input and gain. -/
theorem value2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    · obtain ⟨h0, h1, h2, h3, h4⟩ := hagree c
      refine (Cert.Reference2Ideal.Read.val_main_v43_eq m' c).trans ?_
      rw [h0, h1, h2, h3, h4]
      exact (Cert.Kernel2Ideal.InBwd1.final5 m c).symm
    · exact (Cert.Reference2Ideal.Read.val_main_v44_eq _ _ _).trans (Cert.Kernel2Ideal.InBwd1.final6 m c).symm

/-- `a_in_bwd_2` returns the gradient of its layer's input and gain. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    · obtain ⟨h0, h1, h2, h3, h4⟩ := hagree c
      refine (Cert.Reference4Ideal.Read.val_main_v43_eq m' c).trans ?_
      rw [h0, h1, h2, h3, h4]
      exact (Cert.Kernel4Ideal.InBwd2.final8 m c).symm
    · exact (Cert.Reference4Ideal.Read.val_main_v44_eq _ _ _).trans (Cert.Kernel4Ideal.InBwd2.final9 m c).symm

/-- `b_in_bwd_3` returns the gradient of its layer's input and gain. -/
theorem value5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    · obtain ⟨h0, h1, h2, h3, h4⟩ := hagree c
      refine (Cert.Reference5Ideal.Read.val_main_v43_eq m' c).trans ?_
      rw [h0, h1, h2, h3, h4]
      exact (Cert.Kernel5Ideal.InBwd3.final5 m c).symm
    · exact (Cert.Reference5Ideal.Read.val_main_v44_eq _ _ _).trans (Cert.Kernel5Ideal.InBwd3.final6 m c).symm

/-! ## The gradient of the spatial gating -/

section
open Cert.Reference3Ideal Cert.Reference3Ideal.Read

/-- The reference's run, its results as the arrays the entries are read from. -/
theorem run_ref3 (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v116) = val_main_v116 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v111) = val_main_v111 (F := Ideal) (m ((c.tc : Thread nD τ).loc main_arg0)) (m ((c.tc : Thread nD τ).loc main_arg1))
      ∧ r.2.mem ((c.tc : Thread nD τ).loc main_v174) = val_main_v174 (F := Ideal) (m ((c.tc : Thread nD τ).loc main_arg0)) (m ((c.tc : Thread nD τ).loc main_arg1)) (m ((c.tc : Thread nD τ).loc main_arg4))
      ∧ r.2.mem ((c.tc : Thread nD τ).loc main_v175) = val_main_v175 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).1.trans (val_main_v116_eq _), (h c).2.1.trans (val_main_v111_eq _), (h c).2.2.1.trans (val_main_v174_eq _),
      (h c).2.2.2.1.trans (val_main_v175_eq _), (h c).2.2.2.2⟩) (Cert.Reference3Ideal.Value.run m g)

end

/-- `a_mix_bwd` returns the gradients of the spatial weight and bias and of the norm's scale and shift. -/
theorem value3 : Cert.algebraic_Kernel3Ideal_Reference3Ideal (hKernel3Ideal := Cert.Kernel3Ideal.Gen.facts)
    (hReference3Ideal := Cert.Reference3Ideal.Gen.facts) := by
  intro m g m' g' _ hagree
  refine ⟨_, _, _, _, Cert.Kernel3Ideal.Mix.run_value m g, (θ_run Cert.Reference3Ideal.defs _ _).mono (fun r h c => ?_) (run_ref3 m' g')⟩
  obtain ⟨h0, h1, h2, h3, h4, h5⟩ := hagree c
  obtain ⟨r0, r1, r2, r3, hargs⟩ := h c
  rw [h0, h1] at r0 r1 r2 r3
  rw [h2, h3] at r0
  rw [h4] at r2 r3
  exact ⟨r0, r1, r2, r3, hargs⟩

/-! ## The input projections -/

/-- `a_in_fwd_0` returns the projection of the normed rows, and the normed rows. -/
theorem value6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    · exact (Cert.Reference6Ideal.Read.val_main_v18_eq _ _ _).trans (Cert.Kernel6Ideal.InFwd0.final6 m c).symm
    · exact (Cert.Reference6Ideal.Read.val_main_v19_eq _ _).trans (Cert.Kernel6Ideal.InFwd0.final7 m c).symm

/-- `b_in_fwd_1` returns the projection of the normed rows, and the normed rows. -/
theorem value7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    · exact (Cert.Reference7Ideal.Read.val_main_v18_eq _ _ _).trans (Cert.Kernel7Ideal.InFwd1.final3 m c).symm
    · exact (Cert.Reference7Ideal.Read.val_main_v19_eq _ _).trans (Cert.Kernel7Ideal.InFwd1.final4 m c).symm

/-- `a_in_fwd_2` returns the projection of the normed rows, and the normed rows. -/
theorem value8 : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    · exact (Cert.Reference8Ideal.Read.val_main_v18_eq _ _ _).trans (Cert.Kernel8Ideal.InFwd2.final6 m c).symm
    · exact (Cert.Reference8Ideal.Read.val_main_v19_eq _ _).trans (Cert.Kernel8Ideal.InFwd2.final7 m c).symm

/-- `b_in_fwd_3` returns the projection of the normed rows, and the normed rows. -/
theorem value9 : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    · exact (Cert.Reference9Ideal.Read.val_main_v18_eq _ _ _).trans (Cert.Kernel9Ideal.InFwd3.final3 m c).symm
    · exact (Cert.Reference9Ideal.Read.val_main_v19_eq _ _).trans (Cert.Kernel9Ideal.InFwd3.final4 m c).symm

/-! ## The output projections -/

/-- `a_out_fwd_0` returns the residual stream after its layer, and the output projection. -/
theorem value10 : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    · exact (Cert.Reference10Ideal.Read.val_main_v19_eq _ _ _ _).trans (Cert.Kernel10Ideal.OutFwd0.final4 m c).symm
    · exact (Cert.Reference10Ideal.Read.val_main_v3_eq _ _).trans (Cert.Kernel10Ideal.OutFwd0.final5 m c).symm

/-- `b_out_fwd_1` returns the residual stream after its layer, and the output projection. -/
theorem value11 : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    · exact (Cert.Reference11Ideal.Read.val_main_v19_eq _ _ _ _).trans (Cert.Kernel11Ideal.OutFwd1.final4 m c).symm
    · exact (Cert.Reference11Ideal.Read.val_main_v3_eq _ _).trans (Cert.Kernel11Ideal.OutFwd1.final5 m c).symm

/-- `a_out_fwd_2` returns the residual stream after its layer, and the output projection. -/
theorem value12 : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    · exact (Cert.Reference12Ideal.Read.val_main_v19_eq _ _ _ _).trans (Cert.Kernel12Ideal.OutFwd2.final4 m c).symm
    · exact (Cert.Reference12Ideal.Read.val_main_v3_eq _ _).trans (Cert.Kernel12Ideal.OutFwd2.final5 m c).symm

/-! ## AdamW -/

/-- `adam_a_w_in` returns the summed gradient, the step and the two moments. -/
theorem value13 : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    · exact (Cert.Reference13Ideal.Read.val_main_v6_eq _ _).trans (Cert.Kernel13Ideal.AdamAWIn.final5 m c).symm
    · exact (Cert.Reference13Ideal.Read.val_main_v30_eq _ _ _ _ _).trans (Cert.Kernel13Ideal.AdamAWIn.final6 m c).symm
    · exact (Cert.Reference13Ideal.Read.val_main_v11_eq _ _ _).trans (Cert.Kernel13Ideal.AdamAWIn.final7 m c).symm
    · exact (Cert.Reference13Ideal.Read.val_main_v17_eq _ _ _).trans (Cert.Kernel13Ideal.AdamAWIn.final8 m c).symm

/-- `adam_a_w_out` returns the summed gradient, the step and the two moments. -/
theorem value14 : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    · exact (Cert.Reference14Ideal.Read.val_main_v6_eq _ _).trans (Cert.Kernel14Ideal.AdamAWOut.final5 m c).symm
    · exact (Cert.Reference14Ideal.Read.val_main_v30_eq _ _ _ _ _).trans (Cert.Kernel14Ideal.AdamAWOut.final6 m c).symm
    · exact (Cert.Reference14Ideal.Read.val_main_v11_eq _ _ _).trans (Cert.Kernel14Ideal.AdamAWOut.final7 m c).symm
    · exact (Cert.Reference14Ideal.Read.val_main_v17_eq _ _ _).trans (Cert.Kernel14Ideal.AdamAWOut.final8 m c).symm

/-- `adam_b_w_in` returns the summed gradient, the step and the two moments. -/
theorem value15 : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    · exact (Cert.Reference15Ideal.Read.val_main_v6_eq _ _).trans (Cert.Kernel15Ideal.AdamBWIn.final5 m c).symm
    · exact (Cert.Reference15Ideal.Read.val_main_v30_eq _ _ _ _ _).trans (Cert.Kernel15Ideal.AdamBWIn.final6 m c).symm
    · exact (Cert.Reference15Ideal.Read.val_main_v11_eq _ _ _).trans (Cert.Kernel15Ideal.AdamBWIn.final7 m c).symm
    · exact (Cert.Reference15Ideal.Read.val_main_v17_eq _ _ _).trans (Cert.Kernel15Ideal.AdamBWIn.final8 m c).symm

/-- `adam_b_w_grp` returns the summed gradient, the step and the two moments. -/
theorem value16 : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · run_from Cert.Reference16Ideal.Value.run m' g'
    · exact (Cert.Reference16Ideal.Read.val_main_v31_eq _ _).trans (Cert.Kernel16Ideal.AdamBWGrp.final5 m c).symm
    · exact (Cert.Reference16Ideal.Read.val_main_v32_eq _ _ _ _ _).trans (Cert.Kernel16Ideal.AdamBWGrp.final6 m c).symm
    · exact (Cert.Reference16Ideal.Read.val_main_v33_eq _ _ _).trans (Cert.Kernel16Ideal.AdamBWGrp.final7 m c).symm
    · exact (Cert.Reference16Ideal.Read.val_main_v34_eq _ _ _).trans (Cert.Kernel16Ideal.AdamBWGrp.final8 m c).symm

/-- `adam_b_w_out` returns the summed gradient, the step and the two moments. -/
theorem value17 : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · run_from Cert.Reference17Ideal.Value.run m' g'
    · exact (Cert.Reference17Ideal.Read.val_main_v6_eq _ _).trans (Cert.Kernel17Ideal.AdamBWOut.final5 m c).symm
    · exact (Cert.Reference17Ideal.Read.val_main_v30_eq _ _ _ _ _).trans (Cert.Kernel17Ideal.AdamBWOut.final6 m c).symm
    · exact (Cert.Reference17Ideal.Read.val_main_v11_eq _ _ _).trans (Cert.Kernel17Ideal.AdamBWOut.final7 m c).symm
    · exact (Cert.Reference17Ideal.Read.val_main_v17_eq _ _ _).trans (Cert.Kernel17Ideal.AdamBWOut.final8 m c).symm

/-- `adam_b_scale` returns the summed gradient, the step and the two moments. -/
theorem value18 : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
  · run_from Cert.Reference18Ideal.Value.run m' g'
    · exact (Cert.Reference18Ideal.Read.val_main_v30_eq _ _).trans (Cert.Kernel18Ideal.AdamBScale.final4 m c).symm
    · exact (Cert.Reference18Ideal.Read.val_main_v31_eq _ _ _ _ _).trans (Cert.Kernel18Ideal.AdamBScale.final5 m c).symm
    · exact (Cert.Reference18Ideal.Read.val_main_v32_eq _ _ _).trans (Cert.Kernel18Ideal.AdamBScale.final6 m c).symm
    · exact (Cert.Reference18Ideal.Read.val_main_v33_eq _ _ _).trans (Cert.Kernel18Ideal.AdamBScale.final7 m c).symm

/-! ## The loss -/

/-- `b_out_loss_fwd_3` returns the gradient of the residual stream, the output projection, and the device's part of the
    loss. -/
theorem value19 : Cert.algebraic_Kernel19Ideal_Reference19Ideal (hKernel19Ideal := Cert.Kernel19Ideal.Gen.facts)
    (hReference19Ideal := Cert.Reference19Ideal.Gen.facts) := by
  pair_intro
  · run_from Cert.Kernel19Ideal.Gen.run_main m g
  · run_from Cert.Reference19Ideal.Value.run m' g'
    · exact (Cert.Reference19Ideal.Read.val_main_v34_eq _ _ _ _ _).trans (Cert.Kernel19Ideal.OutLoss3.final5 m c).symm
    · exact (Cert.Reference19Ideal.Read.val_main_v3_eq _ _).trans (Cert.Kernel19Ideal.OutLoss3.final6 m c).symm
    · exact (Cert.Reference19Ideal.Read.val_main_v35_eq _ _ _ _ _).trans (Cert.Kernel19Ideal.OutLoss3.final7 m c).symm

/-- `adam_norms` returns the summed loss, and for both norms' gains the summed gradient, the step and the two moments. -/
theorem value20 : Cert.algebraic_Kernel20Ideal_Reference20Ideal (hKernel20Ideal := Cert.Kernel20Ideal.Gen.facts)
    (hReference20Ideal := Cert.Reference20Ideal.Gen.facts) := by
  pair_intro
  · run_from Cert.Kernel20Ideal.Gen.run_main m g
    · exact Cert.Kernel20Ideal.Gen.W_main_arg1 m (Cert.Kernel20Ideal.Gen.dats m) c
    · exact Cert.Kernel20Ideal.Gen.W_main_arg2 m (Cert.Kernel20Ideal.Gen.dats m) c
    · exact Cert.Kernel20Ideal.Gen.W_main_arg3 m (Cert.Kernel20Ideal.Gen.dats m) c
    · exact Cert.Kernel20Ideal.Gen.W_main_arg4 m (Cert.Kernel20Ideal.Gen.dats m) c
    · exact Cert.Kernel20Ideal.Gen.W_main_arg5 m (Cert.Kernel20Ideal.Gen.dats m) c
    · exact Cert.Kernel20Ideal.Gen.W_main_arg6 m (Cert.Kernel20Ideal.Gen.dats m) c
  · refine Idealize.ShloMosaic.θ_run_mono (Cert.Reference20Ideal.Value.run m' g') ?_
    intro r hr c
    obtain ⟨h0, h1, h2, h3, h4, h5, h6, h7, h8, hargs⟩ := hr c
    obtain ⟨e0, e1, e2, e3, e4, e5, e6⟩ := hagree c
    refine ⟨h0.trans ?_, h1.trans ?_, h2.trans ?_, h3.trans ?_, h4.trans ?_, h5.trans ?_, h6.trans ?_, h7.trans ?_, h8.trans ?_, hargs⟩
    · refine (Cert.Reference20Ideal.Read.val_main_v9_eq _).trans ?_
      rw [e0]
      exact (Cert.Kernel20Ideal.AdamNorms.res27 m c).symm
    · refine (Cert.Reference20Ideal.Read.val_main_v3_eq _).trans ?_
      rw [e0]
      exact (Cert.Kernel20Ideal.AdamNorms.res22 m c).symm
    · refine (Cert.Reference20Ideal.Read.val_main_v6_eq _).trans ?_
      rw [e0]
      exact (Cert.Kernel20Ideal.AdamNorms.res24 m c).symm
    · refine (Cert.Reference20Ideal.Read.val_main_v33_eq _ _ _ _).trans ?_
      rw [e0, e1, e3, e5]
      exact (Cert.Kernel20Ideal.AdamNorms.res30 m c).symm
    · refine (Cert.Reference20Ideal.Read.val_main_v57_eq _ _ _ _).trans ?_
      rw [e0, e2, e4, e6]
      exact (Cert.Kernel20Ideal.AdamNorms.res32 m c).symm
    · refine (Cert.Reference20Ideal.Read.val_main_v14_eq _ _).trans ?_
      rw [e0, e3]
      exact (Cert.Kernel20Ideal.AdamNorms.res37 m c).symm
    · refine (Cert.Reference20Ideal.Read.val_main_v38_eq _ _).trans ?_
      rw [e0, e4]
      exact (Cert.Kernel20Ideal.AdamNorms.res39 m c).symm
    · refine (Cert.Reference20Ideal.Read.val_main_v20_eq _ _).trans ?_
      rw [e0, e5]
      exact (Cert.Kernel20Ideal.AdamNorms.res44 m c).symm
    · refine (Cert.Reference20Ideal.Read.val_main_v44_eq _ _).trans ?_
      rw [e0, e6]
      exact (Cert.Kernel20Ideal.AdamNorms.res46 m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    fun m g _ => Cert.Kernel.Gen.frame m g, fun m g _ => Cert.KernelIdeal.Gen.frame m g, frame_ref,
    fun m g _ => Cert.Kernel2.Gen.frame m g, fun m g _ => Cert.Kernel2Ideal.Gen.frame m g, frame_ref2,
    frame_mix, fun m g _ => Cert.Kernel3Ideal.Mix.frame3 m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, frame_ref7,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, frame_ref12,
    fun m g _ => Cert.Kernel13.Gen.frame m g, fun m g _ => Cert.Kernel13Ideal.Gen.frame m g, frame_ref13,
    fun m g _ => Cert.Kernel14.Gen.frame m g, fun m g _ => Cert.Kernel14Ideal.Gen.frame m g, frame_ref14,
    fun m g _ => Cert.Kernel15.Gen.frame m g, fun m g _ => Cert.Kernel15Ideal.Gen.frame m g, frame_ref15,
    fun m g _ => Cert.Kernel16.Gen.frame m g, fun m g _ => Cert.Kernel16Ideal.Gen.frame m g, frame_ref16,
    fun m g _ => Cert.Kernel17.Gen.frame m g, fun m g _ => Cert.Kernel17Ideal.Gen.frame m g, frame_ref17,
    fun m g _ => Cert.Kernel18.Gen.frame m g, fun m g _ => Cert.Kernel18Ideal.Gen.frame m g, frame_ref18,
    fun m g _ => Cert.Kernel19.Gen.frame m g, fun m g _ => Cert.Kernel19Ideal.Gen.frame m g, frame_ref19,
    fun m g _ => Cert.Kernel20.Gen.frame m g, fun m g _ => Cert.Kernel20Ideal.Gen.frame m g, frame_ref20,
    trivial, value, trivial, value2, trivial, value3, trivial, value4, trivial, value5, trivial, value6, trivial, value7, trivial, value8, trivial, value9,
    trivial, value10, trivial, value11, trivial, value12, trivial, value13, trivial, value14, trivial, value15, trivial, value16, trivial, value17, trivial, value18, trivial, value19,
    trivial, value20⟩

end Cert.Proof

end
